-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_experts_named : Cert.Pre_experts_named.Facts] (m : (ℓ : Loc Cert.Kernel6.nD Cert.Kernel6.τ Cert.Kernel6.sig) → Buf (Elt Bits) ℓ) : Prop :=
  ∀ c : Dev Cert.Kernel6.nD,
    (Cert.Pre_experts_named.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5))) = (fun _ => 1#1)

def Pre_Kernel6Ideal [hPre_experts_named : Cert.Pre_experts_named.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_experts_named.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal [hPre_experts_named : Cert.Pre_experts_named.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_experts_named.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] [hPre_experts_named : Cert.Pre_experts_named.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] [hPre_experts_named : Cert.Pre_experts_named.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] [hPre_experts_named : Cert.Pre_experts_named.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v130) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] [hPre_experts_named : Cert.Pre_experts_named.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_experts_named : Cert.Pre_experts_named.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_experts_named := hPre_experts_named)
    ∧ quiescent_Kernel6Ideal (hKernel6Ideal := hKernel6Ideal) (hPre_experts_named := hPre_experts_named)
    ∧ quiescent_Reference6Ideal (hReference6Ideal := hReference6Ideal) (hPre_experts_named := hPre_experts_named)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_experts_named := hPre_experts_named)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_experts_named.lean ====
abbrev S176 : Shape := ⟨1, ![176]⟩
abbrev S1 : Shape := ⟨1, ![1]⟩
abbrev S45056x1024 : Shape := ⟨2, ![45056, 1024]⟩
abbrev S2x32x1024x512 : Shape := ⟨4, ![2, 32, 1024, 512]⟩
abbrev S2x32x512x1024 : Shape := ⟨4, ![2, 32, 512, 1024]⟩
abbrev S_ : Shape := ⟨0, ![]⟩

class Facts : Prop where
  bcast_S_S176 : S_.BroadcastsInDim S176 (![] : Fin 0 → Fin S176.rank)

variable [Facts]

def fn {F : FTy → Type} [FloatOps F] (main_arg0 : IVec S176 32) (main_arg1 : IVec S1 32) (main_arg2 : FVec F S45056x1024 .f32) (main_arg3 : FVec F S2x32x1024x512 .f32) (main_arg4 : FVec F S2x32x1024x512 .f32) (main_arg5 : FVec F S2x32x512x1024 .f32) : IVec S176 1 :=
  let main_c : IVec S_ 32 := constantI S_ 32 0#32
  let main_v0 : IVec S176 32 := broadcastInDim S176 ![] bcast_S_S176 main_c
  let main_v1 : IVec S176 1 := cmpi .sge main_arg0 main_v0
  let main_c_0 : IVec S_ 32 := constantI S_ 32 32#32
  let main_v2 : IVec S176 32 := broadcastInDim S176 ![] bcast_S_S176 main_c_0
  let main_v3 : IVec S176 1 := cmpi .slt main_arg0 main_v2
  let main_v4 : IVec S176 1 := andi main_v1 main_v3
  main_v4
-- ==== Kernel.lean ====
abbrev S16384x2560 : Shape := ⟨2, ![16384, 2560]⟩
abbrev S2048x2560 : Shape := ⟨2, ![2048, 2560]⟩
abbrev S2x4 : Shape := ⟨2, ![2, 4]⟩
abbrev S512 : Shape := ⟨1, ![512]⟩
abbrev S4x2 : Shape := ⟨2, ![4, 2]⟩
abbrev S4x2x1 : Shape := ⟨3, ![4, 2, 1]⟩
abbrev S4x1x128 : Shape := ⟨3, ![4, 1, 128]⟩
abbrev S16384x512 : Shape := ⟨2, ![16384, 512]⟩
abbrev S2048x512 : Shape := ⟨2, ![2048, 512]⟩
abbrev S2048x128 : Shape := ⟨2, ![2048, 128]⟩
abbrev S256x128 : Shape := ⟨2, ![256, 128]⟩
abbrev S1x2x1 : Shape := ⟨3, ![1, 2, 1]⟩
abbrev S1x1x128 : Shape := ⟨3, ![1, 1, 128]⟩
abbrev S2x128x128 : Shape := ⟨3, ![2, 128, 128]⟩
abbrev S2x1 : Shape := ⟨2, ![2, 1]⟩
abbrev S128x128 : Shape := ⟨2, ![128, 128]⟩
abbrev S1x1 : Shape := ⟨2, ![1, 1]⟩
abbrev S1x128x128 : Shape := ⟨3, ![1, 128, 128]⟩
abbrev S256 : Shape := ⟨1, ![256]⟩
abbrev S256x1 : Shape := ⟨2, ![256, 1]⟩
abbrev S1x128 : Shape := ⟨2, ![1, 128]⟩

abbrev nBuf : Space → Nat
  | .hbm => 9
  | .vmem => 30
  | .smem => 0
  | _ => 0

abbrev bufTy : (tb : Table) → Fin (tcTables nBuf tb) → BufTy
  | .hbm, ⟨0, _⟩ => ⟨S16384x2560, .bf16⟩
  | .hbm, ⟨1, _⟩ => ⟨S2048x2560, .bf16⟩
  | .hbm, ⟨2, _⟩ => ⟨S2x4, .f32⟩
  | .hbm, ⟨3, _⟩ => ⟨S512, .f32⟩
  | .hbm, ⟨4, _⟩ => ⟨S4x2, .f32⟩
  | .hbm, ⟨5, _⟩ => ⟨S4x2x1, .f32⟩
  | .hbm, ⟨6, _⟩ => ⟨S4x1x128, .f32⟩
  | .hbm, ⟨7, _⟩ => ⟨S16384x512, .bf16⟩
  | .hbm, ⟨8, _⟩ => ⟨S2048x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S1x2x1, .f32⟩
  | .local _ .vmem, ⟨17, _⟩ => ⟨S1x2x1, .f32⟩
  | .local _ .vmem, ⟨18, _⟩ => ⟨S1x1x128, .f32⟩
  | .local _ .vmem, ⟨19, _⟩ => ⟨S1x1x128, .f32⟩
  | .local _ .vmem, ⟨20, _⟩ => ⟨S2048x128, .bf16⟩
  | .local _ .vmem, ⟨21, _⟩ => ⟨S2048x128, .bf16⟩
  | .local _ .vmem, ⟨22, _⟩ => ⟨S256x128, .bf16⟩
  | .local _ .vmem, ⟨23, _⟩ => ⟨S256x128, .bf16⟩
  | .local _ .vmem, ⟨24, _⟩ => ⟨S2x128x128, .f32⟩
  | .local _ .vmem, ⟨25, _⟩ => ⟨S2048x128, .f32⟩
  | .local _ .vmem, ⟨26, _⟩ => ⟨S256x128, .f32⟩
  | .local _ .vmem, ⟨27, _⟩ => ⟨S2x128x128, .f32⟩
  | .local _ .vmem, ⟨28, _⟩ => ⟨S2x128x128, .f32⟩
  | .local _ .vmem, ⟨29, _⟩ => ⟨S2x128x128, .f32⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  c0_i32
def k0_mult2 : BitVec 32 :=
  let c128_i32 : BitVec 32 := 128#32
  c128_i32
def k0_mult3 : BitVec 32 :=
  let c128_i32_92 : BitVec 32 := 128#32
  c128_i32_92
def k0_mult4 : BitVec 32 :=
  let c0_i32_100 : BitVec 32 := 0#32
  c0_i32_100
@[reducible] def k0_t1_loop : Scf.Loop 32 :=
  let c0_i32_142 : BitVec 32 := 0#32
  let c16_i32 : BitVec 32 := 16#32
  let v266 : BitVec 32 := Scalar.addi c0_i32_142 c16_i32
  let c1_i32 : BitVec 32 := 1#32
  ⟨c0_i32_142, v266, c1_i32⟩
def k0_mult5 (k0_t1 : Fin k0_t1_loop.trips) : BitVec 32 :=
  let c0_i32_142 : BitVec 32 := 0#32
  let c1_i32 : BitVec 32 := 1#32
  let arg20 : BitVec 32 := Scf.iv c0_i32_142 c1_i32 k0_t1
  let c128_i32_160 : BitVec 32 := 128#32
  let v302 : BitVec 32 := Scalar.muli arg20 c128_i32_160
  v302
def k0_off1 (k0_t1 : Fin k0_t1_loop.trips) : Fin 2 → Nat :=
  let c0_i32_142 : BitVec 32 := 0#32
  let c1_i32 : BitVec 32 := 1#32
  let arg20 : BitVec 32 := Scf.iv c0_i32_142 c1_i32 k0_t1
  let c128_i32_160 : BitVec 32 := 128#32
  let v302 : BitVec 32 := Scalar.muli arg20 c128_i32_160
  let v303 : BitVec 32 := v302
  let v304 : Index := Scalar.indexCast v303
  let c0_161 : Index := 0#32
  ![v304.toNat, 0]
def k0_mult6 (k0_t1 : Fin k0_t1_loop.trips) : BitVec 32 :=
  let c15_i32 : BitVec 32 := 15#32
  let c0_i32_142 : BitVec 32 := 0#32
  let c1_i32 : BitVec 32 := 1#32
  let arg20 : BitVec 32 := Scf.iv c0_i32_142 c1_i32 k0_t1
  let v301 : BitVec 32 := Scalar.subi c15_i32 arg20
  let c128_i32_168 : BitVec 32 := 128#32
  let v313 : BitVec 32 := Scalar.muli v301 c128_i32_168
  v313
def k0_off2 (k0_t1 : Fin k0_t1_loop.trips) : Fin 2 → Nat :=
  let c15_i32 : BitVec 32 := 15#32
  let c0_i32_142 : BitVec 32 := 0#32
  let c1_i32 : BitVec 32 := 1#32
  let arg20 : BitVec 32 := Scf.iv c0_i32_142 c1_i32 k0_t1
  let v301 : BitVec 32 := Scalar.subi c15_i32 arg20
  let c128_i32_168 : BitVec 32 := 128#32
  let v313 : BitVec 32 := Scalar.muli v301 c128_i32_168
  let v314 : BitVec 32 := v313
  let v315 : Index := Scalar.indexCast v314
  let c0_169 : Index := 0#32
  ![v315.toNat, 0]
def k0_mult7 : BitVec 32 :=
  let c0_i32_144 : BitVec 32 := 0#32
  let c256_i32 : BitVec 32 := 256#32
  let v267 : BitVec 32 := Scalar.muli c0_i32_144 c256_i32
  v267
def k0_off3 : Fin 2 → Nat :=
  let c0_i32_144 : BitVec 32 := 0#32
  let c256_i32 : BitVec 32 := 256#32
  let v267 : BitVec 32 := Scalar.muli c0_i32_144 c256_i32
  let v268 : BitVec 32 := v267
  let v269 : Index := Scalar.indexCast v268
  let c0_145 : Index := 0#32
  ![v269.toNat, 0]
@[reducible] def k0_t2_loop : Scf.Loop 32 :=
  let c0_i32_157 : BitVec 32 := 0#32
  let c8_i32 : BitVec 32 := 8#32
  let v300 : BitVec 32 := Scalar.addi c0_i32_157 c8_i32
  let c1_i32_158 : BitVec 32 := 1#32
  ⟨c0_i32_157, v300, c1_i32_158⟩
def k0_mult8 (k0_t2 : Fin k0_t2_loop.trips) : BitVec 32 :=
  let c0_i32_157 : BitVec 32 := 0#32
  let c1_i32_158 : BitVec 32 := 1#32
  let arg20 : BitVec 32 := Scf.iv c0_i32_157 c1_i32_158 k0_t2
  let c256_i32_160 : BitVec 32 := 256#32
  let v301 : BitVec 32 := Scalar.muli arg20 c256_i32_160
  v301
def k0_off4 (k0_t2 : Fin k0_t2_loop.trips) : Fin 2 → Nat :=
  let c0_i32_157 : BitVec 32 := 0#32
  let c1_i32_158 : BitVec 32 := 1#32
  let arg20 : BitVec 32 := Scf.iv c0_i32_157 c1_i32_158 k0_t2
  let c256_i32_160 : BitVec 32 := 256#32
  let v301 : BitVec 32 := Scalar.muli arg20 c256_i32_160
  let v302 : BitVec 32 := v301
  let v303 : Index := Scalar.indexCast v302
  let c0_161 : Index := 0#32
  ![v303.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S16384x2560 : Shape := ⟨2, ![16384, 2560]⟩
abbrev S2048x2560 : Shape := ⟨2, ![2048, 2560]⟩
abbrev S2x4 : Shape := ⟨2, ![2, 4]⟩
abbrev S512 : Shape := ⟨1, ![512]⟩
abbrev S_ : Shape := ⟨0, ![]⟩
abbrev S8x2048x2560 : Shape := ⟨3, ![8, 2048, 2560]⟩
abbrev S8x256x2560 : Shape := ⟨3, ![8, 256, 2560]⟩
abbrev S8x2048x512 : Shape := ⟨3, ![8, 2048, 512]⟩
abbrev S8x2048x4x128 : Shape := ⟨4, ![8, 2048, 4, 128]⟩
abbrev S8x4x2048x128 : Shape := ⟨4, ![8, 4, 2048, 128]⟩
abbrev S8x256x512 : Shape := ⟨3, ![8, 256, 512]⟩
abbrev S8x256x4x128 : Shape := ⟨4, ![8, 256, 4, 128]⟩
abbrev S8x4x256x128 : Shape := ⟨4, ![8, 4, 256, 128]⟩
abbrev S8x4x2304x128 : Shape := ⟨4, ![8, 4, 2304, 128]⟩
abbrev S8x8x2304x128 : Shape := ⟨4, ![8, 8, 2304, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S1x8x128x1 : Shape := ⟨4, ![1, 8, 128, 1]⟩
abbrev S1x8x1x1 : Shape := ⟨4, ![1, 8, 1, 1]⟩
abbrev S8x8x128x128 : Shape := ⟨4, ![8, 8, 128, 128]⟩
abbrev S8x8x18x128x128 : Shape := ⟨5, ![8, 8, 18, 128, 128]⟩
abbrev S18x8x8x128x128 : Shape := ⟨5, ![18, 8, 8, 128, 128]⟩
abbrev S1x8x8x128x128 : Shape := ⟨5, ![1, 8, 8, 128, 128]⟩
abbrev S1x8x128x128 : Shape := ⟨4, ![1, 8, 128, 128]⟩
abbrev S16384x512 : Shape := ⟨2, ![16384, 512]⟩
abbrev S8x4x2048 : Shape := ⟨3, ![8, 4, 2048]⟩
abbrev S8x4x2048x1 : Shape := ⟨4, ![8, 4, 2048, 1]⟩
abbrev S1x1x512 : Shape := ⟨3, ![1, 1, 512]⟩
abbrev S2048x512 : Shape := ⟨2, ![2048, 512]⟩
abbrev S8x4x256 : Shape := ⟨3, ![8, 4, 256]⟩
abbrev S8x4x256x1 : Shape := ⟨4, ![8, 4, 256, 1]⟩

abbrev nBuf : Space → Nat
  | .hbm => 268
  | .vmem => 0
  | .smem => 0
  | _ => 0

abbrev hbmTy0_0 (i : Nat) : BufTy := match i % 128 with
  | 0 => ⟨S16384x2560, .bf16⟩
  | 1 => ⟨S2048x2560, .bf16⟩
  | 2 => ⟨S2x4, .f32⟩
  | 3 => ⟨S512, .f32⟩
  | 4 => ⟨S2x4, .f32⟩
  | 5 => ⟨S_, .f32⟩
  | 6 => ⟨S2x4, .f32⟩
  | 7 => ⟨S2x4, .f32⟩
  | 8 => ⟨S2x4, .f32⟩
  | 9 => ⟨S2x4, .f32⟩
  | 10 => ⟨S2x4, .i1⟩
  | 11 => ⟨S2x4, .f32⟩
  | 12 => ⟨S2x4, .f32⟩
  | 13 => ⟨S2x4, .f32⟩
  | 14 => ⟨S2x4, .f32⟩
  | 15 => ⟨S2x4, .f32⟩
  | 16 => ⟨S2x4, .f32⟩
  | 17 => ⟨S2x4, .f32⟩
  | 18 => ⟨S2x4, .f32⟩
  | 19 => ⟨S2x4, .f32⟩
  | 20 => ⟨S16384x2560, .f32⟩
  | 21 => ⟨S8x2048x2560, .f32⟩
  | 22 => ⟨S2048x2560, .f32⟩
  | 23 => ⟨S8x256x2560, .f32⟩
  | 24 => ⟨S8x2048x512, .f32⟩
  | 25 => ⟨S8x2048x4x128, .f32⟩
  | 26 => ⟨S8x4x2048x128, .f32⟩
  | 27 => ⟨S8x2048x512, .f32⟩
  | 28 => ⟨S8x2048x4x128, .f32⟩
  | 29 => ⟨S8x4x2048x128, .f32⟩
  | 30 => ⟨S8x2048x512, .f32⟩
  | 31 => ⟨S8x2048x4x128, .f32⟩
  | 32 => ⟨S8x4x2048x128, .f32⟩
  | 33 => ⟨S8x256x512, .f32⟩
  | 34 => ⟨S8x256x4x128, .f32⟩
  | 35 => ⟨S8x4x256x128, .f32⟩
  | 36 => ⟨S8x256x512, .f32⟩
  | 37 => ⟨S8x256x4x128, .f32⟩
  | 38 => ⟨S8x4x256x128, .f32⟩
  | 39 => ⟨S8x256x512, .f32⟩
  | 40 => ⟨S8x256x4x128, .f32⟩
  | 41 => ⟨S8x4x256x128, .f32⟩
  | 42 => ⟨S8x4x2304x128, .f32⟩
  | 43 => ⟨S8x4x256x128, .f32⟩
  | 44 => ⟨S8x4x2048x128, .f32⟩
  | 45 => ⟨S8x4x2304x128, .f32⟩
  | 46 => ⟨S8x8x2304x128, .f32⟩
  | 47 => ⟨S8x4x2304x128, .f32⟩
  | 48 => ⟨S8x4x256x128, .f32⟩
  | 49 => ⟨S8x4x2048x128, .f32⟩
  | 50 => ⟨S8x4x2304x128, .f32⟩
  | 51 => ⟨S8x8x2304x128, .f32⟩
  | 52 => ⟨S8x4x2304x128, .f32⟩
  | 53 => ⟨S8x4x256x128, .f32⟩
  | 54 => ⟨S8x4x2048x128, .f32⟩
  | 55 => ⟨S8x4x2304x128, .f32⟩
  | 56 => ⟨S8x8x2304x128, .f32⟩
  | 57 => ⟨S8, .f32⟩
  | 58 => ⟨S128, .f32⟩
  | 59 => ⟨S128x1, .f32⟩
  | 60 => ⟨S1x128, .f32⟩
  | 61 => ⟨S128x128, .f32⟩
  | 62 => ⟨S128x128, .f32⟩
  | 63 => ⟨S128x128, .f32⟩
  | 64 => ⟨S_, .f32⟩
  | 65 => ⟨S128x128, .f32⟩
  | 66 => ⟨S128x128, .i1⟩
  | 67 => ⟨S8x1x1, .f32⟩
  | 68 => ⟨S_, .f32⟩
  | 69 => ⟨S128x128, .f32⟩
  | 70 => ⟨S128x128, .f32⟩
  | 71 => ⟨S1x128x128, .f32⟩
  | 72 => ⟨S8x128x128, .f32⟩
  | 73 => ⟨S8x128x128, .f32⟩
  | 74 => ⟨S8x128x128, .f32⟩
  | 75 => ⟨S8x128x128, .f32⟩
  | 76 => ⟨S_, .f32⟩
  | 77 => ⟨S_, .f32⟩
  | 78 => ⟨S8x128x128, .i1⟩
  | 79 => ⟨S8x128x128, .f32⟩
  | 80 => ⟨S8x128x128, .f32⟩
  | 81 => ⟨S8x1, .f32⟩
  | 82 => ⟨S_, .f32⟩
  | 83 => ⟨S128, .f32⟩
  | 84 => ⟨S128, .f32⟩
  | 85 => ⟨S1x128, .f32⟩
  | 86 => ⟨S8x128, .f32⟩
  | 87 => ⟨S8x128, .f32⟩
  | 88 => ⟨S8x128, .f32⟩
  | 89 => ⟨S8x128, .f32⟩
  | 90 => ⟨S1x8x128x1, .f32⟩
  | 91 => ⟨S8x1, .f32⟩
  | 92 => ⟨S_, .f32⟩
  | 93 => ⟨S128, .f32⟩
  | 94 => ⟨S128, .f32⟩
  | 95 => ⟨S1x128, .f32⟩
  | 96 => ⟨S8x128, .f32⟩
  | 97 => ⟨S8x128, .f32⟩
  | 98 => ⟨S8x128, .f32⟩
  | 99 => ⟨S8x128, .f32⟩
  | 100 => ⟨S1x8x128x1, .f32⟩
  | 101 => ⟨S_, .f32⟩
  | 102 => ⟨S8, .f32⟩
  | 103 => ⟨S8, .f32⟩
  | 104 => ⟨S8, .f32⟩
  | 105 => ⟨S1x8x1x1, .f32⟩
  | 106 => ⟨S_, .f32⟩
  | 107 => ⟨S8x8x128x128, .f32⟩
  | 108 => ⟨S8x8x18x128x128, .f32⟩
  | 109 => ⟨S18x8x8x128x128, .f32⟩
  | 110 => ⟨S8x8x18x128x128, .f32⟩
  | 111 => ⟨S18x8x8x128x128, .f32⟩
  | 112 => ⟨S8x8x18x128x128, .f32⟩
  | 113 => ⟨S18x8x8x128x128, .f32⟩
  | 114 => ⟨S_, .f32⟩
  | 115 => ⟨S18x8x8x128x128, .f32⟩
  | 116 => ⟨S_, .i32⟩
  | 117 => ⟨S18x8x8x128x128, .f32⟩
  | 118 => ⟨S18x8x8x128x128, .f32⟩
  | 119 => ⟨S18x8x8x128x128, .f32⟩
  | 120 => ⟨S8x128x128, .f32⟩
  | 121 => ⟨S1x8x128x1, .f32⟩
  | 122 => ⟨S1x8x1x1, .f32⟩
  | 123 => ⟨S1x8x128x1, .f32⟩
  | 124 => ⟨S_, .i32⟩
  | 125 => ⟨S8x8x128x128, .f32⟩
  | 126 => ⟨S18x8x8x128x128, .f32⟩
  | 127 => ⟨S_, .i32⟩
  | _ => ⟨S16384x2560, .bf16⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S1x8x8x128x128, .f32⟩
  | 6 => ⟨S8x8x128x128, .f32⟩
  | 7 => ⟨S_, .i32⟩
  | 8 => ⟨S_, .i32⟩
  | 9 => ⟨S_, .i32⟩
  | 10 => ⟨S_, .i32⟩
  | 11 => ⟨S1x8x8x128x128, .f32⟩
  | 12 => ⟨S8x8x128x128, .f32⟩
  | 13 => ⟨S_, .i32⟩
  | 14 => ⟨S_, .i32⟩
  | 15 => ⟨S_, .i32⟩
  | 16 => ⟨S_, .i32⟩
  | 17 => ⟨S1x8x8x128x128, .f32⟩
  | 18 => ⟨S8x8x128x128, .f32⟩
  | 19 => ⟨S8x8x128x128, .f32⟩
  | 20 => ⟨S1x8x128x128, .f32⟩
  | 21 => ⟨S8x8x128x128, .f32⟩
  | 22 => ⟨S8x8x128x128, .f32⟩
  | 23 => ⟨S8x8x128x128, .f32⟩
  | 24 => ⟨S8x8x128x128, .f32⟩
  | 25 => ⟨S8x8x128x128, .f32⟩
  | 26 => ⟨S8x8x128x128, .f32⟩
  | 27 => ⟨S8x8x128x128, .f32⟩
  | 28 => ⟨S8x8x128x128, .f32⟩
  | 29 => ⟨S8x8x128x128, .f32⟩
  | 30 => ⟨S8x8x128x128, .f32⟩
  | 31 => ⟨S8x8x128x128, .f32⟩
  | 32 => ⟨S8x8x128x128, .f32⟩
  | 33 => ⟨S8x8x128x128, .f32⟩
  | 34 => ⟨S1x8x8x128x128, .f32⟩
  | 35 => ⟨S_, .i32⟩
  | 36 => ⟨S_, .i32⟩
  | 37 => ⟨S_, .i32⟩
  | 38 => ⟨S_, .i32⟩
  | 39 => ⟨S18x8x8x128x128, .f32⟩
  | 40 => ⟨S_, .i32⟩
  | 41 => ⟨S_, .i32⟩
  | 42 => ⟨S8x8x18x128x128, .f32⟩
  | 43 => ⟨S8x8x2304x128, .f32⟩
  | 44 => ⟨S8x4x2304x128, .f32⟩
  | 45 => ⟨S8x4x2304x128, .f32⟩
  | 46 => ⟨S8x4x256x128, .f32⟩
  | 47 => ⟨S8x4x256x128, .f32⟩
  | 48 => ⟨S8x4x256x128, .f32⟩
  | 49 => ⟨S8x4x256x128, .f32⟩
  | 50 => ⟨S8x4x2048x128, .f32⟩
  | 51 => ⟨S8x4x2048x128, .f32⟩
  | 52 => ⟨S8x4x2048x128, .f32⟩
  | 53 => ⟨S8x4x2048x128, .f32⟩
  | 54 => ⟨S16384x512, .bf16⟩
  | 55 => ⟨S8x2048x512, .bf16⟩
  | 56 => ⟨S_, .f32⟩
  | 57 => ⟨S8x4x2048, .f32⟩
  | 58 => ⟨S8x4x2048x1, .f32⟩
  | 59 => ⟨S_, .f32⟩
  | 60 => ⟨S8x4x2048x1, .f32⟩
  | 61 => ⟨S8x4x2048x1, .f32⟩
  | 62 => ⟨S8x4x2048x128, .f32⟩
  | 63 => ⟨S8x4x2048x128, .f32⟩
  | 64 => ⟨S8x4x2048x128, .f32⟩
  | 65 => ⟨S_, .f32⟩
  | 66 => ⟨S8x4x2048, .f32⟩
  | 67 => ⟨S8x4x2048x1, .f32⟩
  | 68 => ⟨S_, .f32⟩
  | 69 => ⟨S8x4x2048x1, .f32⟩
  | 70 => ⟨S8x4x2048x1, .f32⟩
  | 71 => ⟨S8x4x2048x128, .f32⟩
  | 72 => ⟨S8x4x2048x128, .f32⟩
  | 73 => ⟨S_, .f32⟩
  | 74 => ⟨S8x4x2048x1, .f32⟩
  | 75 => ⟨S8x4x2048x1, .f32⟩
  | 76 => ⟨S8x4x2048x1, .f32⟩
  | 77 => ⟨S8x4x2048x128, .f32⟩
  | 78 => ⟨S8x4x2048x128, .f32⟩
  | 79 => ⟨S8x2048x4x128, .f32⟩
  | 80 => ⟨S8x2048x512, .f32⟩
  | 81 => ⟨S1x1x512, .f32⟩
  | 82 => ⟨S8x2048x512, .f32⟩
  | 83 => ⟨S8x2048x512, .f32⟩
  | 84 => ⟨S8x2048x512, .f32⟩
  | 85 => ⟨S8x2048x512, .f32⟩
  | 86 => ⟨S8x2048x512, .f32⟩
  | 87 => ⟨S_, .f32⟩
  | 88 => ⟨S8x2048x512, .f32⟩
  | 89 => ⟨S8x2048x512, .f32⟩
  | 90 => ⟨S_, .f32⟩
  | 91 => ⟨S8x2048x512, .f32⟩
  | 92 => ⟨S8x2048x512, .f32⟩
  | 93 => ⟨S8x2048x512, .f32⟩
  | 94 => ⟨S8x2048x512, .f32⟩
  | 95 => ⟨S8x2048x512, .bf16⟩
  | 96 => ⟨S2048x512, .bf16⟩
  | 97 => ⟨S8x256x512, .bf16⟩
  | 98 => ⟨S_, .f32⟩
  | 99 => ⟨S8x4x256, .f32⟩
  | 100 => ⟨S8x4x256x1, .f32⟩
  | 101 => ⟨S_, .f32⟩
  | 102 => ⟨S8x4x256x1, .f32⟩
  | 103 => ⟨S8x4x256x1, .f32⟩
  | 104 => ⟨S8x4x256x128, .f32⟩
  | 105 => ⟨S8x4x256x128, .f32⟩
  | 106 => ⟨S8x4x256x128, .f32⟩
  | 107 => ⟨S_, .f32⟩
  | 108 => ⟨S8x4x256, .f32⟩
  | 109 => ⟨S8x4x256x1, .f32⟩
  | 110 => ⟨S_, .f32⟩
  | 111 => ⟨S8x4x256x1, .f32⟩
  | 112 => ⟨S8x4x256x1, .f32⟩
  | 113 => ⟨S8x4x256x128, .f32⟩
  | 114 => ⟨S8x4x256x128, .f32⟩
  | 115 => ⟨S_, .f32⟩
  | 116 => ⟨S8x4x256x1, .f32⟩
  | 117 => ⟨S8x4x256x1, .f32⟩
  | 118 => ⟨S8x4x256x1, .f32⟩
  | 119 => ⟨S8x4x256x128, .f32⟩
  | 120 => ⟨S8x4x256x128, .f32⟩
  | 121 => ⟨S8x256x4x128, .f32⟩
  | 122 => ⟨S8x256x512, .f32⟩
  | 123 => ⟨S1x1x512, .f32⟩
  | 124 => ⟨S8x256x512, .f32⟩
  | 125 => ⟨S8x256x512, .f32⟩
  | 126 => ⟨S8x256x512, .f32⟩
  | 127 => ⟨S8x256x512, .f32⟩
  | _ => ⟨S16384x2560, .bf16⟩

abbrev hbmTy0_2 (i : Nat) : BufTy := match i % 128 with
  | 0 => ⟨S8x256x512, .f32⟩
  | 1 => ⟨S_, .f32⟩
  | 2 => ⟨S8x256x512, .f32⟩
  | 3 => ⟨S8x256x512, .f32⟩
  | 4 => ⟨S_, .f32⟩
  | 5 => ⟨S8x256x512, .f32⟩
  | 6 => ⟨S8x256x512, .f32⟩
  | 7 => ⟨S8x256x512, .f32⟩
  | 8 => ⟨S8x256x512, .f32⟩
  | 9 => ⟨S8x256x512, .bf16⟩
  | 10 => ⟨S16384x512, .bf16⟩
  | 11 => ⟨S2048x512, .bf16⟩
  | _ => ⟨S16384x2560, .bf16⟩

abbrev hbmTy (i : Nat) : BufTy := match i / 128 with
  | 0 => hbmTy0_0 i
  | 1 => hbmTy0_1 i
  | 2 => hbmTy0_2 i
  | _ => ⟨S16384x2560, .bf16⟩

abbrev bufTy : (tb : Table) → Fin (tcTables nBuf tb) → BufTy
  | .hbm, ⟨i, _⟩ => hbmTy i
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst_0 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_cst_1 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_cst_2 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v69 : Ref sig .tc := ⟨.hbm, 80, rfl⟩
abbrev main_v70 : Ref sig .tc := ⟨.hbm, 81, rfl⟩
abbrev main_cst_3 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_4 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_5 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_6 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_7 : Ref sig .tc := ⟨.hbm, 114, rfl⟩
abbrev main_v99 : Ref sig .tc := ⟨.hbm, 115, rfl⟩
abbrev main_c : Ref sig .tc := ⟨.hbm, 116, rfl⟩
abbrev main_v100_0 : Ref sig .tc := ⟨.hbm, 117, rfl⟩
abbrev main_v100_1 : Ref sig .tc := ⟨.hbm, 118, rfl⟩
abbrev main_v100_2 : Ref sig .tc := ⟨.hbm, 119, rfl⟩
abbrev main_v100_3 : Ref sig .tc := ⟨.hbm, 120, rfl⟩
abbrev main_v100_4 : Ref sig .tc := ⟨.hbm, 121, rfl⟩
abbrev main_v100_5 : Ref sig .tc := ⟨.hbm, 122, rfl⟩
abbrev main_v100_6 : Ref sig .tc := ⟨.hbm, 123, rfl⟩
abbrev main_v100_7 : Ref sig .tc := ⟨.hbm, 124, rfl⟩
abbrev main_v100_8 : Ref sig .tc := ⟨.hbm, 125, rfl⟩
abbrev main_v100_9 : Ref sig .tc := ⟨.hbm, 126, rfl⟩
abbrev main_while0c_c_27 : Ref sig .tc := ⟨.hbm, 127, rfl⟩
abbrev main_while0c_v173 : Ref sig .tc := ⟨.hbm, 128, rfl⟩
abbrev main_while0b_call1_c : Ref sig .tc := ⟨.hbm, 129, rfl⟩
abbrev main_while0b_call1_c_0 : Ref sig .tc := ⟨.hbm, 130, rfl⟩
abbrev main_while0b_call1_c_1 : Ref sig .tc := ⟨.hbm, 131, rfl⟩
abbrev main_while0b_call1_c_2 : Ref sig .tc := ⟨.hbm, 132, rfl⟩
abbrev main_while0b_call1_v0 : Ref sig .tc := ⟨.hbm, 133, rfl⟩
abbrev main_while0b_v173 : Ref sig .tc := ⟨.hbm, 134, rfl⟩
abbrev main_while0b_call2_c : Ref sig .tc := ⟨.hbm, 135, rfl⟩
abbrev main_while0b_call2_c_0 : Ref sig .tc := ⟨.hbm, 136, rfl⟩
abbrev main_while0b_call2_c_1 : Ref sig .tc := ⟨.hbm, 137, rfl⟩
abbrev main_while0b_call2_c_2 : Ref sig .tc := ⟨.hbm, 138, rfl⟩
abbrev main_while0b_call2_v0 : Ref sig .tc := ⟨.hbm, 139, rfl⟩
abbrev main_while0b_v174 : Ref sig .tc := ⟨.hbm, 140, rfl⟩
abbrev main_while0b_call3_c : Ref sig .tc := ⟨.hbm, 141, rfl⟩
abbrev main_while0b_call3_c_0 : Ref sig .tc := ⟨.hbm, 142, rfl⟩
abbrev main_while0b_call3_c_1 : Ref sig .tc := ⟨.hbm, 143, rfl⟩
abbrev main_while0b_call3_c_2 : Ref sig .tc := ⟨.hbm, 144, rfl⟩
abbrev main_while0b_call3_v0 : Ref sig .tc := ⟨.hbm, 145, rfl⟩
abbrev main_while0b_v175 : Ref sig .tc := ⟨.hbm, 146, rfl⟩
abbrev main_while0b_v176 : Ref sig .tc := ⟨.hbm, 147, rfl⟩
abbrev main_while0b_v177 : Ref sig .tc := ⟨.hbm, 148, rfl⟩
abbrev main_while0b_v178 : Ref sig .tc := ⟨.hbm, 149, rfl⟩
abbrev main_while0b_v179 : Ref sig .tc := ⟨.hbm, 150, rfl⟩
abbrev main_while0b_v180 : Ref sig .tc := ⟨.hbm, 151, rfl⟩
abbrev main_while0b_v181 : Ref sig .tc := ⟨.hbm, 152, rfl⟩
abbrev main_while0b_v182 : Ref sig .tc := ⟨.hbm, 153, rfl⟩
abbrev main_while0b_v183 : Ref sig .tc := ⟨.hbm, 154, rfl⟩
abbrev main_while0b_v184 : Ref sig .tc := ⟨.hbm, 155, rfl⟩
abbrev main_while0b_v185 : Ref sig .tc := ⟨.hbm, 156, rfl⟩
abbrev main_while0b_v186 : Ref sig .tc := ⟨.hbm, 157, rfl⟩
abbrev main_while0b_v187 : Ref sig .tc := ⟨.hbm, 158, rfl⟩
abbrev main_while0b_v188 : Ref sig .tc := ⟨.hbm, 159, rfl⟩
abbrev main_while0b_v189 : Ref sig .tc := ⟨.hbm, 160, rfl⟩
abbrev main_while0b_v190 : Ref sig .tc := ⟨.hbm, 161, rfl⟩
abbrev main_while0b_call4_v0 : Ref sig .tc := ⟨.hbm, 162, rfl⟩
abbrev main_while0b_call4_c : Ref sig .tc := ⟨.hbm, 163, rfl⟩
abbrev main_while0b_call4_c_0 : Ref sig .tc := ⟨.hbm, 164, rfl⟩
abbrev main_while0b_call4_c_1 : Ref sig .tc := ⟨.hbm, 165, rfl⟩
abbrev main_while0b_call4_c_2 : Ref sig .tc := ⟨.hbm, 166, rfl⟩
abbrev main_while0b_v191 : Ref sig .tc := ⟨.hbm, 167, rfl⟩
abbrev main_while0b_c_27 : Ref sig .tc := ⟨.hbm, 168, rfl⟩
abbrev main_while0b_v192 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_cst_8 : Ref sig .tc := ⟨.hbm, 184, rfl⟩
abbrev main_v115 : Ref sig .tc := ⟨.hbm, 185, rfl⟩
abbrev main_v116 : Ref sig .tc := ⟨.hbm, 186, rfl⟩
abbrev main_cst_9 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_cst_10 : Ref sig .tc := ⟨.hbm, 193, rfl⟩
abbrev main_v122 : Ref sig .tc := ⟨.hbm, 194, rfl⟩
abbrev main_v123 : Ref sig .tc := ⟨.hbm, 195, rfl⟩
abbrev main_cst_11 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_cst_12 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_call5_v0 : Ref sig .tc := ⟨.hbm, 213, rfl⟩
abbrev main_call5_v1 : Ref sig .tc := ⟨.hbm, 214, rfl⟩
abbrev main_call5_cst : Ref sig .tc := ⟨.hbm, 215, rfl⟩
abbrev main_call5_v2 : Ref sig .tc := ⟨.hbm, 216, rfl⟩
abbrev main_call5_v3 : Ref sig .tc := ⟨.hbm, 217, rfl⟩
abbrev main_call5_cst_0 : Ref sig .tc := ⟨.hbm, 218, rfl⟩
abbrev main_call5_v4 : Ref sig .tc := ⟨.hbm, 219, rfl⟩
abbrev main_call5_v5 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_cst_13 : Ref sig .tc := ⟨.hbm, 226, rfl⟩
abbrev main_v144 : Ref sig .tc := ⟨.hbm, 227, rfl⟩
abbrev main_v145 : Ref sig .tc := ⟨.hbm, 228, rfl⟩
abbrev main_cst_14 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_cst_15 : Ref sig .tc := ⟨.hbm, 235, rfl⟩
abbrev main_v151 : Ref sig .tc := ⟨.hbm, 236, rfl⟩
abbrev main_v152 : Ref sig .tc := ⟨.hbm, 237, rfl⟩
abbrev main_cst_16 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_cst_17 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_call6_v0 : Ref sig .tc := ⟨.hbm, 255, rfl⟩
abbrev main_call6_v1 : Ref sig .tc := ⟨.hbm, 256, rfl⟩
abbrev main_call6_cst : Ref sig .tc := ⟨.hbm, 257, rfl⟩
abbrev main_call6_v2 : Ref sig .tc := ⟨.hbm, 258, rfl⟩
abbrev main_call6_v3 : Ref sig .tc := ⟨.hbm, 259, rfl⟩
abbrev main_call6_cst_0 : Ref sig .tc := ⟨.hbm, 260, rfl⟩
abbrev main_call6_v4 : Ref sig .tc := ⟨.hbm, 261, rfl⟩
abbrev main_call6_v5 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩

abbrev nD : Nat := 1
abbrev τ : Topo := Topo.v7x

variable {F : FTy → Type} [FloatOps F]

abbrev main_while0_count : Scf.Loop 32 := ⟨0#32, 18#32, 1#32⟩
-- ==== Kernel2.lean ====
abbrev S16384x1024 : Shape := ⟨2, ![16384, 1024]⟩
abbrev S1024 : Shape := ⟨1, ![1024]⟩
abbrev S16x6x1024 : Shape := ⟨3, ![16, 6, 1024]⟩
abbrev S1024x3200 : Shape := ⟨2, ![1024, 3200]⟩
abbrev S1x1024 : Shape := ⟨2, ![1, 1024]⟩
abbrev S16384x3072 : Shape := ⟨2, ![16384, 3072]⟩
abbrev S16384x128 : Shape := ⟨2, ![16384, 128]⟩
abbrev S512x1024 : Shape := ⟨2, ![512, 1024]⟩
abbrev S1x6x1024 : Shape := ⟨3, ![1, 6, 1024]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩
abbrev S1024x128 : Shape := ⟨2, ![1024, 128]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6x1024, .f32⟩
  | .hbm, ⟨3, _⟩ => ⟨S1024x3200, .bf16⟩
  | .hbm, ⟨4, _⟩ => ⟨S1x1024, .f32⟩
  | .hbm, ⟨5, _⟩ => ⟨S16384x3072, .bf16⟩
  | .hbm, ⟨6, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x3200, .bf16⟩
  | .local _ .vmem, ⟨6, _⟩ => ⟨S512x3072, .bf16⟩
  | .local _ .vmem, ⟨7, _⟩ => ⟨S512x3072, .bf16⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1024 : Shape := ⟨1, ![1024]⟩
abbrev S16x6x1024 : Shape := ⟨3, ![16, 6, 1024]⟩
abbrev S1024x3200 : Shape := ⟨2, ![1024, 3200]⟩
abbrev S8x6x1024 : Shape := ⟨3, ![8, 6, 1024]⟩
abbrev S8x1x6144 : Shape := ⟨3, ![8, 1, 6144]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3200 : Shape := ⟨3, ![8, 2048, 3200]⟩
abbrev S16384x3200 : Shape := ⟨2, ![16384, 3200]⟩
abbrev S16384x3072 : Shape := ⟨2, ![16384, 3072]⟩
abbrev S16384x128 : Shape := ⟨2, ![16384, 128]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6x1024, .f32⟩
  | .hbm, ⟨3, _⟩ => ⟨S1024x3200, .bf16⟩
  | .hbm, ⟨4, _⟩ => ⟨S8x6x1024, .f32⟩
  | .hbm, ⟨5, _⟩ => ⟨S8x1x6144, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S1024x3200, .f32⟩
  | .hbm, ⟨33, _⟩ => ⟨S8x2048x3200, .f32⟩
  | .hbm, ⟨34, _⟩ => ⟨S16384x3200, .f32⟩
  | .hbm, ⟨35, _⟩ => ⟨S16384x3072, .f32⟩
  | .hbm, ⟨36, _⟩ => ⟨S16384x3072, .bf16⟩
  | .hbm, ⟨37, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S16x6x1024 : Shape := ⟨3, ![16, 6, 1024]⟩
abbrev S1024x2560 : Shape := ⟨2, ![1024, 2560]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S1x1024 : Shape := ⟨2, ![1, 1024]⟩
abbrev S16384x2560 : Shape := ⟨2, ![16384, 2560]⟩
abbrev S512x1024 : Shape := ⟨2, ![512, 1024]⟩
abbrev S1x6x1024 : Shape := ⟨3, ![1, 6, 1024]⟩
abbrev S512x128 : Shape := ⟨2, ![512, 128]⟩
abbrev S512x2560 : Shape := ⟨2, ![512, 2560]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 40
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6x1024, .f32⟩
  | .hbm, ⟨3, _⟩ => ⟨S1024x2560, .f32⟩
  | .hbm, ⟨4, _⟩ => ⟨S1024x2560, .bf16⟩
  | .hbm, ⟨5, _⟩ => ⟨S32, .i32⟩
  | .hbm, ⟨6, _⟩ => ⟨S32x64, .i32⟩
  | .hbm, ⟨7, _⟩ => ⟨S2048, .i32⟩
  | .hbm, ⟨8, _⟩ => ⟨S2048, .f32⟩
  | .hbm, ⟨9, _⟩ => ⟨S64, .i32⟩
  | .hbm, ⟨10, _⟩ => ⟨S1x64, .i32⟩
  | .hbm, ⟨11, _⟩ => ⟨S32x64, .i32⟩
  | .hbm, ⟨12, _⟩ => ⟨S2048, .i32⟩
  | .hbm, ⟨13, _⟩ => ⟨S2048, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x1, .f32⟩
  | .hbm, ⟨28, _⟩ => ⟨S1x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S2048x128, .f32⟩
  | .hbm, ⟨36, _⟩ => ⟨S2048x64, .f32⟩
  | .hbm, ⟨37, _⟩ => ⟨S2048x128, .f32⟩
  | .hbm, ⟨38, _⟩ => ⟨S1x1024, .f32⟩
  | .hbm, ⟨39, _⟩ => ⟨S16384x2560, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x2560, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2560, .bf16⟩
  | .local _ .vmem, ⟨11, _⟩ => ⟨S512x2560, .bf16⟩
  | .local _ .vmem, ⟨12, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S1024 : Shape := ⟨1, ![1024]⟩
abbrev S16x6x1024 : Shape := ⟨3, ![16, 6, 1024]⟩
abbrev S1024x2560 : Shape := ⟨2, ![1024, 2560]⟩
abbrev S8x6x1024 : Shape := ⟨3, ![8, 6, 1024]⟩
abbrev S8x1x6144 : Shape := ⟨3, ![8, 1, 6144]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2560 : Shape := ⟨3, ![8, 2048, 2560]⟩
abbrev S8x2048x512 : Shape := ⟨3, ![8, 2048, 512]⟩
abbrev S8x2048x4x128 : Shape := ⟨4, ![8, 2048, 4, 128]⟩
abbrev S8x4x2048x128 : Shape := ⟨4, ![8, 4, 2048, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S8x4x2048x64 : Shape := ⟨4, ![8, 4, 2048, 64]⟩
abbrev S1x1x2048x64 : Shape := ⟨4, ![1, 1, 2048, 64]⟩
abbrev S8x2048x1536 : Shape := ⟨3, ![8, 2048, 1536]⟩
abbrev S16384x2560 : Shape := ⟨2, ![16384, 2560]⟩

abbrev nBuf : Space → Nat
  | .hbm => 144
  | .vmem => 0
  | .smem => 0
  | _ => 0

abbrev hbmTy0_0 (i : Nat) : BufTy := match i % 128 with
  | 0 => ⟨S16384x1024, .f32⟩
  | 1 => ⟨S1024, .f32⟩
  | 2 => ⟨S16x6x1024, .f32⟩
  | 3 => ⟨S1024x2560, .f32⟩
  | 4 => ⟨S8x6x1024, .f32⟩
  | 5 => ⟨S8x1x6144, .f32⟩
  | 6 => ⟨S8x1x1024, .f32⟩
  | 7 => ⟨S8x1x1024, .f32⟩
  | 8 => ⟨S8x2048x1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S_, .f32⟩
  | 26 => ⟨S8x1x1024, .f32⟩
  | 27 => ⟨S8x1x1024, .f32⟩
  | 28 => ⟨S8x2048x1024, .f32⟩
  | 29 => ⟨S8x2048x1024, .f32⟩
  | 30 => ⟨S8x2048x1024, .f32⟩
  | 31 => ⟨S8x2048x1024, .f32⟩
  | 32 => ⟨S8x2048x2560, .f32⟩
  | 33 => ⟨S8x2048x512, .f32⟩
  | 34 => ⟨S8x2048x4x128, .f32⟩
  | 35 => ⟨S8x4x2048x128, .f32⟩
  | 36 => ⟨S32, .i32⟩
  | 37 => ⟨S32x64, .i32⟩
  | 38 => ⟨S2048, .i32⟩
  | 39 => ⟨S2048, .f32⟩
  | 40 => ⟨S64, .i32⟩
  | 41 => ⟨S1x64, .i32⟩
  | 42 => ⟨S32x64, .i32⟩
  | 43 => ⟨S2048, .i32⟩
  | 44 => ⟨S2048, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S2048x1, .f32⟩
  | 54 => ⟨S1x32, .f32⟩
  | 55 => ⟨S2048x32, .f32⟩
  | 56 => ⟨S2048x32, .f32⟩
  | 57 => ⟨S2048x32, .f32⟩
  | 58 => ⟨S2048x1, .f32⟩
  | 59 => ⟨S1x32, .f32⟩
  | 60 => ⟨S2048x32, .f32⟩
  | 61 => ⟨S2048x32, .f32⟩
  | 62 => ⟨S2048x32, .f32⟩
  | 63 => ⟨S2048x64, .f32⟩
  | 64 => ⟨S2048x64, .f32⟩
  | 65 => ⟨S2048x64, .f32⟩
  | 66 => ⟨S8x4x2048x64, .f32⟩
  | 67 => ⟨S8x4x2048x64, .f32⟩
  | 68 => ⟨S1x1x2048x64, .f32⟩
  | 69 => ⟨S8x4x2048x64, .f32⟩
  | 70 => ⟨S8x4x2048x64, .f32⟩
  | 71 => ⟨S1x1x2048x64, .f32⟩
  | 72 => ⟨S8x4x2048x64, .f32⟩
  | 73 => ⟨S8x4x2048x64, .f32⟩
  | 74 => ⟨S8x4x2048x64, .f32⟩
  | 75 => ⟨S1x1x2048x64, .f32⟩
  | 76 => ⟨S8x4x2048x64, .f32⟩
  | 77 => ⟨S8x4x2048x64, .f32⟩
  | 78 => ⟨S1x1x2048x64, .f32⟩
  | 79 => ⟨S8x4x2048x64, .f32⟩
  | 80 => ⟨S8x4x2048x64, .f32⟩
  | 81 => ⟨S8x4x2048x64, .f32⟩
  | 82 => ⟨S8x4x2048x128, .f32⟩
  | 83 => ⟨S_, .f32⟩
  | 84 => ⟨S8x4x2048x128, .f32⟩
  | 85 => ⟨S8x4x2048x128, .f32⟩
  | 86 => ⟨S8x2048x512, .f32⟩
  | 87 => ⟨S8x2048x4x128, .f32⟩
  | 88 => ⟨S8x4x2048x128, .f32⟩
  | 89 => ⟨S32, .i32⟩
  | 90 => ⟨S32x64, .i32⟩
  | 91 => ⟨S2048, .i32⟩
  | 92 => ⟨S2048, .f32⟩
  | 93 => ⟨S64, .i32⟩
  | 94 => ⟨S1x64, .i32⟩
  | 95 => ⟨S32x64, .i32⟩
  | 96 => ⟨S2048, .i32⟩
  | 97 => ⟨S2048, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S2048x1, .f32⟩
  | 107 => ⟨S1x32, .f32⟩
  | 108 => ⟨S2048x32, .f32⟩
  | 109 => ⟨S2048x32, .f32⟩
  | 110 => ⟨S2048x32, .f32⟩
  | 111 => ⟨S2048x1, .f32⟩
  | 112 => ⟨S1x32, .f32⟩
  | 113 => ⟨S2048x32, .f32⟩
  | 114 => ⟨S2048x32, .f32⟩
  | 115 => ⟨S2048x32, .f32⟩
  | 116 => ⟨S2048x64, .f32⟩
  | 117 => ⟨S2048x64, .f32⟩
  | 118 => ⟨S2048x64, .f32⟩
  | 119 => ⟨S8x4x2048x64, .f32⟩
  | 120 => ⟨S8x4x2048x64, .f32⟩
  | 121 => ⟨S1x1x2048x64, .f32⟩
  | 122 => ⟨S8x4x2048x64, .f32⟩
  | 123 => ⟨S8x4x2048x64, .f32⟩
  | 124 => ⟨S1x1x2048x64, .f32⟩
  | 125 => ⟨S8x4x2048x64, .f32⟩
  | 126 => ⟨S8x4x2048x64, .f32⟩
  | 127 => ⟨S8x4x2048x64, .f32⟩
  | _ => ⟨S16384x1024, .f32⟩

abbrev hbmTy0_1 (i : Nat) : BufTy := match i % 128 with
  | 0 => ⟨S1x1x2048x64, .f32⟩
  | 1 => ⟨S8x4x2048x64, .f32⟩
  | 2 => ⟨S8x4x2048x64, .f32⟩
  | 3 => ⟨S1x1x2048x64, .f32⟩
  | 4 => ⟨S8x4x2048x64, .f32⟩
  | 5 => ⟨S8x4x2048x64, .f32⟩
  | 6 => ⟨S8x4x2048x64, .f32⟩
  | 7 => ⟨S8x4x2048x128, .f32⟩
  | 8 => ⟨S8x2048x4x128, .f32⟩
  | 9 => ⟨S8x2048x512, .f32⟩
  | 10 => ⟨S8x2048x4x128, .f32⟩
  | 11 => ⟨S8x2048x512, .f32⟩
  | 12 => ⟨S8x2048x1536, .f32⟩
  | 13 => ⟨S8x2048x2560, .f32⟩
  | 14 => ⟨S8x2048x2560, .bf16⟩
  | 15 => ⟨S16384x2560, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_5 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_6 : Ref sig .tc := ⟨.hbm, 100, rfl⟩
abbrev main_v89 : Ref sig .tc := ⟨.hbm, 101, rfl⟩
abbrev main_v90 : Ref sig .tc := ⟨.hbm, 102, rfl⟩
abbrev main_cst_7 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩

abbrev nD : Nat := 1
abbrev τ : Topo := Topo.v7x

variable {F : FTy → Type} [FloatOps F]
-- ==== Kernel4.lean ====
abbrev S2048x1024 : Shape := ⟨2, ![2048, 1024]⟩
abbrev S1024 : Shape := ⟨1, ![1024]⟩
abbrev S16x6x1024 : Shape := ⟨3, ![16, 6, 1024]⟩
abbrev S1024x2560 : Shape := ⟨2, ![1024, 2560]⟩
abbrev S1x1024 : Shape := ⟨2, ![1, 1024]⟩
abbrev S2048x2560 : Shape := ⟨2, ![2048, 2560]⟩
abbrev S256x1024 : Shape := ⟨2, ![256, 1024]⟩
abbrev S1x6x1024 : Shape := ⟨3, ![1, 6, 1024]⟩
abbrev S256x2560 : Shape := ⟨2, ![256, 2560]⟩
abbrev S256 : Shape := ⟨1, ![256]⟩
abbrev S256x1 : Shape := ⟨2, ![256, 1]⟩
abbrev S1x1x1024 : Shape := ⟨3, ![1, 1, 1024]⟩
abbrev S1024x512 : Shape := ⟨2, ![1024, 512]⟩
abbrev S256x512 : Shape := ⟨2, ![256, 512]⟩
abbrev S256x128 : Shape := ⟨2, ![256, 128]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S16x6x1024, .f32⟩
  | .hbm, ⟨3, _⟩ => ⟨S1024x2560, .f32⟩
  | .hbm, ⟨4, _⟩ => ⟨S1024x2560, .bf16⟩
  | .hbm, ⟨5, _⟩ => ⟨S1x1024, .f32⟩
  | .hbm, ⟨6, _⟩ => ⟨S2048x2560, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1024, .f32⟩
  | .local _ .vmem, ⟨4, _⟩ => ⟨S1024x2560, .bf16⟩
  | .local _ .vmem, ⟨5, _⟩ => ⟨S256x2560, .bf16⟩
  | .local _ .vmem, ⟨6, _⟩ => ⟨S256x2560, .bf16⟩
  | .local _ .vmem, ⟨7, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2048x1024 : Shape := ⟨2, ![2048, 1024]⟩
abbrev S1024 : Shape := ⟨1, ![1024]⟩
abbrev S16x6x1024 : Shape := ⟨3, ![16, 6, 1024]⟩
abbrev S1024x2560 : Shape := ⟨2, ![1024, 2560]⟩
abbrev S1x6x1024 : Shape := ⟨3, ![1, 6, 1024]⟩
abbrev S6x1024 : Shape := ⟨2, ![6, 1024]⟩
abbrev S6144 : Shape := ⟨1, ![6144]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2560 : Shape := ⟨3, ![8, 256, 2560]⟩
abbrev S8x256x512 : Shape := ⟨3, ![8, 256, 512]⟩
abbrev S8x256x2048 : Shape := ⟨3, ![8, 256, 2048]⟩
abbrev S2048x2560 : Shape := ⟨2, ![2048, 2560]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S16x6x1024, .f32⟩
  | .hbm, ⟨3, _⟩ => ⟨S1024x2560, .f32⟩
  | .hbm, ⟨4, _⟩ => ⟨S1x6x1024, .f32⟩
  | .hbm, ⟨5, _⟩ => ⟨S6x1024, .f32⟩
  | .hbm, ⟨6, _⟩ => ⟨S6144, .f32⟩
  | .hbm, ⟨7, _⟩ => ⟨S1024, .f32⟩
  | .hbm, ⟨8, _⟩ => ⟨S1024, .f32⟩
  | .hbm, ⟨9, _⟩ => ⟨S8x256x1024, .f32⟩
  | .hbm, ⟨10, _⟩ => ⟨S8x256x1024, .f32⟩
  | .hbm, ⟨11, _⟩ => ⟨S_, .f32⟩
  | .hbm, ⟨12, _⟩ => ⟨S8x256, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S_, .f32⟩
  | .hbm, ⟨18, _⟩ => ⟨S8x256x1, .f32⟩
  | .hbm, ⟨19, _⟩ => ⟨S8x256x1, .f32⟩
  | .hbm, ⟨20, _⟩ => ⟨S8x256x1, .f32⟩
  | .hbm, ⟨21, _⟩ => ⟨S8x256x1024, .f32⟩
  | .hbm, ⟨22, _⟩ => ⟨S8x256x1024, .f32⟩
  | .hbm, ⟨23, _⟩ => ⟨S1x1x1024, .f32⟩
  | .hbm, ⟨24, _⟩ => ⟨S8x256x1024, .f32⟩
  | .hbm, ⟨25, _⟩ => ⟨S8x256x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1x1024, .f32⟩
  | .hbm, ⟨30, _⟩ => ⟨S8x256x1024, .f32⟩
  | .hbm, ⟨31, _⟩ => ⟨S8x256x1024, .f32⟩
  | .hbm, ⟨32, _⟩ => ⟨S1x1x1024, .f32⟩
  | .hbm, ⟨33, _⟩ => ⟨S8x256x1024, .f32⟩
  | .hbm, ⟨34, _⟩ => ⟨S8x256x1024, .f32⟩
  | .hbm, ⟨35, _⟩ => ⟨S8x256x2560, .f32⟩
  | .hbm, ⟨36, _⟩ => ⟨S8x256x512, .f32⟩
  | .hbm, ⟨37, _⟩ => ⟨S_, .f32⟩
  | .hbm, ⟨38, _⟩ => ⟨S8x256x512, .f32⟩
  | .hbm, ⟨39, _⟩ => ⟨S8x256x512, .f32⟩
  | .hbm, ⟨40, _⟩ => ⟨S8x256x2048, .f32⟩
  | .hbm, ⟨41, _⟩ => ⟨S8x256x2560, .f32⟩
  | .hbm, ⟨42, _⟩ => ⟨S8x256x2560, .bf16⟩
  | .hbm, ⟨43, _⟩ => ⟨S2048x2560, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel5.lean ====
abbrev S2048x1024 : Shape := ⟨2, ![2048, 1024]⟩
abbrev S1024 : Shape := ⟨1, ![1024]⟩
abbrev S16x6x1024 : Shape := ⟨3, ![16, 6, 1024]⟩
abbrev S1024x1152 : Shape := ⟨2, ![1024, 1152]⟩
abbrev S1x1024 : Shape := ⟨2, ![1, 1024]⟩
abbrev S2048x128 : Shape := ⟨2, ![2048, 128]⟩
abbrev S256x1024 : Shape := ⟨2, ![256, 1024]⟩
abbrev S1x6x1024 : Shape := ⟨3, ![1, 6, 1024]⟩
abbrev S256x128 : Shape := ⟨2, ![256, 128]⟩
abbrev S256 : Shape := ⟨1, ![256]⟩
abbrev S256x1 : Shape := ⟨2, ![256, 1]⟩
abbrev S1x1x1024 : Shape := ⟨3, ![1, 1, 1024]⟩
abbrev S1024x512 : Shape := ⟨2, ![1024, 512]⟩
abbrev S256x512 : Shape := ⟨2, ![256, 512]⟩
abbrev S1024x128 : Shape := ⟨2, ![1024, 128]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S16x6x1024, .f32⟩
  | .hbm, ⟨3, _⟩ => ⟨S1024x1152, .bf16⟩
  | .hbm, ⟨4, _⟩ => ⟨S1x1024, .f32⟩
  | .hbm, ⟨5, _⟩ => ⟨S2048x1024, .bf16⟩
  | .hbm, ⟨6, _⟩ => ⟨S2048x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1024, .f32⟩
  | .local _ .vmem, ⟨4, _⟩ => ⟨S1024x1152, .bf16⟩
  | .local _ .vmem, ⟨5, _⟩ => ⟨S256x1024, .bf16⟩
  | .local _ .vmem, ⟨6, _⟩ => ⟨S256x1024, .bf16⟩
  | .local _ .vmem, ⟨7, _⟩ => ⟨S256x128, .f32⟩
  | .local _ .vmem, ⟨8, _⟩ => ⟨S256x128, .f32⟩
  | .local _ .vmem, ⟨9, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2048x1024 : Shape := ⟨2, ![2048, 1024]⟩
abbrev S1024 : Shape := ⟨1, ![1024]⟩
abbrev S16x6x1024 : Shape := ⟨3, ![16, 6, 1024]⟩
abbrev S1024x1152 : Shape := ⟨2, ![1024, 1152]⟩
abbrev S1x6x1024 : Shape := ⟨3, ![1, 6, 1024]⟩
abbrev S6x1024 : Shape := ⟨2, ![6, 1024]⟩
abbrev S6144 : Shape := ⟨1, ![6144]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x1152 : Shape := ⟨3, ![8, 256, 1152]⟩
abbrev S2048x1152 : Shape := ⟨2, ![2048, 1152]⟩
abbrev S2048x128 : Shape := ⟨2, ![2048, 128]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S16x6x1024, .f32⟩
  | .hbm, ⟨3, _⟩ => ⟨S1024x1152, .bf16⟩
  | .hbm, ⟨4, _⟩ => ⟨S1x6x1024, .f32⟩
  | .hbm, ⟨5, _⟩ => ⟨S6x1024, .f32⟩
  | .hbm, ⟨6, _⟩ => ⟨S6144, .f32⟩
  | .hbm, ⟨7, _⟩ => ⟨S1024, .f32⟩
  | .hbm, ⟨8, _⟩ => ⟨S1024, .f32⟩
  | .hbm, ⟨9, _⟩ => ⟨S8x256x1024, .f32⟩
  | .hbm, ⟨10, _⟩ => ⟨S8x256x1024, .f32⟩
  | .hbm, ⟨11, _⟩ => ⟨S_, .f32⟩
  | .hbm, ⟨12, _⟩ => ⟨S8x256, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S_, .f32⟩
  | .hbm, ⟨18, _⟩ => ⟨S8x256x1, .f32⟩
  | .hbm, ⟨19, _⟩ => ⟨S8x256x1, .f32⟩
  | .hbm, ⟨20, _⟩ => ⟨S8x256x1, .f32⟩
  | .hbm, ⟨21, _⟩ => ⟨S8x256x1024, .f32⟩
  | .hbm, ⟨22, _⟩ => ⟨S8x256x1024, .f32⟩
  | .hbm, ⟨23, _⟩ => ⟨S1x1x1024, .f32⟩
  | .hbm, ⟨24, _⟩ => ⟨S8x256x1024, .f32⟩
  | .hbm, ⟨25, _⟩ => ⟨S8x256x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1x1024, .f32⟩
  | .hbm, ⟨30, _⟩ => ⟨S8x256x1024, .f32⟩
  | .hbm, ⟨31, _⟩ => ⟨S8x256x1024, .f32⟩
  | .hbm, ⟨32, _⟩ => ⟨S1x1x1024, .f32⟩
  | .hbm, ⟨33, _⟩ => ⟨S8x256x1024, .f32⟩
  | .hbm, ⟨34, _⟩ => ⟨S8x256x1024, .f32⟩
  | .hbm, ⟨35, _⟩ => ⟨S1024x1152, .f32⟩
  | .hbm, ⟨36, _⟩ => ⟨S8x256x1152, .f32⟩
  | .hbm, ⟨37, _⟩ => ⟨S2048x1152, .f32⟩
  | .hbm, ⟨38, _⟩ => ⟨S2048x1024, .f32⟩
  | .hbm, ⟨39, _⟩ => ⟨S2048x1024, .bf16⟩
  | .hbm, ⟨40, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel6.lean ====
abbrev S176 : Shape := ⟨1, ![176]⟩
abbrev S1 : Shape := ⟨1, ![1]⟩
abbrev S45056x1024 : Shape := ⟨2, ![45056, 1024]⟩
abbrev S2x32x1024x512 : Shape := ⟨4, ![2, 32, 1024, 512]⟩
abbrev S2x32x512x1024 : Shape := ⟨4, ![2, 32, 512, 1024]⟩
abbrev S256x1024 : Shape := ⟨2, ![256, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S45056x1024, .f32⟩
  | .hbm, ⟨1, _⟩ => ⟨S2x32x1024x512, .f32⟩
  | .hbm, ⟨2, _⟩ => ⟨S2x32x1024x512, .f32⟩
  | .hbm, ⟨3, _⟩ => ⟨S2x32x512x1024, .f32⟩
  | .hbm, ⟨4, _⟩ => ⟨S45056x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S176, .i32⟩
  | .local _ .smem, ⟨1, _⟩ => ⟨S1, .i32⟩
  | _, _ => ⟨S45056x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![176], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S176.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S176) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S176.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S176) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S176.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S176) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S176 : Shape := ⟨1, ![176]⟩
abbrev S1 : Shape := ⟨1, ![1]⟩
abbrev S45056x1024 : Shape := ⟨2, ![45056, 1024]⟩
abbrev S2x32x1024x512 : Shape := ⟨4, ![2, 32, 1024, 512]⟩
abbrev S2x32x512x1024 : Shape := ⟨4, ![2, 32, 512, 1024]⟩
abbrev S176x256x1024 : Shape := ⟨3, ![176, 256, 1024]⟩
abbrev S1x32x1024x512 : Shape := ⟨4, ![1, 32, 1024, 512]⟩
abbrev S32x1024x512 : Shape := ⟨3, ![32, 1024, 512]⟩
abbrev S_ : Shape := ⟨0, ![]⟩
abbrev S176x1 : Shape := ⟨2, ![176, 1]⟩
abbrev S176x1024x512 : Shape := ⟨3, ![176, 1024, 512]⟩
abbrev S1x32x512x1024 : Shape := ⟨4, ![1, 32, 512, 1024]⟩
abbrev S32x512x1024 : Shape := ⟨3, ![32, 512, 1024]⟩
abbrev S176x512x1024 : Shape := ⟨3, ![176, 512, 1024]⟩
abbrev S176x256x512 : Shape := ⟨3, ![176, 256, 512]⟩
abbrev S176x1x1 : Shape := ⟨3, ![176, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S176, .i32⟩
  | .hbm, ⟨1, _⟩ => ⟨S1, .i32⟩
  | .hbm, ⟨2, _⟩ => ⟨S45056x1024, .f32⟩
  | .hbm, ⟨3, _⟩ => ⟨S2x32x1024x512, .f32⟩
  | .hbm, ⟨4, _⟩ => ⟨S2x32x1024x512, .f32⟩
  | .hbm, ⟨5, _⟩ => ⟨S2x32x512x1024, .f32⟩
  | .hbm, ⟨6, _⟩ => ⟨S176x256x1024, .f32⟩
  | .hbm, ⟨7, _⟩ => ⟨S1x32x1024x512, .f32⟩
  | .hbm, ⟨8, _⟩ => ⟨S32x1024x512, .f32⟩
  | .hbm, ⟨9, _⟩ => ⟨S_, .i32⟩
  | .hbm, ⟨10, _⟩ => ⟨S176, .i32⟩
  | .hbm, ⟨11, _⟩ => ⟨S176, .i1⟩
  | .hbm, ⟨12, _⟩ => ⟨S_, .i32⟩
  | .hbm, ⟨13, _⟩ => ⟨S176, .i32⟩
  | .hbm, ⟨14, _⟩ => ⟨S176, .i32⟩
  | .hbm, ⟨15, _⟩ => ⟨S176, .i32⟩
  | .hbm, ⟨16, _⟩ => ⟨S176x1, .i32⟩
  | .hbm, ⟨17, _⟩ => ⟨S176x1024x512, .f32⟩
  | .hbm, ⟨18, _⟩ => ⟨S1x32x1024x512, .f32⟩
  | .hbm, ⟨19, _⟩ => ⟨S32x1024x512, .f32⟩
  | .hbm, ⟨20, _⟩ => ⟨S_, .i32⟩
  | .hbm, ⟨21, _⟩ => ⟨S176, .i32⟩
  | .hbm, ⟨22, _⟩ => ⟨S176, .i1⟩
  | .hbm, ⟨23, _⟩ => ⟨S_, .i32⟩
  | .hbm, ⟨24, _⟩ => ⟨S176, .i32⟩
  | .hbm, ⟨25, _⟩ => ⟨S176, .i32⟩
  | .hbm, ⟨26, _⟩ => ⟨S176, .i32⟩
  | .hbm, ⟨27, _⟩ => ⟨S176x1, .i32⟩
  | .hbm, ⟨28, _⟩ => ⟨S176x1024x512, .f32⟩
  | .hbm, ⟨29, _⟩ => ⟨S1x32x512x1024, .f32⟩
  | .hbm, ⟨30, _⟩ => ⟨S32x512x1024, .f32⟩
  | .hbm, ⟨31, _⟩ => ⟨S_, .i32⟩
  | .hbm, ⟨32, _⟩ => ⟨S176, .i32⟩
  | .hbm, ⟨33, _⟩ => ⟨S176, .i1⟩
  | .hbm, ⟨34, _⟩ => ⟨S_, .i32⟩
  | .hbm, ⟨35, _⟩ => ⟨S176, .i32⟩
  | .hbm, ⟨36, _⟩ => ⟨S176, .i32⟩
  | .hbm, ⟨37, _⟩ => ⟨S176, .i32⟩
  | .hbm, ⟨38, _⟩ => ⟨S176x1, .i32⟩
  | .hbm, ⟨39, _⟩ => ⟨S176x512x1024, .f32⟩
  | .hbm, ⟨40, _⟩ => ⟨S176x256x512, .f32⟩
  | .hbm, ⟨41, _⟩ => ⟨S176x256x512, .f32⟩
  | .hbm, ⟨42, _⟩ => ⟨S176x256x512, .f32⟩
  | .hbm, ⟨43, _⟩ => ⟨S_, .f32⟩
  | .hbm, ⟨44, _⟩ => ⟨S176x256x512, .f32⟩
  | .hbm, ⟨45, _⟩ => ⟨S176x256x512, .f32⟩
  | .hbm, ⟨46, _⟩ => ⟨S_, .f32⟩
  | .hbm, ⟨47, _⟩ => ⟨S176x256x512, .f32⟩
  | .hbm, ⟨48, _⟩ => ⟨S176x256x512, .f32⟩
  | .hbm, ⟨49, _⟩ => ⟨S176x256x512, .f32⟩
  | .hbm, ⟨50, _⟩ => ⟨S176x256x512, .f32⟩
  | .hbm, ⟨51, _⟩ => ⟨S176x256x512, .f32⟩
  | .hbm, ⟨52, _⟩ => ⟨S176x256x1024, .f32⟩
  | .hbm, ⟨53, _⟩ => ⟨S176, .i32⟩
  | .hbm, ⟨54, _⟩ => ⟨S_, .i32⟩
  | .hbm, ⟨55, _⟩ => ⟨S176, .i32⟩
  | .hbm, ⟨56, _⟩ => ⟨S176, .i1⟩
  | .hbm, ⟨57, _⟩ => ⟨S176x1x1, .i1⟩
  | .hbm, ⟨58, _⟩ => ⟨S_, .f32⟩
  | .hbm, ⟨59, _⟩ => ⟨S_, .f32⟩
  | .hbm, ⟨60, _⟩ => ⟨S176x256x1024, .i1⟩
  | .hbm, ⟨61, _⟩ => ⟨S176x256x1024, .f32⟩
  | .hbm, ⟨62, _⟩ => ⟨S176x256x1024, .f32⟩
  | .hbm, ⟨63, _⟩ => ⟨S45056x1024, .f32⟩
  | _, _ => ⟨S176, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel7.lean ====
abbrev S16384x3072 : Shape := ⟨2, ![16384, 3072]⟩
abbrev S4x128x128 : Shape := ⟨3, ![4, 128, 128]⟩
abbrev S4x128 : Shape := ⟨2, ![4, 128]⟩
abbrev S128x4 : Shape := ⟨2, ![128, 4]⟩
abbrev S16384x512 : Shape := ⟨2, ![16384, 512]⟩
abbrev S512x512 : Shape := ⟨2, ![512, 512]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 5
  | .vmem => 8
  | .smem => 0
  | _ => 0

abbrev bufTy : (tb : Table) → Fin (tcTables nBuf tb) → BufTy
  | .hbm, ⟨0, _⟩ => ⟨S16384x3072, .bf16⟩
  | .hbm, ⟨1, _⟩ => ⟨S4x128x128, .f32⟩
  | .hbm, ⟨2, _⟩ => ⟨S4x128, .f32⟩
  | .hbm, ⟨3, _⟩ => ⟨S128x4, .f32⟩
  | .hbm, ⟨4, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4x128x128, .f32⟩
  | .local _ .vmem, ⟨5, _⟩ => ⟨S128x4, .f32⟩
  | .local _ .vmem, ⟨6, _⟩ => ⟨S512x512, .bf16⟩
  | .local _ .vmem, ⟨7, _⟩ => ⟨S512x512, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x3072 : Shape := ⟨2, ![16384, 3072]⟩
abbrev S4x128x128 : Shape := ⟨3, ![4, 128, 128]⟩
abbrev S4x128 : Shape := ⟨2, ![4, 128]⟩
abbrev S8x2048x3072 : Shape := ⟨3, ![8, 2048, 3072]⟩
abbrev S8x2048x512 : Shape := ⟨3, ![8, 2048, 512]⟩
abbrev S_ : Shape := ⟨0, ![]⟩
abbrev S8x16x128x4x128 : Shape := ⟨5, ![8, 16, 128, 4, 128]⟩
abbrev S8x16x128x4 : Shape := ⟨4, ![8, 16, 128, 4]⟩
abbrev S8x16x128x4x1 : Shape := ⟨5, ![8, 16, 128, 4, 1]⟩
abbrev S4x8x16x128x128 : Shape := ⟨5, ![4, 8, 16, 128, 128]⟩
abbrev S128x4 : Shape := ⟨2, ![128, 4]⟩
abbrev S1x1x128x4x1 : Shape := ⟨5, ![1, 1, 128, 4, 1]⟩
abbrev S16384x512 : Shape := ⟨2, ![16384, 512]⟩

abbrev nBuf : Space → Nat
  | .hbm => 59
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S4x128x128, .f32⟩
  | .hbm, ⟨2, _⟩ => ⟨S4x128, .f32⟩
  | .hbm, ⟨3, _⟩ => ⟨S16384x3072, .f32⟩
  | .hbm, ⟨4, _⟩ => ⟨S8x2048x3072, .f32⟩
  | .hbm, ⟨5, _⟩ => ⟨S8x2048x512, .f32⟩
  | .hbm, ⟨6, _⟩ => ⟨S8x2048x512, .f32⟩
  | .hbm, ⟨7, _⟩ => ⟨S_, .f32⟩
  | .hbm, ⟨8, _⟩ => ⟨S8x2048x512, .f32⟩
  | .hbm, ⟨9, _⟩ => ⟨S8x2048x512, .f32⟩
  | .hbm, ⟨10, _⟩ => ⟨S8x2048x512, .f32⟩
  | .hbm, ⟨11, _⟩ => ⟨S_, .f32⟩
  | .hbm, ⟨12, _⟩ => ⟨S8x2048x512, .f32⟩
  | .hbm, ⟨13, _⟩ => ⟨S8x2048x512, .f32⟩
  | .hbm, ⟨14, _⟩ => ⟨S8x2048x512, .f32⟩
  | .hbm, ⟨15, _⟩ => ⟨S8x2048x512, .f32⟩
  | .hbm, ⟨16, _⟩ => ⟨S_, .f32⟩
  | .hbm, ⟨17, _⟩ => ⟨S8x2048x512, .f32⟩
  | .hbm, ⟨18, _⟩ => ⟨S8x2048x512, .f32⟩
  | .hbm, ⟨19, _⟩ => ⟨S8x2048x512, .f32⟩
  | .hbm, ⟨20, _⟩ => ⟨S_, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x16x128x4x128, .f32⟩
  | .hbm, ⟨26, _⟩ => ⟨S_, .f32⟩
  | .hbm, ⟨27, _⟩ => ⟨S8x16x128x4, .f32⟩
  | .hbm, ⟨28, _⟩ => ⟨S8x16x128x4x1, .f32⟩
  | .hbm, ⟨29, _⟩ => ⟨S_, .f32⟩
  | .hbm, ⟨30, _⟩ => ⟨S8x16x128x4x1, .f32⟩
  | .hbm, ⟨31, _⟩ => ⟨S8x16x128x4x1, .f32⟩
  | .hbm, ⟨32, _⟩ => ⟨S8x16x128x4x128, .f32⟩
  | .hbm, ⟨33, _⟩ => ⟨S8x16x128x4x128, .f32⟩
  | .hbm, ⟨34, _⟩ => ⟨S8x16x128x4x128, .f32⟩
  | .hbm, ⟨35, _⟩ => ⟨S_, .f32⟩
  | .hbm, ⟨36, _⟩ => ⟨S8x16x128x4, .f32⟩
  | .hbm, ⟨37, _⟩ => ⟨S8x16x128x4x1, .f32⟩
  | .hbm, ⟨38, _⟩ => ⟨S_, .f32⟩
  | .hbm, ⟨39, _⟩ => ⟨S8x16x128x4x1, .f32⟩
  | .hbm, ⟨40, _⟩ => ⟨S8x16x128x4x1, .f32⟩
  | .hbm, ⟨41, _⟩ => ⟨S8x16x128x4x128, .f32⟩
  | .hbm, ⟨42, _⟩ => ⟨S8x16x128x4x128, .f32⟩
  | .hbm, ⟨43, _⟩ => ⟨S_, .f32⟩
  | .hbm, ⟨44, _⟩ => ⟨S8x16x128x4x1, .f32⟩
  | .hbm, ⟨45, _⟩ => ⟨S8x16x128x4x1, .f32⟩
  | .hbm, ⟨46, _⟩ => ⟨S8x16x128x4x1, .f32⟩
  | .hbm, ⟨47, _⟩ => ⟨S8x16x128x4x128, .f32⟩
  | .hbm, ⟨48, _⟩ => ⟨S8x16x128x4x128, .f32⟩
  | .hbm, ⟨49, _⟩ => ⟨S4x8x16x128x128, .f32⟩
  | .hbm, ⟨50, _⟩ => ⟨S8x16x128x4x128, .f32⟩
  | .hbm, ⟨51, _⟩ => ⟨S128x4, .f32⟩
  | .hbm, ⟨52, _⟩ => ⟨S1x1x128x4x1, .f32⟩
  | .hbm, ⟨53, _⟩ => ⟨S8x16x128x4x128, .f32⟩
  | .hbm, ⟨54, _⟩ => ⟨S8x16x128x4x128, .f32⟩
  | .hbm, ⟨55, _⟩ => ⟨S8x2048x512, .f32⟩
  | .hbm, ⟨56, _⟩ => ⟨S8x2048x512, .f32⟩
  | .hbm, ⟨57, _⟩ => ⟨S8x2048x512, .bf16⟩
  | .hbm, ⟨58, _⟩ => ⟨S16384x512, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Kernel8.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x6144 : Shape := ⟨3, ![2, 1, 6144]⟩
abbrev S2x16x6144 : Shape := ⟨3, ![2, 16, 6144]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x6144, .f32⟩
  | .hbm, ⟨9, _⟩ => ⟨S2x16x6144, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S7x1024 : Shape := ⟨2, ![7, 1024]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S8x6144 : Shape := ⟨2, ![8, 6144]⟩
abbrev S7x6144 : Shape := ⟨2, ![7, 6144]⟩
abbrev S16x6144 : Shape := ⟨2, ![16, 6144]⟩
abbrev S1x16x6144 : Shape := ⟨3, ![1, 16, 6144]⟩
abbrev S2x16x6144 : Shape := ⟨3, ![2, 16, 6144]⟩

abbrev nBuf : Space → Nat
  | .hbm => 95
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S7x1024, .f32⟩
  | .hbm, ⟨6, _⟩ => ⟨S1x1024x6144, .f32⟩
  | .hbm, ⟨7, _⟩ => ⟨S1024x6144, .f32⟩
  | .hbm, ⟨8, _⟩ => ⟨S1x6144, .f32⟩
  | .hbm, ⟨9, _⟩ => ⟨S6144, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x6144, .f32⟩
  | .hbm, ⟨20, _⟩ => ⟨S1x6144, .f32⟩
  | .hbm, ⟨21, _⟩ => ⟨S8x6144, .f32⟩
  | .hbm, ⟨22, _⟩ => ⟨S8x6144, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S6144, .f32⟩
  | .hbm, ⟨33, _⟩ => ⟨S6144, .f32⟩
  | .hbm, ⟨34, _⟩ => ⟨S1x6144, .f32⟩
  | .hbm, ⟨35, _⟩ => ⟨S7x1024, .f32⟩
  | .hbm, ⟨36, _⟩ => ⟨S7x1024, .f32⟩
  | .hbm, ⟨37, _⟩ => ⟨S_, .f32⟩
  | .hbm, ⟨38, _⟩ => ⟨S7x1024, .f32⟩
  | .hbm, ⟨39, _⟩ => ⟨S7x1024, .f32⟩
  | .hbm, ⟨40, _⟩ => ⟨S_, .f32⟩
  | .hbm, ⟨41, _⟩ => ⟨S7x1024, .f32⟩
  | .hbm, ⟨42, _⟩ => ⟨S7x1024, .f32⟩
  | .hbm, ⟨43, _⟩ => ⟨S7x1024, .f32⟩
  | .hbm, ⟨44, _⟩ => ⟨S7x6144, .f32⟩
  | .hbm, ⟨45, _⟩ => ⟨S1x6144, .f32⟩
  | .hbm, ⟨46, _⟩ => ⟨S7x6144, .f32⟩
  | .hbm, ⟨47, _⟩ => ⟨S7x6144, .f32⟩
  | .hbm, ⟨48, _⟩ => ⟨S16x6144, .f32⟩
  | .hbm, ⟨49, _⟩ => ⟨S1x1024x6144, .f32⟩
  | .hbm, ⟨50, _⟩ => ⟨S1024x6144, .f32⟩
  | .hbm, ⟨51, _⟩ => ⟨S1x6144, .f32⟩
  | .hbm, ⟨52, _⟩ => ⟨S6144, .f32⟩
  | .hbm, ⟨53, _⟩ => ⟨S8x1024, .f32⟩
  | .hbm, ⟨54, _⟩ => ⟨S8x1024, .f32⟩
  | .hbm, ⟨55, _⟩ => ⟨S_, .f32⟩
  | .hbm, ⟨56, _⟩ => ⟨S8x1024, .f32⟩
  | .hbm, ⟨57, _⟩ => ⟨S8x1024, .f32⟩
  | .hbm, ⟨58, _⟩ => ⟨S_, .f32⟩
  | .hbm, ⟨59, _⟩ => ⟨S8x1024, .f32⟩
  | .hbm, ⟨60, _⟩ => ⟨S8x1024, .f32⟩
  | .hbm, ⟨61, _⟩ => ⟨S8x1024, .f32⟩
  | .hbm, ⟨62, _⟩ => ⟨S8x6144, .f32⟩
  | .hbm, ⟨63, _⟩ => ⟨S1x6144, .f32⟩
  | .hbm, ⟨64, _⟩ => ⟨S8x6144, .f32⟩
  | .hbm, ⟨65, _⟩ => ⟨S8x6144, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S6144, .f32⟩
  | .hbm, ⟨76, _⟩ => ⟨S6144, .f32⟩
  | .hbm, ⟨77, _⟩ => ⟨S1x6144, .f32⟩
  | .hbm, ⟨78, _⟩ => ⟨S7x1024, .f32⟩
  | .hbm, ⟨79, _⟩ => ⟨S7x1024, .f32⟩
  | .hbm, ⟨80, _⟩ => ⟨S_, .f32⟩
  | .hbm, ⟨81, _⟩ => ⟨S7x1024, .f32⟩
  | .hbm, ⟨82, _⟩ => ⟨S7x1024, .f32⟩
  | .hbm, ⟨83, _⟩ => ⟨S_, .f32⟩
  | .hbm, ⟨84, _⟩ => ⟨S7x1024, .f32⟩
  | .hbm, ⟨85, _⟩ => ⟨S7x1024, .f32⟩
  | .hbm, ⟨86, _⟩ => ⟨S7x1024, .f32⟩
  | .hbm, ⟨87, _⟩ => ⟨S7x6144, .f32⟩
  | .hbm, ⟨88, _⟩ => ⟨S1x6144, .f32⟩
  | .hbm, ⟨89, _⟩ => ⟨S7x6144, .f32⟩
  | .hbm, ⟨90, _⟩ => ⟨S7x6144, .f32⟩
  | .hbm, ⟨91, _⟩ => ⟨S16x6144, .f32⟩
  | .hbm, ⟨92, _⟩ => ⟨S1x16x6144, .f32⟩
  | .hbm, ⟨93, _⟩ => ⟨S1x16x6144, .f32⟩
  | .hbm, ⟨94, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_call3_v0 : Ref sig .tc := ⟨.hbm, 53, rfl⟩
abbrev main_call3_v1 : Ref sig .tc := ⟨.hbm, 54, rfl⟩
abbrev main_call3_cst : Ref sig .tc := ⟨.hbm, 55, rfl⟩
abbrev main_call3_v2 : Ref sig .tc := ⟨.hbm, 56, rfl⟩
abbrev main_call3_v3 : Ref sig .tc := ⟨.hbm, 57, rfl⟩
abbrev main_call3_cst_0 : Ref sig .tc := ⟨.hbm, 58, rfl⟩
abbrev main_call3_v4 : Ref sig .tc := ⟨.hbm, 59, rfl⟩
abbrev main_call3_v5 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_call4_v0 : Ref sig .tc := ⟨.hbm, 66, rfl⟩
abbrev main_call4_v1 : Ref sig .tc := ⟨.hbm, 67, rfl⟩
abbrev main_call4_cst : Ref sig .tc := ⟨.hbm, 68, rfl⟩
abbrev main_call4_v2 : Ref sig .tc := ⟨.hbm, 69, rfl⟩
abbrev main_call4_v3 : Ref sig .tc := ⟨.hbm, 70, rfl⟩
abbrev main_call4_cst_0 : Ref sig .tc := ⟨.hbm, 71, rfl⟩
abbrev main_call4_v4 : Ref sig .tc := ⟨.hbm, 72, rfl⟩
abbrev main_call4_v5 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_call5_v0 : Ref sig .tc := ⟨.hbm, 78, rfl⟩
abbrev main_call5_v1 : Ref sig .tc := ⟨.hbm, 79, rfl⟩
abbrev main_call5_cst : Ref sig .tc := ⟨.hbm, 80, rfl⟩
abbrev main_call5_v2 : Ref sig .tc := ⟨.hbm, 81, rfl⟩
abbrev main_call5_v3 : Ref sig .tc := ⟨.hbm, 82, rfl⟩
abbrev main_call5_cst_0 : Ref sig .tc := ⟨.hbm, 83, rfl⟩
abbrev main_call5_v4 : Ref sig .tc := ⟨.hbm, 84, rfl⟩
abbrev main_call5_v5 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩

abbrev nD : Nat := 1
abbrev τ : Topo := Topo.v7x

variable {F : FTy → Type} [FloatOps F]
-- ==== Kernel9.lean ====
abbrev S16384x512 : Shape := ⟨2, ![16384, 512]⟩
abbrev S16384x1024 : Shape := ⟨2, ![16384, 1024]⟩
abbrev S1024x1024 : Shape := ⟨2, ![1024, 1024]⟩
abbrev S16x6x1024 : Shape := ⟨3, ![16, 6, 1024]⟩
abbrev S1024 : Shape := ⟨1, ![1024]⟩
abbrev S1024x256 : Shape := ⟨2, ![1024, 256]⟩
abbrev S1x128 : Shape := ⟨2, ![1, 128]⟩
abbrev S1x1024 : Shape := ⟨2, ![1, 1024]⟩
abbrev S16384x128 : Shape := ⟨2, ![16384, 128]⟩
abbrev S512x512 : Shape := ⟨2, ![512, 512]⟩
abbrev S512x1024 : Shape := ⟨2, ![512, 1024]⟩
abbrev S1x6x1024 : Shape := ⟨3, ![1, 6, 1024]⟩
abbrev S512x128 : Shape := ⟨2, ![512, 128]⟩
abbrev S256x512 : Shape := ⟨2, ![256, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S512x256 : Shape := ⟨2, ![512, 256]⟩
abbrev S256x128 : Shape := ⟨2, ![256, 128]⟩
abbrev S256x256 : Shape := ⟨2, ![256, 256]⟩
abbrev S128 : Shape := ⟨1, ![128]⟩

abbrev nBuf : Space → Nat
  | .hbm => 15
  | .vmem => 22
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S16x6x1024, .f32⟩
  | .hbm, ⟨5, _⟩ => ⟨S1024, .f32⟩
  | .hbm, ⟨6, _⟩ => ⟨S1024x256, .bf16⟩
  | .hbm, ⟨7, _⟩ => ⟨S1x128, .f32⟩
  | .hbm, ⟨8, _⟩ => ⟨S1024x1024, .bf16⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x128, .i32⟩
  | .hbm, ⟨13, _⟩ => ⟨S16384x128, .f32⟩
  | .hbm, ⟨14, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x6x1024, .f32⟩
  | .local _ .vmem, ⟨8, _⟩ => ⟨S1x6x1024, .f32⟩
  | .local _ .vmem, ⟨9, _⟩ => ⟨S1x1024, .f32⟩
  | .local _ .vmem, ⟨10, _⟩ => ⟨S1024x256, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x128, .i32⟩
  | .local _ .vmem, ⟨17, _⟩ => ⟨S512x128, .i32⟩
  | .local _ .vmem, ⟨18, _⟩ => ⟨S512x128, .f32⟩
  | .local _ .vmem, ⟨19, _⟩ => ⟨S512x128, .f32⟩
  | .local _ .vmem, ⟨20, _⟩ => ⟨S1x128, .f32⟩
  | .local _ .vmem, ⟨21, _⟩ => ⟨S1x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c4_i32 : BitVec 32 := 4#32
  let v2 : BitVec 32 := Scalar.divsi v1 c4_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32 c0_i32_3
  let v9 : BitVec 32 := Scalar.extui v8
  let c0_i32_4 : BitVec 32 := 0#32
  let v10 : BitVec 1 := Scalar.cmpi .slt c4_i32 c0_i32_4
  let v11 : BitVec 32 := Scalar.extui v10
  let v12 : BitVec 32 := Scalar.subi v9 v11
  let v13 : BitVec 1 := Scalar.cmpi .ne v7 v12
  let v14 : BitVec 32 := Scalar.remsi v1 c4_i32
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c0_i32_6 : BitVec 32 := 0#32
  let v19 : BitVec 1 := Scalar.cmpi .slt arg0 c0_i32_6
  let c8_i32 : BitVec 32 := 8#32
  let v20 : BitVec 32 := Scalar.select v19 c8_i32 v18
  let c0_i32_7 : BitVec 32 := 0#32
  let c0_i32_8 : BitVec 32 := 0#32
  let c0_i32_9 : BitVec 32 := 0#32
  ![v20.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference9Ideal.lean ====
abbrev S16384x512 : Shape := ⟨2, ![16384, 512]⟩
abbrev S16384x1024 : Shape := ⟨2, ![16384, 1024]⟩
abbrev S1024x1024 : Shape := ⟨2, ![1024, 1024]⟩
abbrev S16x6x1024 : Shape := ⟨3, ![16, 6, 1024]⟩
abbrev S1024 : Shape := ⟨1, ![1024]⟩
abbrev S1024x256 : Shape := ⟨2, ![1024, 256]⟩
abbrev S1x128 : Shape := ⟨2, ![1, 128]⟩
abbrev S8x6x1024 : Shape := ⟨3, ![8, 6, 1024]⟩
abbrev S8x1x6144 : Shape := ⟨3, ![8, 1, 6144]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S16x6x1024, .f32⟩
  | .hbm, ⟨5, _⟩ => ⟨S1024, .f32⟩
  | .hbm, ⟨6, _⟩ => ⟨S1024x256, .bf16⟩
  | .hbm, ⟨7, _⟩ => ⟨S1x128, .f32⟩
  | .hbm, ⟨8, _⟩ => ⟨S8x6x1024, .f32⟩
  | .hbm, ⟨9, _⟩ => ⟨S8x1x6144, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S16384x512, .f32⟩
  | .hbm, ⟨17, _⟩ => ⟨S16384x512, .f32⟩
  | .hbm, ⟨18, _⟩ => ⟨S16384x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S16384x1024, .f32⟩
  | .hbm, ⟨49, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Proof.Recur.lean ====
module

public import Idealize.ShloMosaic.Lib.Pointwise
public import Idealize.ShloMosaic.Lib.Tactic

@[expose] public section

noncomputable section

/-! The chunk recurrence of the retention, over matrices of 128 rows and 128 columns. -/

namespace Cert.Recur

open Idealize.ShloMosaic

/-- A 128 by 128 matrix. -/
abbrev Mat := Fin 128 → Fin 128 → EReal

/-- The state after a chunk: the old state times the chunk's decay, plus the weighted keys against the values. -/
def nextS (g : EReal) (w : Mat) (S K V : Mat) : Mat :=
  fun d e => g * S d e + ∑ c, (K c d * w c d) * V c e

/-- A chunk's output: the masked scores against the values, plus the weighted queries against the state. -/
def outM (D h : Mat) (S Q K V : Mat) : Mat :=
  fun i e => (∑ j, (∑ d, Q i d * K j d) * D i j * V j e) + ∑ d, (Q i d * h i d) * S d e

/-- Chunk `a` of a buffer of rows of 128, zero past its end. -/
def mat {R : ℕ} (x : (⟨2, ![R, 128]⟩ : Shape).Idx → EReal) (a : ℕ) : Mat :=
  fun p d => if h : 128 * a + p.val < R then x (ix2 ⟨128 * a + p.val, h⟩ d) else 0

/-- Slab `d` of a pair of matrices. -/
def slab (x : (⟨3, ![2, 128, 128]⟩ : Shape).Idx → EReal) (d : Fin 2) : Mat :=
  fun i j => x (ix3 d i j)

/-- A matrix as a function of its index pair. -/
def flat (x : (⟨2, ![128, 128]⟩ : Shape).Idx → EReal) : Mat :=
  fun i j => x (ix2 i j)

/-- The state after `n` chunks, from a state `S`. -/
def itS (g : EReal) (w : Mat) (S : Mat) (k v : ℕ → Mat) : ℕ → Mat
  | 0 => S
  | n + 1 => nextS g w (itS g w S k v n) (k n) (v n)

/-- A row index as a number. -/
def fl (i : Fin 128) : EReal := FloatOps.sitofp (F := Ideal) .f32 (BitVec.ofNat 32 i.val)

/-- One hundred and twenty-seven, as the programs write it. -/
def c127 : EReal := Ideal.ofBits .f32 1123942400#32

/-- One hundred and twenty-eight, as the programs write it. -/
def c128 : EReal := Ideal.ofBits .f32 1124073472#32

/-- The logarithm of the logistic function. -/
def lg (x : EReal) : EReal := min x 0 - Ideal.log (1 + Ideal.exp (0 - FloatOps.absf (F := Ideal) (φ := .f32) x))

/-- The decays inside a chunk, rows on. -/
def dmF (l : EReal) : Mat := fun i j => if 0 ≤ fl i - fl j then Ideal.exp (l * max (fl i - fl j) 0) else 0
/-- The decay from a chunk's start to a row. -/
def hF (l : EReal) : Mat := fun i _ => Ideal.exp (l * (fl i + 1))
/-- The decay from a row to its chunk's end. -/
def wF (l : EReal) : Mat := fun i _ => Ideal.exp (l * (c127 - fl i))
/-- The decay of a whole chunk. -/
def gF (l : EReal) : EReal := Ideal.exp (l * c128)
/-- The decays inside a chunk, rows back. -/
def dmB (l : EReal) : Mat := fun i j => if 0 ≤ fl j - fl i then Ideal.exp (l * max (fl j - fl i) 0) else 0
/-- The decay from a chunk's end to a row. -/
def hB (l : EReal) : Mat := fun i _ => Ideal.exp (l * (c127 - fl i + 1))
/-- The decay from a row to its chunk's start. -/
def wB (l : EReal) : Mat := fun i _ => Ideal.exp (l * (c127 - (c127 - fl i)))

/-- A matrix with its rows in the opposite order. -/
def flip (x : Mat) : Mat := fun i j => x i.rev j

/-- A row normalised to mean nought and variance one, times its weight and its gate. -/
def gnGate (o : Fin 128 → EReal) (w g : EReal) (d : Fin 128) : EReal :=
  (o d - Ideal.div (∑ x, o x) c128)
    * Ideal.rsqrt (Ideal.div (∑ x, (o x - Ideal.div (∑ y, o y) c128) * (o x - Ideal.div (∑ y, o y) c128)) c128
      + Ideal.ofBits .f32 897988541#32) * w * (g * Ideal.logistic g)

/-- A row index is its number. -/
theorem fl_eq (i : Fin 128) : fl i = ((i.val : ℝ) : EReal) := by
  unfold fl
  show (((BitVec.ofNat 32 i.val).toInt : ℝ) : EReal) = _
  have h : (BitVec.ofNat 32 i.val).toInt = (i.val : ℤ) := by revert i; decide
  rw [h]; norm_cast

theorem c127_eq : c127 = ((127 : ℝ) : EReal) := by
  unfold c127
  simp [Ideal.ofBits, Ideal.ieee, -EReal.coe_mul]
  norm_num

theorem one_eq : (1 : EReal) = ((1 : ℝ) : EReal) := rfl

/-- The opposite row's number. -/
theorem fl_rev (i : Fin 128) : fl i.rev = c127 - fl i := by
  rw [fl_eq, fl_eq, c127_eq, ← EReal.coe_sub]
  congr 1
  have := i.isLt
  rw [Fin.val_rev, Nat.cast_sub (by omega)]
  push_cast
  ring

/-- Rows on at the opposite rows are rows back. -/
theorem dmF_rev (l : EReal) (i j : Fin 128) : dmF l i.rev j.rev = dmB l i j := by
  have h : fl i.rev - fl j.rev = fl j - fl i := by
    rw [fl_rev, fl_rev, fl_eq, fl_eq, c127_eq, ← EReal.coe_sub, ← EReal.coe_sub, ← EReal.coe_sub, ← EReal.coe_sub]
    congr 1
    ring
  unfold dmF dmB
  rw [h]

theorem hF_rev (l : EReal) : flip (hF l) = hB l := by
  funext i j
  unfold flip hF hB
  rw [fl_rev]

theorem wF_rev (l : EReal) : flip (wF l) = wB l := by
  funext i j
  unfold flip wF wB
  rw [fl_rev]

/-- The state does not see the order of a chunk's rows. -/
theorem nextS_flip (g : EReal) (w S K V : Mat) : nextS g (flip w) S (flip K) (flip V) = nextS g w S K V := by
  funext d e
  unfold nextS flip
  congr 1
  exact Equiv.sum_comp Fin.revPerm fun c => (K c d * w c d) * V c e

/-- An output row of a chunk with its rows in the opposite order. -/
theorem outM_flip (D h S Q K V : Mat) (i e : Fin 128) :
    outM (fun a b => D a.rev b.rev) (flip h) S (flip Q) (flip K) (flip V) i e = outM D h S Q K V i.rev e := by
  unfold outM flip
  congr 1
  exact Equiv.sum_comp Fin.revPerm fun j => (∑ d, Q i.rev d * K j d) * D i.rev j * V j e

theorem log_one_add_exp_ne_bot (y : EReal) : Ideal.log (1 + Ideal.exp y) ≠ ⊥ := by
  induction y with
  | bot =>
    rw [Ideal.exp_bot, add_zero, one_eq, Ideal.log_coe, if_neg (by norm_num)]
    exact EReal.coe_ne_bot _
  | coe r =>
    have h : ¬(1 + Real.exp r ≤ 0) := by have := Real.exp_pos r; linarith
    rw [Ideal.exp_coe, one_eq, ← EReal.coe_add, Ideal.log_coe, if_neg h]
    exact EReal.coe_ne_bot _
  | top =>
    rw [Ideal.exp_top, one_eq, EReal.coe_add_top, Ideal.log_top]
    exact top_ne_bot

/-- The two ways of writing the logarithm of the logistic function agree. -/
theorem lg_eq (x : EReal) :
    -(max (-x) 0 + Ideal.log1p (Ideal.exp (-FloatOps.absf (F := Ideal) (φ := .f32) (-x)))) = lg x := by
  have ha : FloatOps.absf (F := Ideal) (φ := .f32) (-x) = FloatOps.absf (F := Ideal) (φ := .f32) x := by
    show max (-x) (- -x) = max x (-x)
    rw [neg_neg, max_comm]
  have hz : ∀ y : EReal, 0 - y = -y := fun y => by rw [sub_eq_add_neg, zero_add]
  have hm : -(max (-x) 0) = min x 0 := by
    rcases le_total x 0 with h | h
    · rw [max_eq_left (by simpa using EReal.neg_le_neg_iff.mpr h), min_eq_left h, neg_neg]
    · rw [max_eq_right (by simpa using EReal.neg_le_neg_iff.mpr h), min_eq_right h, neg_zero]
  unfold lg Ideal.log1p
  rw [ha, hz, EReal.neg_add, hm]
  · left
    exact ne_of_gt (lt_of_lt_of_le EReal.bot_lt_zero (le_max_right _ _))
  · right
    exact log_one_add_exp_ne_bot _

end Cert.Recur

end
-- ==== Proof.Trip.lean ====
module

public import proofs.«01_k».proof.Proof.Gen.KernelIdeal.Frame
public import proofs.«01_k».proof.Proof.Recur
public import Idealize.ShloMosaic.Lib.WritesUnit
public import Idealize.ShloMosaic.Lib.Pipeline.ValueKit.Tiles

@[expose] public section

set_option maxRecDepth 16384

noncomputable section

/-! What one trip of the kernel's chunk loop leaves in its state and output buffers. -/

namespace Cert.KernelIdeal.Gen

open Idealize.ShloMosaic Idealize.ShloMosaic.TcCoe Idealize.SL.Sem Cert.Recur

/-- The forward chunk of trip `k` is chunk `k`. -/
theorem off1_eq : ∀ k : Fin k0_t1_loop.trips, k0_off1 k = ![128 * k.val, 0] := by decide +kernel

/-- The backward chunk of trip `k` is chunk `15 - k`. -/
theorem off2_eq : ∀ k : Fin k0_t1_loop.trips, k0_off2 k = ![128 * (15 - k.val), 0] := by decide +kernel

section reads

variable {sg : RefSig} {κ : Kind} {sp : Space} {R : ℕ}

/-- A load of the 128 rows from row `128 a` on reads the buffer's rows. -/
theorem readAt_rows_apply {e : EltTy} (v : View sg κ sp (⟨2, ![R, 128]⟩ : Shape) e) (X : v.ty.Contents (Elt Ideal)) (a : ℕ)
    (off : Fin 2 → ℕ) (inb : ∀ x, off x + S128x128.size x ≤ (⟨2, ![R, 128]⟩ : Shape).size x) (h : off = ![128 * a, 0]) (p d : Fin 128)
    (hr : 128 * a + p.val < R) :
    v.readAt (Elt Ideal) (Rect.unit (s := ⟨2, ![R, 128]⟩) off S128x128.size inb).toLoadRect X (ix2 p d)
      = v.read (Elt Ideal) X (ix2 ⟨128 * a + p.val, hr⟩ d) := by
  subst h
  rw [View.readAt_eq_ld]
  refine View.ld_unit_apply_of _ _ _ inb _ _ ?_
  intro x
  match x with
  | 0 => rfl
  | 1 => show d.val = 0 + d.val; omega

/-- A load of 128 rows of a wide buffer from row `128 a` on reads chunk `a`. -/
theorem readAt_rows (v : View sg κ sp (⟨2, ![R, 128]⟩ : Shape) .f32) (X : v.ty.Contents (Elt Ideal)) (a : ℕ)
    (off : Fin 2 → ℕ) (inb : ∀ x, off x + S128x128.size x ≤ (⟨2, ![R, 128]⟩ : Shape).size x) (h : off = ![128 * a, 0]) (p d : Fin 128) :
    v.readAt (Elt Ideal) (Rect.unit (s := ⟨2, ![R, 128]⟩) off S128x128.size inb).toLoadRect X (ix2 p d)
      = mat (v.read (Elt Ideal) X) a p d := by
  have hb : off 0 + 128 ≤ R := inb 0
  have hr : 128 * a + p.val < R := by
    have := p.isLt
    rw [h] at hb
    have hb' : 128 * a + 128 ≤ R := hb
    omega
  unfold mat
  rw [dif_pos hr]
  exact readAt_rows_apply v X a off inb h p d hr

/-- The same of a narrow buffer. -/
theorem readAt_rows_bf (v : View sg κ sp (⟨2, ![R, 128]⟩ : Shape) .bf16) (X : v.ty.Contents (Elt Ideal)) (a : ℕ)
    (off : Fin 2 → ℕ) (inb : ∀ x, off x + S128x128.size x ≤ (⟨2, ![R, 128]⟩ : Shape).size x) (h : off = ![128 * a, 0]) (p d : Fin 128) :
    v.readAt (Elt Ideal) (Rect.unit (s := ⟨2, ![R, 128]⟩) off S128x128.size inb).toLoadRect X (ix2 p d)
      = mat (v.read (Elt Ideal) X) a p d := by
  have hb : off 0 + 128 ≤ R := inb 0
  have hr : 128 * a + p.val < R := by
    have := p.isLt
    rw [h] at hb
    have hb' : 128 * a + 128 ≤ R := hb
    omega
  unfold mat
  rw [dif_pos hr]
  exact readAt_rows_apply v X a off inb h p d hr

/-- A load of slab `a` of a pair of matrices reads it. -/
theorem readAt_slab (v : View sg κ sp S2x128x128 .f32) (X : v.ty.Contents (Elt Ideal)) (a : Fin 2)
    (off : Fin 3 → ℕ) (inb : ∀ x, off x + S1x128x128.size x ≤ S2x128x128.size x) (h : off = ![a.val, 0, 0]) (p d : Fin 128) :
    v.readAt (Elt Ideal) (Rect.unit (s := S2x128x128) off S1x128x128.size inb).toLoadRect X (ix3 0 p d) = slab (v.read (Elt Ideal) X) a p d := by
  subst h
  unfold slab
  rw [View.readAt_eq_ld]
  refine View.ld_unit_apply_of _ _ _ inb _ _ ?_
  intro x
  match x with
  | 0 => show a.val = a.val + 0; omega
  | 1 => show p.val = 0 + p.val; omega
  | 2 => show d.val = 0 + d.val; omega

/-- Reading chunks after a store of 128 rows from row `128 a` on: chunk `a` is the stored one, the others are as before. -/
theorem mat_writes (v : View sg κ sp (⟨2, ![R, 128]⟩ : Shape) .f32) (f : v.ty.Contents (Elt Ideal)) (a : ℕ)
    (off : Fin 2 → ℕ) (inb : ∀ x, off x + S128x128.size x ≤ (⟨2, ![R, 128]⟩ : Shape).size x) (h : off = ![128 * a, 0])
    (w : S128x128.Idx → EReal) (L : List (View.Piece (Elt Ideal) (⟨2, ![R, 128]⟩ : Shape) .f32)) (n : ℕ) (hn : 128 * n + 128 ≤ R) :
    mat (v.read (Elt Ideal) (v.writes (Elt Ideal) f (⟨Rect.unit (s := ⟨2, ![R, 128]⟩) off S128x128.size inb, w⟩ :: L))) n
      = if n = a then flat w else mat (v.read (Elt Ideal) (v.writes (Elt Ideal) f L)) n := by
  subst h
  funext p e
  have hp := p.isLt
  have hr : 128 * n + p.val < R := by omega
  by_cases h1 : n = a
  · subst h1
    rw [if_pos rfl]
    unfold mat flat
    rw [dif_pos hr]
    exact View.read_writes_cons_unit_of_mem v f inb w L _ (ix2 p e) rfl
      (by intro x; match x with | 0 => rfl | 1 => exact (Nat.zero_add _).symm)
  · rw [if_neg h1]
    unfold mat
    rw [dif_pos hr, dif_pos hr]
    refine View.read_writes_cons_unit_of_not_mem v f inb w L _ rfl (0 : Fin 2) ?_
    show 128 * n + p.val < 128 * a ∨ 128 * a + 128 ≤ 128 * n + p.val
    omega

/-- Reading slabs after a store of slab `a`: slab `a` is the stored one, the other is as before. -/
theorem slab_writes (v : View sg κ sp S2x128x128 .f32) (f : v.ty.Contents (Elt Ideal)) (a : Fin 2)
    (off : Fin 3 → ℕ) (inb : ∀ x, off x + S1x128x128.size x ≤ S2x128x128.size x) (h : off = ![a.val, 0, 0])
    (w : S1x128x128.Idx → EReal) (L : List (View.Piece (Elt Ideal) S2x128x128 .f32)) (d : Fin 2) :
    slab (v.read (Elt Ideal) (v.writes (Elt Ideal) f (⟨Rect.unit (s := S2x128x128) off S1x128x128.size inb, w⟩ :: L))) d
      = if d = a then (fun i j => w (ix3 0 i j)) else slab (v.read (Elt Ideal) (v.writes (Elt Ideal) f L)) d := by
  subst h
  funext p e
  by_cases h1 : d = a
  · subst h1
    rw [if_pos rfl]
    unfold slab
    exact View.read_writes_cons_unit_of_mem v f inb w L _ (ix3 0 p e) rfl
      (by intro x; match x with | 0 => rfl | 1 => exact (Nat.zero_add _).symm | 2 => exact (Nat.zero_add _).symm)
  · rw [if_neg h1]
    unfold slab
    refine View.read_writes_cons_unit_of_not_mem v f inb w L _ rfl (0 : Fin 3) ?_
    show d.val < a.val ∨ a.val + 1 ≤ d.val
    omega

end reads

variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S1x2x1 .f32) (harg10 : arg10.IsWhole) (arg11 : Memref sig .tc .vmem S1x1x128 .f32) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S2x128x128 .f32) (harg14 : arg14.IsWhole) (arg15 : Memref sig .tc .vmem S2048x128 .f32) (harg15 : arg15.IsWhole) (arg16 : Memref sig .tc .vmem S256x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S2x128x128 .f32) (harg19 : arg19.IsWhole)
variable (v50 v85 : FVec Ideal S1x1 .f32) (v192 : BitVec 32) (v215 v249 v257 : FVec Ideal S128x128 .f32) (X2 : BufTy.Contents (Elt Ideal) arg2.view.ty) (X3 : BufTy.Contents (Elt Ideal) arg3.view.ty) (X4 : BufTy.Contents (Elt Ideal) arg4.view.ty) (X17 : BufTy.Contents (Elt Ideal) arg17.view.ty) (X18 : BufTy.Contents (Elt Ideal) arg18.view.ty) (X19 : BufTy.Contents (Elt Ideal) arg19.view.ty) (k : Fin k0_t1_loop.trips) (f14 : BufTy.Contents (Elt Ideal) arg14.view.ty) (f15 : BufTy.Contents (Elt Ideal) arg15.view.ty)

/-- The pieces a trip writes into the state: each direction's slab. -/
theorem trip_pieces_state :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v85 v192 v215 v249 v257 X2 X3 X4 X17 X18 X19 k).1 f14 f15
      = [⟨Rect.unit (s := S2x128x128) ![1, 0, 0] S1x128x128.size inb_S2x128x128_S1x128x128_1_0_0, k0_pay12 v85 (arg3.view.readAt (Elt Ideal) (Rect.unit (s := S2048x128) (k0_off2 k) S128x128.size (k0_off2_inb k)).toLoadRect X3) (arg4.view.readAt (Elt Ideal) (Rect.unit (s := S2048x128) (k0_off2 k) S128x128.size (k0_off2_inb k)).toLoadRect X4) (k0_pay5 (arg14.view.readAt (Elt Ideal) (Rect.unit (s := S2x128x128) ![1, 0, 0] S1x128x128.size inb_S2x128x128_S1x128x128_1_0_0).toLoadRect f14)) (arg19.view.readAt (Elt Ideal) (Rect.unit (s := S2x128x128) ![1, 0, 0] S1x128x128.size inb_S2x128x128_S1x128x128_1_0_0).toLoadRect X19)⟩,
        ⟨Rect.unit (s := S2x128x128) ![0, 0, 0] S1x128x128.size inb_S2x128x128_S1x128x128_0_0_0, k0_pay10 v50 (arg3.view.readAt (Elt Ideal) (Rect.unit (s := S2048x128) (k0_off1 k) S128x128.size (k0_off1_inb k)).toLoadRect X3) (arg4.view.readAt (Elt Ideal) (Rect.unit (s := S2048x128) (k0_off1 k) S128x128.size (k0_off1_inb k)).toLoadRect X4) (k0_pay3 (arg14.view.readAt (Elt Ideal) (Rect.unit (s := S2x128x128) ![0, 0, 0] S1x128x128.size inb_S2x128x128_S1x128x128_0_0_0).toLoadRect f14)) (arg19.view.readAt (Elt Ideal) (Rect.unit (s := S2x128x128) ![0, 0, 0] S1x128x128.size inb_S2x128x128_S1x128x128_0_0_0).toLoadRect X19)⟩] := by
  unfold trip_k0_t1
  rfl

/-- The pieces a trip writes into the output: each direction's chunk, added to what was there. -/
theorem trip_pieces_out :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v85 v192 v215 v249 v257 X2 X3 X4 X17 X18 X19 k).2.1 f14 f15
      = [⟨Rect.unit (s := S2048x128) (k0_off2 k) S128x128.size (k0_off2_inb k), k0_pay58 (arg4.view.readAt (Elt Ideal) (Rect.unit (s := S2048x128) (k0_off2 k) S128x128.size (k0_off2_inb k)).toLoadRect X4) (k0_pay9 (k0_pay5 (arg14.view.readAt (Elt Ideal) (Rect.unit (s := S2x128x128) ![1, 0, 0] S1x128x128.size inb_S2x128x128_S1x128x128_1_0_0).toLoadRect f14)) (k0_pay8 (arg2.view.readAt (Elt Ideal) (Rect.unit (s := S2048x128) (k0_off2 k) S128x128.size (k0_off2_inb k)).toLoadRect X2) (arg18.view.readAt (Elt Ideal) (Rect.unit (s := S2x128x128) ![1, 0, 0] S1x128x128.size inb_S2x128x128_S1x128x128_1_0_0).toLoadRect X18))) (k0_pay13 (k0_pay6 (arg2.view.readAt (Elt Ideal) (Rect.unit (s := S2048x128) (k0_off2 k) S128x128.size (k0_off2_inb k)).toLoadRect X2) (arg3.view.readAt (Elt Ideal) (Rect.unit (s := S2048x128) (k0_off2 k) S128x128.size (k0_off2_inb k)).toLoadRect X3)) (arg17.view.readAt (Elt Ideal) (Rect.unit (s := S2x128x128) ![1, 0, 0] S1x128x128.size inb_S2x128x128_S1x128x128_1_0_0).toLoadRect X17)) (constant S128x128 .f32 0x00000000#32) (arg15.view.readAt (Elt Ideal) (Rect.unit (s := S2048x128) (k0_off2 k) S128x128.size (k0_off2_inb k)).toLoadRect (arg15.view.writes (Elt Ideal) f15 [⟨Rect.unit (s := S2048x128) (k0_off1 k) S128x128.size (k0_off1_inb k), k0_pay57 (k0_pay7 (arg2.view.readAt (Elt Ideal) (Rect.unit (s := S2048x128) (k0_off1 k) S128x128.size (k0_off1_inb k)).toLoadRect X2) (arg14.view.readAt (Elt Ideal) (Rect.unit (s := S2x128x128) ![0, 0, 0] S1x128x128.size inb_S2x128x128_S1x128x128_0_0_0).toLoadRect f14) (arg18.view.readAt (Elt Ideal) (Rect.unit (s := S2x128x128) ![0, 0, 0] S1x128x128.size inb_S2x128x128_S1x128x128_0_0_0).toLoadRect X18)) (k0_pay11 (arg4.view.readAt (Elt Ideal) (Rect.unit (s := S2048x128) (k0_off1 k) S128x128.size (k0_off1_inb k)).toLoadRect X4) (k0_pay4 (arg2.view.readAt (Elt Ideal) (Rect.unit (s := S2048x128) (k0_off1 k) S128x128.size (k0_off1_inb k)).toLoadRect X2) (arg3.view.readAt (Elt Ideal) (Rect.unit (s := S2048x128) (k0_off1 k) S128x128.size (k0_off1_inb k)).toLoadRect X3)) (arg17.view.readAt (Elt Ideal) (Rect.unit (s := S2x128x128) ![0, 0, 0] S1x128x128.size inb_S2x128x128_S1x128x128_0_0_0).toLoadRect X17)) (arg15.view.readAt (Elt Ideal) (Rect.unit (s := S2048x128) (k0_off1 k) S128x128.size (k0_off1_inb k)).toLoadRect f15)⟩]))⟩,
        ⟨Rect.unit (s := S2048x128) (k0_off1 k) S128x128.size (k0_off1_inb k), k0_pay57 (k0_pay7 (arg2.view.readAt (Elt Ideal) (Rect.unit (s := S2048x128) (k0_off1 k) S128x128.size (k0_off1_inb k)).toLoadRect X2) (arg14.view.readAt (Elt Ideal) (Rect.unit (s := S2x128x128) ![0, 0, 0] S1x128x128.size inb_S2x128x128_S1x128x128_0_0_0).toLoadRect f14) (arg18.view.readAt (Elt Ideal) (Rect.unit (s := S2x128x128) ![0, 0, 0] S1x128x128.size inb_S2x128x128_S1x128x128_0_0_0).toLoadRect X18)) (k0_pay11 (arg4.view.readAt (Elt Ideal) (Rect.unit (s := S2048x128) (k0_off1 k) S128x128.size (k0_off1_inb k)).toLoadRect X4) (k0_pay4 (arg2.view.readAt (Elt Ideal) (Rect.unit (s := S2048x128) (k0_off1 k) S128x128.size (k0_off1_inb k)).toLoadRect X2) (arg3.view.readAt (Elt Ideal) (Rect.unit (s := S2048x128) (k0_off1 k) S128x128.size (k0_off1_inb k)).toLoadRect X3)) (arg17.view.readAt (Elt Ideal) (Rect.unit (s := S2x128x128) ![0, 0, 0] S1x128x128.size inb_S2x128x128_S1x128x128_0_0_0).toLoadRect X17)) (arg15.view.readAt (Elt Ideal) (Rect.unit (s := S2048x128) (k0_off1 k) S128x128.size (k0_off1_inb k)).toLoadRect f15)⟩] := by
  unfold trip_k0_t1
  rfl

/-- A trip takes the forward state on by its chunk. -/
theorem trip_state_fwd :
    slab (arg14.view.read (Elt Ideal) (arg14.view.writes (Elt Ideal) f14 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v85 v192 v215 v249 v257 X2 X3 X4 X17 X18 X19 k).1 f14 f15))) 0
      = nextS (v50 (ix2 0 0)) (slab (arg19.view.read (Elt Ideal) X19) 0) (slab (arg14.view.read (Elt Ideal) f14) 0) (mat (arg3.view.read (Elt Ideal) X3) k) (mat (arg4.view.read (Elt Ideal) X4) k) := by
  rw [trip_pieces_state]
  rw [slab_writes _ _ 1 ![1, 0, 0] _ rfl, if_neg (by decide), slab_writes _ _ 0 ![0, 0, 0] _ rfl, if_pos rfl]
  funext a b
  unfold nextS
  pointwise [k0_pay10, k0_pay3]
  simp only [readAt_rows_bf _ _ _ _ _ (off1_eq k), readAt_slab _ _ 0 ![0, 0, 0] _ rfl]

/-- A trip takes the backward state on by its chunk. -/
theorem trip_state_bwd :
    slab (arg14.view.read (Elt Ideal) (arg14.view.writes (Elt Ideal) f14 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v85 v192 v215 v249 v257 X2 X3 X4 X17 X18 X19 k).1 f14 f15))) 1
      = nextS (v85 (ix2 0 0)) (slab (arg19.view.read (Elt Ideal) X19) 1) (slab (arg14.view.read (Elt Ideal) f14) 1) (mat (arg3.view.read (Elt Ideal) X3) (15 - k)) (mat (arg4.view.read (Elt Ideal) X4) (15 - k)) := by
  rw [trip_pieces_state]
  rw [slab_writes _ _ 1 ![1, 0, 0] _ rfl, if_pos rfl]
  funext a b
  unfold nextS
  pointwise [k0_pay12, k0_pay5]
  simp only [readAt_rows_bf _ _ _ _ _ (off2_eq k), readAt_slab _ _ 1 ![1, 0, 0] _ rfl]

/-- A trip adds to each chunk of the output: the forward output to chunk `k`, the backward one to chunk `15 - k`. -/
theorem trip_out (n : ℕ) (hn : n < 16) :
    mat (R := 2048) (arg15.view.read (Elt Ideal) (arg15.view.writes (Elt Ideal) f15 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v85 v192 v215 v249 v257 X2 X3 X4 X17 X18 X19 k).2.1 f14 f15))) n
      = fun p e => mat (R := 2048) (arg15.view.read (Elt Ideal) f15) n p e
        + (if n = k.val then outM (slab (arg17.view.read (Elt Ideal) X17) 0) (slab (arg18.view.read (Elt Ideal) X18) 0) (slab (arg14.view.read (Elt Ideal) f14) 0) (mat (R := 2048) (arg2.view.read (Elt Ideal) X2) n) (mat (R := 2048) (arg3.view.read (Elt Ideal) X3) n) (mat (R := 2048) (arg4.view.read (Elt Ideal) X4) n) p e else 0)
        + (if n = 15 - k.val then outM (slab (arg17.view.read (Elt Ideal) X17) 1) (slab (arg18.view.read (Elt Ideal) X18) 1) (slab (arg14.view.read (Elt Ideal) f14) 1) (mat (R := 2048) (arg2.view.read (Elt Ideal) X2) n) (mat (R := 2048) (arg3.view.read (Elt Ideal) X3) n) (mat (R := 2048) (arg4.view.read (Elt Ideal) X4) n) p e else 0) := by
  have hk : k.val < 16 := Nat.lt_of_lt_of_le k.isLt k0_t1_abs.2.1
  rw [trip_pieces_out, mat_writes _ _ _ _ _ (off2_eq k) _ _ n (by omega)]
  by_cases h2 : n = 15 - k.val
  · subst h2
    have h1 : ¬ 15 - k.val = k.val := by omega
    funext p e
    rw [if_pos rfl, if_neg h1, if_pos rfl]
    unfold flat outM
    pointwise [k0_pay58, k0_pay9, k0_pay5, k0_pay8, k0_pay13, k0_pay6]
    simp only [readAt_rows_bf _ _ _ _ _ (off2_eq k), readAt_rows _ _ _ _ _ (off2_eq k), readAt_slab _ _ 1 ![1, 0, 0] _ rfl]
    rw [mat_writes _ _ _ _ _ (off1_eq k) _ _ _ (by omega), if_neg h1]
    rfl
  · rw [if_neg h2, mat_writes _ _ _ _ _ (off1_eq k) _ _ n (by omega)]
    funext p e
    rw [if_neg h2]
    by_cases h1 : n = k.val
    · subst h1
      rw [if_pos rfl, if_pos rfl]
      unfold flat outM
      pointwise [k0_pay57, k0_pay7, k0_pay3, k0_pay11, k0_pay4]
      simp only [readAt_rows_bf _ _ _ _ _ (off1_eq k), readAt_rows _ _ _ _ _ (off1_eq k), readAt_slab _ _ 0 ![0, 0, 0] _ rfl]
    · rw [if_neg h1, if_neg h1, add_zero, add_zero]
      rfl

end Cert.KernelIdeal.Gen

end
-- ==== Proof.Loop.lean ====
module

public import proofs.«01_k».proof.Proof.Trip

@[expose] public section

set_option maxRecDepth 16384

noncomputable section

/-! What the kernel's two loops leave in their buffers. -/

namespace Cert.KernelIdeal.Gen

open Idealize.ShloMosaic Idealize.ShloMosaic.TcCoe Idealize.SL.Sem Cert.Recur

variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S1x2x1 .f32) (harg10 : arg10.IsWhole) (arg11 : Memref sig .tc .vmem S1x1x128 .f32) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S2x128x128 .f32) (harg14 : arg14.IsWhole) (arg15 : Memref sig .tc .vmem S2048x128 .f32) (harg15 : arg15.IsWhole) (arg16 : Memref sig .tc .vmem S256x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S2x128x128 .f32) (harg19 : arg19.IsWhole)

section chunks

variable (v50 v85 : FVec Ideal S1x1 .f32) (v192 : BitVec 32) (v215 v249 v257 : FVec Ideal S128x128 .f32) (X2 : BufTy.Contents (Elt Ideal) arg2.view.ty) (X3 : BufTy.Contents (Elt Ideal) arg3.view.ty) (X4 : BufTy.Contents (Elt Ideal) arg4.view.ty) (X17 : BufTy.Contents (Elt Ideal) arg17.view.ty) (X18 : BufTy.Contents (Elt Ideal) arg18.view.ty) (X19 : BufTy.Contents (Elt Ideal) arg19.view.ty) (G14 : BufTy.Contents (Elt Ideal) arg14.view.ty) (G15 : BufTy.Contents (Elt Ideal) arg15.view.ty)

/-- Before trip `k` of the chunk loop each direction's state has been taken on by `k` chunks, and the output holds what
the chunks so far added to it. -/
theorem loop_chunks : ∀ k : ℕ, k ≤ 16 →
    (slab (arg14.view.read (Elt Ideal) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v85 v192 v215 v249 v257 X2 X3 X4 X17 X18 X19 G14 G15 k).1)) 0) = (itS (v50 (ix2 0 0)) (slab (arg19.view.read (Elt Ideal) X19) 0) (slab (arg14.view.read (Elt Ideal) G14) 0) (fun n => (mat (R := 2048) (arg3.view.read (Elt Ideal) X3) n)) (fun n => (mat (R := 2048) (arg4.view.read (Elt Ideal) X4) n)) k)
    ∧ (slab (arg14.view.read (Elt Ideal) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v85 v192 v215 v249 v257 X2 X3 X4 X17 X18 X19 G14 G15 k).1)) 1) = (itS (v85 (ix2 0 0)) (slab (arg19.view.read (Elt Ideal) X19) 1) (slab (arg14.view.read (Elt Ideal) G14) 1) (fun n => (mat (R := 2048) (arg3.view.read (Elt Ideal) X3) (15 - n))) (fun n => (mat (R := 2048) (arg4.view.read (Elt Ideal) X4) (15 - n))) k)
    ∧ ∀ n, n < 16 → (mat (R := 2048) (arg15.view.read (Elt Ideal) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v85 v192 v215 v249 v257 X2 X3 X4 X17 X18 X19 G14 G15 k).2)) n)
      = fun p e => (mat (R := 2048) (arg15.view.read (Elt Ideal) G15) n) p e
        + (if n < k then outM (slab (arg17.view.read (Elt Ideal) X17) 0) (slab (arg18.view.read (Elt Ideal) X18) 0) (itS (v50 (ix2 0 0)) (slab (arg19.view.read (Elt Ideal) X19) 0) (slab (arg14.view.read (Elt Ideal) G14) 0) (fun n => (mat (R := 2048) (arg3.view.read (Elt Ideal) X3) n)) (fun n => (mat (R := 2048) (arg4.view.read (Elt Ideal) X4) n)) n) (mat (R := 2048) (arg2.view.read (Elt Ideal) X2) n) (mat (R := 2048) (arg3.view.read (Elt Ideal) X3) n) (mat (R := 2048) (arg4.view.read (Elt Ideal) X4) n) p e else 0)
        + (if 15 - n < k then outM (slab (arg17.view.read (Elt Ideal) X17) 1) (slab (arg18.view.read (Elt Ideal) X18) 1) (itS (v85 (ix2 0 0)) (slab (arg19.view.read (Elt Ideal) X19) 1) (slab (arg14.view.read (Elt Ideal) G14) 1) (fun n => (mat (R := 2048) (arg3.view.read (Elt Ideal) X3) (15 - n))) (fun n => (mat (R := 2048) (arg4.view.read (Elt Ideal) X4) (15 - n))) (15 - n)) (mat (R := 2048) (arg2.view.read (Elt Ideal) X2) n) (mat (R := 2048) (arg3.view.read (Elt Ideal) X3) n) (mat (R := 2048) (arg4.view.read (Elt Ideal) X4) n) p e else 0) := by
  intro k
  induction k with
  | zero =>
    intro _
    refine ⟨rfl, rfl, fun n _ => ?_⟩
    funext p e
    rw [if_neg (Nat.not_lt_zero _), if_neg (Nat.not_lt_zero _), add_zero, add_zero]
    rfl
  | succ k ih =>
    intro hk
    obtain ⟨ih1, ih2, ih3⟩ := ih (by omega)
    have hk' : k < k0_t1_loop.trips := by
      have h : k0_t1_loop.trips = 16 := by decide +kernel
      omega
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v85 v192 v215 v249 v257 X2 X3 X4 X17 X18 X19 G14 G15 ⟨k, hk'⟩
    have hs' := hs
    dsimp only at hs
    rw [hs]
    refine ⟨?_, ?_, fun n hn => ?_⟩
    · rw [View.writes_append, trip_state_fwd, ih1]
      rfl
    · rw [View.writes_append, trip_state_bwd, ih2]
      rfl
    · rw [View.writes_append, trip_out _ _ _ _ _ _ _ _ _ _ _ _ _ _ _ _ _ _ _ _ _ _ _ _ _ _ _ _ _ _ _ _ _ _ _ _ _ _ _ _ _ _ _ _ _ _ _ _ _ _ _ _ _ _ _ n hn, ih1, ih2, ih3 n hn]
      funext p e
      dsimp only
      by_cases h1 : n = k
      · subst h1
        rw [if_neg (lt_irrefl n), if_pos rfl, if_pos (Nat.lt_succ_self n)]
        by_cases h2 : n = 15 - n
        · omega
        · by_cases h3 : 15 - n < n
          · rw [if_pos h3, if_neg h2, if_pos (by omega)]
            abel
          · rw [if_neg h3, if_neg h2, if_neg (by omega)]
            abel
      · rw [if_neg h1]
        by_cases h2 : n = 15 - k
        · have h4 : 15 - n = k := by omega
          rw [if_pos h2, h4, if_neg (lt_irrefl k), if_pos (Nat.lt_succ_self k)]
          by_cases h3 : n < k
          · rw [if_pos h3, if_pos (by omega)]
            abel
          · rw [if_neg h3, if_neg (by omega)]
            abel
        · rw [if_neg h2]
          have h5 : (n < k + 1) = (n < k) := by apply propext; omega
          have h6 : (15 - n < k + 1) = (15 - n < k) := by apply propext; omega
          simp only [h5, h6]
          abel

end chunks

/-- The rows of trip `k` of the last loop start at row `256 k`. -/
theorem off4_eq : ∀ k : Fin k0_t2_loop.trips, k0_off4 k = ![256 * k.val, 0] := by decide +kernel

/-- A load of 256 rows from row `256 a` on reads the buffer's rows. -/
theorem readAt_rows256 {sg : RefSig} {κ : Kind} {sp : Space} {e : EltTy} (v : View sg κ sp S2048x128 e) (X : v.ty.Contents (Elt Ideal)) (a : ℕ)
    (off : Fin 2 → ℕ) (inb : ∀ x, off x + S256x128.size x ≤ S2048x128.size x) (h : off = ![256 * a, 0]) (p : Fin 256) (d : Fin 128)
    (r : Fin 2048) (hr : r.val = 256 * a + p.val) :
    v.readAt (Elt Ideal) (Rect.unit (s := S2048x128) off S256x128.size inb).toLoadRect X (ix2 p d) = v.read (Elt Ideal) X (ix2 r d) := by
  subst h
  rw [View.readAt_eq_ld]
  refine View.ld_unit_apply_of _ _ _ inb _ _ ?_
  intro x
  match x with
  | 0 => exact hr
  | 1 => show d.val = 0 + d.val; omega

/-- Normalising and gating a block of rows, at an index. -/
theorem pay2_eq (a : Vec Ideal S256x128 .f32) (b : Vec Ideal S1x1x128 .f32) (g : Vec Ideal S256x128 .bf16) (p : Fin 256) (d : Fin 128) :
    k0_pay2 (F := Ideal) a b g (ix2 p d) = gnGate (fun x => a (ix2 p x)) (b (ix3 0 0 d)) (g (ix2 p d)) d := by
  unfold gnGate c128
  pointwise [k0_pay2]

/-- The same of the context's rows. -/
theorem pay1_eq (a : Vec Ideal S256x128 .f32) (b : Vec Ideal S1x1x128 .f32) (g : Vec Ideal S256x128 .bf16) (p : Fin 256) (d : Fin 128) :
    k0_pay1 (k0_pay59 (F := Ideal) a b g) (ix2 p d) = gnGate (fun x => a (ix2 p x)) (b (ix3 0 0 d)) (g (ix2 p d)) d := by
  unfold gnGate c128
  pointwise [k0_pay1, k0_pay59]

section rows

variable (X5 : BufTy.Contents (Elt Ideal) arg5.view.ty) (X11 : BufTy.Contents (Elt Ideal) arg11.view.ty) (X15 : BufTy.Contents (Elt Ideal) arg15.view.ty) (G12 : BufTy.Contents (Elt Ideal) arg12.view.ty)

/-- The piece a trip of the last loop writes: its 256 rows, normalised and gated. -/
theorem trip_pieces_rows (k : Fin k0_t2_loop.trips) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X11 X15 k
      = [⟨Rect.unit (s := S2048x128) (k0_off4 k) S256x128.size (k0_off4_inb k), k0_pay2 (arg15.view.readAt (Elt Ideal) (Rect.unit (s := S2048x128) (k0_off4 k) S256x128.size (k0_off4_inb k)).toLoadRect X15) (arg11.view.readAt (Elt Ideal) (Rect.unit (s := S1x1x128) ![0, 0, 0] S1x1x128.size inb_S1x1x128_S1x1x128_0_0_0).toLoadRect X11) (arg5.view.readAt (Elt Ideal) (Rect.unit (s := S2048x128) (k0_off4 k) S256x128.size (k0_off4_inb k)).toLoadRect X5)⟩] := by
  unfold tripL_k0_t2 trip_k0_t2
  rfl

/-- The rows of the trips so far hold the normalised and gated output, the others what they held before. -/
theorem loop_rows (r : Fin 2048) (d : Fin 128) : ∀ k : ℕ, k ≤ 8 →
    arg12.view.read (Elt Ideal) (arg12.view.writes (Elt Ideal) G12 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X11 X15 k)) (ix2 r d)
      = if r.val < 256 * k then gnGate (fun x => arg15.view.read (Elt Ideal) X15 (ix2 r x)) (arg11.view.read (Elt Ideal) X11 (ix3 0 0 d)) (arg5.view.read (Elt Ideal) X5 (ix2 r d)) d
        else arg12.view.read (Elt Ideal) G12 (ix2 r d) := by
  intro k
  induction k with
  | zero => intro _; rfl
  | succ k ih =>
    intro hk
    have hk' : k < k0_t2_loop.trips := by
      have h : k0_t2_loop.trips = 8 := by decide +kernel
      omega
    have hs := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X11 X15 ⟨k, hk'⟩
    dsimp only at hs
    rw [hs, View.writes_append, trip_pieces_rows]
    have ho := off4_eq ⟨k, hk'⟩
    by_cases h : 256 * k ≤ r.val
    · by_cases h2 : r.val < 256 * (k + 1)
      · rw [if_pos h2]
        have hp : r.val - 256 * k < 256 := by omega
        have hrp : r.val = 256 * k + (⟨r.val - 256 * k, hp⟩ : Fin 256).val := by show r.val = 256 * k + (r.val - 256 * k); omega
        refine (View.read_writes_cons_unit_of_mem arg12.view _ (k0_off4_inb ⟨k, hk'⟩) _ [] _ (ix2 ⟨r.val - 256 * k, hp⟩ d) ho
          (by intro x; match x with | 0 => exact hrp | 1 => exact (Nat.zero_add _).symm)).trans ?_
        have hg : arg11.view.readAt (Elt Ideal) (Rect.unit (s := S1x1x128) ![0, 0, 0] S1x1x128.size inb_S1x1x128_S1x1x128_0_0_0).toLoadRect X11 (ix3 0 0 d) = arg11.view.read (Elt Ideal) X11 (ix3 0 0 d) := by
          rw [View.readAt_eq_ld]
          refine View.ld_unit_apply_of _ _ _ _ _ _ ?_
          intro x
          match x with
          | 0 => rfl
          | 1 => rfl
          | 2 => show d.val = 0 + d.val; omega
        rw [pay2_eq, hg, readAt_rows256 arg5.view X5 k _ (k0_off4_inb ⟨k, hk'⟩) ho ⟨r.val - 256 * k, hp⟩ d r hrp]
        simp only [fun y : Fin 128 => readAt_rows256 arg15.view X15 k _ (k0_off4_inb ⟨k, hk'⟩) ho ⟨r.val - 256 * k, hp⟩ y r hrp]
      · refine (View.read_writes_cons_unit_of_not_mem arg12.view _ (k0_off4_inb ⟨k, hk'⟩) _ [] _ ho (0 : Fin 2) (Or.inr (by show 256 * k + 256 ≤ r.val; omega))).trans ?_
        rw [if_neg h2, View.writes_nil, ih (by omega), if_neg (by omega)]
    · refine (View.read_writes_cons_unit_of_not_mem arg12.view _ (k0_off4_inb ⟨k, hk'⟩) _ [] _ ho (0 : Fin 2) (Or.inl (by show r.val < 256 * k; omega))).trans ?_
      rw [View.writes_nil, ih (by omega), if_pos (by omega), if_pos (by omega)]

end rows

end Cert.KernelIdeal.Gen

end
-- ==== Proof.Start.lean ====
module

public import proofs.«01_k».proof.Proof.Loop

@[expose] public section

set_option maxRecDepth 16384

noncomputable section

/-! What the kernel's buffers hold when its chunk loop begins: the decays, and the context's two chunks taken both ways. -/

namespace Cert.KernelIdeal.Gen

open Idealize.ShloMosaic Idealize.ShloMosaic.TcCoe Idealize.SL.Sem Cert.Recur

/-- A matrix held as a single slab. -/
def unslab (x : S1x128x128.Idx → EReal) : Mat := fun i j => x (ix3 0 i j)

/-- Loading slab `a` reads it. -/
theorem unslab_read {sg : RefSig} {κ : Kind} {sp : Space} (v : View sg κ sp S2x128x128 .f32) (X : v.ty.Contents (Elt Ideal)) (a : Fin 2)
    (off : Fin 3 → ℕ) (inb : ∀ x, off x + S1x128x128.size x ≤ S2x128x128.size x) (h : off = ![a.val, 0, 0]) :
    unslab (v.readAt (Elt Ideal) (Rect.unit (s := S2x128x128) off S1x128x128.size inb).toLoadRect X) = slab (v.read (Elt Ideal) X) a := by
  funext p d
  exact readAt_slab v X a off inb h p d

/-- Loading a chunk of a narrow buffer reads it. -/
theorem flat_read {sg : RefSig} {κ : Kind} {sp : Space} (v : View sg κ sp S256x128 .bf16) (X : v.ty.Contents (Elt Ideal)) (a : ℕ)
    (off : Fin 2 → ℕ) (inb : ∀ x, off x + S128x128.size x ≤ S256x128.size x) (h : off = ![128 * a, 0]) :
    flat (v.readAt (Elt Ideal) (Rect.unit (s := S256x128) off S128x128.size inb).toLoadRect X) = mat (R := 256) (v.read (Elt Ideal) X) a := by
  funext p d
  exact readAt_rows_bf (R := 256) v X a off inb h p d

/-- Loading a chunk of a wide buffer reads it. -/
theorem flat_read_wide {sg : RefSig} {κ : Kind} {sp : Space} (v : View sg κ sp S256x128 .f32) (X : v.ty.Contents (Elt Ideal)) (a : ℕ)
    (off : Fin 2 → ℕ) (inb : ∀ x, off x + S128x128.size x ≤ S256x128.size x) (h : off = ![128 * a, 0]) :
    flat (v.readAt (Elt Ideal) (Rect.unit (s := S256x128) off S128x128.size inb).toLoadRect X) = mat (R := 256) (v.read (Elt Ideal) X) a := by
  funext p d
  exact readAt_rows (R := 256) v X a off inb h p d

section payloads

variable (g : FVec Ideal S1x1 .f32) (q k v : Vec Ideal S128x128 .bf16) (s w d h : Vec Ideal S1x128x128 .f32) (o : Vec Ideal S128x128 .f32)

/-- The first forward step of the context takes the state on by its chunk. -/
theorem pay41_eq : unslab (k0_pay41 (k0_pay40 (F := Ideal) g k v (k0_pay33 s) w)) = nextS (g (ix2 0 0)) (unslab w) (unslab s) (flat k) (flat v) := by
  funext a b
  unfold nextS unslab flat
  pointwise [k0_pay41, k0_pay40, k0_pay33]

/-- The first backward step of the context takes the state on by its chunk. -/
theorem pay42_eq : unslab (k0_pay42 (F := Ideal) g (k0_pay35 s) (k0_pay39 k v w)) = nextS (g (ix2 0 0)) (unslab w) (unslab s) (flat k) (flat v) := by
  funext a b
  unfold nextS unslab flat
  pointwise [k0_pay42, k0_pay35, k0_pay39]

/-- The second forward step of the context takes the state on by its chunk. -/
theorem pay52_eq : unslab (k0_pay52 (F := Ideal) g v (k0_pay45 s) (k0_pay51 k w)) = nextS (g (ix2 0 0)) (unslab w) (unslab s) (flat k) (flat v) := by
  funext a b
  unfold nextS unslab flat
  pointwise [k0_pay52, k0_pay45, k0_pay51]

/-- The second backward step of the context takes the state on by its chunk. -/
theorem pay53_eq : unslab (k0_pay53 (F := Ideal) g k v (k0_pay47 s) w) = nextS (g (ix2 0 0)) (unslab w) (unslab s) (flat k) (flat v) := by
  funext a b
  unfold nextS unslab flat
  pointwise [k0_pay53, k0_pay47]

/-- The first forward step of the context adds its chunk's output. -/
theorem pay43_eq : flat (k0_pay43 (F := Ideal) v (k0_pay34 q k) (k0_pay37 q (k0_pay33 s) h) d o) = fun p e => flat o p e + outM (unslab d) (unslab h) (unslab s) (flat q) (flat k) (flat v) p e := by
  funext a b
  unfold outM unslab flat
  pointwise [k0_pay43, k0_pay34, k0_pay37, k0_pay33]

/-- The first backward step of the context adds its chunk's output. -/
theorem pay44_eq : flat (k0_pay44 (F := Ideal) v (k0_pay36 q k) (k0_pay38 q s h) d o) = fun p e => flat o p e + outM (unslab d) (unslab h) (unslab s) (flat q) (flat k) (flat v) p e := by
  funext a b
  unfold outM unslab flat
  pointwise [k0_pay44, k0_pay36, k0_pay38, k0_pay35]

/-- The second forward step of the context adds its chunk's output. -/
theorem pay55_eq : flat (k0_pay55 (F := Ideal) v (k0_pay46 q k) (k0_pay49 q s h) d o) = fun p e => flat o p e + outM (unslab d) (unslab h) (unslab s) (flat q) (flat k) (flat v) p e := by
  funext a b
  unfold outM unslab flat
  pointwise [k0_pay55, k0_pay46, k0_pay49, k0_pay45]

/-- The second backward step of the context adds its chunk's output. -/
theorem pay56_eq : flat (k0_pay56 (F := Ideal) (k0_pay50 q s h) (k0_pay54 v (k0_pay48 q k) d) o) = fun p e => flat o p e + outM (unslab d) (unslab h) (unslab s) (flat q) (flat k) (flat v) p e := by
  funext a b
  unfold outM unslab flat
  pointwise [k0_pay56, k0_pay50, k0_pay54, k0_pay48, k0_pay47]

end payloads

section start

variable (c : Dev nD) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S1x2x1 .f32) (harg10 : arg10.IsWhole) (arg11 : Memref sig .tc .vmem S1x1x128 .f32) (harg11 : arg11.IsWhole) (arg14 : Memref sig .tc .vmem S2x128x128 .f32) (arg16 : Memref sig .tc .vmem S256x128 .f32) (arg17 : Memref sig .tc .vmem S2x128x128 .f32) (arg18 : Memref sig .tc .vmem S2x128x128 .f32) (arg19 : Memref sig .tc .vmem S2x128x128 .f32)
variable (x4 x5 x6 x7 : Vec Ideal S256x128 .bf16) (x8 : Vec Ideal S1x2x1 .f32) (x9 : Vec Ideal S1x1x128 .f32)

/-- The load of the decay logits reads their block. -/
theorem logits_read : arg10.view.readAt (Elt Ideal) (Rect.unit (s := S1x2x1) ![0, 0, 0] S1x2x1.size inb_S1x2x1_S1x2x1_0_0_0).toLoadRect (harg10.unread x8) = x8 := by
  have hz : (![0, 0, 0] : Fin 3 → ℕ) = fun _ => 0 := by decide
  rw [View.readAt_eq_ld, harg10.read_unread]
  exact View.ld_unit_zero hz _ _

/-- The forward decays inside a chunk. -/
theorem mask_slab0 : slab (arg17.view.read (Elt Ideal) (arg17.view.writes (Elt Ideal) arg17.view.junk (kernelRun0_A.sl.HS3_2 (F := Ideal) c arg10 harg10 x8))) 0 = dmF (lg (x8 (ix3 0 0 0))) := by
  unfold kernelRun0_A.sl.HS3_2
  rw [slab_writes _ _ 1 ![1, 0, 0] _ rfl, if_neg (by decide), slab_writes _ _ 0 ![0, 0, 0] _ rfl, if_pos rfl, logits_read]
  funext i j
  unfold dmF lg fl
  pointwise [k0_pay14, k0_pay15, k0_pay16, k0_pay17, k0_pay18, k0_pay19, k0_pay20, k0_pay21, k0_pay22, k0_pay23, k0_pay24, k0_pay25, k0_pay26, k0_pay27, k0_pay28, k0_pay29]

/-- The backward decays inside a chunk. -/
theorem mask_slab1 : slab (arg17.view.read (Elt Ideal) (arg17.view.writes (Elt Ideal) arg17.view.junk (kernelRun0_A.sl.HS3_2 (F := Ideal) c arg10 harg10 x8))) 1 = dmB (lg (x8 (ix3 0 1 0))) := by
  unfold kernelRun0_A.sl.HS3_2 kernelRun0_A.sl.r
  rw [slab_writes _ _ 1 ![1, 0, 0] _ rfl, if_pos rfl, logits_read]
  funext i j
  unfold dmB lg fl
  pointwise [k0_pay14, k0_pay15, k0_pay16, k0_pay17, k0_pay18, k0_pay19, k0_pay20, k0_pay21, k0_pay22, k0_pay23, k0_pay24, k0_pay25, k0_pay26, k0_pay27, k0_pay28, k0_pay29]

/-- The forward decays of the queries. -/
theorem query_slab0 : slab (arg18.view.read (Elt Ideal) (arg18.view.writes (Elt Ideal) arg18.view.junk (kernelRun0_A.sl.HS4_2 (F := Ideal) c arg10 harg10 x8))) 0 = hF (lg (x8 (ix3 0 0 0))) := by
  unfold kernelRun0_A.sl.HS4_2
  rw [slab_writes _ _ 1 ![1, 0, 0] _ rfl, if_neg (by decide), slab_writes _ _ 0 ![0, 0, 0] _ rfl, if_pos rfl, logits_read]
  funext i j
  unfold hF lg fl
  pointwise [k0_pay14, k0_pay15, k0_pay16, k0_pay17, k0_pay18, k0_pay19, k0_pay20, k0_pay21, k0_pay22, k0_pay23, k0_pay24, k0_pay25, k0_pay26, k0_pay27, k0_pay28, k0_pay29]

/-- The backward decays of the queries. -/
theorem query_slab1 : slab (arg18.view.read (Elt Ideal) (arg18.view.writes (Elt Ideal) arg18.view.junk (kernelRun0_A.sl.HS4_2 (F := Ideal) c arg10 harg10 x8))) 1 = hB (lg (x8 (ix3 0 1 0))) := by
  unfold kernelRun0_A.sl.HS4_2 kernelRun0_A.sl.r
  rw [slab_writes _ _ 1 ![1, 0, 0] _ rfl, if_pos rfl, logits_read]
  funext i j
  unfold hB lg fl c127
  pointwise [k0_pay14, k0_pay15, k0_pay16, k0_pay17, k0_pay18, k0_pay19, k0_pay20, k0_pay21, k0_pay22, k0_pay23, k0_pay24, k0_pay25, k0_pay26, k0_pay27, k0_pay28, k0_pay29]

/-- The forward decays of the keys. -/
theorem key_slab0 : slab (arg19.view.read (Elt Ideal) (arg19.view.writes (Elt Ideal) arg19.view.junk (kernelRun0_A.sl.HS5_2 (F := Ideal) c arg10 harg10 x8))) 0 = wF (lg (x8 (ix3 0 0 0))) := by
  unfold kernelRun0_A.sl.HS5_2 kernelRun0_A.sl.r_1
  rw [slab_writes _ _ 1 ![1, 0, 0] _ rfl, if_neg (by decide), slab_writes _ _ 0 ![0, 0, 0] _ rfl, if_pos rfl, logits_read]
  funext i j
  unfold wF lg fl c127
  pointwise [k0_pay14, k0_pay15, k0_pay16, k0_pay17, k0_pay18, k0_pay19, k0_pay20, k0_pay21, k0_pay22, k0_pay23, k0_pay24, k0_pay25, k0_pay26, k0_pay27, k0_pay28, k0_pay29]

/-- The backward decays of the keys. -/
theorem key_slab1 : slab (arg19.view.read (Elt Ideal) (arg19.view.writes (Elt Ideal) arg19.view.junk (kernelRun0_A.sl.HS5_2 (F := Ideal) c arg10 harg10 x8))) 1 = wB (lg (x8 (ix3 0 1 0))) := by
  unfold kernelRun0_A.sl.HS5_2 kernelRun0_A.sl.r_4 kernelRun0_A.sl.r
  rw [slab_writes _ _ 1 ![1, 0, 0] _ rfl, if_pos rfl, logits_read]
  funext i j
  unfold wB lg fl c127
  pointwise [k0_pay14, k0_pay15, k0_pay16, k0_pay17, k0_pay18, k0_pay19, k0_pay20, k0_pay21, k0_pay22, k0_pay23, k0_pay24, k0_pay25, k0_pay26, k0_pay27, k0_pay28, k0_pay29]

/-- The forward decay of a chunk. -/
theorem chunk_fwd : kernelRun0_A.sl.r_2 (F := Ideal) c arg10 harg10 x8 (ix2 0 0) = gF (lg (x8 (ix3 0 0 0))) := by
  unfold kernelRun0_A.sl.r_2 kernelRun0_A.sl.r_1
  rw [logits_read]
  unfold gF lg c128
  pointwise [k0_pay14, k0_pay15, k0_pay16, k0_pay17, k0_pay18, k0_pay19, k0_pay20, k0_pay21, k0_pay22, k0_pay23, k0_pay24, k0_pay25, k0_pay26, k0_pay27, k0_pay28, k0_pay29]

/-- The backward decay of a chunk. -/
theorem chunk_bwd : kernelRun0_A.sl.r_5 (F := Ideal) c arg10 harg10 x8 (ix2 0 0) = gF (lg (x8 (ix3 0 1 0))) := by
  unfold kernelRun0_A.sl.r_5 kernelRun0_A.sl.r_3 kernelRun0_A.sl.r
  rw [logits_read]
  unfold gF lg c128
  pointwise [k0_pay14, k0_pay15, k0_pay16, k0_pay17, k0_pay18, k0_pay19, k0_pay20, k0_pay21, k0_pay22, k0_pay23, k0_pay24, k0_pay25, k0_pay26, k0_pay27, k0_pay28, k0_pay29]

/-- The state starts at zero. -/
theorem state_zero (d : Fin 2) : slab (arg14.view.read (Elt Ideal) (arg14.view.writes (Elt Ideal) arg14.view.junk (kernelRun0_A.sl.HS0_1 (F := Ideal)))) d = (fun _ _ => 0) := by
  funext p e
  unfold slab kernelRun0_A.sl.HS0_1
  refine (View.read_writes_cons_unit_of_mem arg14.view _ inb_S2x128x128_S2x128x128_0_0_0 _ [] _ (ix3 d p e) rfl
    (by intro x; match x with | 0 => exact (Nat.zero_add _).symm | 1 => exact (Nat.zero_add _).symm | 2 => exact (Nat.zero_add _).symm)).trans ?_
  pointwise [k0_pay30]

/-- The context's output starts at zero. -/
theorem ctx_zero (n : ℕ) : mat (R := 256) (arg16.view.read (Elt Ideal) (arg16.view.writes (Elt Ideal) arg16.view.junk (kernelRun0_A.sl.HS2_1 (F := Ideal)))) n = (fun _ _ => 0) := by
  funext p e
  unfold mat kernelRun0_A.sl.HS2_1
  split
  · refine (View.read_writes_cons_unit_of_mem arg16.view _ inb_S256x128_S256x128_0_0 _ [] _ (ix2 _ e) rfl
      (by intro x; match x with | 0 => exact (Nat.zero_add _).symm | 1 => exact (Nat.zero_add _).symm)).trans ?_
    pointwise [k0_pay32]
  · rfl

/-- After the context's first steps. -/
theorem state_2 : slab (arg14.view.read (Elt Ideal) (arg14.view.writes (Elt Ideal) arg14.view.junk (kernelRun0_A.sl.HS0_3 (F := Ideal) c arg7 harg7 arg8 harg8 arg10 harg10 arg14 arg19 x5 x6 x8))) 0 = (itS (gF (lg (x8 (ix3 0 0 0)))) (wF (lg (x8 (ix3 0 0 0)))) (fun _ _ => 0) (fun n => mat (R := 256) x5 n) (fun n => mat (R := 256) x6 n) 1) ∧ slab (arg14.view.read (Elt Ideal) (arg14.view.writes (Elt Ideal) arg14.view.junk (kernelRun0_A.sl.HS0_3 (F := Ideal) c arg7 harg7 arg8 harg8 arg10 harg10 arg14 arg19 x5 x6 x8))) 1 = (itS (gF (lg (x8 (ix3 0 1 0)))) (wB (lg (x8 (ix3 0 1 0)))) (fun _ _ => 0) (fun n => mat (R := 256) x5 (1 - n)) (fun n => mat (R := 256) x6 (1 - n)) 1) := by
  unfold kernelRun0_A.sl.HS0_3
  rw [slab_writes _ _ 1 ![1, 0, 0] _ rfl, slab_writes _ _ 1 ![1, 0, 0] _ rfl, if_pos rfl, if_neg (by decide), slab_writes _ _ 0 ![0, 0, 0] _ rfl, if_pos rfl]
  refine ⟨?_, ?_⟩
  · unfold kernelRun0_A.sl.r_18 kernelRun0_A.sl.r_9 kernelRun0_A.sl.v105 kernelRun0_A.sl.v133
    refine (pay41_eq _ _ _ _ _).trans ?_
    unfold View.readCov
    rw [chunk_fwd, unslab_read _ _ 0 ![0, 0, 0] _ rfl, unslab_read _ _ 0 ![0, 0, 0] _ rfl, state_zero, key_slab0]
    unfold kernelRun0_A.sl.r_7 kernelRun0_A.sl.r_8
    rw [flat_read _ _ 0 ![0, 0] _ rfl, flat_read _ _ 0 ![0, 0] _ rfl, harg7.read_unread, harg8.read_unread]
    rfl
  · unfold kernelRun0_A.sl.r_13 kernelRun0_A.sl.r_17 kernelRun0_A.sl.v115 kernelRun0_A.sl.v139
    refine (pay42_eq _ _ _ _ _).trans ?_
    unfold View.readCov
    rw [chunk_bwd, unslab_read _ _ 1 ![1, 0, 0] _ rfl, unslab_read _ _ 1 ![1, 0, 0] _ rfl, state_zero, key_slab1]
    rw [flat_read _ _ 1 ![128, 0] _ rfl, flat_read _ _ 1 ![128, 0] _ rfl, harg7.read_unread, harg8.read_unread]
    rfl

/-- After the context's second steps: both directions have the whole context. -/
theorem state_4 : slab (arg14.view.read (Elt Ideal) (arg14.view.writes (Elt Ideal) arg14.view.junk (kernelRun0_A.sl.HS0_5 (F := Ideal) c arg7 harg7 arg8 harg8 arg10 harg10 arg14 arg19 x5 x6 x8))) 0 = (itS (gF (lg (x8 (ix3 0 0 0)))) (wF (lg (x8 (ix3 0 0 0)))) (fun _ _ => 0) (fun n => mat (R := 256) x5 n) (fun n => mat (R := 256) x6 n) 2) ∧ slab (arg14.view.read (Elt Ideal) (arg14.view.writes (Elt Ideal) arg14.view.junk (kernelRun0_A.sl.HS0_5 (F := Ideal) c arg7 harg7 arg8 harg8 arg10 harg10 arg14 arg19 x5 x6 x8))) 1 = (itS (gF (lg (x8 (ix3 0 1 0)))) (wB (lg (x8 (ix3 0 1 0)))) (fun _ _ => 0) (fun n => mat (R := 256) x5 (1 - n)) (fun n => mat (R := 256) x6 (1 - n)) 2) := by
  unfold kernelRun0_A.sl.HS0_5
  rw [slab_writes _ _ 1 ![1, 0, 0] _ rfl, slab_writes _ _ 1 ![1, 0, 0] _ rfl, if_pos rfl, if_neg (by decide), slab_writes _ _ 0 ![0, 0, 0] _ rfl, if_pos rfl]
  refine ⟨?_, ?_⟩
  · unfold kernelRun0_A.sl.r_19 kernelRun0_A.sl.r_25 kernelRun0_A.sl.v189 kernelRun0_A.sl.v133
    refine (pay52_eq _ _ _ _ _).trans ?_
    unfold View.readCov
    rw [chunk_fwd, unslab_read _ _ 0 ![0, 0, 0] _ rfl, unslab_read _ _ 0 ![0, 0, 0] _ rfl, (state_2 c arg7 harg7 arg8 harg8 arg10 harg10 arg14 arg19 x5 x6 x8).1, key_slab0]
    unfold kernelRun0_A.sl.r_12
    rw [flat_read _ _ 1 ![128, 0] _ rfl, flat_read _ _ 1 ![128, 0] _ rfl, harg7.read_unread, harg8.read_unread]
    rfl
  · unfold kernelRun0_A.sl.r_21 kernelRun0_A.sl.v199 kernelRun0_A.sl.v139
    refine (pay53_eq _ _ _ _ _).trans ?_
    unfold View.readCov
    rw [chunk_bwd, unslab_read _ _ 1 ![1, 0, 0] _ rfl, unslab_read _ _ 1 ![1, 0, 0] _ rfl, (state_2 c arg7 harg7 arg8 harg8 arg10 harg10 arg14 arg19 x5 x6 x8).2, key_slab1]
    unfold kernelRun0_A.sl.r_7 kernelRun0_A.sl.r_8
    rw [flat_read _ _ 0 ![0, 0] _ rfl, flat_read _ _ 0 ![0, 0] _ rfl, harg7.read_unread, harg8.read_unread]
    rfl

/-- The context's output after the first forward step. -/
theorem ctx_1 : mat (R := 256) (arg16.view.read (Elt Ideal) (arg16.view.writes (Elt Ideal) arg16.view.junk (kernelRun0_A.sl.HS2_2 (F := Ideal) c arg6 harg6 arg7 harg7 arg8 harg8 arg10 harg10 arg14 arg16 arg17 arg18 x4 x5 x6 x8))) 0 = (fun p e => 0 + outM (dmF (lg (x8 (ix3 0 0 0)))) (hF (lg (x8 (ix3 0 0 0)))) (itS (gF (lg (x8 (ix3 0 0 0)))) (wF (lg (x8 (ix3 0 0 0)))) (fun _ _ => 0) (fun n => mat (R := 256) x5 n) (fun n => mat (R := 256) x6 n) 0) (mat (R := 256) x4 0) (mat (R := 256) x5 0) (mat (R := 256) x6 0) p e) ∧ mat (R := 256) (arg16.view.read (Elt Ideal) (arg16.view.writes (Elt Ideal) arg16.view.junk (kernelRun0_A.sl.HS2_2 (F := Ideal) c arg6 harg6 arg7 harg7 arg8 harg8 arg10 harg10 arg14 arg16 arg17 arg18 x4 x5 x6 x8))) 1 = (fun p e => 0) := by
  unfold kernelRun0_A.sl.HS2_2
  rw [mat_writes (R := 256) _ _ 0 ![0, 0] _ rfl _ _ 0 (by omega), mat_writes (R := 256) _ _ 0 ![0, 0] _ rfl _ _ 1 (by omega), if_pos rfl, if_neg (by decide)]
  refine ⟨?_, ctx_zero arg16 1⟩
  unfold kernelRun0_A.sl.r_10 kernelRun0_A.sl.r_15 kernelRun0_A.sl.r_6 kernelRun0_A.sl.r_9 kernelRun0_A.sl.v105 kernelRun0_A.sl.v119 kernelRun0_A.sl.v150 kernelRun0_A.sl.v167
  refine (pay43_eq _ _ _ _ _ _ _).trans ?_
  unfold View.readCov
  rw [flat_read_wide _ _ 0 ![0, 0] _ rfl, unslab_read _ _ 0 ![0, 0, 0] _ rfl, unslab_read _ _ 0 ![0, 0, 0] _ rfl, unslab_read _ _ 0 ![0, 0, 0] _ rfl, ctx_zero, state_zero, mask_slab0, query_slab0]
  unfold kernelRun0_A.sl.r_8
  rw [flat_read _ _ 0 ![0, 0] _ rfl, flat_read _ _ 0 ![0, 0] _ rfl, flat_read _ _ 0 ![0, 0] _ rfl, harg6.read_unread, harg7.read_unread, harg8.read_unread]
  rfl

/-- The context's output after the first backward step. -/
theorem ctx_2 : mat (R := 256) (arg16.view.read (Elt Ideal) (arg16.view.writes (Elt Ideal) arg16.view.junk (kernelRun0_A.sl.HS2_3 (F := Ideal) c arg6 harg6 arg7 harg7 arg8 harg8 arg10 harg10 arg14 arg16 arg17 arg18 x4 x5 x6 x8))) 0 = (fun p e => 0 + outM (dmF (lg (x8 (ix3 0 0 0)))) (hF (lg (x8 (ix3 0 0 0)))) (itS (gF (lg (x8 (ix3 0 0 0)))) (wF (lg (x8 (ix3 0 0 0)))) (fun _ _ => 0) (fun n => mat (R := 256) x5 n) (fun n => mat (R := 256) x6 n) 0) (mat (R := 256) x4 0) (mat (R := 256) x5 0) (mat (R := 256) x6 0) p e) ∧ mat (R := 256) (arg16.view.read (Elt Ideal) (arg16.view.writes (Elt Ideal) arg16.view.junk (kernelRun0_A.sl.HS2_3 (F := Ideal) c arg6 harg6 arg7 harg7 arg8 harg8 arg10 harg10 arg14 arg16 arg17 arg18 x4 x5 x6 x8))) 1 = (fun p e => 0 + outM (dmB (lg (x8 (ix3 0 1 0)))) (hB (lg (x8 (ix3 0 1 0)))) (itS (gF (lg (x8 (ix3 0 1 0)))) (wB (lg (x8 (ix3 0 1 0)))) (fun _ _ => 0) (fun n => mat (R := 256) x5 (1 - n)) (fun n => mat (R := 256) x6 (1 - n)) 0) (mat (R := 256) x4 1) (mat (R := 256) x5 1) (mat (R := 256) x6 1) p e) := by
  unfold kernelRun0_A.sl.HS2_3
  rw [mat_writes (R := 256) _ _ 1 ![128, 0] _ rfl _ _ 0 (by omega), mat_writes (R := 256) _ _ 1 ![128, 0] _ rfl _ _ 1 (by omega), if_neg (by decide), if_pos rfl]
  refine ⟨(ctx_1 c arg6 harg6 arg7 harg7 arg8 harg8 arg10 harg10 arg14 arg16 arg17 arg18 x4 x5 x6 x8).1, ?_⟩
  unfold kernelRun0_A.sl.r_14 kernelRun0_A.sl.r_16 kernelRun0_A.sl.r_11 kernelRun0_A.sl.v115 kernelRun0_A.sl.v126 kernelRun0_A.sl.v161 kernelRun0_A.sl.v175
  refine (pay44_eq _ _ _ _ _ _ _).trans ?_
  unfold View.readCov
  rw [flat_read_wide _ _ 1 ![128, 0] _ rfl, unslab_read _ _ 1 ![1, 0, 0] _ rfl, unslab_read _ _ 1 ![1, 0, 0] _ rfl, unslab_read _ _ 1 ![1, 0, 0] _ rfl, (ctx_1 c arg6 harg6 arg7 harg7 arg8 harg8 arg10 harg10 arg14 arg16 arg17 arg18 x4 x5 x6 x8).2, state_zero, mask_slab1, query_slab1]
  unfold kernelRun0_A.sl.r_12
  rw [flat_read _ _ 1 ![128, 0] _ rfl, flat_read _ _ 1 ![128, 0] _ rfl, flat_read _ _ 1 ![128, 0] _ rfl, harg6.read_unread, harg7.read_unread, harg8.read_unread]
  rfl

/-- The context's output after the second forward step. -/
theorem ctx_3 : mat (R := 256) (arg16.view.read (Elt Ideal) (arg16.view.writes (Elt Ideal) arg16.view.junk (kernelRun0_A.sl.HS2_4 (F := Ideal) c arg6 harg6 arg7 harg7 arg8 harg8 arg10 harg10 arg14 arg16 arg17 arg18 arg19 x4 x5 x6 x8))) 0 = (fun p e => 0 + outM (dmF (lg (x8 (ix3 0 0 0)))) (hF (lg (x8 (ix3 0 0 0)))) (itS (gF (lg (x8 (ix3 0 0 0)))) (wF (lg (x8 (ix3 0 0 0)))) (fun _ _ => 0) (fun n => mat (R := 256) x5 n) (fun n => mat (R := 256) x6 n) 0) (mat (R := 256) x4 0) (mat (R := 256) x5 0) (mat (R := 256) x6 0) p e) ∧ mat (R := 256) (arg16.view.read (Elt Ideal) (arg16.view.writes (Elt Ideal) arg16.view.junk (kernelRun0_A.sl.HS2_4 (F := Ideal) c arg6 harg6 arg7 harg7 arg8 harg8 arg10 harg10 arg14 arg16 arg17 arg18 arg19 x4 x5 x6 x8))) 1 = (fun p e => 0 + outM (dmB (lg (x8 (ix3 0 1 0)))) (hB (lg (x8 (ix3 0 1 0)))) (itS (gF (lg (x8 (ix3 0 1 0)))) (wB (lg (x8 (ix3 0 1 0)))) (fun _ _ => 0) (fun n => mat (R := 256) x5 (1 - n)) (fun n => mat (R := 256) x6 (1 - n)) 0) (mat (R := 256) x4 1) (mat (R := 256) x5 1) (mat (R := 256) x6 1) p e + outM (dmF (lg (x8 (ix3 0 0 0)))) (hF (lg (x8 (ix3 0 0 0)))) (itS (gF (lg (x8 (ix3 0 0 0)))) (wF (lg (x8 (ix3 0 0 0)))) (fun _ _ => 0) (fun n => mat (R := 256) x5 n) (fun n => mat (R := 256) x6 n) 1) (mat (R := 256) x4 1) (mat (R := 256) x5 1) (mat (R := 256) x6 1) p e) := by
  unfold kernelRun0_A.sl.HS2_4 kernelRun0_A.sl.r_27
  rw [mat_writes (R := 256) _ _ 1 ![128, 0] _ rfl _ _ 0 (by omega), mat_writes (R := 256) _ _ 1 ![128, 0] _ rfl _ _ 1 (by omega), if_neg (by decide), if_pos rfl]
  refine ⟨(ctx_2 c arg6 harg6 arg7 harg7 arg8 harg8 arg10 harg10 arg14 arg16 arg17 arg18 x4 x5 x6 x8).1, ?_⟩
  unfold kernelRun0_A.sl.r_20 kernelRun0_A.sl.r_23 kernelRun0_A.sl.r_11 kernelRun0_A.sl.v189 kernelRun0_A.sl.v119 kernelRun0_A.sl.v150 kernelRun0_A.sl.v251
  refine (pay55_eq _ _ _ _ _ _ _).trans ?_
  unfold View.readCov
  rw [flat_read_wide _ _ 1 ![128, 0] _ rfl, unslab_read _ _ 0 ![0, 0, 0] _ rfl, unslab_read _ _ 0 ![0, 0, 0] _ rfl, unslab_read _ _ 0 ![0, 0, 0] _ rfl, (ctx_2 c arg6 harg6 arg7 harg7 arg8 harg8 arg10 harg10 arg14 arg16 arg17 arg18 x4 x5 x6 x8).2, (state_2 c arg7 harg7 arg8 harg8 arg10 harg10 arg14 arg19 x5 x6 x8).1, mask_slab0, query_slab0]
  unfold kernelRun0_A.sl.r_12
  rw [flat_read _ _ 1 ![128, 0] _ rfl, flat_read _ _ 1 ![128, 0] _ rfl, flat_read _ _ 1 ![128, 0] _ rfl, harg6.read_unread, harg7.read_unread, harg8.read_unread]

/-- The context's output after the second backward step. -/
theorem ctx_4 : mat (R := 256) (arg16.view.read (Elt Ideal) (arg16.view.writes (Elt Ideal) arg16.view.junk (kernelRun0_A.sl.HS2_5 (F := Ideal) c arg6 harg6 arg7 harg7 arg8 harg8 arg10 harg10 arg14 arg16 arg17 arg18 arg19 x4 x5 x6 x8))) 0 = (fun p e => 0 + outM (dmF (lg (x8 (ix3 0 0 0)))) (hF (lg (x8 (ix3 0 0 0)))) (itS (gF (lg (x8 (ix3 0 0 0)))) (wF (lg (x8 (ix3 0 0 0)))) (fun _ _ => 0) (fun n => mat (R := 256) x5 n) (fun n => mat (R := 256) x6 n) 0) (mat (R := 256) x4 0) (mat (R := 256) x5 0) (mat (R := 256) x6 0) p e + outM (dmB (lg (x8 (ix3 0 1 0)))) (hB (lg (x8 (ix3 0 1 0)))) (itS (gF (lg (x8 (ix3 0 1 0)))) (wB (lg (x8 (ix3 0 1 0)))) (fun _ _ => 0) (fun n => mat (R := 256) x5 (1 - n)) (fun n => mat (R := 256) x6 (1 - n)) 1) (mat (R := 256) x4 0) (mat (R := 256) x5 0) (mat (R := 256) x6 0) p e) ∧ mat (R := 256) (arg16.view.read (Elt Ideal) (arg16.view.writes (Elt Ideal) arg16.view.junk (kernelRun0_A.sl.HS2_5 (F := Ideal) c arg6 harg6 arg7 harg7 arg8 harg8 arg10 harg10 arg14 arg16 arg17 arg18 arg19 x4 x5 x6 x8))) 1 = (fun p e => 0 + outM (dmB (lg (x8 (ix3 0 1 0)))) (hB (lg (x8 (ix3 0 1 0)))) (itS (gF (lg (x8 (ix3 0 1 0)))) (wB (lg (x8 (ix3 0 1 0)))) (fun _ _ => 0) (fun n => mat (R := 256) x5 (1 - n)) (fun n => mat (R := 256) x6 (1 - n)) 0) (mat (R := 256) x4 1) (mat (R := 256) x5 1) (mat (R := 256) x6 1) p e + outM (dmF (lg (x8 (ix3 0 0 0)))) (hF (lg (x8 (ix3 0 0 0)))) (itS (gF (lg (x8 (ix3 0 0 0)))) (wF (lg (x8 (ix3 0 0 0)))) (fun _ _ => 0) (fun n => mat (R := 256) x5 n) (fun n => mat (R := 256) x6 n) 1) (mat (R := 256) x4 1) (mat (R := 256) x5 1) (mat (R := 256) x6 1) p e) := by
  unfold kernelRun0_A.sl.HS2_5
  rw [mat_writes (R := 256) _ _ 0 ![0, 0] _ rfl _ _ 0 (by omega), mat_writes (R := 256) _ _ 0 ![0, 0] _ rfl _ _ 1 (by omega), if_pos rfl, if_neg (by decide)]
  refine ⟨?_, (ctx_3 c arg6 harg6 arg7 harg7 arg8 harg8 arg10 harg10 arg14 arg16 arg17 arg18 arg19 x4 x5 x6 x8).2⟩
  unfold kernelRun0_A.sl.r_24 kernelRun0_A.sl.r_26 kernelRun0_A.sl.r_22 kernelRun0_A.sl.v199 kernelRun0_A.sl.v126 kernelRun0_A.sl.v161 kernelRun0_A.sl.v259
  refine (pay56_eq _ _ _ _ _ _ _).trans ?_
  unfold View.readCov
  rw [flat_read_wide _ _ 0 ![0, 0] _ rfl, unslab_read _ _ 1 ![1, 0, 0] _ rfl, unslab_read _ _ 1 ![1, 0, 0] _ rfl, unslab_read _ _ 1 ![1, 0, 0] _ rfl, (ctx_3 c arg6 harg6 arg7 harg7 arg8 harg8 arg10 harg10 arg14 arg16 arg17 arg18 arg19 x4 x5 x6 x8).1, (state_2 c arg7 harg7 arg8 harg8 arg10 harg10 arg14 arg19 x5 x6 x8).2, mask_slab1, query_slab1]
  unfold kernelRun0_A.sl.r_8
  rw [flat_read _ _ 0 ![0, 0] _ rfl, flat_read _ _ 0 ![0, 0] _ rfl, flat_read _ _ 0 ![0, 0] _ rfl, harg6.read_unread, harg7.read_unread, harg8.read_unread]

end start

end Cert.KernelIdeal.Gen

end
-- ==== Proof.Blocks.lean ====
module

public import proofs.«01_k».proof.Proof.Start

@[expose] public section

set_option maxRecDepth 16384

noncomputable section

/-! What the kernel writes at one grid point: for one head of one sequence, the two directions' outputs added, normalised and gated. -/

namespace Cert.Recur

open Idealize.ShloMosaic

/-- The chunks of a head in order: the context's two, then the sequence's sixteen. -/
def seqF (ctx : (⟨2, ![256, 128]⟩ : Shape).Idx → EReal) (lat : (⟨2, ![2048, 128]⟩ : Shape).Idx → EReal) (n : ℕ) : Mat :=
  if n < 2 then mat ctx n else mat lat (n - 2)

/-- The chunks as the backward direction takes them: the context's two from its end, then the sequence's sixteen from its end. -/
def seqB (ctx : (⟨2, ![256, 128]⟩ : Shape).Idx → EReal) (lat : (⟨2, ![2048, 128]⟩ : Shape).Idx → EReal) (n : ℕ) : Mat :=
  if n < 2 then mat ctx (1 - n) else mat lat (15 - (n - 2))

/-- The forward output of chunk `n`. -/
def chunkF (l : EReal) (q k v : ℕ → Mat) (n : ℕ) : Mat :=
  outM (dmF l) (hF l) (itS (gF l) (wF l) (fun _ _ => 0) k v n) (q n) (k n) (v n)

/-- The backward output of chunk `n`. -/
def chunkB (l : EReal) (q k v : ℕ → Mat) (n : ℕ) : Mat :=
  outM (dmB l) (hB l) (itS (gF l) (wB l) (fun _ _ => 0) k v n) (q n) (k n) (v n)

/-- The state depends only on the chunks taken. -/
theorem itS_congr (g : EReal) (w S : Mat) (k v k' v' : ℕ → Mat) (n : ℕ) (hk : ∀ j, j < n → k j = k' j) (hv : ∀ j, j < n → v j = v' j) :
    itS g w S k v n = itS g w S k' v' n := by
  induction n with
  | zero => rfl
  | succ n ih =>
    show nextS g w (itS g w S k v n) (k n) (v n) = nextS g w (itS g w S k' v' n) (k' n) (v' n)
    rw [ih (fun j h => hk j (by omega)) (fun j h => hv j (by omega)), hk n (by omega), hv n (by omega)]

/-- Taking `n` chunks after `a` is taking `a + n`. -/
theorem itS_after (g : EReal) (w S : Mat) (k v : ℕ → Mat) (a n : ℕ) :
    itS g w (itS g w S k v a) (fun j => k (j + a)) (fun j => v (j + a)) n = itS g w S k v (n + a) := by
  induction n with
  | zero => rw [Nat.zero_add]; rfl
  | succ n ih =>
    have h : n + 1 + a = (n + a) + 1 := by omega
    rw [h]
    show nextS g w _ _ _ = nextS g w _ _ _
    rw [ih]

/-- The forward state after the context and `n` chunks of the sequence. -/
theorem itS_seqF (g : EReal) (w S : Mat) (kc vc : (⟨2, ![256, 128]⟩ : Shape).Idx → EReal) (kl vl : (⟨2, ![2048, 128]⟩ : Shape).Idx → EReal) (n : ℕ) :
    itS g w (itS g w S (fun j => mat kc j) (fun j => mat vc j) 2) (fun j => mat kl j) (fun j => mat vl j) n
      = itS g w S (seqF kc kl) (seqF vc vl) (n + 2) := by
  rw [← itS_after g w S (seqF kc kl) (seqF vc vl) 2 n]
  rw [itS_congr g w S (seqF kc kl) (seqF vc vl) (fun j => mat kc j) (fun j => mat vc j) 2
    (fun j h => if_pos h) (fun j h => if_pos h)]
  exact itS_congr _ _ _ _ _ _ _ _ (fun j _ => (if_neg (by omega)).symm) (fun j _ => (if_neg (by omega)).symm)

/-- The backward state after the context and `n` chunks of the sequence. -/
theorem itS_seqB (g : EReal) (w S : Mat) (kc vc : (⟨2, ![256, 128]⟩ : Shape).Idx → EReal) (kl vl : (⟨2, ![2048, 128]⟩ : Shape).Idx → EReal) (n : ℕ) :
    itS g w (itS g w S (fun j => mat kc (1 - j)) (fun j => mat vc (1 - j)) 2) (fun j => mat kl (15 - j)) (fun j => mat vl (15 - j)) n
      = itS g w S (seqB kc kl) (seqB vc vl) (n + 2) := by
  rw [← itS_after g w S (seqB kc kl) (seqB vc vl) 2 n]
  rw [itS_congr g w S (seqB kc kl) (seqB vc vl) (fun j => mat kc (1 - j)) (fun j => mat vc (1 - j)) 2
    (fun j h => if_pos h) (fun j h => if_pos h)]
  exact itS_congr _ _ _ _ _ _ _ _ (fun j _ => (if_neg (by omega)).symm) (fun j _ => (if_neg (by omega)).symm)

section spec

variable (lf lb : EReal) (ql kl vl : (⟨2, ![2048, 128]⟩ : Shape).Idx → EReal) (qc kc vc : (⟨2, ![256, 128]⟩ : Shape).Idx → EReal)

/-- A chunk of the sequence, both directions. -/
def latO (n : ℕ) : Mat := fun p e =>
  chunkF lf (seqF qc ql) (seqF kc kl) (seqF vc vl) (n + 2) p e + chunkB lb (seqB qc ql) (seqB kc kl) (seqB vc vl) (15 - n + 2) p e

/-- A chunk of the context, both directions. -/
def ctxO (n : ℕ) : Mat := fun p e =>
  chunkF lf (seqF qc ql) (seqF kc kl) (seqF vc vl) n p e + chunkB lb (seqB qc ql) (seqB kc kl) (seqB vc vl) (1 - n) p e

end spec

/-- A head's block of the sequence: the queries, keys or values (`j`) of sequence `b` for head `h`. -/
def latBlk (a : (⟨2, ![16384, 2560]⟩ : Shape).Idx → EReal) (j : Fin 5) (b : Fin 8) (h : Fin 4) : (⟨2, ![2048, 128]⟩ : Shape).Idx → EReal :=
  fun y => a (ix2 ⟨b.val * 2048 + (y 0).val, by have := b.isLt; have h0 : (y 0).val < 2048 := (y 0).isLt; omega⟩
    ⟨(j.val * 4 + h.val) * 128 + (y 1).val, by have := j.isLt; have := h.isLt; have h1 : (y 1).val < 128 := (y 1).isLt; omega⟩)

/-- A head's block of the context. -/
def ctxBlk (a : (⟨2, ![2048, 2560]⟩ : Shape).Idx → EReal) (j : Fin 5) (b : Fin 8) (h : Fin 4) : (⟨2, ![256, 128]⟩ : Shape).Idx → EReal :=
  fun y => a (ix2 ⟨b.val * 256 + (y 0).val, by have := b.isLt; have h0 : (y 0).val < 256 := (y 0).isLt; omega⟩
    ⟨(j.val * 4 + h.val) * 128 + (y 1).val, by have := j.isLt; have := h.isLt; have h1 : (y 1).val < 128 := (y 1).isLt; omega⟩)

section results

variable (a0 : (⟨2, ![16384, 2560]⟩ : Shape).Idx → EReal) (a1 : (⟨2, ![2048, 2560]⟩ : Shape).Idx → EReal)
  (a2 : (⟨2, ![2, 4]⟩ : Shape).Idx → EReal) (a3 : (⟨1, ![512]⟩ : Shape).Idx → EReal)

/-- The sequence's result at row `r` of sequence `b` and column `d` of head `h`. -/
def latAt (b : Fin 8) (h : Fin 4) (r : Fin 2048) (d : Fin 128) : EReal :=
  gnGate (fun e => latO (lg (a2 (ix2 0 h))) (lg (a2 (ix2 1 h))) (latBlk a0 0 b h) (latBlk a0 1 b h) (latBlk a0 2 b h)
      (ctxBlk a1 0 b h) (ctxBlk a1 1 b h) (ctxBlk a1 2 b h) (r.val / 128) ⟨r.val % 128, Nat.mod_lt _ (by omega)⟩ e)
    (a3 (ix1 ⟨h.val * 128 + d.val, by have := h.isLt; have := d.isLt; omega⟩)) (latBlk a0 3 b h (ix2 r d)) d

/-- The context's result at row `r` of sequence `b` and column `d` of head `h`. -/
def ctxAt (b : Fin 8) (h : Fin 4) (r : Fin 256) (d : Fin 128) : EReal :=
  gnGate (fun e => ctxO (lg (a2 (ix2 0 h))) (lg (a2 (ix2 1 h))) (latBlk a0 0 b h) (latBlk a0 1 b h) (latBlk a0 2 b h)
      (ctxBlk a1 0 b h) (ctxBlk a1 1 b h) (ctxBlk a1 2 b h) (r.val / 128) ⟨r.val % 128, Nat.mod_lt _ (by omega)⟩ e)
    (a3 (ix1 ⟨h.val * 128 + d.val, by have := h.isLt; have := d.isLt; omega⟩)) (ctxBlk a1 3 b h (ix2 r d)) d

/-- The sequence's result. -/
def retLat : (⟨2, ![16384, 512]⟩ : Shape).Idx → EReal := fun y =>
  latAt a0 a1 a2 a3 ⟨(y 0).val / 2048, by have h0 : (y 0).val < 16384 := (y 0).isLt; omega⟩
    ⟨(y 1).val / 128, by have h1 : (y 1).val < 512 := (y 1).isLt; omega⟩ ⟨(y 0).val % 2048, Nat.mod_lt _ (by omega)⟩ ⟨(y 1).val % 128, Nat.mod_lt _ (by omega)⟩

/-- The context's result. -/
def retCtx : (⟨2, ![2048, 512]⟩ : Shape).Idx → EReal := fun y =>
  ctxAt a0 a1 a2 a3 ⟨(y 0).val / 256, by have h0 : (y 0).val < 2048 := (y 0).isLt; omega⟩
    ⟨(y 1).val / 128, by have h1 : (y 1).val < 512 := (y 1).isLt; omega⟩ ⟨(y 0).val % 256, Nat.mod_lt _ (by omega)⟩ ⟨(y 1).val % 128, Nat.mod_lt _ (by omega)⟩

end results

end Cert.Recur

namespace Cert.KernelIdeal.Gen

open Idealize.ShloMosaic Idealize.ShloMosaic.TcCoe Idealize.SL.Sem Cert.Recur

variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S1x2x1 .f32) (harg10 : arg10.IsWhole) (arg11 : Memref sig .tc .vmem S1x1x128 .f32) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S2x128x128 .f32) (harg14 : arg14.IsWhole) (arg15 : Memref sig .tc .vmem S2048x128 .f32) (harg15 : arg15.IsWhole) (arg16 : Memref sig .tc .vmem S256x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S2x128x128 .f32) (harg19 : arg19.IsWhole)
variable (x0 x1 x2 x3 : Vec Ideal S2048x128 .bf16) (x4 x5 x6 x7 : Vec Ideal S256x128 .bf16) (x8 : Vec Ideal S1x2x1 .f32) (x9 : Vec Ideal S1x1x128 .f32)

/-- The block of the sequence's output: each row's two outputs added, normalised and gated. -/
theorem out10_apply (r : Fin 2048) (d : Fin 128) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 (ix2 r d)
      = gnGate (fun e => latO (lg (x8 (ix3 0 0 0))) (lg (x8 (ix3 0 1 0))) x0 x1 x2 x4 x5 x6 (r.val / 128) ⟨r.val % 128, Nat.mod_lt _ (by omega)⟩ e) (x9 (ix3 0 0 d)) (x3 (ix2 r d)) d := by
  have h8 : Scf.trips 0#32 (Scalar.addi 0#32 8#32) 1#32 = 8 := by decide +kernel
  have h16 : Scf.trips 0#32 (Scalar.addi 0#32 16#32) 1#32 = 16 := by decide +kernel
  have hn : r.val / 128 < 16 := by have := r.isLt; omega
  unfold out0_A_10
  rw [View.read_writes_of_cover VO0_10 _ arg12.view arg12.view.junk _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9)]
  unfold kernelRun0_A
  dsimp only
  rw [h8, loop_rows _ _ _ _ _ _ _ _ _ _ _ _ _ _ _ _ _ _ _ _ _ _ _ _ _ _ _ _ _ _ _ _ _ _ _ _ _ _ _ _ _ _ _ _ r d 8 le_rfl, if_pos (by have := r.isLt; omega), harg11.read_unread, harg5.read_unread]
  congr 1
  funext e
  have hr : ∀ Y : S2048x128.Idx → EReal, Y (ix2 r e) = mat (R := 2048) Y (r.val / 128) ⟨r.val % 128, Nat.mod_lt _ (by omega)⟩ e := by
    intro Y
    have h : 128 * (r.val / 128) + r.val % 128 = r.val := by omega
    unfold mat
    rw [dif_pos (by show 128 * (r.val / 128) + r.val % 128 < 2048; have := r.isLt; omega)]
    congr 2
    exact Fin.ext h.symm
  refine (hr _).trans ?_
  rw [View.writes_append, h16]
  refine (congrFun (congrFun ((loop_chunks Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_2 (F := Ideal) c arg10 harg10 x8) (kernelRun0_A.sl.r_5 (F := Ideal) c arg10 harg10 x8) _ _ _ _
    (harg2.unread x0) (harg3.unread x1) (harg4.unread x2)
    (arg17.view.writes (Elt Ideal) arg17.view.junk (kernelRun0_A.sl.HS3_2 (F := Ideal) c arg10 harg10 x8)) (arg18.view.writes (Elt Ideal) arg18.view.junk (kernelRun0_A.sl.HS4_2 (F := Ideal) c arg10 harg10 x8)) (arg19.view.writes (Elt Ideal) arg19.view.junk (kernelRun0_A.sl.HS5_2 (F := Ideal) c arg10 harg10 x8))
    (arg14.view.writes (Elt Ideal) arg14.view.junk (kernelRun0_A.sl.HS0_5 (F := Ideal) c arg7 harg7 arg8 harg8 arg10 harg10 arg14 arg19 x5 x6 x8)) (arg15.view.writes (Elt Ideal) arg15.view.junk (kernelRun0_A.sl.HS1_1 (F := Ideal))) 16 le_rfl).2.2 (r.val / 128) hn) _) _).trans ?_
  have hz : mat (R := 2048) (arg15.view.read (Elt Ideal) (arg15.view.writes (Elt Ideal) arg15.view.junk (kernelRun0_A.sl.HS1_1 (F := Ideal)))) (r.val / 128) = (fun _ _ => 0) := by
    funext p e
    unfold mat kernelRun0_A.sl.HS1_1
    split
    · refine (View.read_writes_cons_unit_of_mem arg15.view _ inb_S2048x128_S2048x128_0_0 _ [] _ (ix2 _ e) rfl
        (by intro x; match x with | 0 => exact (Nat.zero_add _).symm | 1 => exact (Nat.zero_add _).symm)).trans ?_
      pointwise [k0_pay31]
    · rfl
  rw [if_pos hn, if_pos (by omega), hz, zero_add, mask_slab0, mask_slab1, query_slab0, query_slab1, key_slab0, key_slab1, chunk_fwd, chunk_bwd,
    (state_4 c arg7 harg7 arg8 harg8 arg10 harg10 arg14 arg19 x5 x6 x8).1, (state_4 c arg7 harg7 arg8 harg8 arg10 harg10 arg14 arg19 x5 x6 x8).2, harg2.read_unread, harg3.read_unread, harg4.read_unread, itS_seqF, itS_seqB]
  unfold latO chunkF chunkB
  have h1 : ∀ (a : S256x128.Idx → EReal) (b : S2048x128.Idx → EReal), mat (R := 2048) b (r.val / 128) = seqF a b (r.val / 128 + 2) := by
    intro a b; unfold seqF; rw [if_neg (by omega)]; rfl
  have h2 : ∀ (a : S256x128.Idx → EReal) (b : S2048x128.Idx → EReal), mat (R := 2048) b (r.val / 128) = seqB a b (15 - r.val / 128 + 2) := by
    intro a b; unfold seqB; rw [if_neg (by omega)]; congr 1; omega
  rw [← h1, ← h1, ← h1, ← h2, ← h2, ← h2]

/-- The block of the context's output. -/
theorem out11_apply (r : Fin 256) (d : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 (ix2 r d)
      = gnGate (fun e => ctxO (lg (x8 (ix3 0 0 0))) (lg (x8 (ix3 0 1 0))) x0 x1 x2 x4 x5 x6 (r.val / 128) ⟨r.val % 128, Nat.mod_lt _ (by omega)⟩ e) (x9 (ix3 0 0 d)) (x7 (ix2 r d)) d := by
  have ho : k0_off3 = ![0, 0] := by decide +kernel
  have hn : r.val / 128 < 2 := by have := r.isLt; omega
  unfold out0_A_11
  unfold kernelRun0_A
  dsimp only
  unfold kernelRun0_A.sl.H11_1
  refine (View.read_writes_cons_unit_of_mem VO0_11 _ k0_off3_inb _ [] _ (ix2 r d) ho
    (by intro x; match x with | 0 => exact (Nat.zero_add _).symm | 1 => exact (Nat.zero_add _).symm)).trans ?_
  unfold kernelRun0_A.sl.r_28
  refine (pay1_eq _ _ _ r d).trans ?_
  have hg : arg11.view.readAt (Elt Ideal) (Rect.unit (s := S1x1x128) ![0, 0, 0] S1x1x128.size inb_S1x1x128_S1x1x128_0_0_0).toLoadRect (harg11.unread x9) = x9 := by
    have hz : (![0, 0, 0] : Fin 3 → ℕ) = fun _ => 0 := by decide
    rw [View.readAt_eq_ld, harg11.read_unread]
    exact View.ld_unit_zero hz _ _
  have hz2 : k0_off3 = fun _ => 0 := by rw [ho]; decide
  have hc : arg9.view.readAt (Elt Ideal) (Rect.unit (s := S256x128) k0_off3 S256x128.size k0_off3_inb).toLoadRect (harg9.unread x7) = x7 := by
    rw [View.readAt_eq_ld, harg9.read_unread]
    exact View.ld_unit_zero hz2 _ _
  rw [hg, hc]
  congr 1
  funext e
  have hr : ∀ Y : S256x128.Idx → EReal, Y (ix2 r e) = mat (R := 256) Y (r.val / 128) ⟨r.val % 128, Nat.mod_lt _ (by omega)⟩ e := by
    intro Y
    have h : 128 * (r.val / 128) + r.val % 128 = r.val := by omega
    unfold mat
    rw [dif_pos (by show 128 * (r.val / 128) + r.val % 128 < 256; have := r.isLt; omega)]
    congr 2
    exact Fin.ext h.symm
  have hv : kernelRun0_A.sl.v270 (F := Ideal) c arg6 harg6 arg7 harg7 arg8 harg8 arg10 harg10 arg14 arg16 arg17 arg18 arg19 x4 x5 x6 x8 = arg16.view.read (Elt Ideal) (arg16.view.writes (Elt Ideal) arg16.view.junk (kernelRun0_A.sl.HS2_5 (F := Ideal) c arg6 harg6 arg7 harg7 arg8 harg8 arg10 harg10 arg14 arg16 arg17 arg18 arg19 x4 x5 x6 x8)) := by
    unfold kernelRun0_A.sl.v270 View.readCov
    rw [View.readAt_eq_ld]
    exact View.ld_unit_zero hz2 _ _
  rw [hv]
  refine (hr _).trans ?_
  unfold ctxO chunkF chunkB
  have h01 : r.val / 128 = 0 ∨ r.val / 128 = 1 := by omega
  rcases h01 with h | h
  · rw [h, (ctx_4 c arg6 harg6 arg7 harg7 arg8 harg8 arg10 harg10 arg14 arg16 arg17 arg18 arg19 x4 x5 x6 x8).1]
    show 0 + _ + _ = _
    rw [zero_add]
    rfl
  · rw [h, (ctx_4 c arg6 harg6 arg7 harg7 arg8 harg8 arg10 harg10 arg14 arg16 arg17 arg18 arg19 x4 x5 x6 x8).2]
    show 0 + _ + _ = _
    rw [zero_add, add_comm]
    rfl

end Cert.KernelIdeal.Gen

end
-- ==== Proof.KernelValue.lean ====
module

public import proofs.«01_k».proof.Proof.Blocks
public import proofs.«01_k».proof.Proof.Gen.KernelIdeal.Value
public import Idealize.ShloMosaic.Lib.Claim

@[expose] public section

set_option maxRecDepth 16384

noncomputable section

/-! What the kernel's run leaves in its two results: the retention of every head of every sequence. -/

namespace Cert.KernelIdeal.Gen

open Idealize.ShloMosaic Idealize.ShloMosaic.TcCoe Idealize.SL.Sem Cert.Recur

/-- The sequence a grid point works on. -/
def seqOf (t : Fin cfg0.N) : Fin 8 := ⟨t.val / 4, by have h : t.val < 32 := Nat.lt_of_lt_of_eq t.isLt N_0; omega⟩

/-- The head a grid point works on. -/
def headOf (t : Fin cfg0.N) : Fin 4 := ⟨t.val % 4, Nat.mod_lt _ (by omega)⟩

/-- The four windows of the sequence are at the point's rows, each in its own columns. -/
theorem lat_index : ∀ t : Fin cfg0.N, win0_0.index t = ![t.val / 4, 0 * 4 + t.val % 4] ∧ win0_1.index t = ![t.val / 4, 1 * 4 + t.val % 4]
    ∧ win0_2.index t = ![t.val / 4, 2 * 4 + t.val % 4] ∧ win0_3.index t = ![t.val / 4, 3 * 4 + t.val % 4] :=
  (by decide +kernel : ∀ t : Fin grid0.N, _)

/-- A window at the point's rows and columns reads the head's block. -/
theorem latBlk_of (a : (⟨2, ![16384, 2560]⟩ : Shape).Idx → EReal) (j : Fin 5) (b : Fin 8) (h : Fin 4) (ix : Fin 2 → ℕ)
    (hix : ix = ![b.val, j.val * 4 + h.val]) (f : (⟨2, ![2048, 128]⟩ : Shape).Idx → (⟨2, ![16384, 2560]⟩ : Shape).Idx)
    (hf : ∀ y x, (f y x).val = ix x * (![2048, 128] : Fin 2 → ℕ) x + 1 * (y x).val) : (fun y => a (f y)) = latBlk a j b h := by
  subst hix
  funext y
  unfold latBlk
  congr 1
  funext x
  apply Fin.ext
  rw [hf]
  match x with
  | ⟨0, _⟩ => show b.val * 2048 + 1 * (y 0).val = b.val * 2048 + (y 0).val; omega
  | ⟨1, _⟩ => show (j.val * 4 + h.val) * 128 + 1 * (y 1).val = (j.val * 4 + h.val) * 128 + (y 1).val; omega

/-- The four windows of the context are at the point's rows, each in its own columns. -/
theorem ctx_index : ∀ t : Fin cfg0.N, win0_4.index t = ![t.val / 4, 0 * 4 + t.val % 4] ∧ win0_5.index t = ![t.val / 4, 1 * 4 + t.val % 4]
    ∧ win0_6.index t = ![t.val / 4, 2 * 4 + t.val % 4] ∧ win0_7.index t = ![t.val / 4, 3 * 4 + t.val % 4] :=
  (by decide +kernel : ∀ t : Fin grid0.N, _)

/-- A window at the point's rows and columns reads the head's block. -/
theorem ctxBlk_of (a : (⟨2, ![2048, 2560]⟩ : Shape).Idx → EReal) (j : Fin 5) (b : Fin 8) (h : Fin 4) (ix : Fin 2 → ℕ)
    (hix : ix = ![b.val, j.val * 4 + h.val]) (f : (⟨2, ![256, 128]⟩ : Shape).Idx → (⟨2, ![2048, 2560]⟩ : Shape).Idx)
    (hf : ∀ y x, (f y x).val = ix x * (![256, 128] : Fin 2 → ℕ) x + 1 * (y x).val) : (fun y => a (f y)) = ctxBlk a j b h := by
  subst hix
  funext y
  unfold ctxBlk
  congr 1
  funext x
  apply Fin.ext
  rw [hf]
  match x with
  | ⟨0, _⟩ => show b.val * 256 + 1 * (y 0).val = b.val * 256 + (y 0).val; omega
  | ⟨1, _⟩ => show (j.val * 4 + h.val) * 128 + 1 * (y 1).val = (j.val * 4 + h.val) * 128 + (y 1).val; omega

section run

variable (m : (ℓ : Loc nD τ sig) → Buf (Elt Ideal) ℓ) (ρ : Dev nD → PrngReg) (c : Dev nD) (t : Fin cfg0.N)

/-- Window 0 reads the sequence's queries. -/
theorem iblk_lat0 : (iblk m c 0 t : Vec Ideal S2048x128 .bf16) = latBlk (m (c.tc.loc main_arg0)) 0 (seqOf t) (headOf t) := by
  have h := (lat_index t).1
  rw [← V_main_arg0 m c]
  exact latBlk_of _ _ _ _ _ h _ (fun y x => match x with | ⟨0, _⟩ => rfl | ⟨1, _⟩ => rfl)

/-- Window 1 reads the sequence's keys. -/
theorem iblk_lat1 : (iblk m c 1 t : Vec Ideal S2048x128 .bf16) = latBlk (m (c.tc.loc main_arg0)) 1 (seqOf t) (headOf t) := by
  have h := (lat_index t).2.1
  rw [← V_main_arg0 m c]
  exact latBlk_of _ _ _ _ _ h _ (fun y x => match x with | ⟨0, _⟩ => rfl | ⟨1, _⟩ => rfl)

/-- Window 2 reads the sequence's values. -/
theorem iblk_lat2 : (iblk m c 2 t : Vec Ideal S2048x128 .bf16) = latBlk (m (c.tc.loc main_arg0)) 2 (seqOf t) (headOf t) := by
  have h := (lat_index t).2.2.1
  rw [← V_main_arg0 m c]
  exact latBlk_of _ _ _ _ _ h _ (fun y x => match x with | ⟨0, _⟩ => rfl | ⟨1, _⟩ => rfl)

/-- Window 3 reads the sequence's gates. -/
theorem iblk_lat3 : (iblk m c 3 t : Vec Ideal S2048x128 .bf16) = latBlk (m (c.tc.loc main_arg0)) 3 (seqOf t) (headOf t) := by
  have h := (lat_index t).2.2.2
  rw [← V_main_arg0 m c]
  exact latBlk_of _ _ _ _ _ h _ (fun y x => match x with | ⟨0, _⟩ => rfl | ⟨1, _⟩ => rfl)

/-- Window 4 reads the context's queries. -/
theorem iblk_ctx0 : (iblk m c 4 t : Vec Ideal S256x128 .bf16) = ctxBlk (m (c.tc.loc main_arg1)) 0 (seqOf t) (headOf t) := by
  have h := (ctx_index t).1
  rw [← V_main_arg1 m c]
  exact ctxBlk_of _ _ _ _ _ h _ (fun y x => match x with | ⟨0, _⟩ => rfl | ⟨1, _⟩ => rfl)

/-- Window 5 reads the context's keys. -/
theorem iblk_ctx1 : (iblk m c 5 t : Vec Ideal S256x128 .bf16) = ctxBlk (m (c.tc.loc main_arg1)) 1 (seqOf t) (headOf t) := by
  have h := (ctx_index t).2.1
  rw [← V_main_arg1 m c]
  exact ctxBlk_of _ _ _ _ _ h _ (fun y x => match x with | ⟨0, _⟩ => rfl | ⟨1, _⟩ => rfl)

/-- Window 6 reads the context's values. -/
theorem iblk_ctx2 : (iblk m c 6 t : Vec Ideal S256x128 .bf16) = ctxBlk (m (c.tc.loc main_arg1)) 2 (seqOf t) (headOf t) := by
  have h := (ctx_index t).2.2.1
  rw [← V_main_arg1 m c]
  exact ctxBlk_of _ _ _ _ _ h _ (fun y x => match x with | ⟨0, _⟩ => rfl | ⟨1, _⟩ => rfl)

/-- Window 7 reads the context's gates. -/
theorem iblk_ctx3 : (iblk m c 7 t : Vec Ideal S256x128 .bf16) = ctxBlk (m (c.tc.loc main_arg1)) 3 (seqOf t) (headOf t) := by
  have h := (ctx_index t).2.2.2
  rw [← V_main_arg1 m c]
  exact ctxBlk_of _ _ _ _ _ h _ (fun y x => match x with | ⟨0, _⟩ => rfl | ⟨1, _⟩ => rfl)

/-- Windows 8 and 9 are at the point's head. -/
theorem head_index : ∀ t : Fin cfg0.N, win0_8.index t = ![t.val % 4, 0, 0] ∧ win0_9.index t = ![t.val % 4, 0, 0] :=
  (by decide +kernel : ∀ t : Fin grid0.N, _)

/-- Window 8 reads the head's decay logit for each direction. -/
theorem iblk_logit (d : Fin 2) : (iblk m c 8 t : Vec Ideal S1x2x1 .f32) (ix3 0 d 0) = m (c.tc.loc main_arg2) (ix2 d (headOf t)) := by
  have h := (head_index t).1
  unfold iblk
  rw [View.read_apply]
  have he : (((cfg0.win 8).blk t).view.emb (ix3 0 d 0) : S4x2x1.Idx) = ix3 (headOf t) d 0 := by
    funext x
    apply Fin.ext
    match x with
    | ⟨0, _⟩ => show win0_8.index t 0 * 1 + 1 * 0 = t.val % 4; rw [h]; show t.val % 4 * 1 + 1 * 0 = t.val % 4; omega
    | ⟨1, _⟩ => show win0_8.index t 1 * 2 + 1 * d.val = d.val; rw [h]; show 0 * 2 + 1 * d.val = d.val; omega
    | ⟨2, _⟩ => show win0_8.index t 2 * 1 + 1 * 0 = 0; rw [h]; rfl
  refine (congrArg (V m c main_v1) he).trans ?_
  entry_read
  pointwise

/-- Window 9 reads the head's weights. -/
theorem iblk_weight (d : Fin 128) : (iblk m c 9 t : Vec Ideal S1x1x128 .f32) (ix3 0 0 d)
    = m (c.tc.loc main_arg3) (ix1 ⟨(headOf t).val * 128 + d.val, by have := (headOf t).isLt; have := d.isLt; omega⟩) := by
  have h := (head_index t).2
  unfold iblk
  rw [View.read_apply]
  have he : (((cfg0.win 9).blk t).view.emb (ix3 0 0 d) : S4x1x128.Idx) = ix3 (headOf t) 0 d := by
    funext x
    apply Fin.ext
    match x with
    | ⟨0, _⟩ => show win0_9.index t 0 * 1 + 1 * 0 = t.val % 4; rw [h]; show t.val % 4 * 1 + 1 * 0 = t.val % 4; omega
    | ⟨1, _⟩ => show win0_9.index t 1 * 1 + 1 * 0 = 0; rw [h]; rfl
    | ⟨2, _⟩ => show win0_9.index t 2 * 128 + 1 * d.val = d.val; rw [h]; show 0 * 128 + 1 * d.val = d.val; omega
  refine (congrArg (V m c main_v2) he).trans ?_
  entry_read
  pointwise

/-- The blocks of result 0 are at the point's rows and columns. -/
theorem lat_out_index : ∀ t : Fin cfg0.N, win0_10.index t = ![t.val / 4, t.val % 4] :=
  (by decide +kernel : ∀ t : Fin grid0.N, _)

/-- What a grid point computes for result 0, at an index. -/
theorem point_lat (r : Fin 2048) (d : Fin 128) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (ix2 r d)
      = latAt (m (c.tc.loc main_arg0)) (m (c.tc.loc main_arg1)) (m (c.tc.loc main_arg2)) (m (c.tc.loc main_arg3)) (seqOf t) (headOf t) r d := by
  rw [out10_apply, iblk_logit, iblk_logit, iblk_weight, iblk_lat0, iblk_lat1, iblk_lat2, iblk_ctx0, iblk_ctx1, iblk_ctx2, iblk_lat3]
  rfl

/-- What a grid point writes back to result 0 is its block of the retention. -/
theorem flushed_lat (t : Fin cfg0.N) : (dats m 0 c).flushed 10 t = ((cfg0.win 10).blk t).view.read (Elt Ideal) (retLat (m (c.tc.loc main_arg0)) (m (c.tc.loc main_arg1)) (m (c.tc.loc main_arg2)) (m (c.tc.loc main_arg3))) := by
  rw [Value.flushed10_A]
  funext y
  have hi := lat_out_index t
  have h0 : (y 0).val < 2048 := (y 0).isLt
  have h1 : (y 1).val < 128 := (y 1).isLt
  have ht : t.val < 32 := Nat.lt_of_lt_of_eq t.isLt N_0
  have hy : (y : S2048x128.Idx) = ix2 (⟨(y 0).val, h0⟩ : Fin 2048) (⟨(y 1).val, h1⟩ : Fin 128) := by
    funext x
    match x with
    | ⟨0, _⟩ => rfl
    | ⟨1, _⟩ => rfl
  refine (congrArg (_ : S2048x128.Idx → EReal) hy).trans ?_
  refine (point_lat m c t ⟨(y 0).val, h0⟩ ⟨(y 1).val, h1⟩).trans ?_
  rw [View.read_apply]
  have he : (((cfg0.win 10).blk t).view.emb y : S16384x512.Idx)
      = ix2 ⟨(seqOf t).val * 2048 + (y 0).val, by show t.val / 4 * 2048 + (y 0).val < 16384; omega⟩ ⟨(headOf t).val * 128 + (y 1).val, by show t.val % 4 * 128 + (y 1).val < 512; omega⟩ := by
    funext x
    apply Fin.ext
    match x with
    | ⟨0, _⟩ => show win0_10.index t 0 * 2048 + 1 * (y 0).val = t.val / 4 * 2048 + (y 0).val; rw [hi]; show t.val / 4 * 2048 + 1 * (y 0).val = _; omega
    | ⟨1, _⟩ => show win0_10.index t 1 * 128 + 1 * (y 1).val = t.val % 4 * 128 + (y 1).val; rw [hi]; show t.val % 4 * 128 + 1 * (y 1).val = _; omega
  refine Eq.trans ?_ (congrArg (retLat (m (c.tc.loc main_arg0)) (m (c.tc.loc main_arg1)) (m (c.tc.loc main_arg2)) (m (c.tc.loc main_arg3))) he).symm
  show latAt _ _ _ _ (seqOf t) (headOf t) ⟨(y 0).val, h0⟩ ⟨(y 1).val, h1⟩ = latAt _ _ _ _ _ _ _ _
  congr 1
  · exact Fin.ext (by show (seqOf t).val = ((seqOf t).val * 2048 + (y 0).val) / 2048; omega)
  · exact Fin.ext (by show (headOf t).val = ((headOf t).val * 128 + (y 1).val) / 128; omega)
  · exact Fin.ext (by show (y 0).val = ((seqOf t).val * 2048 + (y 0).val) % 2048; omega)
  · exact Fin.ext (by show (y 1).val = ((headOf t).val * 128 + (y 1).val) % 128; omega)

/-- Every index of result 0 is in some point's block. -/
theorem cover_lat (i : S16384x512.Idx) : ∃ t : Fin cfg0.N, (cfg0.win 10).flush t = true ∧ i ∈ ((cfg0.win 10).blk t).view.set := by
  have h0 : (i 0).val < 16384 := (i 0).isLt
  have h1 : (i 1).val < 512 := (i 1).isLt
  have hN : cfg0.N = 32 := N_0
  have ht : (i 0).val / 2048 * 4 + (i 1).val / 128 < cfg0.N := by omega
  refine ⟨⟨(i 0).val / 2048 * 4 + (i 1).val / 128, ht⟩, flush0_10 _, ?_⟩
  show i ∈ ((View.whole main_v3_0).slice (win0_10.rect ⟨(i 0).val / 2048 * 4 + (i 1).val / 128, ht⟩)).set
  rw [View.set_slice_whole, Rect.mem_set_unit]
  have hi := lat_out_index ⟨(i 0).val / 2048 * 4 + (i 1).val / 128, ht⟩
  intro a
  match a with
  | ⟨0, _⟩ =>
    show win0_10.index _ 0 * 2048 ≤ (i 0).val ∧ (i 0).val < win0_10.index _ 0 * 2048 + 2048
    rw [hi]
    show ((i 0).val / 2048 * 4 + (i 1).val / 128) / 4 * 2048 ≤ (i 0).val ∧ (i 0).val < ((i 0).val / 2048 * 4 + (i 1).val / 128) / 4 * 2048 + 2048
    omega
  | ⟨1, _⟩ =>
    show win0_10.index _ 1 * 128 ≤ (i 1).val ∧ (i 1).val < win0_10.index _ 1 * 128 + 128
    rw [hi]
    show ((i 0).val / 2048 * 4 + (i 1).val / 128) % 4 * 128 ≤ (i 1).val ∧ (i 1).val < ((i 0).val / 2048 * 4 + (i 1).val / 128) % 4 * 128 + 128
    omega

/-- So result 0 ends holding the retention. -/
theorem final_lat : (dats m 0 c).arrAt 10 cfg0.N = retLat (m (c.tc.loc main_arg0)) (m (c.tc.loc main_arg1)) (m (c.tc.loc main_arg2)) (m (c.tc.loc main_arg3)) :=
  (dats m 0 c).arrAt_eq_of_cover 10 (retLat (m (c.tc.loc main_arg0)) (m (c.tc.loc main_arg1)) (m (c.tc.loc main_arg2)) (m (c.tc.loc main_arg3))) (fun t _ => flushed_lat m c t) cover_lat

/-- The blocks of result 1 are at the point's rows and columns. -/
theorem ctx_out_index : ∀ t : Fin cfg0.N, win0_11.index t = ![t.val / 4, t.val % 4] :=
  (by decide +kernel : ∀ t : Fin grid0.N, _)

/-- What a grid point computes for result 1, at an index. -/
theorem point_ctx (r : Fin 256) (d : Fin 128) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (ix2 r d)
      = ctxAt (m (c.tc.loc main_arg0)) (m (c.tc.loc main_arg1)) (m (c.tc.loc main_arg2)) (m (c.tc.loc main_arg3)) (seqOf t) (headOf t) r d := by
  rw [out11_apply, iblk_logit, iblk_logit, iblk_weight, iblk_lat0, iblk_lat1, iblk_lat2, iblk_ctx0, iblk_ctx1, iblk_ctx2, iblk_ctx3]
  rfl

/-- What a grid point writes back to result 1 is its block of the retention. -/
theorem flushed_ctx (t : Fin cfg0.N) : (dats m 0 c).flushed 11 t = ((cfg0.win 11).blk t).view.read (Elt Ideal) (retCtx (m (c.tc.loc main_arg0)) (m (c.tc.loc main_arg1)) (m (c.tc.loc main_arg2)) (m (c.tc.loc main_arg3))) := by
  rw [Value.flushed11_A]
  funext y
  have hi := ctx_out_index t
  have h0 : (y 0).val < 256 := (y 0).isLt
  have h1 : (y 1).val < 128 := (y 1).isLt
  have ht : t.val < 32 := Nat.lt_of_lt_of_eq t.isLt N_0
  have hy : (y : S256x128.Idx) = ix2 (⟨(y 0).val, h0⟩ : Fin 256) (⟨(y 1).val, h1⟩ : Fin 128) := by
    funext x
    match x with
    | ⟨0, _⟩ => rfl
    | ⟨1, _⟩ => rfl
  refine (congrArg (_ : S256x128.Idx → EReal) hy).trans ?_
  refine (point_ctx m c t ⟨(y 0).val, h0⟩ ⟨(y 1).val, h1⟩).trans ?_
  rw [View.read_apply]
  have he : (((cfg0.win 11).blk t).view.emb y : S2048x512.Idx)
      = ix2 ⟨(seqOf t).val * 256 + (y 0).val, by show t.val / 4 * 256 + (y 0).val < 2048; omega⟩ ⟨(headOf t).val * 128 + (y 1).val, by show t.val % 4 * 128 + (y 1).val < 512; omega⟩ := by
    funext x
    apply Fin.ext
    match x with
    | ⟨0, _⟩ => show win0_11.index t 0 * 256 + 1 * (y 0).val = t.val / 4 * 256 + (y 0).val; rw [hi]; show t.val / 4 * 256 + 1 * (y 0).val = _; omega
    | ⟨1, _⟩ => show win0_11.index t 1 * 128 + 1 * (y 1).val = t.val % 4 * 128 + (y 1).val; rw [hi]; show t.val % 4 * 128 + 1 * (y 1).val = _; omega
  refine Eq.trans ?_ (congrArg (retCtx (m (c.tc.loc main_arg0)) (m (c.tc.loc main_arg1)) (m (c.tc.loc main_arg2)) (m (c.tc.loc main_arg3))) he).symm
  show ctxAt _ _ _ _ (seqOf t) (headOf t) ⟨(y 0).val, h0⟩ ⟨(y 1).val, h1⟩ = ctxAt _ _ _ _ _ _ _ _
  congr 1
  · exact Fin.ext (by show (seqOf t).val = ((seqOf t).val * 256 + (y 0).val) / 256; omega)
  · exact Fin.ext (by show (headOf t).val = ((headOf t).val * 128 + (y 1).val) / 128; omega)
  · exact Fin.ext (by show (y 0).val = ((seqOf t).val * 256 + (y 0).val) % 256; omega)
  · exact Fin.ext (by show (y 1).val = ((headOf t).val * 128 + (y 1).val) % 128; omega)

/-- Every index of result 1 is in some point's block. -/
theorem cover_ctx (i : S2048x512.Idx) : ∃ t : Fin cfg0.N, (cfg0.win 11).flush t = true ∧ i ∈ ((cfg0.win 11).blk t).view.set := by
  have h0 : (i 0).val < 2048 := (i 0).isLt
  have h1 : (i 1).val < 512 := (i 1).isLt
  have hN : cfg0.N = 32 := N_0
  have ht : (i 0).val / 256 * 4 + (i 1).val / 128 < cfg0.N := by omega
  refine ⟨⟨(i 0).val / 256 * 4 + (i 1).val / 128, ht⟩, flush0_11 _, ?_⟩
  show i ∈ ((View.whole main_v3_1).slice (win0_11.rect ⟨(i 0).val / 256 * 4 + (i 1).val / 128, ht⟩)).set
  rw [View.set_slice_whole, Rect.mem_set_unit]
  have hi := ctx_out_index ⟨(i 0).val / 256 * 4 + (i 1).val / 128, ht⟩
  intro a
  match a with
  | ⟨0, _⟩ =>
    show win0_11.index _ 0 * 256 ≤ (i 0).val ∧ (i 0).val < win0_11.index _ 0 * 256 + 256
    rw [hi]
    show ((i 0).val / 256 * 4 + (i 1).val / 128) / 4 * 256 ≤ (i 0).val ∧ (i 0).val < ((i 0).val / 256 * 4 + (i 1).val / 128) / 4 * 256 + 256
    omega
  | ⟨1, _⟩ =>
    show win0_11.index _ 1 * 128 ≤ (i 1).val ∧ (i 1).val < win0_11.index _ 1 * 128 + 128
    rw [hi]
    show ((i 0).val / 256 * 4 + (i 1).val / 128) % 4 * 128 ≤ (i 1).val ∧ (i 1).val < ((i 0).val / 256 * 4 + (i 1).val / 128) % 4 * 128 + 128
    omega

/-- So result 1 ends holding the retention. -/
theorem final_ctx : (dats m 0 c).arrAt 11 cfg0.N = retCtx (m (c.tc.loc main_arg0)) (m (c.tc.loc main_arg1)) (m (c.tc.loc main_arg2)) (m (c.tc.loc main_arg3)) :=
  (dats m 0 c).arrAt_eq_of_cover 11 (retCtx (m (c.tc.loc main_arg0)) (m (c.tc.loc main_arg1)) (m (c.tc.loc main_arg2)) (m (c.tc.loc main_arg3))) (fun t _ => flushed_ctx m c t) cover_ctx

/-- The kernel's run: both results hold the retention, the arguments are unchanged. -/
theorem run_retention : θ_run defs (onTc (τ := τ) (main (F := Ideal))) ⟨m, fun _ => 0, ρ⟩ fun r => ∀ c : Dev nD,
      r.2.mem ((c : Thread nD τ).loc main_v3_0) = retLat (m (c.tc.loc main_arg0)) (m (c.tc.loc main_arg1)) (m (c.tc.loc main_arg2)) (m (c.tc.loc main_arg3))
      ∧ r.2.mem ((c : Thread nD τ).loc main_v3_1) = retCtx (m (c.tc.loc main_arg0)) (m (c.tc.loc main_arg1)) (m (c.tc.loc main_arg2)) (m (c.tc.loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_lat m c), (h c).2.1.trans (final_ctx m c), (h c).2.2⟩)
    (Value.run_blocks m ρ)

end run

end Cert.KernelIdeal.Gen

end
-- ==== Proof.RefRun.lean ====
module

public import proofs.«01_k».proof.Proof.Gen.ReferenceIdeal.Run
public import proofs.«01_k».proof.Proof.Gen.ReferenceIdeal.Step

@[expose] public section

noncomputable section

/-! The reference's run, stated over the step of its chunk loop. -/

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The buffers hold the loop's state `s` and its counter holds `j`. -/
structure AtState (V : Valuation τ sig (Elt F)) (s : State F) (j : ℕ) : Prop where
  state : V (Proc.devRef .tc main_v100_8) = s.main_v100_8
  outs : V (Proc.devRef .tc main_v100_9) = s.main_v100_9
  qs : V (Proc.devRef .tc main_v100_0) = s.main_v100_0
  ks : V (Proc.devRef .tc main_v100_1) = s.main_v100_1
  vs : V (Proc.devRef .tc main_v100_2) = s.main_v100_2
  dmat : V (Proc.devRef .tc main_v100_3) = s.main_v100_3
  whead : V (Proc.devRef .tc main_v100_4) = s.main_v100_4
  gchunk : V (Proc.devRef .tc main_v100_5) = s.main_v100_5
  wtail : V (Proc.devRef .tc main_v100_6) = s.main_v100_6
  ctr : V (Proc.devRef .tc main_v100_7) = constantI S_ 32 (BitVec.ofNat 32 j)

variable {V : Valuation τ sig (Elt F)} {s : State F} {j : ℕ}

/-- The first chunk value a trip reads is the step's. -/
theorem q_eq (h : AtState V s j) : res_main_while0b_v173 V = b5 j s := by
  unfold res_main_while0b_v173 b5 b4
  rw [h.qs, h.ctr]; rfl

/-- The second chunk value a trip reads is the step's. -/
theorem k_eq (h : AtState V s j) : res_main_while0b_v174 V = b11 j s := by
  unfold res_main_while0b_v174 b11 b10
  rw [h.ks, h.ctr]; rfl

/-- The third chunk value a trip reads is the step's. -/
theorem v_eq (h : AtState V s j) : res_main_while0b_v175 V = b17 j s := by
  unfold res_main_while0b_v175 b17 b16
  rw [h.vs, h.ctr]; rfl

/-- A trip leaves the next state in the state's buffer. -/
theorem next_state (h : AtState V s j) : Value.step_main_v100_8 V = (step j s).main_v100_8 := by
  unfold Value.step_main_v100_8
  rw [k_eq h, v_eq h, h.gchunk, h.wtail, h.state]
  rfl

/-- A trip leaves the outputs with the chunk's row written in. -/
theorem next_outs (h : AtState V s j) : Value.step_main_v100_9 V = (step j s).main_v100_9 := by
  unfold Value.step_main_v100_9
  rw [q_eq h, k_eq h, v_eq h, h.whead, h.dmat, h.state, h.outs, h.ctr]
  rfl

/-- A trip counts one up. -/
theorem next_ctr (h : AtState V s j) : step_main_v100_7 V = constantI S_ 32 (BitVec.ofNat 32 (j + 1)) := by
  unfold step_main_v100_7
  rw [h.ctr]
  funext i
  show BitVec.ofNat 32 j + 1#32 = BitVec.ofNat 32 (j + 1)
  simp only [BitVec.ofNat_add]

/-- One trip takes the state `s` to `step j s`. -/
theorem atState_step (h : AtState V s j) : AtState (STEP V) (step j s) (j + 1) where
  state := (STEP_main_v100_8 V).trans (next_state h)
  outs := (STEP_main_v100_9 V).trans (next_outs h)
  ctr := (STEP_main_v100_7 V).trans (next_ctr h)
  qs := (STEP_main_v100_0 V).trans h.qs
  ks := (STEP_main_v100_1 V).trans h.ks
  vs := (STEP_main_v100_2 V).trans h.vs
  dmat := (STEP_main_v100_3 V).trans h.dmat
  whead := (STEP_main_v100_4 V).trans h.whead
  gchunk := (STEP_main_v100_5 V).trans h.gchunk
  wtail := (STEP_main_v100_6 V).trans h.wtail

variable (m : (ℓ : Loc nD τ sig) → Buf (Elt F) ℓ) (c : Dev nD)

/-- The state before the first trip, of the arguments in memory. -/
abbrev start : State F :=
  init (m ((c.tc : Thread nD τ).loc main_arg0)) (m ((c.tc : Thread nD τ).loc main_arg1)) (m ((c.tc : Thread nD τ).loc main_arg2))

set_option maxRecDepth 65536 in
set_option maxHeartbeats 8000000 in
/-- What the host code leaves before the loop is the starting state. -/
theorem atState_start : AtState (entryContents preI m c) (start m c) 0 := by
  constructor <;> (simp only [entryContents, afterL_cons, afterL_nil]; after_reads_simp) <;> rfl

/-- The state after `n` trips. -/
def stateAt (n : ℕ) : State F := Nat.rec (start m c) (fun k s => step k s) n

/-- The buffers before trip `k` hold the `k`-th state. -/
theorem atState_iter : ∀ k, AtState (STEP^[k] (entryContents preI m c)) (stateAt m c k) k
  | 0 => atState_start m c
  | k + 1 => by
    rw [Function.iterate_succ_apply']
    exact atState_step (atState_iter k)

/-- The reference ends with its two results read off the state after the eighteen trips. -/
theorem run_state (ρ : Dev nD → PrngReg) :
    θ_run (defs (F := F)) (onTc (τ := τ) (main (F := F))) ⟨m, fun _ => 0, ρ⟩ fun r => ∀ c : Dev nD,
      r.2.mem ((c.tc : Thread nD τ).loc main_v171) = R_main_v171 (stateAt m c 18) (m ((c.tc : Thread nD τ).loc main_arg0)) (m ((c.tc : Thread nD τ).loc main_arg3))
      ∧ r.2.mem ((c.tc : Thread nD τ).loc main_v172) = R_main_v172 (stateAt m c 18) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    have hk := atState_iter m c 18
    obtain ⟨h1, h2, h3⟩ := h c
    refine ⟨h1.trans ?_, h2.trans ?_, h3⟩
    · unfold out_main_v171
      rw [hk.outs, iter_main_arg0 m c 18, iter_main_arg3 m c 18]; rfl
    · unfold out_main_v172
      rw [hk.outs, iter_main_arg1 m c 18, iter_main_arg3 m c 18]; rfl) (Value.run m ρ)

end Cert.RefRun

end
-- ==== Proof.RefStep.lean ====
module

public import proofs.«01_k».proof.Proof.RefRun
public import proofs.«01_k».proof.Proof.Recur
public import Idealize.ShloMosaic.Lib.DynamicIndex
public import Idealize.ShloMosaic.Lib.Pipeline.Value

@[expose] public section

set_option maxRecDepth 16384

noncomputable section

/-! One trip of the reference's chunk loop, read at an index. -/

namespace Cert.RefRun

open Idealize.ShloMosaic Idealize.ShloMosaic.TcCoe
open Cert.ReferenceIdeal Cert.ReferenceIdeal.Gen Cert.ReferenceIdeal.Step Cert.Recur

/-- Row `j` alone fits in the eighteen. -/
theorem row_fits (j : ℕ) (hj : j < 18) : S18x8x8x128x128.Slices ![j, 0, 0, 0, 0] S1x8x8x128x128 :=
  ⟨rfl, fun a => by
    have h : ∀ a : Fin 5, (![j, 0, 0, 0, 0] : Fin 5 → ℕ) a + (![1, 8, 8, 128, 128] : Fin 5 → ℕ) a ≤ (![18, 8, 8, 128, 128] : Fin 5 → ℕ) a := by
      intro a
      fin_cases a <;> first | exact Nat.succ_le_of_lt hj | exact Nat.le_refl _
    exact h a⟩

/-- The starts of a slice at row `j`, read signed. -/
theorem row_starts (j : ℕ) (hj : j < 18) (a : Fin 5) :
    (((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) a (Shape.Idx.first h_S_)).toInt
      = ((![j, 0, 0, 0, 0] : Fin 5 → ℕ) a : Int) := by
  fin_cases a
  · exact toInt_ofNat_of_lt (by omega)
  all_goals rfl

section trip

variable (s : State Ideal) (j : ℕ) (hj : j < 18) (b h : Fin 8) (p d : Fin 128)

/-- A trip's queries are chunk `j`. -/
theorem q_apply : b5 j s (ix4 b h p d) = s.main_v100_0 (ix5 ⟨j, hj⟩ b h p d) := by
  have e : b4 j s = extractStridedSlice S1x8x8x128x128 ![j, 0, 0, 0, 0] s.main_v100_0 (row_fits j hj) :=
    Host.dynamicSlice_eq_extractStridedSlice _ _ _ _ _ _ (row_starts j hj)
  unfold b5
  rw [e]
  pointwise

/-- A trip's keys are chunk `j`. -/
theorem k_apply : b11 j s (ix4 b h p d) = s.main_v100_1 (ix5 ⟨j, hj⟩ b h p d) := by
  have e : b10 j s = extractStridedSlice S1x8x8x128x128 ![j, 0, 0, 0, 0] s.main_v100_1 (row_fits j hj) :=
    Host.dynamicSlice_eq_extractStridedSlice _ _ _ _ _ _ (row_starts j hj)
  unfold b11
  rw [e]
  pointwise

/-- A trip's values are chunk `j`. -/
theorem v_apply : b17 j s (ix4 b h p d) = s.main_v100_2 (ix5 ⟨j, hj⟩ b h p d) := by
  have e : b16 j s = extractStridedSlice S1x8x8x128x128 ![j, 0, 0, 0, 0] s.main_v100_2 (row_fits j hj) :=
    Host.dynamicSlice_eq_extractStridedSlice _ _ _ _ _ _ (row_starts j hj)
  unfold b17
  rw [e]
  pointwise

/-- The new state over the trip's own slices. -/
theorem state_pre : b32 j s (ix4 b h p d)
    = nextS (s.main_v100_5 (ix4 0 h 0 0)) (fun i _ => s.main_v100_6 (ix4 0 h i 0)) (fun i e => s.main_v100_8 (ix4 b h i e))
      (fun i e => b11 j s (ix4 b h i e)) (fun i e => b17 j s (ix4 b h i e)) p d := by
  unfold nextS
  pointwise [b32, b31, b30, b28, b27, b29]

/-- The chunk's output over the trip's own slices. -/
theorem out_pre : b26 j s (ix4 b h p d)
    = outM (fun i e => s.main_v100_3 (ix3 h i e)) (fun i _ => s.main_v100_4 (ix4 0 h i 0)) (fun i e => s.main_v100_8 (ix4 b h i e))
      (fun i e => b5 j s (ix4 b h i e)) (fun i e => b11 j s (ix4 b h i e)) (fun i e => b17 j s (ix4 b h i e)) p d := by
  unfold outM
  pointwise [b26, b25, b24, b23, b22, b21, b20, b19, b18]

/-- The outputs after a trip: chunk `j`'s row is the trip's, the others are as they were. -/
theorem outs_apply (hj : j < 18) (n : Fin 18) : b38 j s (ix5 n b h p d)
    = if n.val = j then b26 j s (ix4 b h p d) else s.main_v100_9 (ix5 n b h p d) := by
  have e : b38 j s = updateSlice s.main_v100_9 (b33 j s) ![j, 0, 0, 0, 0] (row_fits j hj) :=
    Host.dynamicUpdateSlice_eq_updateSlice _ _ _ _ _ (fun a =>
      (congrArg (fun x : Int => (min (max x 0) ((S18x8x8x128x128.size a - (![1, 8, 8, 128, 128] : Fin 5 → ℕ) a : ℕ) : Int)).toNat) (row_starts j hj a)).trans (by
        have h : ∀ a : Fin 5, (![j, 0, 0, 0, 0] : Fin 5 → ℕ) a ≤ S18x8x8x128x128.size a - (![1, 8, 8, 128, 128] : Fin 5 → ℕ) a := by
          intro a
          fin_cases a <;> first | exact Nat.le_of_lt_succ hj | exact Nat.zero_le _
        have := h a
        show (min (max ((![j, 0, 0, 0, 0] : Fin 5 → ℕ) a : Int) 0) ((S18x8x8x128x128.size a - (![1, 8, 8, 128, 128] : Fin 5 → ℕ) a : ℕ) : Int)).toNat = (![j, 0, 0, 0, 0] : Fin 5 → ℕ) a
        omega)) (row_fits j hj)
  rw [e]
  pointwise [b33]
  by_cases hn : n.val = j
  · rw [if_pos hn, dif_pos (by omega)]
  · rw [if_neg hn, dif_neg (by omega)]

end trip

end Cert.RefRun
-- ==== Proof.RefSeq.lean ====
module

public import proofs.«01_k».proof.Proof.RefStep
public import proofs.«01_k».proof.Proof.Blocks

@[expose] public section

set_option maxRecDepth 16384

noncomputable section

/-! The chunks and the decays the reference's loop reads, as the heads' blocks of the arguments. -/

namespace Cert.RefRun

open Idealize.ShloMosaic Idealize.ShloMosaic.TcCoe
open Cert.ReferenceIdeal Cert.ReferenceIdeal.Gen Cert.ReferenceIdeal.Step Cert.Recur

/-- The rows of a head in order: the context's, then the sequence's. -/
def rowsF (ctx : (⟨2, ![256, 128]⟩ : Shape).Idx → EReal) (lat : (⟨2, ![2048, 128]⟩ : Shape).Idx → EReal) (r : Fin 2304) (d : Fin 128) : EReal :=
  if h : r.val < 256 then ctx (ix2 ⟨r.val, h⟩ d) else lat (ix2 ⟨r.val - 256, by have := r.isLt; omega⟩ d)

/-- The rows of a head backwards: the context's from its end, then the sequence's from its end. -/
def rowsB (ctx : (⟨2, ![256, 128]⟩ : Shape).Idx → EReal) (lat : (⟨2, ![2048, 128]⟩ : Shape).Idx → EReal) (r : Fin 2304) (d : Fin 128) : EReal :=
  if h : r.val < 256 then ctx (ix2 ⟨255 - r.val, by omega⟩ d) else lat (ix2 ⟨2303 - r.val, by omega⟩ d)

/-- Row `i` of chunk `n`, of the rows in order. -/
theorem rowsF_chunk (ctx : (⟨2, ![256, 128]⟩ : Shape).Idx → EReal) (lat : (⟨2, ![2048, 128]⟩ : Shape).Idx → EReal) (n : Fin 18) (i d : Fin 128)
    (r : Fin 2304) (hr : r.val = n.val * 128 + i.val) : rowsF ctx lat r d = seqF ctx lat n.val i d := by
  have hi := i.isLt
  have hn := n.isLt
  unfold rowsF seqF
  by_cases h : n.val < 2
  · rw [if_pos h, dif_pos (by omega)]
    unfold mat
    rw [dif_pos (by omega)]
    exact congrArg ctx (congrArg (fun a => ix2 a d) (Fin.ext (by show r.val = 128 * n.val + i.val; omega)))
  · rw [if_neg h, dif_neg (by omega)]
    unfold mat
    rw [dif_pos (by omega)]
    exact congrArg lat (congrArg (fun a => ix2 a d) (Fin.ext (by show r.val - 256 = 128 * (n.val - 2) + i.val; omega)))

/-- Row `i` of chunk `n`, of the rows backwards. -/
theorem rowsB_chunk (ctx : (⟨2, ![256, 128]⟩ : Shape).Idx → EReal) (lat : (⟨2, ![2048, 128]⟩ : Shape).Idx → EReal) (n : Fin 18) (i d : Fin 128)
    (r : Fin 2304) (hr : r.val = n.val * 128 + i.val) : rowsB ctx lat r d = Recur.flip (seqB ctx lat n.val) i d := by
  have hi := i.isLt
  have hn := n.isLt
  have hv : i.rev.val = 127 - i.val := by rw [Fin.val_rev]; omega
  unfold rowsB Recur.flip seqB
  by_cases h : n.val < 2
  · rw [if_pos h, dif_pos (by omega)]
    unfold mat
    rw [dif_pos (by omega)]
    exact congrArg ctx (congrArg (fun a => ix2 a d) (Fin.ext (by show 255 - r.val = 128 * (1 - n.val) + i.rev.val; omega)))
  · rw [if_neg h, dif_neg (by omega)]
    unfold mat
    rw [dif_pos (by omega)]
    exact congrArg lat (congrArg (fun a => ix2 a d) (Fin.ext (by show 2303 - r.val = 128 * (15 - (n.val - 2)) + i.rev.val; omega)))

section chunks

variable (a0 : (⟨S16384x2560, .bf16⟩ : BufTy).Contents (Elt Ideal)) (a1 : (⟨S2048x2560, .bf16⟩ : BufTy).Contents (Elt Ideal)) (a2 : (⟨S2x4, .f32⟩ : BufTy).Contents (Elt Ideal))
variable (b : Fin 8) (h : Fin 4) (d : Fin 128)

/-- A head of the direction going forward. -/
abbrev fwd (h : Fin 4) : Fin 8 := ⟨h.val, by omega⟩
/-- The same head of the direction going back. -/
abbrev bwd (h : Fin 4) : Fin 8 := ⟨4 + h.val, by omega⟩

/-- The chunks laid out chunk first are the rows cut in 128s. -/
theorem cut_apply (x : S8x8x2304x128.Idx → EReal) (b h : Fin 8) (n : Fin 18) (i d : Fin 128) :
    transpose S18x8x8x128x128 [2, 0, 1, 3, 4] (shapeCast S8x8x18x128x128 x shapeCasts_S8x8x2304x128_S8x8x18x128x128)
      transposes_S8x8x18x128x128_S18x8x8x128x128_2_0_1_3_4 (ix5 n b h i d) = x (ix4 b h ⟨n.val * 128 + i.val, by omega⟩ d) := by
  pointwise

/-- The first four of eight heads go forward. -/
theorem both_fwd (x y : S8x4x2304x128.Idx → EReal) (b : Fin 8) (h : Fin 4) (r : Fin 2304) (d : Fin 128) :
    concatenate S8x8x2304x128 1 [⟨S8x4x2304x128, x⟩, ⟨S8x4x2304x128, y⟩] concatenates_S8x4x2304x128_S8x4x2304x128_S8x8x2304x128_d1
      (ix4 b (fwd h) r d) = x (ix4 b h r d) := by
  pointwise

/-- The last four of eight heads go back. -/
theorem both_bwd (x y : S8x4x2304x128.Idx → EReal) (b : Fin 8) (h : Fin 4) (r : Fin 2304) (d : Fin 128) :
    concatenate S8x8x2304x128 1 [⟨S8x4x2304x128, x⟩, ⟨S8x4x2304x128, y⟩] concatenates_S8x4x2304x128_S8x4x2304x128_S8x8x2304x128_d1
      (ix4 b (bwd h) r d) = y (ix4 b h r d) := by
  pointwise

/-- Rows of the context, then of the sequence. -/
theorem join_apply (x : S8x4x256x128.Idx → EReal) (y : S8x4x2048x128.Idx → EReal) (b : Fin 8) (h : Fin 4) (r : Fin 2304) (d : Fin 128) :
    concatenate S8x4x2304x128 2 [⟨S8x4x256x128, x⟩, ⟨S8x4x2048x128, y⟩] concatenates_S8x4x256x128_S8x4x2048x128_S8x4x2304x128_d2
      (ix4 b h r d) = if hr : r.val < 256 then x (ix4 b h ⟨r.val, hr⟩ d) else y (ix4 b h ⟨r.val - 256, by omega⟩ d) := by
  pointwise

/-- A head's context rows reversed. -/
theorem rev_ctx (x : S8x4x256x128.Idx → EReal) (b : Fin 8) (h : Fin 4) (r : Fin 256) (d : Fin 128) :
    Host.reverse [2] x (ix4 b h r d) = x (ix4 b h r.rev d) := by
  pointwise
  rfl

/-- A head's sequence rows reversed. -/
theorem rev_lat (x : S8x4x2048x128.Idx → EReal) (b : Fin 8) (h : Fin 4) (r : Fin 2048) (d : Fin 128) :
    Host.reverse [2] x (ix4 b h r d) = x (ix4 b h r.rev d) := by
  pointwise
  rfl

/-- The sequence's queries, by heads. -/
theorem q_lat (r : Fin 2048) : A_main_v21 a0 a1 a2 (ix4 b h r d) = latBlk a0 0 b h (ix2 r d) := by
  unfold latBlk
  pointwise [A_main_v21, A_main_v20, A_main_v19, A_main_v16, A_main_v15]

/-- The context's queries, by heads. -/
theorem q_ctx (r : Fin 256) : A_main_v30 a0 a1 a2 (ix4 b h r d) = ctxBlk a1 0 b h (ix2 r d) := by
  unfold ctxBlk
  pointwise [A_main_v30, A_main_v29, A_main_v28, A_main_v18, A_main_v17]

/-- The queries in order. -/
theorem q_fwd (r : Fin 2304) : A_main_v37 a0 a1 a2 (ix4 b h r d) = rowsF (ctxBlk a1 0 b h) (latBlk a0 0 b h) r d := by
  refine (join_apply (A_main_v30 a0 a1 a2) (A_main_v21 a0 a1 a2) b h r d).trans ?_
  unfold rowsF
  simp only [q_ctx, q_lat]

/-- The queries backwards. -/
theorem q_bwd (r : Fin 2304) : A_main_v40 a0 a1 a2 (ix4 b h r d) = rowsB (ctxBlk a1 0 b h) (latBlk a0 0 b h) r d := by
  refine (join_apply (A_main_v38 a0 a1 a2) (A_main_v39 a0 a1 a2) b h r d).trans ?_
  unfold rowsB A_main_v38 A_main_v39
  have hr := r.isLt
  by_cases hc : r.val < 256
  · rw [dif_pos hc, dif_pos hc, rev_ctx, q_ctx]
    exact congrArg (ctxBlk a1 0 b h) (congrArg (fun a => ix2 a d) (Fin.ext (by simp only [Fin.val_rev]; omega)))
  · rw [dif_neg hc, dif_neg hc, rev_lat, q_lat]
    exact congrArg (latBlk a0 0 b h) (congrArg (fun a => ix2 a d) (Fin.ext (by simp only [Fin.val_rev]; omega)))

/-- The queries of chunk `n`, going forward. -/
theorem q_chunk_fwd (n : Fin 18) (i : Fin 128) : A_main_v94 a0 a1 a2 (ix5 n b (fwd h) i d) = seqF (ctxBlk a1 0 b h) (latBlk a0 0 b h) n.val i d :=
  (cut_apply (A_main_v41 a0 a1 a2) b (fwd h) n i d).trans ((both_fwd (A_main_v37 a0 a1 a2) (A_main_v40 a0 a1 a2) b h _ d).trans
    ((q_fwd a0 a1 a2 b h d _).trans (rowsF_chunk _ _ n i d _ rfl)))

/-- The queries of chunk `n`, going back. -/
theorem q_chunk_bwd (n : Fin 18) (i : Fin 128) : A_main_v94 a0 a1 a2 (ix5 n b (bwd h) i d) = Recur.flip (seqB (ctxBlk a1 0 b h) (latBlk a0 0 b h) n.val) i d :=
  (cut_apply (A_main_v41 a0 a1 a2) b (bwd h) n i d).trans ((both_bwd (A_main_v37 a0 a1 a2) (A_main_v40 a0 a1 a2) b h _ d).trans
    ((q_bwd a0 a1 a2 b h d _).trans (rowsB_chunk _ _ n i d _ rfl)))

/-- The sequence's keys, by heads. -/
theorem k_lat (r : Fin 2048) : A_main_v24 a0 a1 a2 (ix4 b h r d) = latBlk a0 1 b h (ix2 r d) := by
  unfold latBlk
  pointwise [A_main_v24, A_main_v23, A_main_v22, A_main_v16, A_main_v15]
  exact congrArg a0 (congrArg (ix2 _) (Fin.ext (by show 512 + (h.val * 128 + d.val) = (4 + h.val) * 128 + d.val; omega)))

/-- The context's keys, by heads. -/
theorem k_ctx (r : Fin 256) : A_main_v33 a0 a1 a2 (ix4 b h r d) = ctxBlk a1 1 b h (ix2 r d) := by
  unfold ctxBlk
  pointwise [A_main_v33, A_main_v32, A_main_v31, A_main_v18, A_main_v17]
  exact congrArg a1 (congrArg (ix2 _) (Fin.ext (by show 512 + (h.val * 128 + d.val) = (4 + h.val) * 128 + d.val; omega)))

/-- The keys in order. -/
theorem k_fwd (r : Fin 2304) : A_main_v42 a0 a1 a2 (ix4 b h r d) = rowsF (ctxBlk a1 1 b h) (latBlk a0 1 b h) r d := by
  refine (join_apply (A_main_v33 a0 a1 a2) (A_main_v24 a0 a1 a2) b h r d).trans ?_
  unfold rowsF
  simp only [k_ctx, k_lat]

/-- The keys backwards. -/
theorem k_bwd (r : Fin 2304) : A_main_v45 a0 a1 a2 (ix4 b h r d) = rowsB (ctxBlk a1 1 b h) (latBlk a0 1 b h) r d := by
  refine (join_apply (A_main_v43 a0 a1 a2) (A_main_v44 a0 a1 a2) b h r d).trans ?_
  unfold rowsB A_main_v43 A_main_v44
  have hr := r.isLt
  by_cases hc : r.val < 256
  · rw [dif_pos hc, dif_pos hc, rev_ctx, k_ctx]
    exact congrArg (ctxBlk a1 1 b h) (congrArg (fun a => ix2 a d) (Fin.ext (by simp only [Fin.val_rev]; omega)))
  · rw [dif_neg hc, dif_neg hc, rev_lat, k_lat]
    exact congrArg (latBlk a0 1 b h) (congrArg (fun a => ix2 a d) (Fin.ext (by simp only [Fin.val_rev]; omega)))

/-- The keys of chunk `n`, going forward. -/
theorem k_chunk_fwd (n : Fin 18) (i : Fin 128) : A_main_v96 a0 a1 a2 (ix5 n b (fwd h) i d) = seqF (ctxBlk a1 1 b h) (latBlk a0 1 b h) n.val i d :=
  (cut_apply (A_main_v46 a0 a1 a2) b (fwd h) n i d).trans ((both_fwd (A_main_v42 a0 a1 a2) (A_main_v45 a0 a1 a2) b h _ d).trans
    ((k_fwd a0 a1 a2 b h d _).trans (rowsF_chunk _ _ n i d _ rfl)))

/-- The keys of chunk `n`, going back. -/
theorem k_chunk_bwd (n : Fin 18) (i : Fin 128) : A_main_v96 a0 a1 a2 (ix5 n b (bwd h) i d) = Recur.flip (seqB (ctxBlk a1 1 b h) (latBlk a0 1 b h) n.val) i d :=
  (cut_apply (A_main_v46 a0 a1 a2) b (bwd h) n i d).trans ((both_bwd (A_main_v42 a0 a1 a2) (A_main_v45 a0 a1 a2) b h _ d).trans
    ((k_bwd a0 a1 a2 b h d _).trans (rowsB_chunk _ _ n i d _ rfl)))

/-- The sequence's values, by heads. -/
theorem v_lat (r : Fin 2048) : A_main_v27 a0 a1 a2 (ix4 b h r d) = latBlk a0 2 b h (ix2 r d) := by
  unfold latBlk
  pointwise [A_main_v27, A_main_v26, A_main_v25, A_main_v16, A_main_v15]
  exact congrArg a0 (congrArg (ix2 _) (Fin.ext (by show 1024 + (h.val * 128 + d.val) = (8 + h.val) * 128 + d.val; omega)))

/-- The context's values, by heads. -/
theorem v_ctx (r : Fin 256) : A_main_v36 a0 a1 a2 (ix4 b h r d) = ctxBlk a1 2 b h (ix2 r d) := by
  unfold ctxBlk
  pointwise [A_main_v36, A_main_v35, A_main_v34, A_main_v18, A_main_v17]
  exact congrArg a1 (congrArg (ix2 _) (Fin.ext (by show 1024 + (h.val * 128 + d.val) = (8 + h.val) * 128 + d.val; omega)))

/-- The values in order. -/
theorem v_fwd (r : Fin 2304) : A_main_v47 a0 a1 a2 (ix4 b h r d) = rowsF (ctxBlk a1 2 b h) (latBlk a0 2 b h) r d := by
  refine (join_apply (A_main_v36 a0 a1 a2) (A_main_v27 a0 a1 a2) b h r d).trans ?_
  unfold rowsF
  simp only [v_ctx, v_lat]

/-- The values backwards. -/
theorem v_bwd (r : Fin 2304) : A_main_v50 a0 a1 a2 (ix4 b h r d) = rowsB (ctxBlk a1 2 b h) (latBlk a0 2 b h) r d := by
  refine (join_apply (A_main_v48 a0 a1 a2) (A_main_v49 a0 a1 a2) b h r d).trans ?_
  unfold rowsB A_main_v48 A_main_v49
  have hr := r.isLt
  by_cases hc : r.val < 256
  · rw [dif_pos hc, dif_pos hc, rev_ctx, v_ctx]
    exact congrArg (ctxBlk a1 2 b h) (congrArg (fun a => ix2 a d) (Fin.ext (by simp only [Fin.val_rev]; omega)))
  · rw [dif_neg hc, dif_neg hc, rev_lat, v_lat]
    exact congrArg (latBlk a0 2 b h) (congrArg (fun a => ix2 a d) (Fin.ext (by simp only [Fin.val_rev]; omega)))

/-- The values of chunk `n`, going forward. -/
theorem v_chunk_fwd (n : Fin 18) (i : Fin 128) : A_main_v98 a0 a1 a2 (ix5 n b (fwd h) i d) = seqF (ctxBlk a1 2 b h) (latBlk a0 2 b h) n.val i d :=
  (cut_apply (A_main_v51 a0 a1 a2) b (fwd h) n i d).trans ((both_fwd (A_main_v47 a0 a1 a2) (A_main_v50 a0 a1 a2) b h _ d).trans
    ((v_fwd a0 a1 a2 b h d _).trans (rowsF_chunk _ _ n i d _ rfl)))

/-- The values of chunk `n`, going back. -/
theorem v_chunk_bwd (n : Fin 18) (i : Fin 128) : A_main_v98 a0 a1 a2 (ix5 n b (bwd h) i d) = Recur.flip (seqB (ctxBlk a1 2 b h) (latBlk a0 2 b h) n.val) i d :=
  (cut_apply (A_main_v51 a0 a1 a2) b (bwd h) n i d).trans ((both_bwd (A_main_v47 a0 a1 a2) (A_main_v50 a0 a1 a2) b h _ d).trans
    ((v_bwd a0 a1 a2 b h d _).trans (rowsB_chunk _ _ n i d _ rfl)))

/-- The logarithm of a head's decay as the reference writes it. -/
theorem log_apply (g : Fin 2) : A_main_v14 a0 a1 a2 (ix2 g h) = lg (a2 (ix2 g h)) := by
  rw [← lg_eq]
  pointwise [A_main_v0, A_main_v2, A_main_v4, A_main_v5, A_main_v7, A_main_v8, A_main_v9, A_main_v10, A_main_v11, A_main_v12, A_main_v13, A_main_v14, K_main_v1, K_main_cst, K_main_v3, K_main_v6]
  rw [if_neg (not_not_intro rfl)]

/-- A forward head's logarithm. -/
theorem log_fwd : A_main_v52 a0 a1 a2 (ix1 (fwd h)) = lg (a2 (ix2 0 h)) := by
  rw [← log_apply a0 a1]
  fin_cases h <;> pointwise [A_main_v52]

/-- A backward head's logarithm. -/
theorem log_bwd : A_main_v52 a0 a1 a2 (ix1 (bwd h)) = lg (a2 (ix2 1 h)) := by
  rw [← log_apply a0 a1]
  fin_cases h <;> pointwise [A_main_v52]

/-- The decays inside a chunk. -/
theorem dm_apply (e : Fin 8) (i j : Fin 128) : A_main_v69 a0 a1 a2 (ix3 e i j) = dmF (A_main_v52 a0 a1 a2 (ix1 e)) i j := by
  unfold dmF fl
  pointwise [A_main_v69, A_main_v68, A_main_v67, A_main_v65, A_main_v61, K_main_cst_1, K_main_v53, K_main_v54, K_main_v55, K_main_v56, K_main_v57, K_main_v58, K_main_cst_0, K_main_v59, K_main_v60, K_main_v62, K_main_v63, K_main_v64, K_main_v66, K_main_cst_2, K_main_call0_v0, K_main_call0_v1, K_main_call0_v2]
  rw [show (id (constant (F := Ideal) S_ .f32 0#32) ix0 : EReal) = 0 by simp only [id]; pointwise]

/-- The decay from a chunk's start. -/
theorem head_apply (e : Fin 8) (i j : Fin 128) : A_main_v78 a0 a1 a2 (ix4 0 e i 0) = hF (A_main_v52 a0 a1 a2 (ix1 e)) i j := by
  unfold hF fl
  pointwise [A_main_v78, A_main_v77, A_main_v76, A_main_v74, A_main_v70, K_main_v75, K_main_v73, K_main_v72, K_main_v71, K_main_cst_3, K_main_v53]

/-- The decay to a chunk's end. -/
theorem tail_apply (e : Fin 8) (i j : Fin 128) : A_main_v87 a0 a1 a2 (ix4 0 e i 0) = wF (A_main_v52 a0 a1 a2 (ix1 e)) i j := by
  unfold wF fl c127
  pointwise [A_main_v87, A_main_v86, A_main_v85, A_main_v83, A_main_v79, K_main_v84, K_main_v82, K_main_v81, K_main_v80, K_main_cst_4, K_main_v53]

/-- A whole chunk's decay. -/
theorem whole_apply (e : Fin 8) : A_main_v91 a0 a1 a2 (ix4 0 e 0 0) = gF (A_main_v52 a0 a1 a2 (ix1 e)) := by
  unfold gF c128
  pointwise [A_main_v91, A_main_v90, A_main_v89, K_main_v88, K_main_cst_5]

end chunks

end Cert.RefRun
-- ==== Proof.RefValue.lean ====
module

public import proofs.«01_k».proof.Proof.RefSeq

@[expose] public section

set_option maxRecDepth 16384

noncomputable section

/-! The reference's results are the retention's: every trip's state and output, then the sum of the directions, normalised and gated. -/

namespace Cert.RefRun

open Idealize.ShloMosaic Idealize.ShloMosaic.TcCoe
open Cert.ReferenceIdeal Cert.ReferenceIdeal.Gen Cert.ReferenceIdeal.Step Cert.Recur

/-- The forward output over chunks with their rows in the opposite order is the backward output at the opposite row. -/
theorem chunkF_flip (l : EReal) (q k v : ℕ → Mat) (n : ℕ) (p e : Fin 128) :
    chunkF l (fun i => Recur.flip (q i)) (fun i => Recur.flip (k i)) (fun i => Recur.flip (v i)) n p e = chunkB l q k v n p.rev e := by
  have hs : ∀ n, itS (gF l) (wF l) (fun _ _ => 0) (fun i => Recur.flip (k i)) (fun i => Recur.flip (v i)) n = itS (gF l) (wB l) (fun _ _ => 0) k v n := by
    intro n
    induction n with
    | zero => rfl
    | succ n ih =>
      show nextS (gF l) (wF l) (itS (gF l) (wF l) (fun _ _ => 0) (fun i => Recur.flip (k i)) (fun i => Recur.flip (v i)) n) (Recur.flip (k n)) (Recur.flip (v n))
        = nextS (gF l) (wB l) (itS (gF l) (wB l) (fun _ _ => 0) k v n) (k n) (v n)
      rw [ih, ← nextS_flip (gF l) (wB l), ← wF_rev]
      congr 1
      funext i j
      unfold Recur.flip
      rw [Fin.rev_rev]
  unfold chunkF chunkB
  rw [hs n, ← outM_flip]
  congr 1
  · funext a b
    rw [← dmF_rev, Fin.rev_rev, Fin.rev_rev]
  · rw [← hF_rev]
    funext a b
    unfold Recur.flip
    rw [Fin.rev_rev]

variable (m : (ℓ : Loc nD τ sig) → Buf (Elt Ideal) ℓ) (c : Dev nD)

/-- The first argument. -/
abbrev x0 : (⟨S16384x2560, .bf16⟩ : BufTy).Contents (Elt Ideal) := m ((c.tc : Thread nD τ).loc main_arg0)
/-- The second argument. -/
abbrev x1 : (⟨S2048x2560, .bf16⟩ : BufTy).Contents (Elt Ideal) := m ((c.tc : Thread nD τ).loc main_arg1)
/-- The third argument. -/
abbrev x2 : (⟨S2x4, .f32⟩ : BufTy).Contents (Elt Ideal) := m ((c.tc : Thread nD τ).loc main_arg2)
/-- The fourth argument. -/
abbrev x3 : (⟨S512, .f32⟩ : BufTy).Contents (Elt Ideal) := m ((c.tc : Thread nD τ).loc main_arg3)

/-- What no trip changes. -/
structure Kept (s : State Ideal) : Prop where
  q : s.main_v100_0 = A_main_v94 (x0 m c) (x1 m c) (x2 m c)
  k : s.main_v100_1 = A_main_v96 (x0 m c) (x1 m c) (x2 m c)
  v : s.main_v100_2 = A_main_v98 (x0 m c) (x1 m c) (x2 m c)
  dm : s.main_v100_3 = A_main_v69 (x0 m c) (x1 m c) (x2 m c)
  hd : s.main_v100_4 = A_main_v78 (x0 m c) (x1 m c) (x2 m c)
  wh : s.main_v100_5 = A_main_v91 (x0 m c) (x1 m c) (x2 m c)
  tl : s.main_v100_6 = A_main_v87 (x0 m c) (x1 m c) (x2 m c)

/-- Every state keeps the chunks and the decays. -/
theorem kept (n : ℕ) : Kept m c (stateAt m c n) := by
  induction n with
  | zero => exact ⟨rfl, rfl, rfl, rfl, rfl, rfl, rfl⟩
  | succ n ih => exact ⟨ih.q, ih.k, ih.v, ih.dm, ih.hd, ih.wh, ih.tl⟩

section head

variable (b e : Fin 8) (q k v : ℕ → Mat)
  (hq : ∀ (n : Fin 18) (i d : Fin 128), A_main_v94 (x0 m c) (x1 m c) (x2 m c) (ix5 n b e i d) = q n.val i d)
  (hk : ∀ (n : Fin 18) (i d : Fin 128), A_main_v96 (x0 m c) (x1 m c) (x2 m c) (ix5 n b e i d) = k n.val i d)
  (hv : ∀ (n : Fin 18) (i d : Fin 128), A_main_v98 (x0 m c) (x1 m c) (x2 m c) (ix5 n b e i d) = v n.val i d)

/-- The logarithm of the head's decay. -/
abbrev lgOf (e : Fin 8) : EReal := A_main_v52 (x0 m c) (x1 m c) (x2 m c) (ix1 e)

include hk hv in
/-- The state before trip `n`, of one head. -/
theorem state_inv (n : ℕ) (hn : n ≤ 18) :
    (fun i d => (stateAt m c n).main_v100_8 (ix4 b e i d)) = itS (gF (lgOf m c e)) (wF (lgOf m c e)) (fun _ _ => 0) k v n := by
  induction n with
  | zero =>
    funext i d
    show K_main_v92 (F := Ideal) (ix4 b e i d) = 0
    pointwise [K_main_v92, K_main_cst_6]
  | succ n ih =>
    have hn' : n < 18 := hn
    have kp := kept m c n
    show _ = nextS _ _ (itS (gF (lgOf m c e)) (wF (lgOf m c e)) (fun _ _ => 0) k v n) (k n) (v n)
    rw [← ih (by omega)]
    funext i d
    refine (state_pre (stateAt m c n) n b e i d).trans ?_
    have h1 : (fun i d => b11 n (stateAt m c n) (ix4 b e i d)) = k n := by
      funext i d
      rw [k_apply _ _ hn', kp.k]; exact hk ⟨n, hn'⟩ i d
    have h2 : (fun i d => b17 n (stateAt m c n) (ix4 b e i d)) = v n := by
      funext i d
      rw [v_apply _ _ hn', kp.v]; exact hv ⟨n, hn'⟩ i d
    have h3 : (fun i _ => (stateAt m c n).main_v100_6 (ix4 0 e i 0)) = wF (lgOf m c e) := by
      funext i j
      rw [kp.tl]; exact tail_apply _ _ _ e i j
    rw [h1, h2, h3, kp.wh, whole_apply]

include hq hk hv in
/-- The output of a chunk already taken, of one head. -/
theorem outs_inv (n : ℕ) (hn : n ≤ 18) (a : Fin 18) (ha : a.val < n) (p d : Fin 128) :
    (stateAt m c n).main_v100_9 (ix5 a b e p d) = chunkF (lgOf m c e) q k v a.val p d := by
  induction n with
  | zero => omega
  | succ n ih =>
    have hn' : n < 18 := hn
    refine (outs_apply (stateAt m c n) n b e p d hn' a).trans ?_
    by_cases hc : a.val = n
    · have kp := kept m c n
      rw [if_pos hc, hc, out_pre, state_inv m c b e k v hk hv n (by omega)]
      have h0 : (fun i d => b5 n (stateAt m c n) (ix4 b e i d)) = q n := by
        funext i d
        rw [q_apply _ _ hn', kp.q]; exact hq ⟨n, hn'⟩ i d
      have h1 : (fun i d => b11 n (stateAt m c n) (ix4 b e i d)) = k n := by
        funext i d
        rw [k_apply _ _ hn', kp.k]; exact hk ⟨n, hn'⟩ i d
      have h2 : (fun i d => b17 n (stateAt m c n) (ix4 b e i d)) = v n := by
        funext i d
        rw [v_apply _ _ hn', kp.v]; exact hv ⟨n, hn'⟩ i d
      have h3 : (fun i j => (stateAt m c n).main_v100_3 (ix3 e i j)) = dmF (lgOf m c e) := by
        funext i j
        rw [kp.dm]; exact dm_apply _ _ _ e i j
      have h4 : (fun i _ => (stateAt m c n).main_v100_4 (ix4 0 e i 0)) = hF (lgOf m c e) := by
        funext i j
        rw [kp.hd]; exact head_apply _ _ _ e i j
      rw [h0, h1, h2, h3, h4]
      rfl
    · rw [if_neg hc]
      exact ih (by omega) (by omega)

end head

section results

variable (b : Fin 8) (h : Fin 4) (p d : Fin 128)

/-- The forward outputs after the loop. -/
theorem outs_fwd (n : Fin 18) : (stateAt m c 18).main_v100_9 (ix5 n b (fwd h) p d)
    = chunkF (lg (x2 m c (ix2 0 h))) (seqF (ctxBlk (x1 m c) 0 b h) (latBlk (x0 m c) 0 b h)) (seqF (ctxBlk (x1 m c) 1 b h) (latBlk (x0 m c) 1 b h))
      (seqF (ctxBlk (x1 m c) 2 b h) (latBlk (x0 m c) 2 b h)) n.val p d := by
  rw [← log_fwd (x0 m c) (x1 m c)]
  exact outs_inv m c b (fwd h) _ _ _ (fun n i d => q_chunk_fwd _ _ _ b h d n i) (fun n i d => k_chunk_fwd _ _ _ b h d n i)
    (fun n i d => v_chunk_fwd _ _ _ b h d n i) 18 le_rfl n n.isLt p d

/-- The backward outputs after the loop. -/
theorem outs_bwd (n : Fin 18) : (stateAt m c 18).main_v100_9 (ix5 n b (bwd h) p d)
    = chunkB (lg (x2 m c (ix2 1 h))) (seqB (ctxBlk (x1 m c) 0 b h) (latBlk (x0 m c) 0 b h)) (seqB (ctxBlk (x1 m c) 1 b h) (latBlk (x0 m c) 1 b h))
      (seqB (ctxBlk (x1 m c) 2 b h) (latBlk (x0 m c) 2 b h)) n.val p.rev d := by
  rw [← log_bwd (x0 m c) (x1 m c), ← chunkF_flip]
  exact outs_inv m c b (bwd h) _ _ _ (fun n i d => q_chunk_bwd _ _ _ b h d n i) (fun n i d => k_chunk_bwd _ _ _ b h d n i)
    (fun n i d => v_chunk_bwd _ _ _ b h d n i) 18 le_rfl n n.isLt p d

end results

/-- Indices of equal coordinates are equal. -/
theorem at_ix5 {n n' : Fin 18} {p p' : Fin 128} (hn : n.val = n'.val) (hp : p.val = p'.val) (b h : Fin 8) (x : Fin 128) :
    ix5 n b h p x = ix5 n' b h p' x := by
  rw [Fin.ext hn, Fin.ext hp]

section final

variable (s : State Ideal) (a0 : (⟨S16384x2560, .bf16⟩ : BufTy).Contents (Elt Ideal)) (a1 : (⟨S2048x2560, .bf16⟩ : BufTy).Contents (Elt Ideal)) (a3 : (⟨S512, .f32⟩ : BufTy).Contents (Elt Ideal))

/-- The sequence's result, read off the outputs of both directions. -/
theorem res_lat (b : Fin 8) (h : Fin 4) (r : Fin 2048) (d : Fin 128) :
    R_main_v171 s a0 a3 (ix2 (⟨b.val * 2048 + r.val, by omega⟩ : Fin 16384) (⟨h.val * 128 + d.val, by omega⟩ : Fin 512))
      = gnGate (fun e => s.main_v100_9 (ix5 ⟨r.val / 128 + 2, by omega⟩ b (fwd h) ⟨r.val % 128, Nat.mod_lt _ (by omega)⟩ e)
          + s.main_v100_9 (ix5 ⟨15 - r.val / 128 + 2, by omega⟩ b (bwd h) (Fin.rev ⟨r.val % 128, Nat.mod_lt _ (by omega)⟩) e))
        (a3 (ix1 ⟨h.val * 128 + d.val, by omega⟩)) (latBlk a0 3 b h (ix2 r d)) d := by
  have hrv : r.rev.val = 2047 - r.val := by rw [Fin.val_rev]; omega
  have hr := r.isLt
  have hf : ∀ x, s.main_v100_9 (ix5 ⟨(256 + r.val) / 128, by omega⟩ b ⟨h.val, by omega⟩ ⟨(256 + r.val) % 128, by omega⟩ x)
      = s.main_v100_9 (ix5 ⟨r.val / 128 + 2, by omega⟩ b (fwd h) ⟨r.val % 128, Nat.mod_lt _ (by omega)⟩ x) := fun x =>
    congrArg s.main_v100_9 (at_ix5 (by show (256 + r.val) / 128 = r.val / 128 + 2; omega) (by show (256 + r.val) % 128 = r.val % 128; omega) b (fwd h) x)
  have hb : ∀ x, s.main_v100_9 (ix5 ⟨(256 + r.rev.val) / 128, by omega⟩ b ⟨4 + h.val, by omega⟩ ⟨(256 + r.rev.val) % 128, by omega⟩ x)
      = s.main_v100_9 (ix5 ⟨15 - r.val / 128 + 2, by omega⟩ b (bwd h) (Fin.rev ⟨r.val % 128, Nat.mod_lt _ (by omega)⟩) x) := fun x =>
    congrArg s.main_v100_9 (at_ix5 (by show (256 + r.rev.val) / 128 = 15 - r.val / 128 + 2; omega) (by refine Eq.trans ?_ (Fin.val_rev _).symm; show (256 + r.rev.val) % 128 = 128 - (r.val % 128 + 1); omega) b (bwd h) x)
  have hg : a0 (ix2 (⟨b.val * 2048 + r.val, by omega⟩ : Fin 16384) (⟨1536 + (h.val * 128 + d.val), by omega⟩ : Fin 2560)) = latBlk a0 3 b h (ix2 r d) :=
    congrArg a0 (congrArg (ix2 _) (Fin.ext (by show 1536 + (h.val * 128 + d.val) = (3 * 4 + h.val) * 128 + d.val; omega)))
  unfold gnGate c128
  pointwise [R_main_v171, rev_lat]
  simp only [show ((0 : Fin 4) ∈ [(2 : Fin 4)]) = False by decide, show ((1 : Fin 4) ∈ [(2 : Fin 4)]) = False by decide, show ((2 : Fin 4) ∈ [(2 : Fin 4)]) = True by decide, show ((3 : Fin 4) ∈ [(2 : Fin 4)]) = False by decide, reduceIte]
  simp only [hf, hb, hg]
  rfl

/-- The context's result, read off the outputs of both directions. -/
theorem res_ctx (b : Fin 8) (h : Fin 4) (r : Fin 256) (d : Fin 128) :
    R_main_v172 s a1 a3 (ix2 (⟨b.val * 256 + r.val, by omega⟩ : Fin 2048) (⟨h.val * 128 + d.val, by omega⟩ : Fin 512))
      = gnGate (fun e => s.main_v100_9 (ix5 ⟨r.val / 128, by omega⟩ b (fwd h) ⟨r.val % 128, Nat.mod_lt _ (by omega)⟩ e)
          + s.main_v100_9 (ix5 ⟨1 - r.val / 128, by omega⟩ b (bwd h) (Fin.rev ⟨r.val % 128, Nat.mod_lt _ (by omega)⟩) e))
        (a3 (ix1 ⟨h.val * 128 + d.val, by omega⟩)) (ctxBlk a1 3 b h (ix2 r d)) d := by
  have hrv : r.rev.val = 255 - r.val := by rw [Fin.val_rev]; omega
  have hr := r.isLt
  have hf : ∀ x, s.main_v100_9 (ix5 ⟨r.val / 128, by omega⟩ b ⟨h.val, by omega⟩ ⟨r.val % 128, by omega⟩ x)
      = s.main_v100_9 (ix5 ⟨r.val / 128, by omega⟩ b (fwd h) ⟨r.val % 128, Nat.mod_lt _ (by omega)⟩ x) := fun x =>
    congrArg s.main_v100_9 (at_ix5 (by show r.val / 128 = r.val / 128; omega) (by show r.val % 128 = r.val % 128; omega) b (fwd h) x)
  have hb : ∀ x, s.main_v100_9 (ix5 ⟨r.rev.val / 128, by omega⟩ b ⟨4 + h.val, by omega⟩ ⟨r.rev.val % 128, by omega⟩ x)
      = s.main_v100_9 (ix5 ⟨1 - r.val / 128, by omega⟩ b (bwd h) (Fin.rev ⟨r.val % 128, Nat.mod_lt _ (by omega)⟩) x) := fun x =>
    congrArg s.main_v100_9 (at_ix5 (by show r.rev.val / 128 = 1 - r.val / 128; omega) (by refine Eq.trans ?_ (Fin.val_rev _).symm; show r.rev.val % 128 = 128 - (r.val % 128 + 1); omega) b (bwd h) x)
  have hg : a1 (ix2 (⟨b.val * 256 + r.val, by omega⟩ : Fin 2048) (⟨1536 + (h.val * 128 + d.val), by omega⟩ : Fin 2560)) = ctxBlk a1 3 b h (ix2 r d) :=
    congrArg a1 (congrArg (ix2 _) (Fin.ext (by show 1536 + (h.val * 128 + d.val) = (3 * 4 + h.val) * 128 + d.val; omega)))
  unfold gnGate c128
  pointwise [R_main_v172, rev_ctx]
  simp only [show ((0 : Fin 4) ∈ [(2 : Fin 4)]) = False by decide, show ((1 : Fin 4) ∈ [(2 : Fin 4)]) = False by decide, show ((2 : Fin 4) ∈ [(2 : Fin 4)]) = True by decide, show ((3 : Fin 4) ∈ [(2 : Fin 4)]) = False by decide, reduceIte]
  simp only [hf, hb, hg]
  rfl

end final

/-- The reference's first result is the retention of the sequence. -/
theorem value_lat : R_main_v171 (stateAt m c 18) (x0 m c) (x3 m c) = retLat (x0 m c) (x1 m c) (x2 m c) (x3 m c) := by
  funext y
  have h0 : (y 0).val < 16384 := (y 0).isLt
  have h1 : (y 1).val < 512 := (y 1).isLt
  have hy : y = ix2 (⟨(y 0).val / 2048 * 2048 + (y 0).val % 2048, by omega⟩ : Fin 16384) (⟨(y 1).val / 128 * 128 + (y 1).val % 128, by omega⟩ : Fin 512) :=
    (eq_ix2 y).trans (congr (congrArg ix2 (Fin.ext (by show (y 0).val = (y 0).val / 2048 * 2048 + (y 0).val % 2048; omega))) (Fin.ext (by show (y 1).val = (y 1).val / 128 * 128 + (y 1).val % 128; omega)))
  refine (congrArg (R_main_v171 (stateAt m c 18) (x0 m c) (x3 m c)) hy).trans ?_
  refine (res_lat (stateAt m c 18) (x0 m c) (x3 m c) ⟨(y 0).val / 2048, by omega⟩ ⟨(y 1).val / 128, by omega⟩ ⟨(y 0).val % 2048, by omega⟩ ⟨(y 1).val % 128, by omega⟩).trans ?_
  simp only [outs_fwd, outs_bwd, Fin.rev_rev]
  rfl

/-- The reference's second result is the retention of the context. -/
theorem value_ctx : R_main_v172 (stateAt m c 18) (x1 m c) (x3 m c) = retCtx (x0 m c) (x1 m c) (x2 m c) (x3 m c) := by
  funext y
  have h0 : (y 0).val < 2048 := (y 0).isLt
  have h1 : (y 1).val < 512 := (y 1).isLt
  have hy : y = ix2 (⟨(y 0).val / 256 * 256 + (y 0).val % 256, by omega⟩ : Fin 2048) (⟨(y 1).val / 128 * 128 + (y 1).val % 128, by omega⟩ : Fin 512) :=
    (eq_ix2 y).trans (congr (congrArg ix2 (Fin.ext (by show (y 0).val = (y 0).val / 256 * 256 + (y 0).val % 256; omega))) (Fin.ext (by show (y 1).val = (y 1).val / 128 * 128 + (y 1).val % 128; omega)))
  refine (congrArg (R_main_v172 (stateAt m c 18) (x1 m c) (x3 m c)) hy).trans ?_
  refine (res_ctx (stateAt m c 18) (x1 m c) (x3 m c) ⟨(y 0).val / 256, by omega⟩ ⟨(y 1).val / 128, by omega⟩ ⟨(y 0).val % 256, by omega⟩ ⟨(y 1).val % 128, by omega⟩).trans ?_
  simp only [outs_fwd, outs_bwd, Fin.rev_rev]
  rfl

end Cert.RefRun
-- ==== Proof.InProj.lean ====
module

public import Idealize.ShloMosaic.Lib.Pointwise
public import Idealize.ShloMosaic.Lib.Tactic
public import Idealize.ShloMosaic.Lib.WritesUnit

@[expose] public section

set_option maxRecDepth 16384

noncomputable section

/-! The in-projection: a row normalised and modulated, against the columns of a weight matrix; and how a buffer of rows
is read after stores of column blocks. -/

namespace Cert.InProj

open Idealize.ShloMosaic

/-- A vector of model width. -/
abbrev Row := Fin 1024 → EReal

/-- A row divided by its root mean square, times its weight, scaled and shifted. -/
def normed (x w sc sh : Row) : Row := fun k =>
  x k * Ideal.rsqrt (Ideal.div (∑ j, x j * x j) (Ideal.ofBits .f32 1149239296#32) + Ideal.ofBits .f32 897988541#32) * w k
    * (1 + sc k) + sh k

/-- A row against a column. -/
def proj (h W : Row) : EReal := ∑ k, h k * W k

/-- The latent row `i`, normalised and modulated by its sequence. -/
def latRow (a0 : (⟨2, ![16384, 1024]⟩ : Shape).Idx → EReal) (a1 : (⟨1, ![1024]⟩ : Shape).Idx → EReal)
    (a2 : (⟨3, ![16, 6, 1024]⟩ : Shape).Idx → EReal) (i : Fin 16384) : Row :=
  normed (fun k => a0 (ix2 i k)) (fun k => a1 (ix1 k))
    (fun k => a2 (ix3 ⟨i.val / 2048, by omega⟩ 1 k)) (fun k => a2 (ix3 ⟨i.val / 2048, by omega⟩ 0 k))

/-- The context row `i`, normalised and modulated by the context's row of modulations. -/
def ctxRow (a0 : (⟨2, ![2048, 1024]⟩ : Shape).Idx → EReal) (a1 : (⟨1, ![1024]⟩ : Shape).Idx → EReal)
    (a2 : (⟨3, ![16, 6, 1024]⟩ : Shape).Idx → EReal) (i : Fin 2048) : Row :=
  normed (fun k => a0 (ix2 i k)) (fun k => a1 (ix1 k)) (fun k => a2 (ix3 8 1 k)) (fun k => a2 (ix3 8 0 k))

/-- The wide result of the odd layer's latent rows: the first 3072 columns of the weights. -/
def oddMain (a0 : (⟨2, ![16384, 1024]⟩ : Shape).Idx → EReal) (a1 : (⟨1, ![1024]⟩ : Shape).Idx → EReal)
    (a2 : (⟨3, ![16, 6, 1024]⟩ : Shape).Idx → EReal) (a3 : (⟨2, ![1024, 3200]⟩ : Shape).Idx → EReal) :
    (⟨2, ![16384, 3072]⟩ : Shape).Idx → EReal := fun y =>
  proj (latRow a0 a1 a2 (y 0)) (fun k => a3 (ix2 k ⟨(y 1).val, by have : (y 1).val < 3072 := (y 1).isLt; omega⟩))

/-- The gate result of the odd layer's latent rows: the last 128 columns of the weights. -/
def oddGate (a0 : (⟨2, ![16384, 1024]⟩ : Shape).Idx → EReal) (a1 : (⟨1, ![1024]⟩ : Shape).Idx → EReal)
    (a2 : (⟨3, ![16, 6, 1024]⟩ : Shape).Idx → EReal) (a3 : (⟨2, ![1024, 3200]⟩ : Shape).Idx → EReal) :
    (⟨2, ![16384, 128]⟩ : Shape).Idx → EReal := fun y =>
  proj (latRow a0 a1 a2 (y 0)) (fun k => a3 (ix2 k ⟨3072 + (y 1).val, by have : (y 1).val < 128 := (y 1).isLt; omega⟩))

variable {sg : RefSig} {κ : Kind} {sp : Space} {R C w : ℕ}

/-- A buffer of rows after a store of `w` columns from column `o` on: those columns hold what was stored. -/
theorem cols_writes (v : View sg κ sp (⟨2, ![R, C]⟩ : Shape) .bf16) (f : v.ty.Contents (Elt Ideal)) (o : ℕ)
    (off : Fin 2 → ℕ) (inb : ∀ x, off x + (⟨2, ![R, w]⟩ : Shape).size x ≤ (⟨2, ![R, C]⟩ : Shape).size x) (h : off = ![0, o])
    (X : (⟨2, ![R, w]⟩ : Shape).Idx → EReal) (L : List (View.Piece (Elt Ideal) (⟨2, ![R, C]⟩ : Shape) .bf16)) (r : Fin R) (j : Fin C) :
    v.read (Elt Ideal) (v.writes (Elt Ideal) f (⟨Rect.unit (s := (⟨2, ![R, C]⟩ : Shape)) off (⟨2, ![R, w]⟩ : Shape).size inb, X⟩ :: L)) (ix2 r j)
      = if h : o ≤ j.val ∧ j.val < o + w then X (ix2 r ⟨j.val - o, by omega⟩)
        else v.read (Elt Ideal) (v.writes (Elt Ideal) f L) (ix2 r j) := by
  by_cases h1 : o ≤ j.val ∧ j.val < o + w
  · rw [dif_pos h1]
    exact View.read_writes_cons_unit_of_mem v f inb X L _ (ix2 r ⟨j.val - o, by omega⟩) h
      (by intro x; match x with
          | 0 => exact (Nat.zero_add _).symm
          | 1 => show j.val = o + (j.val - o); omega)
  · rw [dif_neg h1]
    exact View.read_writes_cons_unit_of_not_mem v f inb X L _ h 1 (by show j.val < o ∨ o + w ≤ j.val; omega)

/-- A load of `w` columns from column `o` on reads them. -/
theorem cols_ld {e : EltTy} (X : (⟨2, ![R, C]⟩ : Shape).Idx → Elt Ideal e) (o : ℕ)
    (off : Fin 2 → ℕ) (inb : ∀ x, off x + (⟨2, ![R, w]⟩ : Shape).size x ≤ (⟨2, ![R, C]⟩ : Shape).size x) (h : off = ![0, o])
    (k : Fin R) (j : Fin w) (j' : Fin C) (hj : j'.val = o + j.val) :
    View.ld X (Rect.unit (s := (⟨2, ![R, C]⟩ : Shape)) off (⟨2, ![R, w]⟩ : Shape).size inb) (ix2 k j) = X (ix2 k j') := by
  subst h
  show X _ = X _
  congr 1
  funext x
  apply Fin.ext
  match x with
  | 0 => show 0 + 1 * k.val = k.val; omega
  | 1 => show o + 1 * j.val = j'.val; omega

/-- A load of one row of a slab of rows reads it. -/
theorem row_ld {e : EltTy} (X : (⟨3, ![1, 6, 1024]⟩ : Shape).Idx → Elt Ideal e) (o : Fin 6)
    (off : Fin 3 → ℕ) (inb : ∀ x, off x + (⟨3, ![1, 1, 1024]⟩ : Shape).size x ≤ (⟨3, ![1, 6, 1024]⟩ : Shape).size x) (h : off = ![0, o.val, 0])
    (k : Fin 1024) :
    View.ld X (Rect.unit (s := (⟨3, ![1, 6, 1024]⟩ : Shape)) off (⟨3, ![1, 1, 1024]⟩ : Shape).size inb) (ix3 0 0 k) = X (ix3 0 o k) := by
  subst h
  show X _ = X _
  congr 1
  funext x
  apply Fin.ext
  match x with
  | 0 => rfl
  | 1 => show o.val + 1 * 0 = o.val; omega
  | 2 => show 0 + 1 * k.val = k.val; omega

end Cert.InProj

end
-- ==== Proof.Odd.lean ====
module

public import proofs.«01_k».proof.Proof.InProj
public import proofs.«01_k».proof.Proof.Gen.Kernel2Ideal.Value
public import Idealize.ShloMosaic.Lib.Claim

@[expose] public section

set_option maxRecDepth 16384

noncomputable section

/-! The in-projection of the odd layer's latent rows: what the kernel's run leaves in its two results. -/

namespace Cert.Kernel2Ideal.Gen

open Idealize.ShloMosaic Idealize.ShloMosaic.TcCoe Idealize.SL.Sem Cert.InProj

/-- Normalising and modulating a block of rows, at an index. -/
theorem pay3_eq (a : Vec Ideal S512x1024 .f32) (b : Vec Ideal S1x1024 .f32) (s h : Vec Ideal S1x1x1024 .f32) (r : Fin 512) (k : Fin 1024) :
    k0_pay3 (F := Ideal) a b s h (ix2 r k)
      = normed (fun k => a (ix2 r k)) (fun k => b (ix2 0 k)) (fun k => s (ix3 0 0 k)) (fun k => h (ix3 0 0 k)) k := by
  unfold normed
  pointwise [k0_pay3]

/-- A block of rows against a block of columns, at an index. -/
theorem pay4_eq (H : Vec Ideal S512x1024 .bf16) (W : Vec Ideal S1024x512 .bf16) (r : Fin 512) (j : Fin 512) :
    k0_pay4 (F := Ideal) H W (ix2 r j) = proj (fun k => H (ix2 r k)) (fun k => W (ix2 k j)) := by
  unfold proj
  pointwise [k0_pay4]

/-- A block of rows against the gate columns, at an index. -/
theorem pay2_eq (H : Vec Ideal S512x1024 .bf16) (W : Vec Ideal S1024x128 .bf16) (r : Fin 512) (j : Fin 128) :
    k0_pay2 (F := Ideal) H W (ix2 r j) = proj (fun k => H (ix2 r k)) (fun k => W (ix2 k j)) := by
  unfold proj
  pointwise [k0_pay2]

section point

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x6x1024 .f32) (harg3 : arg3.IsWhole) (arg4 : Memref sig .tc .vmem S1024x3200 .bf16) (harg4 : arg4.IsWhole) (arg5 : Memref sig .tc .vmem S512x3072 .bf16) (harg5 : arg5.IsWhole) (arg6 : Memref sig .tc .vmem S512x128 .f32) (harg6 : arg6.IsWhole) (arg7 : Memref sig .tc .vmem S512x1024 .bf16) (harg7 : arg7.IsWhole)
variable (x0 : Vec Ideal S512x1024 .f32) (x1 : Vec Ideal S1x1024 .f32) (x2 : Vec Ideal S1x6x1024 .f32) (x3 : Vec Ideal S1024x3200 .bf16)

/-- A row of the point's block, normalised and modulated. -/
def hrow (r : Fin 512) : Row :=
  normed (fun k => x0 (ix2 r k)) (fun k => x1 (ix2 0 k)) (fun k => x2 (ix3 0 1 k)) (fun k => x2 (ix3 0 0 k))

/-- The buffer of normalised rows, read whole. -/
theorem rows_read (r : Fin 512) (k : Fin 1024) :
    kernelRun0_A.sl.v29 (F := Ideal) c arg1 harg1 arg2 harg2 arg3 harg3 arg7 x0 x1 x2 (ix2 r k) = hrow x0 x1 x2 r k := by
  have hz : (![0, 0] : Fin 2 → ℕ) = fun _ => 0 := by decide
  unfold kernelRun0_A.sl.v29 View.readCov
  rw [View.readAt_eq_ld, View.ld_unit_zero hz]
  unfold kernelRun0_A.sl.HS0_1
  refine (View.read_writes_cons_unit_of_mem arg7.view _ inb_S512x1024_S512x1024_0_0 _ [] _ (ix2 r k) rfl
    (by intro x; match x with | 0 => exact (Nat.zero_add _).symm | 1 => exact (Nat.zero_add _).symm)).trans ?_
  rw [pay3_eq]
  unfold hrow
  simp only [View.readAt_eq_ld, harg1.read_unread, harg2.read_unread, harg3.read_unread]
  congr 1
  · funext k
    exact congrFun (View.ld_unit_zero hz _ _) _
  · funext k
    exact congrFun (View.ld_unit_zero hz _ _) _
  · funext k
    exact row_ld (e := .f32) x2 1 ![0, 1, 0] inb_S1x6x1024_S1x1x1024_0_1_0 rfl k
  · funext k
    exact row_ld (e := .f32) x2 0 ![0, 0, 0] inb_S1x6x1024_S1x1x1024_0_0_0 rfl k

/-- What the point leaves in its block of the first result. -/
theorem out4_apply (r : Fin 512) (j : Fin 3072) :
    out0_A_4 (F := Ideal) c i arg1 harg1 arg2 harg2 arg3 harg3 arg4 harg4 arg5 harg5 arg6 harg6 arg7 harg7 x0 x1 x2 x3 (ix2 r j)
      = proj (hrow x0 x1 x2 r) (fun k => x3 (ix2 k ⟨j.val, by omega⟩)) := by
  have key : ∀ (o : ℕ) (inb : ∀ x, (![0, o] : Fin 2 → ℕ) x + S1024x512.size x ≤ S1024x3200.size x) (j' : Fin 512), j.val = o + j'.val →
      k0_pay4 (F := Ideal) (kernelRun0_A.sl.v29 c arg1 harg1 arg2 harg2 arg3 harg3 arg7 x0 x1 x2)
        (arg4.view.readAt (Elt Ideal) (Rect.unit (s := S1024x3200) ![0, o] S1024x512.size inb).toLoadRect (harg4.unread x3)) (ix2 r j')
      = proj (hrow x0 x1 x2 r) (fun k => x3 (ix2 k ⟨j.val, by omega⟩)) := by
    intro o inb j' hj
    rw [pay4_eq]
    congr 1
    · funext k
      exact rows_read c arg1 harg1 arg2 harg2 arg3 harg3 arg7 x0 x1 x2 r k
    · funext k
      rw [View.readAt_eq_ld, harg4.read_unread]
      exact cols_ld (e := .bf16) x3 o ![0, o] inb rfl k j' ⟨j.val, by omega⟩ hj
  unfold out0_A_4 kernelRun0_A
  dsimp only
  have hj := j.isLt
  refine (cols_writes VO0_4 _ 2560 _ inb_S512x3072_S512x512_0_2560 rfl _ _ r j).trans ?_
  split
  · exact key 2560 inb_S1024x3200_S1024x512_0_2560 _ (by dsimp only; omega)
  refine (cols_writes VO0_4 _ 2048 _ inb_S512x3072_S512x512_0_2048 rfl _ _ r j).trans ?_
  split
  · exact key 2048 inb_S1024x3200_S1024x512_0_2048 _ (by dsimp only; omega)
  refine (cols_writes VO0_4 _ 1536 _ inb_S512x3072_S512x512_0_1536 rfl _ _ r j).trans ?_
  split
  · exact key 1536 inb_S1024x3200_S1024x512_0_1536 _ (by dsimp only; omega)
  refine (cols_writes VO0_4 _ 1024 _ inb_S512x3072_S512x512_0_1024 rfl _ _ r j).trans ?_
  split
  · exact key 1024 inb_S1024x3200_S1024x512_0_1024 _ (by dsimp only; omega)
  refine (cols_writes VO0_4 _ 512 _ inb_S512x3072_S512x512_0_512 rfl _ _ r j).trans ?_
  split
  · exact key 512 inb_S1024x3200_S1024x512_0_512 _ (by dsimp only; omega)
  refine (cols_writes VO0_4 _ 0 _ inb_S512x3072_S512x512_0_0 rfl _ _ r j).trans ?_
  split
  · exact key 0 inb_S1024x3200_S1024x512_0_0 _ (by dsimp only; omega)
  · omega

/-- What the point leaves in its block of the second result. -/
theorem out5_apply (r : Fin 512) (j : Fin 128) :
    out0_A_5 (F := Ideal) c i arg1 harg1 arg2 harg2 arg3 harg3 arg4 harg4 arg5 harg5 arg6 harg6 arg7 harg7 x0 x1 x2 x3 (ix2 r j)
      = proj (hrow x0 x1 x2 r) (fun k => x3 (ix2 k ⟨3072 + j.val, by omega⟩)) := by
  unfold out0_A_5 kernelRun0_A
  dsimp only
  refine (View.read_writes_cons_unit_of_mem VO0_5 _ inb_S512x128_S512x128_0_0 _ [] _ (ix2 r j) rfl
    (by intro x; match x with | 0 => exact (Nat.zero_add _).symm | 1 => exact (Nat.zero_add _).symm)).trans ?_
  rw [pay2_eq]
  congr 1
  · funext k
    exact rows_read c arg1 harg1 arg2 harg2 arg3 harg3 arg7 x0 x1 x2 r k
  · funext k
    rw [View.readAt_eq_ld, harg4.read_unread]
    exact cols_ld (e := .bf16) x3 3072 ![0, 3072] inb_S1024x3200_S1024x128_0_3072 rfl k j ⟨3072 + j.val, by omega⟩ rfl

end point

section run

variable (m : (ℓ : Loc nD τ sig) → Buf (Elt Ideal) ℓ) (ρ : Dev nD → PrngReg) (c : Dev nD) (t : Fin cfg0.N)

/-- Where the six windows of a point are. -/
theorem win_index : ∀ t : Fin cfg0.N, win0_0.index t = ![t.val, 0] ∧ win0_1.index t = ![0, 0] ∧ win0_2.index t = ![t.val / 4, 0, 0]
    ∧ win0_3.index t = ![0, 0] ∧ win0_4.index t = ![t.val, 0] ∧ win0_5.index t = ![t.val, 0] :=
  (by decide +kernel : ∀ t : Fin grid0.N, _)

/-- The rows window reads the point's rows. -/
theorem iblk_rows (r : Fin 512) (k : Fin 1024) : (iblk m c 0 t : Vec Ideal S512x1024 .f32) (ix2 r k)
    = m (c.tc.loc main_arg0) (ix2 ⟨t.val * 512 + r.val, by have h : t.val < 32 := Nat.lt_of_lt_of_eq t.isLt N_0; omega⟩ k) := by
  have h := (win_index t).1
  have hN : t.val < 32 := Nat.lt_of_lt_of_eq t.isLt N_0
  unfold iblk
  rw [View.read_apply]
  have he : (((cfg0.win 0).blk t).view.emb (ix2 r k) : S16384x1024.Idx) = ix2 ⟨t.val * 512 + r.val, by omega⟩ k := by
    funext x
    apply Fin.ext
    match x with
    | ⟨0, _⟩ => show win0_0.index t 0 * 512 + 1 * r.val = t.val * 512 + r.val; rw [h]; show t.val * 512 + 1 * r.val = _; omega
    | ⟨1, _⟩ => show win0_0.index t 1 * 1024 + 1 * k.val = k.val; rw [h]; show 0 * 1024 + 1 * k.val = _; omega
  refine (congrArg (V m c main_arg0) he).trans ?_
  rw [V_main_arg0 m c]

/-- The norm's window reads its weights. -/
theorem iblk_norm (k : Fin 1024) : (iblk m c 1 t : Vec Ideal S1x1024 .f32) (ix2 0 k) = m (c.tc.loc main_arg1) (ix1 k) := by
  have h := (win_index t).2.1
  unfold iblk
  rw [View.read_apply]
  have he : (((cfg0.win 1).blk t).view.emb (ix2 0 k) : S1x1024.Idx) = ix2 0 k := by
    funext x
    apply Fin.ext
    match x with
    | ⟨0, _⟩ => show win0_1.index t 0 * 1 + 1 * 0 = 0; rw [h]; rfl
    | ⟨1, _⟩ => show win0_1.index t 1 * 1024 + 1 * k.val = k.val; rw [h]; show 0 * 1024 + 1 * k.val = _; omega
  refine (congrArg (V m c main_v0) he).trans ?_
  entry_read
  pointwise

/-- The modulations' window reads those of the rows' sequence. -/
theorem iblk_mod (o : Fin 6) (k : Fin 1024) : (iblk m c 2 t : Vec Ideal S1x6x1024 .f32) (ix3 0 o k)
    = m (c.tc.loc main_arg2) (ix3 ⟨t.val / 4, by have h : t.val < 32 := Nat.lt_of_lt_of_eq t.isLt N_0; omega⟩ o k) := by
  have h := (win_index t).2.2.1
  have hN : t.val < 32 := Nat.lt_of_lt_of_eq t.isLt N_0
  unfold iblk
  rw [View.read_apply]
  have he : (((cfg0.win 2).blk t).view.emb (ix3 0 o k) : S16x6x1024.Idx) = ix3 ⟨t.val / 4, by omega⟩ o k := by
    funext x
    apply Fin.ext
    match x with
    | ⟨0, _⟩ => show win0_2.index t 0 * 1 + 1 * 0 = t.val / 4; rw [h]; show t.val / 4 * 1 + 1 * 0 = _; omega
    | ⟨1, _⟩ => show win0_2.index t 1 * 6 + 1 * o.val = o.val; rw [h]; show 0 * 6 + 1 * o.val = _; omega
    | ⟨2, _⟩ => show win0_2.index t 2 * 1024 + 1 * k.val = k.val; rw [h]; show 0 * 1024 + 1 * k.val = _; omega
  refine (congrArg (V m c main_arg2) he).trans ?_
  rw [V_main_arg2 m c]

/-- A row of the point's block is the latent row it is of. -/
theorem hrow_eq (r : Fin 512) : hrow (iblk m c 0 t) (iblk m c 1 t) (iblk m c 2 t) r
    = latRow (m (c.tc.loc main_arg0)) (m (c.tc.loc main_arg1)) (m (c.tc.loc main_arg2))
        ⟨t.val * 512 + r.val, by have h : t.val < 32 := Nat.lt_of_lt_of_eq t.isLt N_0; omega⟩ := by
  have hb : t.val / 4 = (t.val * 512 + r.val) / 2048 := by omega
  unfold hrow latRow
  congr 1
  · funext k; exact iblk_rows m c t r k
  · funext k; exact iblk_norm m c t k
  · funext k; refine (iblk_mod m c t 1 k).trans (congrArg (m (c.tc.loc main_arg2)) ?_); exact congrArg (ix3 · 1 k) (Fin.ext hb)
  · funext k; refine (iblk_mod m c t 0 k).trans (congrArg (m (c.tc.loc main_arg2)) ?_); exact congrArg (ix3 · 0 k) (Fin.ext hb)

/-- The weights window reads them whole. -/
theorem iblk_weights (k : Fin 1024) (j : Fin 3200) : (iblk m c 3 t : Vec Ideal S1024x3200 .bf16) (ix2 k j) = m (c.tc.loc main_arg3) (ix2 k j) := by
  have h := (win_index t).2.2.2.1
  unfold iblk
  rw [View.read_apply]
  have he : (((cfg0.win 3).blk t).view.emb (ix2 k j) : S1024x3200.Idx) = ix2 k j := by
    funext x
    apply Fin.ext
    match x with
    | ⟨0, _⟩ => show win0_3.index t 0 * 1024 + 1 * k.val = k.val; rw [h]; show 0 * 1024 + 1 * k.val = _; omega
    | ⟨1, _⟩ => show win0_3.index t 1 * 3200 + 1 * j.val = j.val; rw [h]; show 0 * 3200 + 1 * j.val = _; omega
  refine (congrArg (V m c main_arg3) he).trans ?_
  rw [V_main_arg3 m c]

/-- What a grid point leaves in its block of the wide result. -/
theorem point_main (r : Fin 512) (j : Fin 3072) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (ix2 r j)
      = oddMain (m (c.tc.loc main_arg0)) (m (c.tc.loc main_arg1)) (m (c.tc.loc main_arg2)) (m (c.tc.loc main_arg3)) (ix2 ⟨t.val * 512 + r.val, by have h : t.val < 32 := Nat.lt_of_lt_of_eq t.isLt N_0; omega⟩ j) := by
  rw [out4_apply, hrow_eq]
  unfold oddMain
  congr 1
  funext k
  exact iblk_weights m c t k _

/-- What a grid point writes back to the wide result is its block of the projection. -/
theorem flushed_main (t : Fin cfg0.N) : (dats m 0 c).flushed 4 t = ((cfg0.win 4).blk t).view.read (Elt Ideal) (oddMain (m (c.tc.loc main_arg0)) (m (c.tc.loc main_arg1)) (m (c.tc.loc main_arg2)) (m (c.tc.loc main_arg3))) := by
  rw [Value.flushed4_A]
  funext y
  have hi := (win_index t).2.2.2.2.1
  have h0 : (y 0).val < 512 := (y 0).isLt
  have h1 : (y 1).val < 3072 := (y 1).isLt
  have ht : t.val < 32 := Nat.lt_of_lt_of_eq t.isLt N_0
  have hy : (y : S512x3072.Idx) = ix2 (⟨(y 0).val, h0⟩ : Fin 512) (⟨(y 1).val, h1⟩ : Fin 3072) := by
    funext x
    match x with
    | ⟨0, _⟩ => rfl
    | ⟨1, _⟩ => rfl
  refine (congrArg (_ : S512x3072.Idx → EReal) hy).trans ?_
  refine (point_main m c t ⟨(y 0).val, h0⟩ ⟨(y 1).val, h1⟩).trans ?_
  rw [View.read_apply]
  have he : (((cfg0.win 4).blk t).view.emb y : S16384x3072.Idx)
      = ix2 ⟨t.val * 512 + (y 0).val, by omega⟩ ⟨(y 1).val, h1⟩ := by
    funext x
    apply Fin.ext
    match x with
    | ⟨0, _⟩ => show win0_4.index t 0 * 512 + 1 * (y 0).val = t.val * 512 + (y 0).val; rw [hi]; show t.val * 512 + 1 * (y 0).val = _; omega
    | ⟨1, _⟩ => show win0_4.index t 1 * 3072 + 1 * (y 1).val = (y 1).val; rw [hi]; show 0 * 3072 + 1 * (y 1).val = _; omega
  exact (congrArg (oddMain (m (c.tc.loc main_arg0)) (m (c.tc.loc main_arg1)) (m (c.tc.loc main_arg2)) (m (c.tc.loc main_arg3))) he).symm

/-- Every index of the wide result is in some point's block. -/
theorem cover_main (i : S16384x3072.Idx) : ∃ t : Fin cfg0.N, (cfg0.win 4).flush t = true ∧ i ∈ ((cfg0.win 4).blk t).view.set := by
  have h0 : (i 0).val < 16384 := (i 0).isLt
  have h1 : (i 1).val < 3072 := (i 1).isLt
  have hN : cfg0.N = 32 := N_0
  have ht : (i 0).val / 512 < cfg0.N := by omega
  refine ⟨⟨(i 0).val / 512, ht⟩, flush0_4 _, ?_⟩
  show i ∈ ((View.whole main_v1_0).slice (win0_4.rect ⟨(i 0).val / 512, ht⟩)).set
  rw [View.set_slice_whole, Rect.mem_set_unit]
  have hi := (win_index ⟨(i 0).val / 512, ht⟩).2.2.2.2.1
  intro a
  match a with
  | ⟨0, _⟩ =>
    show win0_4.index _ 0 * 512 ≤ (i 0).val ∧ (i 0).val < win0_4.index _ 0 * 512 + 512
    rw [hi]
    show (i 0).val / 512 * 512 ≤ (i 0).val ∧ (i 0).val < (i 0).val / 512 * 512 + 512
    omega
  | ⟨1, _⟩ =>
    show win0_4.index _ 1 * 3072 ≤ (i 1).val ∧ (i 1).val < win0_4.index _ 1 * 3072 + 3072
    rw [hi]
    show 0 * 3072 ≤ (i 1).val ∧ (i 1).val < 0 * 3072 + 3072
    omega

/-- So the wide result ends holding the projection. -/
theorem final_main : (dats m 0 c).arrAt 4 cfg0.N = oddMain (m (c.tc.loc main_arg0)) (m (c.tc.loc main_arg1)) (m (c.tc.loc main_arg2)) (m (c.tc.loc main_arg3)) :=
  (dats m 0 c).arrAt_eq_of_cover 4 (oddMain (m (c.tc.loc main_arg0)) (m (c.tc.loc main_arg1)) (m (c.tc.loc main_arg2)) (m (c.tc.loc main_arg3))) (fun t _ => flushed_main m c t) cover_main

/-- What a grid point leaves in its block of the gate result. -/
theorem point_gate (r : Fin 512) (j : Fin 128) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (ix2 r j)
      = oddGate (m (c.tc.loc main_arg0)) (m (c.tc.loc main_arg1)) (m (c.tc.loc main_arg2)) (m (c.tc.loc main_arg3)) (ix2 ⟨t.val * 512 + r.val, by have h : t.val < 32 := Nat.lt_of_lt_of_eq t.isLt N_0; omega⟩ j) := by
  rw [out5_apply, hrow_eq]
  unfold oddGate
  congr 1
  funext k
  exact iblk_weights m c t k _

/-- What a grid point writes back to the gate result is its block of the projection. -/
theorem flushed_gate (t : Fin cfg0.N) : (dats m 0 c).flushed 5 t = ((cfg0.win 5).blk t).view.read (Elt Ideal) (oddGate (m (c.tc.loc main_arg0)) (m (c.tc.loc main_arg1)) (m (c.tc.loc main_arg2)) (m (c.tc.loc main_arg3))) := by
  rw [Value.flushed5_A]
  funext y
  have hi := (win_index t).2.2.2.2.2
  have h0 : (y 0).val < 512 := (y 0).isLt
  have h1 : (y 1).val < 128 := (y 1).isLt
  have ht : t.val < 32 := Nat.lt_of_lt_of_eq t.isLt N_0
  have hy : (y : S512x128.Idx) = ix2 (⟨(y 0).val, h0⟩ : Fin 512) (⟨(y 1).val, h1⟩ : Fin 128) := by
    funext x
    match x with
    | ⟨0, _⟩ => rfl
    | ⟨1, _⟩ => rfl
  refine (congrArg (_ : S512x128.Idx → EReal) hy).trans ?_
  refine (point_gate m c t ⟨(y 0).val, h0⟩ ⟨(y 1).val, h1⟩).trans ?_
  rw [View.read_apply]
  have he : (((cfg0.win 5).blk t).view.emb y : S16384x128.Idx)
      = ix2 ⟨t.val * 512 + (y 0).val, by omega⟩ ⟨(y 1).val, h1⟩ := by
    funext x
    apply Fin.ext
    match x with
    | ⟨0, _⟩ => show win0_5.index t 0 * 512 + 1 * (y 0).val = t.val * 512 + (y 0).val; rw [hi]; show t.val * 512 + 1 * (y 0).val = _; omega
    | ⟨1, _⟩ => show win0_5.index t 1 * 128 + 1 * (y 1).val = (y 1).val; rw [hi]; show 0 * 128 + 1 * (y 1).val = _; omega
  exact (congrArg (oddGate (m (c.tc.loc main_arg0)) (m (c.tc.loc main_arg1)) (m (c.tc.loc main_arg2)) (m (c.tc.loc main_arg3))) he).symm

/-- Every index of the gate result is in some point's block. -/
theorem cover_gate (i : S16384x128.Idx) : ∃ t : Fin cfg0.N, (cfg0.win 5).flush t = true ∧ i ∈ ((cfg0.win 5).blk t).view.set := by
  have h0 : (i 0).val < 16384 := (i 0).isLt
  have h1 : (i 1).val < 128 := (i 1).isLt
  have hN : cfg0.N = 32 := N_0
  have ht : (i 0).val / 512 < cfg0.N := by omega
  refine ⟨⟨(i 0).val / 512, ht⟩, flush0_5 _, ?_⟩
  show i ∈ ((View.whole main_v1_1).slice (win0_5.rect ⟨(i 0).val / 512, ht⟩)).set
  rw [View.set_slice_whole, Rect.mem_set_unit]
  have hi := (win_index ⟨(i 0).val / 512, ht⟩).2.2.2.2.2
  intro a
  match a with
  | ⟨0, _⟩ =>
    show win0_5.index _ 0 * 512 ≤ (i 0).val ∧ (i 0).val < win0_5.index _ 0 * 512 + 512
    rw [hi]
    show (i 0).val / 512 * 512 ≤ (i 0).val ∧ (i 0).val < (i 0).val / 512 * 512 + 512
    omega
  | ⟨1, _⟩ =>
    show win0_5.index _ 1 * 128 ≤ (i 1).val ∧ (i 1).val < win0_5.index _ 1 * 128 + 128
    rw [hi]
    show 0 * 128 ≤ (i 1).val ∧ (i 1).val < 0 * 128 + 128
    omega

/-- So the gate result ends holding the projection. -/
theorem final_gate : (dats m 0 c).arrAt 5 cfg0.N = oddGate (m (c.tc.loc main_arg0)) (m (c.tc.loc main_arg1)) (m (c.tc.loc main_arg2)) (m (c.tc.loc main_arg3)) :=
  (dats m 0 c).arrAt_eq_of_cover 5 (oddGate (m (c.tc.loc main_arg0)) (m (c.tc.loc main_arg1)) (m (c.tc.loc main_arg2)) (m (c.tc.loc main_arg3))) (fun t _ => flushed_gate m c t) cover_gate

/-- The kernel's run: both results hold the projection, the arguments are unchanged. -/
theorem run_proj : θ_run defs (onTc (τ := τ) (main (F := Ideal))) ⟨m, fun _ => 0, ρ⟩ fun r => ∀ c : Dev nD,
      r.2.mem ((c : Thread nD τ).loc main_v1_0) = oddMain (m (c.tc.loc main_arg0)) (m (c.tc.loc main_arg1)) (m (c.tc.loc main_arg2)) (m (c.tc.loc main_arg3))
      ∧ r.2.mem ((c : Thread nD τ).loc main_v1_1) = oddGate (m (c.tc.loc main_arg0)) (m (c.tc.loc main_arg1)) (m (c.tc.loc main_arg2)) (m (c.tc.loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_main m c), (h c).2.1.trans (final_gate m c), (h c).2.2⟩)
    (Value.run_blocks m ρ)

end run

end Cert.Kernel2Ideal.Gen

end
-- ==== Proof.RefOdd.lean ====
module

public import proofs.«01_k».proof.Proof.InProj
public import proofs.«01_k».proof.Proof.Gen.Reference2Ideal.Run

@[expose] public section

set_option maxRecDepth 16384

noncomputable section

/-! The in-projection of the odd layer's latent rows, as the reference's host code computes it. -/

namespace Cert.Reference2Ideal.Value

open Idealize.ShloMosaic Idealize.ShloMosaic.TcCoe Idealize.SL.Sem Cert.InProj

section terms

variable (a0 : FVec Ideal S16384x1024 .f32) (a1 : FVec Ideal S1024 .f32) (a2 : FVec Ideal S16x6x1024 .f32) (a3 : FVec Ideal S1024x3200 .bf16)

/-- The rows, normalised and modulated, as the host code computes them. -/
def rows : FVec Ideal S8x2048x1024 .f32 :=
  (addf
    (mulf
      (mulf
        (mulf
          (shapeCast S8x2048x1024 a0 Gen.shapeCasts_S16384x1024_S8x2048x1024)
          (broadcastInDim S8x2048x1024 ![0, 1, 2] Gen.bcast_S8x2048x1_S8x2048x1024_0_1_2
            (Host.rsqrt
              (addf
                (Host.divf
                  (broadcastInDim S8x2048x1 ![0, 1] Gen.bcast_S8x2048_S8x2048x1_0_1
                    (Host.reduceAdd
                      (mulf
                        (shapeCast S8x2048x1024 a0 Gen.shapeCasts_S16384x1024_S8x2048x1024)
                        (shapeCast S8x2048x1024 a0 Gen.shapeCasts_S16384x1024_S8x2048x1024))
                      (constant S_ FTy.f32 0#32) Gen.reducesTo_S8x2048x1024_S8x2048_d2 Gen.h_S_))
                  (broadcastInDim S8x2048x1 ![] Gen.bcast_S_S8x2048x1
                    (constant S_ FTy.f32 1149239296#32)))
                (broadcastInDim S8x2048x1 ![] Gen.bcast_S_S8x2048x1
                  (constant S_ FTy.f32 897988541#32))))))
        (broadcastInDim S8x2048x1024 ![0, 1, 2] Gen.bcast_S1x1x1024_S8x2048x1024_0_1_2
          (broadcastInDim S1x1x1024 ![2] Gen.bcast_S1024_S1x1x1024_2 a1)))
      (broadcastInDim S8x2048x1024 ![0, 1, 2] Gen.bcast_S8x1x1024_S8x2048x1024_0_1_2
        (addf
          (broadcastInDim S8x1x1024 ![] Gen.bcast_S_S8x1x1024 (constant S_ FTy.f32 1065353216#32))
          (extractStridedSlice S8x1x1024 ![0, 0, 1024]
            (shapeCast S8x1x6144
              (extractStridedSlice S8x6x1024 ![0, 0, 0] a2 Gen.slices_S16x6x1024_S8x6x1024_0_0_0)
              Gen.shapeCasts_S8x6x1024_S8x1x6144)
            Gen.slices_S8x1x6144_S8x1x1024_0_0_1024))))
    (broadcastInDim S8x2048x1024 ![0, 1, 2] Gen.bcast_S8x1x1024_S8x2048x1024_0_1_2
      (extractStridedSlice S8x1x1024 ![0, 0, 0]
        (shapeCast S8x1x6144
          (extractStridedSlice S8x6x1024 ![0, 0, 0] a2 Gen.slices_S16x6x1024_S8x6x1024_0_0_0)
          Gen.shapeCasts_S8x6x1024_S8x1x6144)
        Gen.slices_S8x1x6144_S8x1x1024_0_0_0)))

/-- They are the latent rows. -/
theorem rows_eq (b : Fin 8) (r : Fin 2048) (k : Fin 1024) : rows a0 a1 a2 (ix3 b r k) = latRow a0 a1 a2 ⟨b.val * 2048 + r.val, by omega⟩ k := by
  unfold latRow normed
  have hb : (⟨(b.val * 2048 + r.val) / 2048, by omega⟩ : Fin 16) = ⟨b.val, by omega⟩ := Fin.ext (by show (b.val * 2048 + r.val) / 2048 = b.val; omega)
  have h1 : (⟨(1024 + k.val) / 1024, by omega⟩ : Fin 6) = 1 := Fin.ext (by show (1024 + k.val) / 1024 = 1; omega)
  have h0 : (⟨k.val / 1024, by omega⟩ : Fin 6) = 0 := Fin.ext (by show k.val / 1024 = 0; omega)
  have hk : (⟨k.val % 1024, Nat.mod_lt _ (by omega)⟩ : Fin 1024) = k := Fin.ext (Nat.mod_eq_of_lt k.isLt)
  pointwise [rows]
  rw [hb, h1, h0, hk]

/-- The product of the normalised rows and the weights, laid out one row under the other. -/
def prod : FVec Ideal S16384x3200 .f32 :=
  shapeCast S16384x3200 (Host.dotGeneral dot_S8x2048x1024_S1024x3200_S8x2048x3200_2_0_01_1_n_n none (rows a0 a1 a2) (extf .f32 a3 Gen.bitsLt_bf16_f32))
    Gen.shapeCasts_S8x2048x3200_S16384x3200

/-- Rows against the weights, laid out one under the other, at an index. -/
theorem prod_eq (H : FVec Ideal S8x2048x1024 .f32) (i : Fin 16384) (j : Fin 3200) :
    shapeCast S16384x3200 (Host.dotGeneral dot_S8x2048x1024_S1024x3200_S8x2048x3200_2_0_01_1_n_n none H (extf .f32 a3 Gen.bitsLt_bf16_f32))
        Gen.shapeCasts_S8x2048x3200_S16384x3200 (ix2 i j)
      = proj (fun k => H (ix3 ⟨i.val / 2048, by omega⟩ ⟨i.val % 2048, Nat.mod_lt _ (by omega)⟩ k)) (fun k => a3 (ix2 k j)) := by
  unfold proj
  pointwise

/-- The product is a latent row against a column of the weights. -/
theorem prod_row (i : Fin 16384) (j : Fin 3200) : prod a0 a1 a2 a3 (ix2 i j) = proj (latRow a0 a1 a2 i) (fun k => a3 (ix2 k j)) := by
  have hi : (⟨i.val / 2048 * 2048 + i.val % 2048, by omega⟩ : Fin 16384) = i := Fin.ext (by show i.val / 2048 * 2048 + i.val % 2048 = i.val; omega)
  refine (prod_eq a3 (rows a0 a1 a2) i j).trans ?_
  congr 1
  funext k
  refine (rows_eq a0 a1 a2 _ _ k).trans ?_
  exact congrArg (fun x => latRow a0 a1 a2 x k) hi

/-- The product's wide columns, at an index. -/
theorem wide_eq (P : FVec Ideal S16384x3200 .f32) (i : Fin 16384) (j : Fin 3072) :
    truncf FTy.bf16 (extractStridedSlice S16384x3072 ![0, 0] P Gen.slices_S16384x3200_S16384x3072_0_0) Gen.bitsLt_bf16_f32 (ix2 i j)
      = P (ix2 i ⟨j.val, by omega⟩) := by
  pointwise

/-- The product's gate columns, at an index. -/
theorem gate_eq (P : FVec Ideal S16384x3200 .f32) (i : Fin 16384) (j : Fin 128) :
    extractStridedSlice S16384x128 ![0, 3072] P Gen.slices_S16384x3200_S16384x128_0_3072 (ix2 i j) = P (ix2 i ⟨3072 + j.val, by omega⟩) := by
  pointwise

/-- The first result's value. -/
theorem main_value : truncf FTy.bf16 (extractStridedSlice S16384x3072 ![0, 0] (prod a0 a1 a2 a3) Gen.slices_S16384x3200_S16384x3072_0_0) Gen.bitsLt_bf16_f32
    = oddMain a0 a1 a2 a3 := by
  funext y
  exact (congrArg _ (eq_ix2 y)).trans ((wide_eq (prod a0 a1 a2 a3) (y 0) (y 1)).trans (prod_row a0 a1 a2 a3 _ _))

/-- The second result's value. -/
theorem gate_value : extractStridedSlice S16384x128 ![0, 3072] (prod a0 a1 a2 a3) Gen.slices_S16384x3200_S16384x128_0_3072
    = oddGate a0 a1 a2 a3 := by
  funext y
  exact (congrArg _ (eq_ix2 y)).trans ((gate_eq (prod a0 a1 a2 a3) (y 0) (y 1)).trans (prod_row a0 a1 a2 a3 _ _))

end terms

variable (m : (ℓ : Loc nD τ sig) → Buf (Elt Ideal) ℓ) (ρ : Dev nD → PrngReg)

/-- The reference's run: both results are the in-projection's, the arguments are unchanged. -/
theorem run_proj : θ_run defs (onTc (τ := τ) (main (F := Ideal))) ⟨m, fun _ => 0, ρ⟩ fun r => ∀ c : Dev nD,
      r.2.mem ((c : Thread nD τ).loc main_v28) = oddMain (m (c.tc.loc main_arg0)) (m (c.tc.loc main_arg1)) (m (c.tc.loc main_arg2)) (m (c.tc.loc main_arg3))
      ∧ r.2.mem ((c : Thread nD τ).loc main_v29) = oddGate (m (c.tc.loc main_arg0)) (m (c.tc.loc main_arg1)) (m (c.tc.loc main_arg2)) (m (c.tc.loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2⟩) (run m ρ)
  · exact main_value _ _ _ _
  · exact gate_value _ _ _ _

end Cert.Reference2Ideal.Value

end
-- ==== Proof.Rope.lean ====
module

public import proofs.«01_k».proof.Proof.InProj

@[expose] public section

set_option maxRecDepth 16384

noncomputable section

/-! The even layer's latent rows: a head's columns turned by a row's angles, and the in-projection with the query and key
heads turned. -/

namespace Cert.InProj

open Idealize.ShloMosaic

/-- A head's columns turned: each column of the first half with the one of the second half it is paired with. -/
def turned (a : Fin 128 → EReal) (cs sn : Fin 64 → EReal) (e : Fin 128) : EReal :=
  if h : e.val < 64 then a e * cs ⟨e.val, h⟩ - a ⟨e.val + 64, by omega⟩ * sn ⟨e.val, h⟩
  else a ⟨e.val - 64, by omega⟩ * sn ⟨e.val - 64, by omega⟩ + a e * cs ⟨e.val - 64, by omega⟩

/-- A head's columns turned as one sum: each column times its cosine, and the column half a head away times its signed sine. -/
def swung (a c s : Fin 128 → EReal) (e : Fin 128) : EReal := a e * c e + a ⟨(e.val + 128 - 64) % 128, Nat.mod_lt _ (by omega)⟩ * s e

/-- The two agree where the cosines are repeated and the sines of the first half are negated. -/
theorem swung_eq (a c s : Fin 128 → EReal) (cs sn : Fin 64 → EReal) (e : Fin 128)
    (hc : c e = if h : e.val < 64 then cs ⟨e.val, h⟩ else cs ⟨e.val - 64, by omega⟩)
    (hs : s e = if h : e.val < 64 then -sn ⟨e.val, h⟩ else sn ⟨e.val - 64, by omega⟩) : swung a c s e = turned a cs sn e := by
  unfold swung turned
  rw [hc, hs]
  by_cases h : e.val < 64
  · have he : (⟨(e.val + 128 - 64) % 128, Nat.mod_lt _ (by omega)⟩ : Fin 128) = ⟨e.val + 64, by omega⟩ :=
      Fin.ext (by show (e.val + 128 - 64) % 128 = e.val + 64; omega)
    simp only [dif_pos h]
    rw [he, mul_neg, sub_eq_add_neg]
  · have he : (⟨(e.val + 128 - 64) % 128, Nat.mod_lt _ (by omega)⟩ : Fin 128) = ⟨e.val - 64, by omega⟩ :=
      Fin.ext (by show (e.val + 128 - 64) % 128 = e.val - 64; omega)
    simp only [dif_neg h]
    rw [he, add_comm]

/-- The columns of the head a column is in. -/
def head (P : Fin 2560 → EReal) (j : Fin 2560) (h : j.val < 1024) : Fin 128 → EReal := fun e => P ⟨j.val / 128 * 128 + e.val, by omega⟩

/-- A projected row with its first four heads turned and scaled, the next four turned, the rest as they are. -/
def evenRow (P : Fin 2560 → EReal) (cs sn : Fin 64 → EReal) (j : Fin 2560) : EReal :=
  if h : j.val < 512 then turned (head P j (by omega)) cs sn ⟨j.val % 128, Nat.mod_lt _ (by omega)⟩ * Ideal.ofBits .f32 1035273459#32
  else if h : j.val < 1024 then turned (head P j h) cs sn ⟨j.val % 128, Nat.mod_lt _ (by omega)⟩
  else P j

/-- The result of the even layer's latent rows. -/
def evenMain (cs sn : (⟨2, ![2048, 64]⟩ : Shape).Idx → EReal) (a0 : (⟨2, ![16384, 1024]⟩ : Shape).Idx → EReal)
    (a1 : (⟨1, ![1024]⟩ : Shape).Idx → EReal) (a2 : (⟨3, ![16, 6, 1024]⟩ : Shape).Idx → EReal)
    (a3 : (⟨2, ![1024, 2560]⟩ : Shape).Idx → EReal) : (⟨2, ![16384, 2560]⟩ : Shape).Idx → EReal := fun y =>
  evenRow (fun j => proj (latRow a0 a1 a2 (y 0)) (fun k => a3 (ix2 k j)))
    (fun e => cs (ix2 ⟨(y 0).val % 2048, Nat.mod_lt _ (by omega)⟩ e)) (fun e => sn (ix2 ⟨(y 0).val % 2048, Nat.mod_lt _ (by omega)⟩ e)) (y 1)

/-- A projected row with its heads turned as one sum each. -/
def swungRow (P : Fin 2560 → EReal) (c s : Fin 128 → EReal) (j : Fin 2560) : EReal :=
  if h : j.val < 512 then swung (head P j (by omega)) c s ⟨j.val % 128, Nat.mod_lt _ (by omega)⟩ * Ideal.ofBits .f32 1035273459#32
  else if h : j.val < 1024 then swung (head P j h) c s ⟨j.val % 128, Nat.mod_lt _ (by omega)⟩
  else P j

/-- It is the row with its heads turned, where the cosines are repeated and the sines of the first half are negated. -/
theorem swungRow_eq (P : Fin 2560 → EReal) (c s : Fin 128 → EReal) (cs sn : Fin 64 → EReal) (j : Fin 2560)
    (hc : ∀ e, c e = if h : e.val < 64 then cs ⟨e.val, h⟩ else cs ⟨e.val - 64, by omega⟩)
    (hs : ∀ e, s e = if h : e.val < 64 then -sn ⟨e.val, h⟩ else sn ⟨e.val - 64, by omega⟩) : swungRow P c s j = evenRow P cs sn j := by
  unfold swungRow evenRow
  simp only [swung_eq _ c s cs sn _ (hc _) (hs _)]

/-- A head's block of columns is the head a column of it is in. -/
theorem swung_head (P : Fin 2560 → EReal) (j : Fin 2560) (hj : j.val < 1024) (o : ℕ) (a c s c' s' : Fin 128 → EReal) (e : Fin 128)
    (he : j.val = o + e.val) (ho : o % 128 = 0) (ha : ∀ (e : Fin 128) (h : o + e.val < 2560), a e = P ⟨o + e.val, h⟩)
    (hc : ∀ e, c' e = c e) (hs : ∀ e, s' e = s e) : swung a c' s' e = swung (head P j hj) c s ⟨j.val % 128, Nat.mod_lt _ (by omega)⟩ := by
  have hee : (⟨j.val % 128, Nat.mod_lt _ (by omega)⟩ : Fin 128) = e := Fin.ext (by show j.val % 128 = e.val; omega)
  have haa : a = head P j hj := by
    funext x
    refine (ha x (by omega)).trans ?_
    unfold head
    exact congrArg P (Fin.ext (by show o + x.val = j.val / 128 * 128 + x.val; omega))
  rw [hee, haa, funext hc, funext hs]

/-- A query head's block of columns. -/
theorem query_col (P : Fin 2560 → EReal) (j : Fin 2560) (o : ℕ) (a c s c' s' : Fin 128 → EReal) (e : Fin 128) (v : EReal)
    (hv : v = swung a c' s' e * Ideal.ofBits .f32 1035273459#32) (hj : j.val < 512)
    (he : j.val = o + e.val) (ho : o % 128 = 0) (ha : ∀ (e : Fin 128) (h : o + e.val < 2560), a e = P ⟨o + e.val, h⟩)
    (hc : ∀ e, c' e = c e) (hs : ∀ e, s' e = s e) : v = swungRow P c s j := by
  unfold swungRow
  rw [hv, dif_pos hj, swung_head P j (by omega) o a c s c' s' e he ho ha hc hs]

/-- A key head's block of columns. -/
theorem key_col (P : Fin 2560 → EReal) (j : Fin 2560) (o : ℕ) (a c s c' s' : Fin 128 → EReal) (e : Fin 128) (v : EReal)
    (hv : v = swung a c' s' e) (hj : 512 ≤ j.val) (hj' : j.val < 1024)
    (he : j.val = o + e.val) (ho : o % 128 = 0) (ha : ∀ (e : Fin 128) (h : o + e.val < 2560), a e = P ⟨o + e.val, h⟩)
    (hc : ∀ e, c' e = c e) (hs : ∀ e, s' e = s e) : v = swungRow P c s j := by
  unfold swungRow
  rw [hv, dif_neg (by omega), dif_pos hj', swung_head P j hj' o a c s c' s' e he ho ha hc hs]

/-- A column of neither. -/
theorem rest_col (P : Fin 2560 → EReal) (j : Fin 2560) (c s : Fin 128 → EReal) (v : EReal) (hv : v = P j) (hj : 1024 ≤ j.val) :
    v = swungRow P c s j := by
  unfold swungRow
  rw [hv, dif_neg (by omega), dif_neg (by omega)]

end Cert.InProj

end
-- ==== Proof.RefEven.lean ====
module

public import proofs.«01_k».proof.Proof.Rope
public import proofs.«01_k».proof.Proof.RefOdd
public import proofs.«01_k».proof.Proof.Gen.Reference3Ideal.Run

@[expose] public section

set_option maxRecDepth 16384

noncomputable section

/-! The in-projection of the even layer's latent rows, as the reference's host code computes it. -/

namespace Cert.Reference3Ideal.Value

open Idealize.ShloMosaic Idealize.ShloMosaic.TcCoe Idealize.SL.Sem Cert.InProj

/-- The angles: a token's row times each of thirty-two frequencies, then its column times each. -/
def angles : FVec Ideal S2048x64 .f32 :=
  concatenate S2048x64 1 [⟨S2048x32, (mulf (broadcastInDim S2048x32 ![0, 1] Gen.bcast_S2048x1_S2048x32_0_1 (broadcastInDim S2048x1 ![0] Gen.bcast_S2048_S2048x1_0 (sitofp .f32 (shapeCast S2048 (broadcastInDim S32x64 ![0] Gen.bcast_S32_S32x64_0 (iotaInDim S32 32 0)) Gen.shapeCasts_S32x64_S2048)))) (broadcastInDim S2048x32 ![0, 1] Gen.bcast_S1x32_S2048x32_0_1 (broadcastInDim S1x32 ![1] Gen.bcast_S32_S1x32_1 (Host.powf (broadcastInDim S32 ![] Gen.bcast_S_S32 (constant S_ .f32 0x461C4000#32)) (Host.divf (Host.negf (sitofp .f32 (iotaInDim S32 32 0))) (broadcastInDim S32 ![] Gen.bcast_S_S32 (constant S_ .f32 0x42000000#32)))))))⟩,
    ⟨S2048x32, (mulf (broadcastInDim S2048x32 ![0, 1] Gen.bcast_S2048x1_S2048x32_0_1 (broadcastInDim S2048x1 ![0] Gen.bcast_S2048_S2048x1_0 (sitofp .f32 (shapeCast S2048 (broadcastInDim S32x64 ![0, 1] Gen.bcast_S1x64_S32x64_0_1 (shapeCast S1x64 (iotaInDim S64 32 0) Gen.shapeCasts_S64_S1x64)) Gen.shapeCasts_S32x64_S2048)))) (broadcastInDim S2048x32 ![0, 1] Gen.bcast_S1x32_S2048x32_0_1 (broadcastInDim S1x32 ![1] Gen.bcast_S32_S1x32_1 (Host.powf (broadcastInDim S32 ![] Gen.bcast_S_S32 (constant S_ .f32 0x461C4000#32)) (Host.divf (Host.negf (sitofp .f32 (iotaInDim S32 32 0))) (broadcastInDim S32 ![] Gen.bcast_S_S32 (constant S_ .f32 0x42000000#32)))))))⟩] Gen.concatenates_S2048x32_S2048x32_S2048x64_d1

section terms

/-- The heads of four heads' columns. -/
def toHeads (X : FVec Ideal S8x2048x512 .f32) : FVec Ideal S8x4x2048x128 .f32 :=
  transpose S8x4x2048x128 [0, 2, 1, 3] (shapeCast S8x2048x4x128 X Gen.shapeCasts_S8x2048x512_S8x2048x4x128) Gen.transposes_S8x2048x4x128_S8x4x2048x128_0_2_1_3

/-- A head's column is the column of the row it is laid out at. -/
theorem toHeads_eq (X : FVec Ideal S8x2048x512 .f32) (b : Fin 8) (h : Fin 4) (r : Fin 2048) (e : Fin 128) :
    toHeads X (ix4 b h r e) = X (ix3 b r ⟨h.val * 128 + e.val, by omega⟩) := by
  pointwise [toHeads]

/-- Heads turned by the angles whose cosines and sines are given. -/
def turn (H : FVec Ideal S8x4x2048x128 .f32) (C S : FVec Ideal S2048x64 .f32) : FVec Ideal S8x4x2048x128 .f32 :=
  concatenate S8x4x2048x128 3 [⟨S8x4x2048x64, (subf (mulf (extractStridedSlice S8x4x2048x64 ![0, 0, 0, 0] H Gen.slices_S8x4x2048x128_S8x4x2048x64_0_0_0_0) (broadcastInDim S8x4x2048x64 ![0, 1, 2, 3] Gen.bcast_S1x1x2048x64_S8x4x2048x64_0_1_2_3 (broadcastInDim S1x1x2048x64 ![2, 3] Gen.bcast_S2048x64_S1x1x2048x64_2_3 C)))
      (mulf (extractStridedSlice S8x4x2048x64 ![0, 0, 0, 64] H Gen.slices_S8x4x2048x128_S8x4x2048x64_0_0_0_64) (broadcastInDim S8x4x2048x64 ![0, 1, 2, 3] Gen.bcast_S1x1x2048x64_S8x4x2048x64_0_1_2_3 (broadcastInDim S1x1x2048x64 ![2, 3] Gen.bcast_S2048x64_S1x1x2048x64_2_3 S))))⟩,
    ⟨S8x4x2048x64, (addf (mulf (extractStridedSlice S8x4x2048x64 ![0, 0, 0, 0] H Gen.slices_S8x4x2048x128_S8x4x2048x64_0_0_0_0) (broadcastInDim S8x4x2048x64 ![0, 1, 2, 3] Gen.bcast_S1x1x2048x64_S8x4x2048x64_0_1_2_3 (broadcastInDim S1x1x2048x64 ![2, 3] Gen.bcast_S2048x64_S1x1x2048x64_2_3 S)))
      (mulf (extractStridedSlice S8x4x2048x64 ![0, 0, 0, 64] H Gen.slices_S8x4x2048x128_S8x4x2048x64_0_0_0_64) (broadcastInDim S8x4x2048x64 ![0, 1, 2, 3] Gen.bcast_S1x1x2048x64_S8x4x2048x64_0_1_2_3 (broadcastInDim S1x1x2048x64 ![2, 3] Gen.bcast_S2048x64_S1x1x2048x64_2_3 C))))⟩] Gen.concatenates_S8x4x2048x64_S8x4x2048x64_S8x4x2048x128_d3

/-- Turned heads, at an index. -/
theorem turn_eq (H : FVec Ideal S8x4x2048x128 .f32) (C S : FVec Ideal S2048x64 .f32) (b : Fin 8) (h : Fin 4) (r : Fin 2048) (e : Fin 128) :
    turn H C S (ix4 b h r e) = turned (fun e => H (ix4 b h r e)) (fun e => C (ix2 r e)) (fun e => S (ix2 r e)) e := by
  unfold turned
  pointwise [turn]
  by_cases h64 : e.val < 64
  · simp only [dif_pos h64]
    have he : (⟨64 + e.val, by omega⟩ : Fin 128) = ⟨e.val + 64, by omega⟩ := Fin.ext (Nat.add_comm _ _)
    rw [he]
  · simp only [dif_neg h64]
    have he : (⟨64 + (e.val - 64), by omega⟩ : Fin 128) = e := Fin.ext (by show 64 + (e.val - 64) = e.val; omega)
    rw [he]

/-- Four heads laid out as columns. -/
def fromHeads (H : FVec Ideal S8x4x2048x128 .f32) : FVec Ideal S8x2048x512 .f32 :=
  shapeCast S8x2048x512 (transpose S8x2048x4x128 [0, 2, 1, 3] H Gen.transposes_S8x4x2048x128_S8x2048x4x128_0_2_1_3) Gen.shapeCasts_S8x2048x4x128_S8x2048x512

/-- A column is the head's it is in. -/
theorem fromHeads_eq (H : FVec Ideal S8x4x2048x128 .f32) (b : Fin 8) (r : Fin 2048) (j : Fin 512) :
    fromHeads H (ix3 b r j) = H (ix4 b ⟨j.val / 128, by omega⟩ r ⟨j.val % 128, Nat.mod_lt _ (by omega)⟩) := by
  pointwise [fromHeads]

/-- Heads scaled, at an index. -/
theorem scaled_eq (H : FVec Ideal S8x4x2048x128 .f32) (b : Fin 8) (h : Fin 4) (r : Fin 2048) (e : Fin 128) :
    mulf H (broadcastInDim S8x4x2048x128 ![] Gen.bcast_S_S8x4x2048x128 (constant (F := Ideal) S_ .f32 0x3DB504F3#32)) (ix4 b h r e) = H (ix4 b h r e) * Ideal.ofBits .f32 1035273459#32 := by
  pointwise

/-- Queries, keys and the rest side by side, one row under the other. -/
def joined (A B : FVec Ideal S8x2048x512 .f32) (P : FVec Ideal S8x2048x2560 .f32) : FVec Ideal S16384x2560 .bf16 :=
  shapeCast S16384x2560 (truncf .bf16 (concatenate S8x2048x2560 2 [⟨S8x2048x512, A⟩, ⟨S8x2048x512, B⟩,
    ⟨S8x2048x1536, extractStridedSlice S8x2048x1536 ![0, 0, 1024] P Gen.slices_S8x2048x2560_S8x2048x1536_0_0_1024⟩]
    Gen.concatenates_S8x2048x512_S8x2048x512_S8x2048x1536_S8x2048x2560_d2) Gen.bitsLt_bf16_f32) Gen.shapeCasts_S8x2048x2560_S16384x2560

/-- They are read back from where they were put. -/
theorem joined_eq (A B : FVec Ideal S8x2048x512 .f32) (P : FVec Ideal S8x2048x2560 .f32) (i : Fin 16384) (j : Fin 2560) :
    joined A B P (ix2 i j) = if h : j.val < 512 then A (ix3 ⟨i.val / 2048, by omega⟩ ⟨i.val % 2048, Nat.mod_lt _ (by omega)⟩ ⟨j.val, h⟩)
      else if h : j.val < 1024 then B (ix3 ⟨i.val / 2048, by omega⟩ ⟨i.val % 2048, Nat.mod_lt _ (by omega)⟩ ⟨j.val - 512, by omega⟩)
      else P (ix3 ⟨i.val / 2048, by omega⟩ ⟨i.val % 2048, Nat.mod_lt _ (by omega)⟩ j) := by
  pointwise [joined]
  by_cases h : j.val < 512
  · simp only [dif_pos h]
  · simp only [dif_neg h]
    by_cases h' : j.val < 1024
    · rw [dif_pos (by omega), dif_pos h']
    · rw [dif_neg (by omega), dif_neg h']
      exact congrArg (fun x => P (ix3 _ _ x)) (Fin.ext (by show 1024 + (j.val - 512 - 512) = j.val; omega))

/-- The queries' columns of a product. -/
theorem first_eq (P : FVec Ideal S8x2048x2560 .f32) (b : Fin 8) (r : Fin 2048) (j : Fin 512) :
    extractStridedSlice S8x2048x512 ![0, 0, 0] P Gen.slices_S8x2048x2560_S8x2048x512_0_0_0 (ix3 b r j) = P (ix3 b r ⟨j.val, by omega⟩) := by
  pointwise

/-- The keys' columns of a product. -/
theorem second_eq (P : FVec Ideal S8x2048x2560 .f32) (b : Fin 8) (r : Fin 2048) (j : Fin 512) :
    extractStridedSlice S8x2048x512 ![0, 0, 512] P Gen.slices_S8x2048x2560_S8x2048x512_0_0_512 (ix3 b r j) = P (ix3 b r ⟨512 + j.val, by omega⟩) := by
  pointwise

/-- The product with its query and key heads turned, at an index. -/
theorem heads_eq (P : FVec Ideal S8x2048x2560 .f32) (C S : FVec Ideal S2048x64 .f32) (i : Fin 16384) (j : Fin 2560) :
    joined
      (fromHeads (mulf (turn (toHeads (extractStridedSlice S8x2048x512 ![0, 0, 0] P Gen.slices_S8x2048x2560_S8x2048x512_0_0_0)) C S) (broadcastInDim S8x4x2048x128 ![] Gen.bcast_S_S8x4x2048x128 (constant (F := Ideal) S_ .f32 0x3DB504F3#32))))
      (fromHeads (turn (toHeads (extractStridedSlice S8x2048x512 ![0, 0, 512] P Gen.slices_S8x2048x2560_S8x2048x512_0_0_512)) C S)) P (ix2 i j)
    = evenRow (fun j => P (ix3 ⟨i.val / 2048, by omega⟩ ⟨i.val % 2048, Nat.mod_lt _ (by omega)⟩ j))
        (fun e => C (ix2 ⟨i.val % 2048, Nat.mod_lt _ (by omega)⟩ e)) (fun e => S (ix2 ⟨i.val % 2048, Nat.mod_lt _ (by omega)⟩ e)) j := by
  rw [joined_eq]
  unfold evenRow
  by_cases h : j.val < 512
  · simp only [dif_pos h]
    rw [fromHeads_eq, scaled_eq, turn_eq]
    simp only [toHeads_eq, first_eq]
    rfl
  · simp only [dif_neg h]
    by_cases h' : j.val < 1024
    · simp only [dif_pos h']
      rw [fromHeads_eq, turn_eq]
      simp only [toHeads_eq, second_eq]
      have he : (⟨(j.val - 512) % 128, Nat.mod_lt _ (by omega)⟩ : Fin 128) = ⟨j.val % 128, Nat.mod_lt _ (by omega)⟩ :=
        Fin.ext (by show (j.val - 512) % 128 = j.val % 128; omega)
      rw [he]
      congr 1
      funext e
      unfold head
      exact congrArg (fun x => P (ix3 _ _ x)) (Fin.ext (by show 512 + ((j.val - 512) / 128 * 128 + e.val) = j.val / 128 * 128 + e.val; omega))
    · simp only [dif_neg h']

variable (a0 : FVec Ideal S16384x1024 .f32) (a1 : FVec Ideal S1024 .f32) (a2 : FVec Ideal S16x6x1024 .f32) (a3 : FVec Ideal S1024x2560 .f32)

/-- Rows against the weights, at an index. -/
theorem prod_eq (H : FVec Ideal S8x2048x1024 .f32) (b : Fin 8) (r : Fin 2048) (j : Fin 2560) :
    Host.dotGeneral dot_S8x2048x1024_S1024x2560_S8x2048x2560_2_0_01_1_n_n none H a3 (ix3 b r j)
      = proj (fun k => H (ix3 b r k)) (fun k => a3 (ix2 k j)) := by
  unfold proj
  pointwise

/-- The product of the normalised rows and the weights. -/
def prod : FVec Ideal S8x2048x2560 .f32 :=
  Host.dotGeneral dot_S8x2048x1024_S1024x2560_S8x2048x2560_2_0_01_1_n_n none (Cert.Reference2Ideal.Value.rows a0 a1 a2) a3

/-- It is a latent row against a column of the weights. -/
theorem prod_row (i : Fin 16384) (j : Fin 2560) : prod a0 a1 a2 a3 (ix3 ⟨i.val / 2048, by omega⟩ ⟨i.val % 2048, Nat.mod_lt _ (by omega)⟩ j)
    = proj (latRow a0 a1 a2 i) (fun k => a3 (ix2 k j)) := by
  have hi : (⟨i.val / 2048 * 2048 + i.val % 2048, by omega⟩ : Fin 16384) = i := Fin.ext (by show i.val / 2048 * 2048 + i.val % 2048 = i.val; omega)
  refine (prod_eq a3 (Cert.Reference2Ideal.Value.rows a0 a1 a2) _ _ j).trans ?_
  congr 1
  funext k
  refine (Cert.Reference2Ideal.Value.rows_eq a0 a1 a2 _ _ k).trans ?_
  exact congrArg (fun x => latRow a0 a1 a2 x k) hi

/-- The result's value. -/
theorem main_value (C S : FVec Ideal S2048x64 .f32) : joined
      (fromHeads (mulf (turn (toHeads (extractStridedSlice S8x2048x512 ![0, 0, 0] (prod a0 a1 a2 a3) Gen.slices_S8x2048x2560_S8x2048x512_0_0_0)) C S) (broadcastInDim S8x4x2048x128 ![] Gen.bcast_S_S8x4x2048x128 (constant (F := Ideal) S_ .f32 0x3DB504F3#32))))
      (fromHeads (turn (toHeads (extractStridedSlice S8x2048x512 ![0, 0, 512] (prod a0 a1 a2 a3) Gen.slices_S8x2048x2560_S8x2048x512_0_0_512)) C S)) (prod a0 a1 a2 a3)
    = evenMain C S a0 a1 a2 a3 := by
  funext y
  refine (congrArg _ (eq_ix2 y)).trans ((heads_eq (prod a0 a1 a2 a3) C S (y 0) (y 1)).trans ?_)
  unfold evenMain
  exact congrArg (fun P => evenRow P _ _ (y 1)) (funext fun j => prod_row a0 a1 a2 a3 (y 0) j)

end terms

variable (m : (ℓ : Loc nD τ sig) → Buf (Elt Ideal) ℓ) (ρ : Dev nD → PrngReg)

/-- The reference's run: the result is the in-projection's, the arguments are unchanged. -/
theorem run_proj : θ_run defs (onTc (τ := τ) (main (F := Ideal))) ⟨m, fun _ => 0, ρ⟩ fun r => ∀ c : Dev nD,
      r.2.mem ((c : Thread nD τ).loc main_v130) = evenMain (Host.cos angles) (Host.sin angles) (m (c.tc.loc main_arg0)) (m (c.tc.loc main_arg1)) (m (c.tc.loc main_arg2)) (m (c.tc.loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2⟩) (run m ρ)
  exact main_value _ _ _ _ _ _

end Cert.Reference3Ideal.Value

end
-- ==== Proof.Even.lean ====
module

public import proofs.«01_k».proof.Proof.RefEven
public import proofs.«01_k».proof.Proof.Gen.Kernel3Ideal.Value
public import Idealize.ShloMosaic.Lib.Claim

@[expose] public section

set_option maxRecDepth 16384

noncomputable section

/-! The in-projection of the even layer's latent rows: what the kernel's run leaves in its result. -/

namespace Cert.Kernel3Ideal.Gen

open Idealize.ShloMosaic Idealize.ShloMosaic.TcCoe Idealize.SL.Sem Cert.InProj

/-- Normalising and modulating a block of rows, at an index. -/
theorem pay3_eq (a : Vec Ideal S512x1024 .f32) (b : Vec Ideal S1x1024 .f32) (s h : Vec Ideal S1x1x1024 .f32) (r : Fin 512) (k : Fin 1024) :
    k0_pay3 (F := Ideal) a b s h (ix2 r k)
      = normed (fun k => a (ix2 r k)) (fun k => b (ix2 0 k)) (fun k => s (ix3 0 0 k)) (fun k => h (ix3 0 0 k)) k := by
  unfold normed
  pointwise [k0_pay3]

/-- A block of rows against a block of columns, at an index. -/
theorem pay1_eq (H : Vec Ideal S512x1024 .bf16) (W : Vec Ideal S1024x512 .bf16) (r : Fin 512) (j : Fin 512) :
    k0_pay1 (F := Ideal) H W (ix2 r j) = proj (fun k => H (ix2 r k)) (fun k => W (ix2 k j)) := by
  unfold proj
  pointwise [k0_pay1]

/-- A block of rows against a block of columns, at an index. -/
theorem pay2_eq (H : Vec Ideal S512x1024 .bf16) (W : Vec Ideal S1024x512 .bf16) (r : Fin 512) (j : Fin 512) :
    k0_pay2 (F := Ideal) H W (ix2 r j) = proj (fun k => H (ix2 r k)) (fun k => W (ix2 k j)) := by
  unfold proj
  pointwise [k0_pay2]

/-- A block of rows against a block of columns, at an index. -/
theorem pay18_eq (H : Vec Ideal S512x1024 .bf16) (W : Vec Ideal S1024x512 .bf16) (r : Fin 512) (j : Fin 512) :
    k0_pay18 (F := Ideal) H W (ix2 r j) = proj (fun k => H (ix2 r k)) (fun k => W (ix2 k j)) := by
  unfold proj
  pointwise [k0_pay18]

/-- A query head's block, at an index. -/
theorem pay6_eq (H : Vec Ideal S512x1024 .bf16) (W : Vec Ideal S1024x512 .bf16) (c s : Vec Ideal S512x128 .f32) (r : Fin 512) (e : Fin 128) :
    k0_pay6 (F := Ideal) (k0_pay5 H W) c s (ix2 r e) = swung (fun e => proj (fun k => H (ix2 r k)) (fun k => W (ix2 k ⟨0 + e.val, by omega⟩)))
      (fun e => c (ix2 r e)) (fun e => s (ix2 r e)) e * Ideal.ofBits .f32 1035273459#32 := by
  unfold swung proj
  pointwise [k0_pay6, k0_pay5, k0_pay4]

/-- A query head's block, at an index. -/
theorem pay7_eq (H : Vec Ideal S512x1024 .bf16) (W : Vec Ideal S1024x512 .bf16) (c s : Vec Ideal S512x128 .f32) (r : Fin 512) (e : Fin 128) :
    k0_pay7 (F := Ideal) (k0_pay4 H W) c s (ix2 r e) = swung (fun e => proj (fun k => H (ix2 r k)) (fun k => W (ix2 k ⟨128 + e.val, by omega⟩)))
      (fun e => c (ix2 r e)) (fun e => s (ix2 r e)) e * Ideal.ofBits .f32 1035273459#32 := by
  unfold swung proj
  pointwise [k0_pay7, k0_pay4]

/-- A query head's block, at an index. -/
theorem pay8_eq (H : Vec Ideal S512x1024 .bf16) (W : Vec Ideal S1024x512 .bf16) (c s : Vec Ideal S512x128 .f32) (r : Fin 512) (e : Fin 128) :
    k0_pay8 (F := Ideal) (k0_pay4 H W) c s (ix2 r e) = swung (fun e => proj (fun k => H (ix2 r k)) (fun k => W (ix2 k ⟨256 + e.val, by omega⟩)))
      (fun e => c (ix2 r e)) (fun e => s (ix2 r e)) e * Ideal.ofBits .f32 1035273459#32 := by
  unfold swung proj
  pointwise [k0_pay8, k0_pay4]

/-- A query head's block, at an index. -/
theorem pay9_eq (H : Vec Ideal S512x1024 .bf16) (W : Vec Ideal S1024x512 .bf16) (c s : Vec Ideal S512x128 .f32) (r : Fin 512) (e : Fin 128) :
    k0_pay9 (F := Ideal) (k0_pay4 H W) c s (ix2 r e) = swung (fun e => proj (fun k => H (ix2 r k)) (fun k => W (ix2 k ⟨384 + e.val, by omega⟩)))
      (fun e => c (ix2 r e)) (fun e => s (ix2 r e)) e * Ideal.ofBits .f32 1035273459#32 := by
  unfold swung proj
  pointwise [k0_pay9, k0_pay4]

/-- A key head's block, at an index. -/
theorem pay11_eq (H : Vec Ideal S512x1024 .bf16) (W : Vec Ideal S1024x512 .bf16) (c s : Vec Ideal S512x128 .f32) (r : Fin 512) (e : Fin 128) :
    k0_pay11 (F := Ideal) H W c s (ix2 r e) = swung (fun e => proj (fun k => H (ix2 r k)) (fun k => W (ix2 k ⟨0 + e.val, by omega⟩)))
      (fun e => c (ix2 r e)) (fun e => s (ix2 r e)) e := by
  unfold swung proj
  pointwise [k0_pay11, k0_pay10]

/-- A key head's block, at an index. -/
theorem pay15_eq (H : Vec Ideal S512x1024 .bf16) (W : Vec Ideal S1024x512 .bf16) (c s : Vec Ideal S512x128 .f32) (r : Fin 512) (e : Fin 128) :
    k0_pay15 (F := Ideal) (k0_pay13 H W c) (k0_pay14 H W) s (ix2 r e) = swung (fun e => proj (fun k => H (ix2 r k)) (fun k => W (ix2 k ⟨128 + e.val, by omega⟩)))
      (fun e => c (ix2 r e)) (fun e => s (ix2 r e)) e := by
  unfold swung proj
  pointwise [k0_pay15, k0_pay13, k0_pay14, k0_pay12, k0_pay10]

/-- A key head's block, at an index. -/
theorem pay16_eq (H : Vec Ideal S512x1024 .bf16) (W : Vec Ideal S1024x512 .bf16) (c s : Vec Ideal S512x128 .f32) (r : Fin 512) (e : Fin 128) :
    k0_pay16 (F := Ideal) (k0_pay10 H W) c s (ix2 r e) = swung (fun e => proj (fun k => H (ix2 r k)) (fun k => W (ix2 k ⟨256 + e.val, by omega⟩)))
      (fun e => c (ix2 r e)) (fun e => s (ix2 r e)) e := by
  unfold swung proj
  pointwise [k0_pay16, k0_pay10]

/-- A key head's block, at an index. -/
theorem pay17_eq (H : Vec Ideal S512x1024 .bf16) (W : Vec Ideal S1024x512 .bf16) (c s : Vec Ideal S512x128 .f32) (r : Fin 512) (e : Fin 128) :
    k0_pay17 (F := Ideal) (k0_pay10 H W) c s (ix2 r e) = swung (fun e => proj (fun k => H (ix2 r k)) (fun k => W (ix2 k ⟨384 + e.val, by omega⟩)))
      (fun e => c (ix2 r e)) (fun e => s (ix2 r e)) e := by
  unfold swung proj
  pointwise [k0_pay17, k0_pay10]

section point

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x6x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x2560 .bf16) (harg7 : arg7.IsWhole) (arg8 : Memref sig .tc .vmem S512x1024 .bf16) (harg8 : arg8.IsWhole)
variable (x0 : Vec Ideal S512x1024 .f32) (x1 : Vec Ideal S1x1024 .f32) (x2 : Vec Ideal S1x6x1024 .f32) (x3 : Vec Ideal S1024x2560 .bf16) (x4 x5 : Vec Ideal S512x128 .f32)

/-- A row of the point's block, normalised and modulated. -/
def hrow (r : Fin 512) : Row :=
  normed (fun k => x0 (ix2 r k)) (fun k => x1 (ix2 0 k)) (fun k => x2 (ix3 0 1 k)) (fun k => x2 (ix3 0 0 k))

/-- The buffer of normalised rows, read whole. -/
theorem rows_read (r : Fin 512) (k : Fin 1024) :
    kernelRun0_A.sl.v29 (F := Ideal) c arg1 harg1 arg2 harg2 arg3 harg3 arg8 x0 x1 x2 (ix2 r k) = hrow x0 x1 x2 r k := by
  have hz : (![0, 0] : Fin 2 → ℕ) = fun _ => 0 := by decide
  unfold kernelRun0_A.sl.v29 View.readCov
  rw [View.readAt_eq_ld, View.ld_unit_zero hz]
  unfold kernelRun0_A.sl.HS0_1
  refine (View.read_writes_cons_unit_of_mem arg8.view _ inb_S512x1024_S512x1024_0_0 _ [] _ (ix2 r k) rfl
    (by intro x; match x with | 0 => exact (Nat.zero_add _).symm | 1 => exact (Nat.zero_add _).symm)).trans ?_
  rw [pay3_eq]
  unfold hrow
  simp only [View.readAt_eq_ld, harg1.read_unread, harg2.read_unread, harg3.read_unread]
  congr 1
  · funext k
    exact congrFun (View.ld_unit_zero hz _ _) _
  · funext k
    exact congrFun (View.ld_unit_zero hz _ _) _
  · funext k
    exact row_ld (e := .f32) x2 1 ![0, 1, 0] inb_S1x6x1024_S1x1x1024_0_1_0 rfl k
  · funext k
    exact row_ld (e := .f32) x2 0 ![0, 0, 0] inb_S1x6x1024_S1x1x1024_0_0_0 rfl k

/-- A row of the point's block against the columns of its weights. -/
def prow (r : Fin 512) : Fin 2560 → EReal := fun j => proj (hrow x0 x1 x2 r) (fun k => x3 (ix2 k j))

/-- What the point leaves in its block of the result. -/
theorem out6_apply (r : Fin 512) (j : Fin 2560) :
    out0_A_6 (F := Ideal) c i arg1 harg1 arg2 harg2 arg3 harg3 arg4 harg4 arg5 harg5 arg6 harg6 arg7 harg7 arg8 harg8 x0 x1 x2 x3 x4 x5 (ix2 r j)
      = swungRow (prow x0 x1 x2 x3 r) (fun e => x4 (ix2 r e)) (fun e => x5 (ix2 r e)) j := by
  have hz : (![0, 0] : Fin 2 → ℕ) = fun _ => 0 := by decide
  have ha : ∀ (o : ℕ) (inb : ∀ x, (![0, o] : Fin 2 → ℕ) x + S1024x512.size x ≤ S1024x2560.size x) (e : Fin 512) (j' : Fin 2560), j'.val = o + e.val →
      proj (fun k => kernelRun0_A.sl.v29 (F := Ideal) c arg1 harg1 arg2 harg2 arg3 harg3 arg8 x0 x1 x2 (ix2 r k))
        (fun k => arg4.view.readAt (Elt Ideal) (Rect.unit (s := S1024x2560) ![0, o] S1024x512.size inb).toLoadRect (harg4.unread x3) (ix2 k e))
      = prow x0 x1 x2 x3 r j' := by
    intro o inb e j' hj
    unfold prow
    congr 1
    · funext k
      exact rows_read c arg1 harg1 arg2 harg2 arg3 harg3 arg8 x0 x1 x2 r k
    · funext k
      rw [View.readAt_eq_ld, harg4.read_unread]
      exact cols_ld (e := .bf16) x3 o ![0, o] inb rfl k e j' hj
  have hc : ∀ e : Fin 128, arg5.view.readAt (Elt Ideal) (Rect.unit (s := S512x128) ![0, 0] S512x128.size inb_S512x128_S512x128_0_0).toLoadRect (harg5.unread x4) (ix2 r e)
      = x4 (ix2 r e) := by
    intro e
    rw [View.readAt_eq_ld, harg5.read_unread]
    exact congrFun (View.ld_unit_zero hz _ _) _
  have hs : ∀ e : Fin 128, arg6.view.readAt (Elt Ideal) (Rect.unit (s := S512x128) ![0, 0] S512x128.size inb_S512x128_S512x128_0_0).toLoadRect (harg6.unread x5) (ix2 r e)
      = x5 (ix2 r e) := by
    intro e
    rw [View.readAt_eq_ld, harg6.read_unread]
    exact congrFun (View.ld_unit_zero hz _ _) _
  unfold out0_A_6 kernelRun0_A
  dsimp only
  have hj := j.isLt
  refine (cols_writes VO0_6 _ 2048 _ inb_S512x2560_S512x512_0_2048 rfl _ _ r j).trans ?_
  split
  · exact rest_col _ j _ _ _ ((pay2_eq _ _ r _).trans (ha 2048 inb_S1024x2560_S1024x512_0_2048 _ j (by dsimp only; omega))) (by omega)
  refine (cols_writes VO0_6 _ 1536 _ inb_S512x2560_S512x512_0_1536 rfl _ _ r j).trans ?_
  split
  · exact rest_col _ j _ _ _ ((pay1_eq _ _ r _).trans (ha 1536 inb_S1024x2560_S1024x512_0_1536 _ j (by dsimp only; omega))) (by omega)
  refine (cols_writes VO0_6 _ 1024 _ inb_S512x2560_S512x512_0_1024 rfl _ _ r j).trans ?_
  split
  · exact rest_col _ j _ _ _ ((pay18_eq _ _ r _).trans (ha 1024 inb_S1024x2560_S1024x512_0_1024 _ j (by dsimp only; omega))) (by omega)
  refine (cols_writes VO0_6 _ 896 _ inb_S512x2560_S512x128_0_896 rfl _ _ r j).trans ?_
  split
  · exact key_col _ j 896 _ _ _ _ _ _ _ (pay17_eq _ _ _ _ r _) (by omega) (by omega) (by dsimp only; omega) (by omega)
      (fun e h => ha 512 inb_S1024x2560_S1024x512_0_512 ⟨384 + e.val, by omega⟩ ⟨896 + e.val, h⟩ (by dsimp only; omega)) hc hs
  refine (cols_writes VO0_6 _ 768 _ inb_S512x2560_S512x128_0_768 rfl _ _ r j).trans ?_
  split
  · exact key_col _ j 768 _ _ _ _ _ _ _ (pay16_eq _ _ _ _ r _) (by omega) (by omega) (by dsimp only; omega) (by omega)
      (fun e h => ha 512 inb_S1024x2560_S1024x512_0_512 ⟨256 + e.val, by omega⟩ ⟨768 + e.val, h⟩ (by dsimp only; omega)) hc hs
  refine (cols_writes VO0_6 _ 640 _ inb_S512x2560_S512x128_0_640 rfl _ _ r j).trans ?_
  split
  · exact key_col _ j 640 _ _ _ _ _ _ _ (pay15_eq _ _ _ _ r _) (by omega) (by omega) (by dsimp only; omega) (by omega)
      (fun e h => ha 512 inb_S1024x2560_S1024x512_0_512 ⟨128 + e.val, by omega⟩ ⟨640 + e.val, h⟩ (by dsimp only; omega)) hc hs
  refine (cols_writes VO0_6 _ 512 _ inb_S512x2560_S512x128_0_512 rfl _ _ r j).trans ?_
  split
  · exact key_col _ j 512 _ _ _ _ _ _ _ (pay11_eq _ _ _ _ r _) (by omega) (by omega) (by dsimp only; omega) (by omega)
      (fun e h => ha 512 inb_S1024x2560_S1024x512_0_512 ⟨0 + e.val, by omega⟩ ⟨512 + e.val, h⟩ (by dsimp only; omega)) hc hs
  refine (cols_writes VO0_6 _ 384 _ inb_S512x2560_S512x128_0_384 rfl _ _ r j).trans ?_
  split
  · exact query_col _ j 384 _ _ _ _ _ _ _ (pay9_eq _ _ _ _ r _) (by omega) (by dsimp only; omega) (by omega)
      (fun e h => ha 0 inb_S1024x2560_S1024x512_0_0 ⟨384 + e.val, by omega⟩ ⟨384 + e.val, h⟩ (by dsimp only; omega)) hc hs
  refine (cols_writes VO0_6 _ 256 _ inb_S512x2560_S512x128_0_256 rfl _ _ r j).trans ?_
  split
  · exact query_col _ j 256 _ _ _ _ _ _ _ (pay8_eq _ _ _ _ r _) (by omega) (by dsimp only; omega) (by omega)
      (fun e h => ha 0 inb_S1024x2560_S1024x512_0_0 ⟨256 + e.val, by omega⟩ ⟨256 + e.val, h⟩ (by dsimp only; omega)) hc hs
  refine (cols_writes VO0_6 _ 128 _ inb_S512x2560_S512x128_0_128 rfl _ _ r j).trans ?_
  split
  · exact query_col _ j 128 _ _ _ _ _ _ _ (pay7_eq _ _ _ _ r _) (by omega) (by dsimp only; omega) (by omega)
      (fun e h => ha 0 inb_S1024x2560_S1024x512_0_0 ⟨128 + e.val, by omega⟩ ⟨128 + e.val, h⟩ (by dsimp only; omega)) hc hs
  refine (cols_writes VO0_6 _ 0 _ inb_S512x2560_S512x128_0_0 rfl _ _ r j).trans ?_
  split
  · exact query_col _ j 0 _ _ _ _ _ _ _ (pay6_eq _ _ _ _ r _) (by omega) (by dsimp only; omega) (by omega)
      (fun e h => ha 0 inb_S1024x2560_S1024x512_0_0 ⟨0 + e.val, by omega⟩ ⟨0 + e.val, h⟩ (by dsimp only; omega)) hc hs
  omega

end point

/-- The cosines, repeated for the second half of a head. -/
theorem cos_eq (C : FVec Ideal S2048x64 .f32) (r : Fin 2048) (e : Fin 128) :
    concatenate S2048x128 1 [⟨S2048x64, C⟩, ⟨S2048x64, C⟩] concatenates_S2048x64_S2048x64_S2048x128_d1 (ix2 r e)
      = if h : e.val < 64 then C (ix2 r ⟨e.val, h⟩) else C (ix2 r ⟨e.val - 64, by omega⟩) := by
  pointwise

/-- The sines, negated in the first half of a head. -/
theorem sin_eq (S : FVec Ideal S2048x64 .f32) (r : Fin 2048) (e : Fin 128) :
    concatenate S2048x128 1 [⟨S2048x64, Host.negf S⟩, ⟨S2048x64, S⟩] concatenates_S2048x64_S2048x64_S2048x128_d1 (ix2 r e)
      = if h : e.val < 64 then -S (ix2 r ⟨e.val, h⟩) else S (ix2 r ⟨e.val - 64, by omega⟩) := by
  pointwise

/-- The weights the kernel is handed. -/
def wts (a3 : FVec Ideal S1024x2560 .f32) : FVec Ideal S1024x2560 .bf16 := truncf .bf16 a3 bitsLt_bf16_f32

section run

variable (m : (ℓ : Loc nD τ sig) → Buf (Elt Ideal) ℓ) (ρ : Dev nD → PrngReg) (c : Dev nD) (t : Fin cfg0.N)

/-- Where the seven windows of a point are. -/
theorem win_index : ∀ t : Fin cfg0.N, win0_0.index t = ![t.val, 0] ∧ win0_1.index t = ![0, 0] ∧ win0_2.index t = ![t.val / 4, 0, 0]
    ∧ win0_3.index t = ![0, 0] ∧ win0_4.index t = ![t.val % 4, 0] ∧ win0_5.index t = ![t.val % 4, 0] ∧ win0_6.index t = ![t.val, 0] :=
  (by decide +kernel : ∀ t : Fin grid0.N, _)

/-- The rows window reads the point's rows. -/
theorem iblk_rows (r : Fin 512) (k : Fin 1024) : (iblk m c 0 t : Vec Ideal S512x1024 .f32) (ix2 r k)
    = m (c.tc.loc main_arg0) (ix2 ⟨t.val * 512 + r.val, by have h : t.val < 32 := Nat.lt_of_lt_of_eq t.isLt N_0; omega⟩ k) := by
  have h := (win_index t).1
  have hN : t.val < 32 := Nat.lt_of_lt_of_eq t.isLt N_0
  unfold iblk
  rw [View.read_apply]
  have he : (((cfg0.win 0).blk t).view.emb (ix2 r k) : S16384x1024.Idx) = ix2 ⟨t.val * 512 + r.val, by omega⟩ k := by
    funext x
    apply Fin.ext
    match x with
    | ⟨0, _⟩ => show win0_0.index t 0 * 512 + 1 * r.val = t.val * 512 + r.val; rw [h]; show t.val * 512 + 1 * r.val = _; omega
    | ⟨1, _⟩ => show win0_0.index t 1 * 1024 + 1 * k.val = k.val; rw [h]; show 0 * 1024 + 1 * k.val = _; omega
  refine (congrArg (V m c main_arg0) he).trans ?_
  rw [V_main_arg0 m c]

/-- What the norm's window's array holds. -/
theorem V_norm : V m c main_v32 = shapeCast S1x1024 (m (c.tc.loc main_arg1)) shapeCasts_S1024_S1x1024 := by
  unfold V hostOps0
  rfl

/-- The norm's window reads its weights. -/
theorem iblk_norm (k : Fin 1024) : (iblk m c 1 t : Vec Ideal S1x1024 .f32) (ix2 0 k) = m (c.tc.loc main_arg1) (ix1 k) := by
  have h := (win_index t).2.1
  unfold iblk
  rw [View.read_apply]
  have he : (((cfg0.win 1).blk t).view.emb (ix2 0 k) : S1x1024.Idx) = ix2 0 k := by
    funext x
    apply Fin.ext
    match x with
    | ⟨0, _⟩ => show win0_1.index t 0 * 1 + 1 * 0 = 0; rw [h]; rfl
    | ⟨1, _⟩ => show win0_1.index t 1 * 1024 + 1 * k.val = k.val; rw [h]; show 0 * 1024 + 1 * k.val = _; omega
  refine (congrArg (V m c main_v32) he).trans ?_
  rw [V_norm m c]
  pointwise

/-- The modulations' window reads those of the rows' sequence. -/
theorem iblk_mod (o : Fin 6) (k : Fin 1024) : (iblk m c 2 t : Vec Ideal S1x6x1024 .f32) (ix3 0 o k)
    = m (c.tc.loc main_arg2) (ix3 ⟨t.val / 4, by have h : t.val < 32 := Nat.lt_of_lt_of_eq t.isLt N_0; omega⟩ o k) := by
  have h := (win_index t).2.2.1
  have hN : t.val < 32 := Nat.lt_of_lt_of_eq t.isLt N_0
  unfold iblk
  rw [View.read_apply]
  have he : (((cfg0.win 2).blk t).view.emb (ix3 0 o k) : S16x6x1024.Idx) = ix3 ⟨t.val / 4, by omega⟩ o k := by
    funext x
    apply Fin.ext
    match x with
    | ⟨0, _⟩ => show win0_2.index t 0 * 1 + 1 * 0 = t.val / 4; rw [h]; show t.val / 4 * 1 + 1 * 0 = _; omega
    | ⟨1, _⟩ => show win0_2.index t 1 * 6 + 1 * o.val = o.val; rw [h]; show 0 * 6 + 1 * o.val = _; omega
    | ⟨2, _⟩ => show win0_2.index t 2 * 1024 + 1 * k.val = k.val; rw [h]; show 0 * 1024 + 1 * k.val = _; omega
  refine (congrArg (V m c main_arg2) he).trans ?_
  rw [V_main_arg2 m c]

/-- A row of the point's block is the latent row it is of. -/
theorem hrow_eq (r : Fin 512) : hrow (iblk m c 0 t) (iblk m c 1 t) (iblk m c 2 t) r
    = latRow (m (c.tc.loc main_arg0)) (m (c.tc.loc main_arg1)) (m (c.tc.loc main_arg2))
        ⟨t.val * 512 + r.val, by have h : t.val < 32 := Nat.lt_of_lt_of_eq t.isLt N_0; omega⟩ := by
  have hb : t.val / 4 = (t.val * 512 + r.val) / 2048 := by omega
  unfold hrow latRow
  congr 1
  · funext k; exact iblk_rows m c t r k
  · funext k; exact iblk_norm m c t k
  · funext k; refine (iblk_mod m c t 1 k).trans (congrArg (m (c.tc.loc main_arg2)) ?_); exact congrArg (ix3 · 1 k) (Fin.ext hb)
  · funext k; refine (iblk_mod m c t 0 k).trans (congrArg (m (c.tc.loc main_arg2)) ?_); exact congrArg (ix3 · 0 k) (Fin.ext hb)

/-- What the weights window's array holds. -/
theorem V_weights : V m c main_v0 = wts (m (c.tc.loc main_arg3)) := by
  unfold V hostOps0
  rfl

/-- The weights window reads them whole. -/
theorem iblk_weights (k : Fin 1024) (j : Fin 2560) : (iblk m c 3 t : Vec Ideal S1024x2560 .bf16) (ix2 k j) = m (c.tc.loc main_arg3) (ix2 k j) := by
  have h := (win_index t).2.2.2.1
  unfold iblk
  rw [View.read_apply]
  have he : (((cfg0.win 3).blk t).view.emb (ix2 k j) : S1024x2560.Idx) = ix2 k j := by
    funext x
    apply Fin.ext
    match x with
    | ⟨0, _⟩ => show win0_3.index t 0 * 1024 + 1 * k.val = k.val; rw [h]; show 0 * 1024 + 1 * k.val = _; omega
    | ⟨1, _⟩ => show win0_3.index t 1 * 2560 + 1 * j.val = j.val; rw [h]; show 0 * 2560 + 1 * j.val = _; omega
  refine (congrArg (V m c main_v0) he).trans ?_
  rw [V_weights m c]
  pointwise [wts]

/-- What the cosines' window's array holds. -/
theorem V_cos : V m c main_v29 = concatenate S2048x128 1 [⟨S2048x64, Host.cos Cert.Reference3Ideal.Value.angles⟩,
    ⟨S2048x64, Host.cos Cert.Reference3Ideal.Value.angles⟩] concatenates_S2048x64_S2048x64_S2048x128_d1 := by
  unfold V hostOps0
  rfl

/-- What the sines' window's array holds. -/
theorem V_sin : V m c main_v31 = concatenate S2048x128 1 [⟨S2048x64, Host.negf (Host.sin Cert.Reference3Ideal.Value.angles)⟩,
    ⟨S2048x64, Host.sin Cert.Reference3Ideal.Value.angles⟩] concatenates_S2048x64_S2048x64_S2048x128_d1 := by
  unfold V hostOps0
  rfl

/-- The cosines' window reads the rows of the point's tokens. -/
theorem iblk_cos (r : Fin 512) (e : Fin 128) : (iblk m c 4 t : Vec Ideal S512x128 .f32) (ix2 r e)
    = V m c main_v29 (ix2 ⟨t.val % 4 * 512 + r.val, by omega⟩ e) := by
  have h := (win_index t).2.2.2.2.1
  unfold iblk
  rw [View.read_apply]
  have he : (((cfg0.win 4).blk t).view.emb (ix2 r e) : S2048x128.Idx) = ix2 ⟨t.val % 4 * 512 + r.val, by omega⟩ e := by
    funext x
    apply Fin.ext
    match x with
    | ⟨0, _⟩ => show win0_4.index t 0 * 512 + 1 * r.val = t.val % 4 * 512 + r.val; rw [h]; show t.val % 4 * 512 + 1 * r.val = _; omega
    | ⟨1, _⟩ => show win0_4.index t 1 * 128 + 1 * e.val = e.val; rw [h]; show 0 * 128 + 1 * e.val = _; omega
  exact congrArg (V m c main_v29) he

/-- The sines' window reads the rows of the point's tokens. -/
theorem iblk_sin (r : Fin 512) (e : Fin 128) : (iblk m c 5 t : Vec Ideal S512x128 .f32) (ix2 r e)
    = V m c main_v31 (ix2 ⟨t.val % 4 * 512 + r.val, by omega⟩ e) := by
  have h := (win_index t).2.2.2.2.2.1
  unfold iblk
  rw [View.read_apply]
  have he : (((cfg0.win 5).blk t).view.emb (ix2 r e) : S2048x128.Idx) = ix2 ⟨t.val % 4 * 512 + r.val, by omega⟩ e := by
    funext x
    apply Fin.ext
    match x with
    | ⟨0, _⟩ => show win0_5.index t 0 * 512 + 1 * r.val = t.val % 4 * 512 + r.val; rw [h]; show t.val % 4 * 512 + 1 * r.val = _; omega
    | ⟨1, _⟩ => show win0_5.index t 1 * 128 + 1 * e.val = e.val; rw [h]; show 0 * 128 + 1 * e.val = _; omega
  exact congrArg (V m c main_v31) he

/-- What a grid point leaves in its block of the result. -/
theorem point_main (r : Fin 512) (j : Fin 2560) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (ix2 r j)
      = evenMain (Host.cos Cert.Reference3Ideal.Value.angles) (Host.sin Cert.Reference3Ideal.Value.angles) (m (c.tc.loc main_arg0)) (m (c.tc.loc main_arg1)) (m (c.tc.loc main_arg2)) (m (c.tc.loc main_arg3)) (ix2 ⟨t.val * 512 + r.val, by have h : t.val < 32 := Nat.lt_of_lt_of_eq t.isLt N_0; omega⟩ j) := by
  have hN : t.val < 32 := Nat.lt_of_lt_of_eq t.isLt N_0
  have hi : (⟨(t.val * 512 + r.val) % 2048, Nat.mod_lt _ (by omega)⟩ : Fin 2048) = ⟨t.val % 4 * 512 + r.val, by omega⟩ :=
    Fin.ext (by show (t.val * 512 + r.val) % 2048 = t.val % 4 * 512 + r.val; omega)
  have hp : prow (iblk m c 0 t) (iblk m c 1 t) (iblk m c 2 t) (iblk m c 3 t) r
      = fun j => proj (latRow (m (c.tc.loc main_arg0)) (m (c.tc.loc main_arg1)) (m (c.tc.loc main_arg2)) ⟨t.val * 512 + r.val, by omega⟩)
          (fun k => m (c.tc.loc main_arg3) (ix2 k j)) := by
    funext j
    unfold prow
    rw [hrow_eq]
    exact congrArg _ (funext fun k => iblk_weights m c t k j)
  rw [out6_apply, hp]
  refine (swungRow_eq _ _ _ (fun e => Host.cos Cert.Reference3Ideal.Value.angles (ix2 ⟨t.val % 4 * 512 + r.val, by omega⟩ e))
    (fun e => Host.sin Cert.Reference3Ideal.Value.angles (ix2 ⟨t.val % 4 * 512 + r.val, by omega⟩ e)) j
    (fun e => (iblk_cos m c t r e).trans ?_) (fun e => (iblk_sin m c t r e).trans ?_)).trans ?_
  · rw [V_cos m c]
    exact cos_eq _ _ e
  · rw [V_sin m c]
    exact sin_eq _ _ e
  · rw [← hi]
    rfl

/-- What a grid point writes back to the result is its block of the projection. -/
theorem flushed_main (t : Fin cfg0.N) : (dats m 0 c).flushed 6 t = ((cfg0.win 6).blk t).view.read (Elt Ideal) (evenMain (Host.cos Cert.Reference3Ideal.Value.angles) (Host.sin Cert.Reference3Ideal.Value.angles) (m (c.tc.loc main_arg0)) (m (c.tc.loc main_arg1)) (m (c.tc.loc main_arg2)) (m (c.tc.loc main_arg3))) := by
  rw [Value.flushed6_A]
  funext y
  have hi := (win_index t).2.2.2.2.2.2
  have h0 : (y 0).val < 512 := (y 0).isLt
  have h1 : (y 1).val < 2560 := (y 1).isLt
  have ht : t.val < 32 := Nat.lt_of_lt_of_eq t.isLt N_0
  have hy : (y : S512x2560.Idx) = ix2 (⟨(y 0).val, h0⟩ : Fin 512) (⟨(y 1).val, h1⟩ : Fin 2560) := by
    funext x
    match x with
    | ⟨0, _⟩ => rfl
    | ⟨1, _⟩ => rfl
  refine (congrArg (_ : S512x2560.Idx → EReal) hy).trans ?_
  refine (point_main m c t ⟨(y 0).val, h0⟩ ⟨(y 1).val, h1⟩).trans ?_
  rw [View.read_apply]
  have he : (((cfg0.win 6).blk t).view.emb y : S16384x2560.Idx)
      = ix2 ⟨t.val * 512 + (y 0).val, by omega⟩ ⟨(y 1).val, h1⟩ := by
    funext x
    apply Fin.ext
    match x with
    | ⟨0, _⟩ => show win0_6.index t 0 * 512 + 1 * (y 0).val = t.val * 512 + (y 0).val; rw [hi]; show t.val * 512 + 1 * (y 0).val = _; omega
    | ⟨1, _⟩ => show win0_6.index t 1 * 2560 + 1 * (y 1).val = (y 1).val; rw [hi]; show 0 * 2560 + 1 * (y 1).val = _; omega
  exact (congrArg (evenMain (Host.cos Cert.Reference3Ideal.Value.angles) (Host.sin Cert.Reference3Ideal.Value.angles) (m (c.tc.loc main_arg0)) (m (c.tc.loc main_arg1)) (m (c.tc.loc main_arg2)) (m (c.tc.loc main_arg3))) he).symm

/-- Every index of the result is in some point's block. -/
theorem cover_main (i : S16384x2560.Idx) : ∃ t : Fin cfg0.N, (cfg0.win 6).flush t = true ∧ i ∈ ((cfg0.win 6).blk t).view.set := by
  have h0 : (i 0).val < 16384 := (i 0).isLt
  have h1 : (i 1).val < 2560 := (i 1).isLt
  have hN : cfg0.N = 32 := N_0
  have ht : (i 0).val / 512 < cfg0.N := by omega
  refine ⟨⟨(i 0).val / 512, ht⟩, flush0_6 _, ?_⟩
  show i ∈ ((View.whole main_v33).slice (win0_6.rect ⟨(i 0).val / 512, ht⟩)).set
  rw [View.set_slice_whole, Rect.mem_set_unit]
  have hi := (win_index ⟨(i 0).val / 512, ht⟩).2.2.2.2.2.2
  intro a
  match a with
  | ⟨0, _⟩ =>
    show win0_6.index _ 0 * 512 ≤ (i 0).val ∧ (i 0).val < win0_6.index _ 0 * 512 + 512
    rw [hi]
    show (i 0).val / 512 * 512 ≤ (i 0).val ∧ (i 0).val < (i 0).val / 512 * 512 + 512
    omega
  | ⟨1, _⟩ =>
    show win0_6.index _ 1 * 2560 ≤ (i 1).val ∧ (i 1).val < win0_6.index _ 1 * 2560 + 2560
    rw [hi]
    show 0 * 2560 ≤ (i 1).val ∧ (i 1).val < 0 * 2560 + 2560
    omega

/-- So the result ends holding the projection. -/
theorem final_main : (dats m 0 c).arrAt 6 cfg0.N = evenMain (Host.cos Cert.Reference3Ideal.Value.angles) (Host.sin Cert.Reference3Ideal.Value.angles) (m (c.tc.loc main_arg0)) (m (c.tc.loc main_arg1)) (m (c.tc.loc main_arg2)) (m (c.tc.loc main_arg3)) :=
  (dats m 0 c).arrAt_eq_of_cover 6 (evenMain (Host.cos Cert.Reference3Ideal.Value.angles) (Host.sin Cert.Reference3Ideal.Value.angles) (m (c.tc.loc main_arg0)) (m (c.tc.loc main_arg1)) (m (c.tc.loc main_arg2)) (m (c.tc.loc main_arg3))) (fun t _ => flushed_main m c t) cover_main

/-- The kernel's run: the result holds the projection, the arguments are unchanged. -/
theorem run_proj : θ_run defs (onTc (τ := τ) (main (F := Ideal))) ⟨m, fun _ => 0, ρ⟩ fun r => ∀ c : Dev nD,
      r.2.mem ((c : Thread nD τ).loc main_v33) = evenMain (Host.cos Cert.Reference3Ideal.Value.angles) (Host.sin Cert.Reference3Ideal.Value.angles) (m (c.tc.loc main_arg0)) (m (c.tc.loc main_arg1)) (m (c.tc.loc main_arg2)) (m (c.tc.loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_main m c), (h c).2⟩)
    (Value.run_blocks m ρ)

end run

end Cert.Kernel3Ideal.Gen

end
-- ==== Proof.Context.lean ====
module

public import proofs.«01_k».proof.Proof.InProj

@[expose] public section

set_option maxRecDepth 16384

noncomputable section

/-! What the in-projections of the context's rows leave in their results. -/

namespace Cert.InProj

open Idealize.ShloMosaic

/-- The wide result of the odd layer's context rows: the first 1024 columns of the weights. -/
def ctxMain (a0 : (⟨2, ![2048, 1024]⟩ : Shape).Idx → EReal) (a1 : (⟨1, ![1024]⟩ : Shape).Idx → EReal)
    (a2 : (⟨3, ![16, 6, 1024]⟩ : Shape).Idx → EReal) (a3 : (⟨2, ![1024, 1152]⟩ : Shape).Idx → EReal) :
    (⟨2, ![2048, 1024]⟩ : Shape).Idx → EReal := fun y =>
  proj (ctxRow a0 a1 a2 (y 0)) (fun k => a3 (ix2 k ⟨(y 1).val, by have : (y 1).val < 1024 := (y 1).isLt; omega⟩))

/-- The gate result of the odd layer's context rows: the last 128 columns of the weights. -/
def ctxGate (a0 : (⟨2, ![2048, 1024]⟩ : Shape).Idx → EReal) (a1 : (⟨1, ![1024]⟩ : Shape).Idx → EReal)
    (a2 : (⟨3, ![16, 6, 1024]⟩ : Shape).Idx → EReal) (a3 : (⟨2, ![1024, 1152]⟩ : Shape).Idx → EReal) :
    (⟨2, ![2048, 128]⟩ : Shape).Idx → EReal := fun y =>
  proj (ctxRow a0 a1 a2 (y 0)) (fun k => a3 (ix2 k ⟨1024 + (y 1).val, by have : (y 1).val < 128 := (y 1).isLt; omega⟩))

/-- A projected row of the even layer's context: the query columns scaled. -/
def scaledRow (P : Fin 2560 → EReal) (j : Fin 2560) : EReal :=
  if j.val < 512 then P j * Ideal.ofBits .f32 1035273459#32 else P j

/-- The result of the even layer's context rows. -/
def ctxEven (a0 : (⟨2, ![2048, 1024]⟩ : Shape).Idx → EReal) (a1 : (⟨1, ![1024]⟩ : Shape).Idx → EReal)
    (a2 : (⟨3, ![16, 6, 1024]⟩ : Shape).Idx → EReal) (a3 : (⟨2, ![1024, 2560]⟩ : Shape).Idx → EReal) :
    (⟨2, ![2048, 2560]⟩ : Shape).Idx → EReal := fun y =>
  scaledRow (fun j => proj (ctxRow a0 a1 a2 (y 0)) (fun k => a3 (ix2 k j))) (y 1)

end Cert.InProj

end
-- ==== Proof.EvenContext.lean ====
module

public import proofs.«01_k».proof.Proof.Context
public import proofs.«01_k».proof.Proof.Gen.Kernel4Ideal.Value
public import Idealize.ShloMosaic.Lib.Claim

@[expose] public section

set_option maxRecDepth 2048

noncomputable section

/-! The in-projection of the even layer's context rows: what the kernel's run leaves in its result. -/

namespace Cert.Kernel4Ideal.Gen

open Idealize.ShloMosaic Idealize.ShloMosaic.TcCoe Idealize.SL.Sem Cert.InProj

/-- Normalising and modulating a block of rows, at an index. -/
theorem pay5_eq (a : Vec Ideal S256x1024 .f32) (b : Vec Ideal S1x1024 .f32) (s h : Vec Ideal S1x1x1024 .f32) (r : Fin 256) (k : Fin 1024) :
    k0_pay5 (F := Ideal) a b s h (ix2 r k)
      = normed (fun k => a (ix2 r k)) (fun k => b (ix2 0 k)) (fun k => s (ix3 0 0 k)) (fun k => h (ix3 0 0 k)) k := by
  unfold normed
  pointwise [k0_pay5]

/-- A block of rows against a block of columns, at an index. -/
theorem pay2_eq (H : Vec Ideal S256x1024 .bf16) (W : Vec Ideal S1024x512 .bf16) (r : Fin 256) (j : Fin 512) :
    k0_pay2 (F := Ideal) H W (ix2 r j) = proj (fun k => H (ix2 r k)) (fun k => W (ix2 k j)) := by
  unfold proj
  pointwise [k0_pay2]

/-- A block of rows against a block of columns, at an index. -/
theorem pay3_eq (H : Vec Ideal S256x1024 .bf16) (W : Vec Ideal S1024x512 .bf16) (r : Fin 256) (j : Fin 512) :
    k0_pay3 (F := Ideal) H W (ix2 r j) = proj (fun k => H (ix2 r k)) (fun k => W (ix2 k j)) := by
  unfold proj
  pointwise [k0_pay3]

/-- A block of rows against a block of columns, at an index. -/
theorem pay4_eq (H : Vec Ideal S256x1024 .bf16) (W : Vec Ideal S1024x512 .bf16) (r : Fin 256) (j : Fin 512) :
    k0_pay4 (F := Ideal) H W (ix2 r j) = proj (fun k => H (ix2 r k)) (fun k => W (ix2 k j)) := by
  unfold proj
  pointwise [k0_pay4]

/-- A query head's block, at an index. -/
theorem pay8_eq (H : Vec Ideal S256x1024 .bf16) (W : Vec Ideal S1024x512 .bf16) (r : Fin 256) (e : Fin 128) :
    k0_pay8 (F := Ideal) (k0_pay7 H W) (ix2 r e) = proj (fun k => H (ix2 r k)) (fun k => W (ix2 k ⟨0 + e.val, by omega⟩)) * Ideal.ofBits .f32 1035273459#32 := by
  unfold proj
  pointwise [k0_pay8, k0_pay7, k0_pay6]

/-- A query head's block, at an index. -/
theorem pay9_eq (H : Vec Ideal S256x1024 .bf16) (W : Vec Ideal S1024x512 .bf16) (r : Fin 256) (e : Fin 128) :
    k0_pay9 (F := Ideal) (k0_pay6 H W) (ix2 r e) = proj (fun k => H (ix2 r k)) (fun k => W (ix2 k ⟨128 + e.val, by omega⟩)) * Ideal.ofBits .f32 1035273459#32 := by
  unfold proj
  pointwise [k0_pay9, k0_pay6]

/-- A query head's block, at an index. -/
theorem pay10_eq (H : Vec Ideal S256x1024 .bf16) (W : Vec Ideal S1024x512 .bf16) (r : Fin 256) (e : Fin 128) :
    k0_pay10 (F := Ideal) (k0_pay6 H W) (ix2 r e) = proj (fun k => H (ix2 r k)) (fun k => W (ix2 k ⟨256 + e.val, by omega⟩)) * Ideal.ofBits .f32 1035273459#32 := by
  unfold proj
  pointwise [k0_pay10, k0_pay6]

/-- A query head's block, at an index. -/
theorem pay11_eq (H : Vec Ideal S256x1024 .bf16) (W : Vec Ideal S1024x512 .bf16) (r : Fin 256) (e : Fin 128) :
    k0_pay11 (F := Ideal) (k0_pay6 H W) (ix2 r e) = proj (fun k => H (ix2 r k)) (fun k => W (ix2 k ⟨384 + e.val, by omega⟩)) * Ideal.ofBits .f32 1035273459#32 := by
  unfold proj
  pointwise [k0_pay11, k0_pay6]

/-- A key head's block, at an index. -/
theorem pay13_eq (H : Vec Ideal S256x1024 .bf16) (W : Vec Ideal S1024x512 .bf16) (r : Fin 256) (e : Fin 128) :
    k0_pay13 (F := Ideal) H W (ix2 r e) = proj (fun k => H (ix2 r k)) (fun k => W (ix2 k ⟨0 + e.val, by omega⟩)) := by
  unfold proj
  pointwise [k0_pay13, k0_pay12]

/-- A key head's block, at an index. -/
theorem pay14_eq (H : Vec Ideal S256x1024 .bf16) (W : Vec Ideal S1024x512 .bf16) (r : Fin 256) (e : Fin 128) :
    k0_pay14 (F := Ideal) H W (ix2 r e) = proj (fun k => H (ix2 r k)) (fun k => W (ix2 k ⟨128 + e.val, by omega⟩)) := by
  unfold proj
  pointwise [k0_pay14, k0_pay12]

/-- A key head's block, at an index. -/
theorem pay15_eq (H : Vec Ideal S256x1024 .bf16) (W : Vec Ideal S1024x512 .bf16) (r : Fin 256) (e : Fin 128) :
    k0_pay15 (F := Ideal) H W (ix2 r e) = proj (fun k => H (ix2 r k)) (fun k => W (ix2 k ⟨256 + e.val, by omega⟩)) := by
  unfold proj
  pointwise [k0_pay15, k0_pay12]

/-- A key head's block, at an index. -/
theorem pay1_eq (H : Vec Ideal S256x1024 .bf16) (W : Vec Ideal S1024x512 .bf16) (r : Fin 256) (e : Fin 128) :
    k0_pay1 (F := Ideal) (k0_pay16 H W) (ix2 r e) = proj (fun k => H (ix2 r k)) (fun k => W (ix2 k ⟨384 + e.val, by omega⟩)) := by
  unfold proj
  pointwise [k0_pay1, k0_pay16, k0_pay12]

section point

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x6x1024 .f32) (harg3 : arg3.IsWhole) (arg4 : Memref sig .tc .vmem S1024x2560 .bf16) (harg4 : arg4.IsWhole) (arg5 : Memref sig .tc .vmem S256x2560 .bf16) (harg5 : arg5.IsWhole) (arg6 : Memref sig .tc .vmem S256x1024 .bf16) (harg6 : arg6.IsWhole)
variable (x0 : Vec Ideal S256x1024 .f32) (x1 : Vec Ideal S1x1024 .f32) (x2 : Vec Ideal S1x6x1024 .f32) (x3 : Vec Ideal S1024x2560 .bf16)

/-- A row of the point's block, normalised and modulated. -/
def hrow (r : Fin 256) : Row :=
  normed (fun k => x0 (ix2 r k)) (fun k => x1 (ix2 0 k)) (fun k => x2 (ix3 0 1 k)) (fun k => x2 (ix3 0 0 k))

/-- The buffer of normalised rows, read whole. -/
theorem rows_read (r : Fin 256) (k : Fin 1024) :
    kernelRun0_A.sl.v29 (F := Ideal) c arg1 harg1 arg2 harg2 arg3 harg3 arg6 x0 x1 x2 (ix2 r k) = hrow x0 x1 x2 r k := by
  have hz : (![0, 0] : Fin 2 → ℕ) = fun _ => 0 := by decide
  unfold kernelRun0_A.sl.v29 View.readCov
  rw [View.readAt_eq_ld, View.ld_unit_zero hz]
  unfold kernelRun0_A.sl.HS0_1
  refine (View.read_writes_cons_unit_of_mem arg6.view _ inb_S256x1024_S256x1024_0_0 _ [] _ (ix2 r k) rfl
    (by intro x; match x with | 0 => exact (Nat.zero_add _).symm | 1 => exact (Nat.zero_add _).symm)).trans ?_
  rw [pay5_eq]
  unfold hrow
  simp only [View.readAt_eq_ld, harg1.read_unread, harg2.read_unread, harg3.read_unread]
  congr 1
  · funext k
    exact congrFun (View.ld_unit_zero hz _ _) _
  · funext k
    exact congrFun (View.ld_unit_zero hz _ _) _
  · funext k
    exact row_ld (e := .f32) x2 1 ![0, 1, 0] inb_S1x6x1024_S1x1x1024_0_1_0 rfl k
  · funext k
    exact row_ld (e := .f32) x2 0 ![0, 0, 0] inb_S1x6x1024_S1x1x1024_0_0_0 rfl k

/-- A row of the point's block against the columns of its weights. -/
def prow (r : Fin 256) : Fin 2560 → EReal := fun j => proj (hrow x0 x1 x2 r) (fun k => x3 (ix2 k j))

/-- What the point leaves in its block of the result. -/
theorem out4_apply (r : Fin 256) (j : Fin 2560) :
    out0_A_4 (F := Ideal) c i arg1 harg1 arg2 harg2 arg3 harg3 arg4 harg4 arg5 harg5 arg6 harg6 x0 x1 x2 x3 (ix2 r j)
      = scaledRow (prow x0 x1 x2 x3 r) j := by
  have ha : ∀ (o : ℕ) (inb : ∀ x, (![0, o] : Fin 2 → ℕ) x + S1024x512.size x ≤ S1024x2560.size x) (e : Fin 512) (j' : Fin 2560), j'.val = o + e.val →
      proj (fun k => kernelRun0_A.sl.v29 (F := Ideal) c arg1 harg1 arg2 harg2 arg3 harg3 arg6 x0 x1 x2 (ix2 r k))
        (fun k => arg4.view.readAt (Elt Ideal) (Rect.unit (s := S1024x2560) ![0, o] S1024x512.size inb).toLoadRect (harg4.unread x3) (ix2 k e))
      = prow x0 x1 x2 x3 r j' := by
    intro o inb e j' hj
    unfold prow
    congr 1
    · funext k
      exact rows_read c arg1 harg1 arg2 harg2 arg3 harg3 arg6 x0 x1 x2 r k
    · funext k
      rw [View.readAt_eq_ld, harg4.read_unread]
      exact cols_ld (e := .bf16) x3 o ![0, o] inb rfl k e j' hj
  have rest : ∀ v : EReal, v = prow x0 x1 x2 x3 r j → 512 ≤ j.val → v = scaledRow (prow x0 x1 x2 x3 r) j := by
    intro v hv h
    unfold scaledRow
    rw [if_neg (by omega), hv]
  have query : ∀ v w : EReal, v = w * Ideal.ofBits .f32 1035273459#32 → w = prow x0 x1 x2 x3 r j → j.val < 512 → v = scaledRow (prow x0 x1 x2 x3 r) j := by
    intro v w hv hw h
    unfold scaledRow
    rw [if_pos h, hv, hw]
  unfold out0_A_4 kernelRun0_A
  dsimp only
  have hj := j.isLt
  refine (cols_writes VO0_4 _ 2048 _ inb_S256x2560_S256x512_0_2048 rfl _ _ r j).trans ?_
  split
  · exact rest _ ((pay4_eq _ _ r _).trans (ha 2048 inb_S1024x2560_S1024x512_0_2048 _ j (by dsimp only; omega))) (by omega)
  refine (cols_writes VO0_4 _ 1536 _ inb_S256x2560_S256x512_0_1536 rfl _ _ r j).trans ?_
  split
  · exact rest _ ((pay3_eq _ _ r _).trans (ha 1536 inb_S1024x2560_S1024x512_0_1536 _ j (by dsimp only; omega))) (by omega)
  refine (cols_writes VO0_4 _ 1024 _ inb_S256x2560_S256x512_0_1024 rfl _ _ r j).trans ?_
  split
  · exact rest _ ((pay2_eq _ _ r _).trans (ha 1024 inb_S1024x2560_S1024x512_0_1024 _ j (by dsimp only; omega))) (by omega)
  refine (cols_writes VO0_4 _ 896 _ inb_S256x2560_S256x128_0_896 rfl _ _ r j).trans ?_
  split
  · exact rest _ ((pay1_eq _ _ r _).trans (ha 512 inb_S1024x2560_S1024x512_0_512 _ j (by dsimp only; omega))) (by omega)
  refine (cols_writes VO0_4 _ 768 _ inb_S256x2560_S256x128_0_768 rfl _ _ r j).trans ?_
  split
  · exact rest _ ((pay15_eq _ _ r _).trans (ha 512 inb_S1024x2560_S1024x512_0_512 _ j (by dsimp only; omega))) (by omega)
  refine (cols_writes VO0_4 _ 640 _ inb_S256x2560_S256x128_0_640 rfl _ _ r j).trans ?_
  split
  · exact rest _ ((pay14_eq _ _ r _).trans (ha 512 inb_S1024x2560_S1024x512_0_512 _ j (by dsimp only; omega))) (by omega)
  refine (cols_writes VO0_4 _ 512 _ inb_S256x2560_S256x128_0_512 rfl _ _ r j).trans ?_
  split
  · exact rest _ ((pay13_eq _ _ r _).trans (ha 512 inb_S1024x2560_S1024x512_0_512 _ j (by dsimp only; omega))) (by omega)
  refine (cols_writes VO0_4 _ 384 _ inb_S256x2560_S256x128_0_384 rfl _ _ r j).trans ?_
  split
  · exact query _ _ (pay11_eq _ _ r _) (ha 0 inb_S1024x2560_S1024x512_0_0 _ j (by dsimp only; omega)) (by omega)
  refine (cols_writes VO0_4 _ 256 _ inb_S256x2560_S256x128_0_256 rfl _ _ r j).trans ?_
  split
  · exact query _ _ (pay10_eq _ _ r _) (ha 0 inb_S1024x2560_S1024x512_0_0 _ j (by dsimp only; omega)) (by omega)
  refine (cols_writes VO0_4 _ 128 _ inb_S256x2560_S256x128_0_128 rfl _ _ r j).trans ?_
  split
  · exact query _ _ (pay9_eq _ _ r _) (ha 0 inb_S1024x2560_S1024x512_0_0 _ j (by dsimp only; omega)) (by omega)
  refine (cols_writes VO0_4 _ 0 _ inb_S256x2560_S256x128_0_0 rfl _ _ r j).trans ?_
  split
  · exact query _ _ (pay8_eq _ _ r _) (ha 0 inb_S1024x2560_S1024x512_0_0 _ j (by dsimp only; omega)) (by omega)
  omega

end point

/-- The weights the kernel is handed. -/
def wts (a3 : FVec Ideal S1024x2560 .f32) : FVec Ideal S1024x2560 .bf16 := truncf .bf16 a3 bitsLt_bf16_f32

section run

variable (m : (ℓ : Loc nD τ sig) → Buf (Elt Ideal) ℓ) (ρ : Dev nD → PrngReg) (c : Dev nD) (t : Fin cfg0.N)

/-- Where the five windows of a point are. -/
theorem win_index : ∀ t : Fin cfg0.N, win0_0.index t = ![t.val, 0] ∧ win0_1.index t = ![0, 0] ∧ win0_2.index t = ![8, 0, 0]
    ∧ win0_3.index t = ![0, 0] ∧ win0_4.index t = ![t.val, 0] :=
  (by decide +kernel : ∀ t : Fin grid0.N, _)

/-- The rows window reads the point's rows. -/
theorem iblk_rows (r : Fin 256) (k : Fin 1024) : (iblk m c 0 t : Vec Ideal S256x1024 .f32) (ix2 r k)
    = m (c.tc.loc main_arg0) (ix2 ⟨t.val * 256 + r.val, by have h : t.val < 8 := Nat.lt_of_lt_of_eq t.isLt N_0; omega⟩ k) := by
  have h := (win_index t).1
  have hN : t.val < 8 := Nat.lt_of_lt_of_eq t.isLt N_0
  unfold iblk
  rw [View.read_apply]
  have he : (((cfg0.win 0).blk t).view.emb (ix2 r k) : S2048x1024.Idx) = ix2 ⟨t.val * 256 + r.val, by omega⟩ k := by
    funext x
    apply Fin.ext
    match x with
    | ⟨0, _⟩ => show win0_0.index t 0 * 256 + 1 * r.val = t.val * 256 + r.val; rw [h]; show t.val * 256 + 1 * r.val = _; omega
    | ⟨1, _⟩ => show win0_0.index t 1 * 1024 + 1 * k.val = k.val; rw [h]; show 0 * 1024 + 1 * k.val = _; omega
  refine (congrArg (V m c main_arg0) he).trans ?_
  rw [V_main_arg0 m c]

/-- The norm's window reads its weights. -/
theorem iblk_norm (k : Fin 1024) : (iblk m c 1 t : Vec Ideal S1x1024 .f32) (ix2 0 k) = m (c.tc.loc main_arg1) (ix1 k) := by
  have h := (win_index t).2.1
  unfold iblk
  rw [View.read_apply]
  have he : (((cfg0.win 1).blk t).view.emb (ix2 0 k) : S1x1024.Idx) = ix2 0 k := by
    funext x
    apply Fin.ext
    match x with
    | ⟨0, _⟩ => show win0_1.index t 0 * 1 + 1 * 0 = 0; rw [h]; rfl
    | ⟨1, _⟩ => show win0_1.index t 1 * 1024 + 1 * k.val = k.val; rw [h]; show 0 * 1024 + 1 * k.val = _; omega
  refine (congrArg (V m c main_v1) he).trans ?_
  entry_read
  pointwise

/-- The modulations' window reads the context's. -/
theorem iblk_mod (o : Fin 6) (k : Fin 1024) : (iblk m c 2 t : Vec Ideal S1x6x1024 .f32) (ix3 0 o k)
    = m (c.tc.loc main_arg2) (ix3 8 o k) := by
  have h := (win_index t).2.2.1
  have hN : t.val < 8 := Nat.lt_of_lt_of_eq t.isLt N_0
  unfold iblk
  rw [View.read_apply]
  have he : (((cfg0.win 2).blk t).view.emb (ix3 0 o k) : S16x6x1024.Idx) = ix3 8 o k := by
    funext x
    apply Fin.ext
    match x with
    | ⟨0, _⟩ => show win0_2.index t 0 * 1 + 1 * 0 = 8; rw [h]; rfl
    | ⟨1, _⟩ => show win0_2.index t 1 * 6 + 1 * o.val = o.val; rw [h]; show 0 * 6 + 1 * o.val = _; omega
    | ⟨2, _⟩ => show win0_2.index t 2 * 1024 + 1 * k.val = k.val; rw [h]; show 0 * 1024 + 1 * k.val = _; omega
  refine (congrArg (V m c main_arg2) he).trans ?_
  rw [V_main_arg2 m c]

/-- A row of the point's block is the context row it is of. -/
theorem hrow_eq (r : Fin 256) : hrow (iblk m c 0 t) (iblk m c 1 t) (iblk m c 2 t) r
    = ctxRow (m (c.tc.loc main_arg0)) (m (c.tc.loc main_arg1)) (m (c.tc.loc main_arg2))
        ⟨t.val * 256 + r.val, by have h : t.val < 8 := Nat.lt_of_lt_of_eq t.isLt N_0; omega⟩ := by
  unfold hrow ctxRow
  congr 1
  · funext k; exact iblk_rows m c t r k
  · funext k; exact iblk_norm m c t k
  · funext k; exact iblk_mod m c t 1 k
  · funext k; exact iblk_mod m c t 0 k

/-- What the weights window's array holds. -/
theorem V_weights : V m c main_v0 = wts (m (c.tc.loc main_arg3)) := by
  unfold V hostOps0
  rfl

/-- The weights window reads them whole. -/
theorem iblk_weights (k : Fin 1024) (j : Fin 2560) : (iblk m c 3 t : Vec Ideal S1024x2560 .bf16) (ix2 k j) = m (c.tc.loc main_arg3) (ix2 k j) := by
  have h := (win_index t).2.2.2.1
  unfold iblk
  rw [View.read_apply]
  have he : (((cfg0.win 3).blk t).view.emb (ix2 k j) : S1024x2560.Idx) = ix2 k j := by
    funext x
    apply Fin.ext
    match x with
    | ⟨0, _⟩ => show win0_3.index t 0 * 1024 + 1 * k.val = k.val; rw [h]; show 0 * 1024 + 1 * k.val = _; omega
    | ⟨1, _⟩ => show win0_3.index t 1 * 2560 + 1 * j.val = j.val; rw [h]; show 0 * 2560 + 1 * j.val = _; omega
  refine (congrArg (V m c main_v0) he).trans ?_
  rw [V_weights m c]
  pointwise [wts]

/-- What a grid point leaves in its block of the result. -/
theorem point_main (r : Fin 256) (j : Fin 2560) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (ix2 r j)
      = ctxEven (m (c.tc.loc main_arg0)) (m (c.tc.loc main_arg1)) (m (c.tc.loc main_arg2)) (m (c.tc.loc main_arg3)) (ix2 ⟨t.val * 256 + r.val, by have h : t.val < 8 := Nat.lt_of_lt_of_eq t.isLt N_0; omega⟩ j) := by
  rw [out4_apply]
  unfold ctxEven
  refine congrArg (fun P => scaledRow P j) (funext fun j => ?_)
  unfold prow
  rw [hrow_eq]
  exact congrArg _ (funext fun k => iblk_weights m c t k j)

/-- What a grid point writes back to the result is its block of the projection. -/
theorem flushed_main (t : Fin cfg0.N) : (dats m 0 c).flushed 4 t = ((cfg0.win 4).blk t).view.read (Elt Ideal) (ctxEven (m (c.tc.loc main_arg0)) (m (c.tc.loc main_arg1)) (m (c.tc.loc main_arg2)) (m (c.tc.loc main_arg3))) := by
  rw [Value.flushed4_A]
  funext y
  have hi := (win_index t).2.2.2.2
  have h0 : (y 0).val < 256 := (y 0).isLt
  have h1 : (y 1).val < 2560 := (y 1).isLt
  have ht : t.val < 8 := Nat.lt_of_lt_of_eq t.isLt N_0
  have hy : (y : S256x2560.Idx) = ix2 (⟨(y 0).val, h0⟩ : Fin 256) (⟨(y 1).val, h1⟩ : Fin 2560) := by
    funext x
    match x with
    | ⟨0, _⟩ => rfl
    | ⟨1, _⟩ => rfl
  refine (congrArg (_ : S256x2560.Idx → EReal) hy).trans ?_
  refine (point_main m c t ⟨(y 0).val, h0⟩ ⟨(y 1).val, h1⟩).trans ?_
  rw [View.read_apply]
  have he : (((cfg0.win 4).blk t).view.emb y : S2048x2560.Idx)
      = ix2 ⟨t.val * 256 + (y 0).val, by omega⟩ ⟨(y 1).val, h1⟩ := by
    funext x
    apply Fin.ext
    match x with
    | ⟨0, _⟩ => show win0_4.index t 0 * 256 + 1 * (y 0).val = t.val * 256 + (y 0).val; rw [hi]; show t.val * 256 + 1 * (y 0).val = _; omega
    | ⟨1, _⟩ => show win0_4.index t 1 * 2560 + 1 * (y 1).val = (y 1).val; rw [hi]; show 0 * 2560 + 1 * (y 1).val = _; omega
  exact (congrArg (ctxEven (m (c.tc.loc main_arg0)) (m (c.tc.loc main_arg1)) (m (c.tc.loc main_arg2)) (m (c.tc.loc main_arg3))) he).symm

/-- Every index of the result is in some point's block. -/
theorem cover_main (i : S2048x2560.Idx) : ∃ t : Fin cfg0.N, (cfg0.win 4).flush t = true ∧ i ∈ ((cfg0.win 4).blk t).view.set := by
  have h0 : (i 0).val < 2048 := (i 0).isLt
  have h1 : (i 1).val < 2560 := (i 1).isLt
  have hN : cfg0.N = 8 := N_0
  have ht : (i 0).val / 256 < cfg0.N := by omega
  refine ⟨⟨(i 0).val / 256, ht⟩, flush0_4 _, ?_⟩
  show i ∈ ((View.whole main_v2).slice (win0_4.rect ⟨(i 0).val / 256, ht⟩)).set
  rw [View.set_slice_whole, Rect.mem_set_unit]
  have hi := (win_index ⟨(i 0).val / 256, ht⟩).2.2.2.2
  intro a
  match a with
  | ⟨0, _⟩ =>
    show win0_4.index _ 0 * 256 ≤ (i 0).val ∧ (i 0).val < win0_4.index _ 0 * 256 + 256
    rw [hi]
    show (i 0).val / 256 * 256 ≤ (i 0).val ∧ (i 0).val < (i 0).val / 256 * 256 + 256
    omega
  | ⟨1, _⟩ =>
    show win0_4.index _ 1 * 2560 ≤ (i 1).val ∧ (i 1).val < win0_4.index _ 1 * 2560 + 2560
    rw [hi]
    show 0 * 2560 ≤ (i 1).val ∧ (i 1).val < 0 * 2560 + 2560
    omega

/-- So the result ends holding the projection. -/
theorem final_main : (dats m 0 c).arrAt 4 cfg0.N = ctxEven (m (c.tc.loc main_arg0)) (m (c.tc.loc main_arg1)) (m (c.tc.loc main_arg2)) (m (c.tc.loc main_arg3)) :=
  (dats m 0 c).arrAt_eq_of_cover 4 (ctxEven (m (c.tc.loc main_arg0)) (m (c.tc.loc main_arg1)) (m (c.tc.loc main_arg2)) (m (c.tc.loc main_arg3))) (fun t _ => flushed_main m c t) cover_main

/-- The kernel's run: the result holds the projection, the arguments are unchanged. -/
theorem run_proj : θ_run defs (onTc (τ := τ) (main (F := Ideal))) ⟨m, fun _ => 0, ρ⟩ fun r => ∀ c : Dev nD,
      r.2.mem ((c : Thread nD τ).loc main_v2) = ctxEven (m (c.tc.loc main_arg0)) (m (c.tc.loc main_arg1)) (m (c.tc.loc main_arg2)) (m (c.tc.loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_main m c), (h c).2⟩)
    (Value.run_blocks m ρ)

end run

end Cert.Kernel4Ideal.Gen

end
-- ==== Proof.OddContext.lean ====
module

public import proofs.«01_k».proof.Proof.Context
public import proofs.«01_k».proof.Proof.Gen.Kernel5Ideal.Value
public import Idealize.ShloMosaic.Lib.Claim

@[expose] public section

set_option maxRecDepth 2048

noncomputable section

/-! The in-projection of the odd layer's context rows: what the kernel's run leaves in its two results. -/

namespace Cert.Kernel5Ideal.Gen

open Idealize.ShloMosaic Idealize.ShloMosaic.TcCoe Idealize.SL.Sem Cert.InProj

/-- Normalising and modulating a block of rows, at an index. -/
theorem pay3_eq (a : Vec Ideal S256x1024 .f32) (b : Vec Ideal S1x1024 .f32) (s h : Vec Ideal S1x1x1024 .f32) (r : Fin 256) (k : Fin 1024) :
    k0_pay3 (F := Ideal) a b s h (ix2 r k)
      = normed (fun k => a (ix2 r k)) (fun k => b (ix2 0 k)) (fun k => s (ix3 0 0 k)) (fun k => h (ix3 0 0 k)) k := by
  unfold normed
  pointwise [k0_pay3]

/-- A block of rows against a block of columns, at an index. -/
theorem pay4_eq (H : Vec Ideal S256x1024 .bf16) (W : Vec Ideal S1024x512 .bf16) (r : Fin 256) (j : Fin 512) :
    k0_pay4 (F := Ideal) H W (ix2 r j) = proj (fun k => H (ix2 r k)) (fun k => W (ix2 k j)) := by
  unfold proj
  pointwise [k0_pay4]

/-- A block of rows against a block of columns, at an index. -/
theorem pay1_eq (H : Vec Ideal S256x1024 .bf16) (W : Vec Ideal S1024x512 .bf16) (r : Fin 256) (j : Fin 512) :
    k0_pay1 (F := Ideal) H W (ix2 r j) = proj (fun k => H (ix2 r k)) (fun k => W (ix2 k j)) := by
  unfold proj
  pointwise [k0_pay1]

/-- A block of rows against the gate columns, at an index. -/
theorem pay2_eq (H : Vec Ideal S256x1024 .bf16) (W : Vec Ideal S1024x128 .bf16) (r : Fin 256) (j : Fin 128) :
    k0_pay2 (F := Ideal) H W (ix2 r j) = proj (fun k => H (ix2 r k)) (fun k => W (ix2 k j)) := by
  unfold proj
  pointwise [k0_pay2]

section point

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x6x1024 .f32) (harg3 : arg3.IsWhole) (arg4 : Memref sig .tc .vmem S1024x1152 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S256x1024 .bf16) (harg7 : arg7.IsWhole)
variable (x0 : Vec Ideal S256x1024 .f32) (x1 : Vec Ideal S1x1024 .f32) (x2 : Vec Ideal S1x6x1024 .f32) (x3 : Vec Ideal S1024x1152 .bf16)

/-- A row of the point's block, normalised and modulated. -/
def hrow (r : Fin 256) : Row :=
  normed (fun k => x0 (ix2 r k)) (fun k => x1 (ix2 0 k)) (fun k => x2 (ix3 0 1 k)) (fun k => x2 (ix3 0 0 k))

/-- The buffer of normalised rows, read whole. -/
theorem rows_read (r : Fin 256) (k : Fin 1024) :
    kernelRun0_A.sl.v29 (F := Ideal) c arg1 harg1 arg2 harg2 arg3 harg3 arg7 x0 x1 x2 (ix2 r k) = hrow x0 x1 x2 r k := by
  have hz : (![0, 0] : Fin 2 → ℕ) = fun _ => 0 := by decide
  unfold kernelRun0_A.sl.v29 View.readCov
  rw [View.readAt_eq_ld, View.ld_unit_zero hz]
  unfold kernelRun0_A.sl.HS0_1
  refine (View.read_writes_cons_unit_of_mem arg7.view _ inb_S256x1024_S256x1024_0_0 _ [] _ (ix2 r k) rfl
    (by intro x; match x with | 0 => exact (Nat.zero_add _).symm | 1 => exact (Nat.zero_add _).symm)).trans ?_
  rw [pay3_eq]
  unfold hrow
  simp only [View.readAt_eq_ld, harg1.read_unread, harg2.read_unread, harg3.read_unread]
  congr 1
  · funext k
    exact congrFun (View.ld_unit_zero hz _ _) _
  · funext k
    exact congrFun (View.ld_unit_zero hz _ _) _
  · funext k
    exact row_ld (e := .f32) x2 1 ![0, 1, 0] inb_S1x6x1024_S1x1x1024_0_1_0 rfl k
  · funext k
    exact row_ld (e := .f32) x2 0 ![0, 0, 0] inb_S1x6x1024_S1x1x1024_0_0_0 rfl k

/-- What the point leaves in its block of the first result. -/
theorem out4_apply (r : Fin 256) (j : Fin 1024) :
    out0_A_4 (F := Ideal) c i arg1 harg1 arg2 harg2 arg3 harg3 arg4 harg4 arg5 harg5 arg6 harg6 arg7 harg7 x0 x1 x2 x3 (ix2 r j)
      = proj (hrow x0 x1 x2 r) (fun k => x3 (ix2 k ⟨j.val, by omega⟩)) := by
  have key : ∀ (o : ℕ) (inb : ∀ x, (![0, o] : Fin 2 → ℕ) x + S1024x512.size x ≤ S1024x1152.size x) (j' : Fin 512), j.val = o + j'.val →
      proj (fun k => kernelRun0_A.sl.v29 (F := Ideal) c arg1 harg1 arg2 harg2 arg3 harg3 arg7 x0 x1 x2 (ix2 r k))
        (fun k => arg4.view.readAt (Elt Ideal) (Rect.unit (s := S1024x1152) ![0, o] S1024x512.size inb).toLoadRect (harg4.unread x3) (ix2 k j'))
      = proj (hrow x0 x1 x2 r) (fun k => x3 (ix2 k ⟨j.val, by omega⟩)) := by
    intro o inb j' hj
    congr 1
    · funext k
      exact rows_read c arg1 harg1 arg2 harg2 arg3 harg3 arg7 x0 x1 x2 r k
    · funext k
      rw [View.readAt_eq_ld, harg4.read_unread]
      exact cols_ld (e := .bf16) x3 o ![0, o] inb rfl k j' ⟨j.val, by omega⟩ hj
  unfold out0_A_4 kernelRun0_A
  dsimp only
  have hj := j.isLt
  refine (cols_writes VO0_4 _ 512 _ inb_S256x1024_S256x512_0_512 rfl _ _ r j).trans ?_
  split
  · exact (pay1_eq _ _ r _).trans (key 512 inb_S1024x1152_S1024x512_0_512 _ (by dsimp only; omega))
  refine (cols_writes VO0_4 _ 0 _ inb_S256x1024_S256x512_0_0 rfl _ _ r j).trans ?_
  split
  · exact (pay4_eq _ _ r _).trans (key 0 inb_S1024x1152_S1024x512_0_0 _ (by dsimp only; omega))
  omega

/-- What the point leaves in its block of the second result. -/
theorem out5_apply (r : Fin 256) (j : Fin 128) :
    out0_A_5 (F := Ideal) c i arg1 harg1 arg2 harg2 arg3 harg3 arg4 harg4 arg5 harg5 arg6 harg6 arg7 harg7 x0 x1 x2 x3 (ix2 r j)
      = proj (hrow x0 x1 x2 r) (fun k => x3 (ix2 k ⟨1024 + j.val, by omega⟩)) := by
  unfold out0_A_5 kernelRun0_A
  dsimp only
  refine (View.read_writes_cons_unit_of_mem VO0_5 _ inb_S256x128_S256x128_0_0 _ [] _ (ix2 r j) rfl
    (by intro x; match x with | 0 => exact (Nat.zero_add _).symm | 1 => exact (Nat.zero_add _).symm)).trans ?_
  rw [pay2_eq]
  congr 1
  · funext k
    exact rows_read c arg1 harg1 arg2 harg2 arg3 harg3 arg7 x0 x1 x2 r k
  · funext k
    rw [View.readAt_eq_ld, harg4.read_unread]
    exact cols_ld (e := .bf16) x3 1024 ![0, 1024] inb_S1024x1152_S1024x128_0_1024 rfl k j ⟨1024 + j.val, by omega⟩ rfl

end point

section run

variable (m : (ℓ : Loc nD τ sig) → Buf (Elt Ideal) ℓ) (ρ : Dev nD → PrngReg) (c : Dev nD) (t : Fin cfg0.N)

/-- Where the six windows of a point are. -/
theorem win_index : ∀ t : Fin cfg0.N, win0_0.index t = ![t.val, 0] ∧ win0_1.index t = ![0, 0] ∧ win0_2.index t = ![8, 0, 0]
    ∧ win0_3.index t = ![0, 0] ∧ win0_4.index t = ![t.val, 0] ∧ win0_5.index t = ![t.val, 0] :=
  (by decide +kernel : ∀ t : Fin grid0.N, _)

/-- The rows window reads the point's rows. -/
theorem iblk_rows (r : Fin 256) (k : Fin 1024) : (iblk m c 0 t : Vec Ideal S256x1024 .f32) (ix2 r k)
    = m (c.tc.loc main_arg0) (ix2 ⟨t.val * 256 + r.val, by have h : t.val < 8 := Nat.lt_of_lt_of_eq t.isLt N_0; omega⟩ k) := by
  have h := (win_index t).1
  have hN : t.val < 8 := Nat.lt_of_lt_of_eq t.isLt N_0
  unfold iblk
  rw [View.read_apply]
  have he : (((cfg0.win 0).blk t).view.emb (ix2 r k) : S2048x1024.Idx) = ix2 ⟨t.val * 256 + r.val, by omega⟩ k := by
    funext x
    apply Fin.ext
    match x with
    | ⟨0, _⟩ => show win0_0.index t 0 * 256 + 1 * r.val = t.val * 256 + r.val; rw [h]; show t.val * 256 + 1 * r.val = _; omega
    | ⟨1, _⟩ => show win0_0.index t 1 * 1024 + 1 * k.val = k.val; rw [h]; show 0 * 1024 + 1 * k.val = _; omega
  refine (congrArg (V m c main_arg0) he).trans ?_
  rw [V_main_arg0 m c]

/-- The norm's window reads its weights. -/
theorem iblk_norm (k : Fin 1024) : (iblk m c 1 t : Vec Ideal S1x1024 .f32) (ix2 0 k) = m (c.tc.loc main_arg1) (ix1 k) := by
  have h := (win_index t).2.1
  unfold iblk
  rw [View.read_apply]
  have he : (((cfg0.win 1).blk t).view.emb (ix2 0 k) : S1x1024.Idx) = ix2 0 k := by
    funext x
    apply Fin.ext
    match x with
    | ⟨0, _⟩ => show win0_1.index t 0 * 1 + 1 * 0 = 0; rw [h]; rfl
    | ⟨1, _⟩ => show win0_1.index t 1 * 1024 + 1 * k.val = k.val; rw [h]; show 0 * 1024 + 1 * k.val = _; omega
  refine (congrArg (V m c main_v0) he).trans ?_
  entry_read
  pointwise

/-- The modulations' window reads the context's. -/
theorem iblk_mod (o : Fin 6) (k : Fin 1024) : (iblk m c 2 t : Vec Ideal S1x6x1024 .f32) (ix3 0 o k)
    = m (c.tc.loc main_arg2) (ix3 8 o k) := by
  have h := (win_index t).2.2.1
  have hN : t.val < 8 := Nat.lt_of_lt_of_eq t.isLt N_0
  unfold iblk
  rw [View.read_apply]
  have he : (((cfg0.win 2).blk t).view.emb (ix3 0 o k) : S16x6x1024.Idx) = ix3 8 o k := by
    funext x
    apply Fin.ext
    match x with
    | ⟨0, _⟩ => show win0_2.index t 0 * 1 + 1 * 0 = 8; rw [h]; rfl
    | ⟨1, _⟩ => show win0_2.index t 1 * 6 + 1 * o.val = o.val; rw [h]; show 0 * 6 + 1 * o.val = _; omega
    | ⟨2, _⟩ => show win0_2.index t 2 * 1024 + 1 * k.val = k.val; rw [h]; show 0 * 1024 + 1 * k.val = _; omega
  refine (congrArg (V m c main_arg2) he).trans ?_
  rw [V_main_arg2 m c]

/-- A row of the point's block is the context row it is of. -/
theorem hrow_eq (r : Fin 256) : hrow (iblk m c 0 t) (iblk m c 1 t) (iblk m c 2 t) r
    = ctxRow (m (c.tc.loc main_arg0)) (m (c.tc.loc main_arg1)) (m (c.tc.loc main_arg2))
        ⟨t.val * 256 + r.val, by have h : t.val < 8 := Nat.lt_of_lt_of_eq t.isLt N_0; omega⟩ := by
  unfold hrow ctxRow
  congr 1
  · funext k; exact iblk_rows m c t r k
  · funext k; exact iblk_norm m c t k
  · funext k; exact iblk_mod m c t 1 k
  · funext k; exact iblk_mod m c t 0 k

/-- The weights window reads them whole. -/
theorem iblk_weights (k : Fin 1024) (j : Fin 1152) : (iblk m c 3 t : Vec Ideal S1024x1152 .bf16) (ix2 k j) = m (c.tc.loc main_arg3) (ix2 k j) := by
  have h := (win_index t).2.2.2.1
  unfold iblk
  rw [View.read_apply]
  have he : (((cfg0.win 3).blk t).view.emb (ix2 k j) : S1024x1152.Idx) = ix2 k j := by
    funext x
    apply Fin.ext
    match x with
    | ⟨0, _⟩ => show win0_3.index t 0 * 1024 + 1 * k.val = k.val; rw [h]; show 0 * 1024 + 1 * k.val = _; omega
    | ⟨1, _⟩ => show win0_3.index t 1 * 1152 + 1 * j.val = j.val; rw [h]; show 0 * 1152 + 1 * j.val = _; omega
  refine (congrArg (V m c main_arg3) he).trans ?_
  rw [V_main_arg3 m c]

/-- What a grid point leaves in its block of the wide result. -/
theorem point_main (r : Fin 256) (j : Fin 1024) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (ix2 r j)
      = ctxMain (m (c.tc.loc main_arg0)) (m (c.tc.loc main_arg1)) (m (c.tc.loc main_arg2)) (m (c.tc.loc main_arg3)) (ix2 ⟨t.val * 256 + r.val, by have h : t.val < 8 := Nat.lt_of_lt_of_eq t.isLt N_0; omega⟩ j) := by
  rw [out4_apply, hrow_eq]
  unfold ctxMain
  congr 1
  funext k
  exact iblk_weights m c t k _

/-- What a grid point writes back to the wide result is its block of the projection. -/
theorem flushed_main (t : Fin cfg0.N) : (dats m 0 c).flushed 4 t = ((cfg0.win 4).blk t).view.read (Elt Ideal) (ctxMain (m (c.tc.loc main_arg0)) (m (c.tc.loc main_arg1)) (m (c.tc.loc main_arg2)) (m (c.tc.loc main_arg3))) := by
  rw [Value.flushed4_A]
  funext y
  have hi := (win_index t).2.2.2.2.1
  have h0 : (y 0).val < 256 := (y 0).isLt
  have h1 : (y 1).val < 1024 := (y 1).isLt
  have ht : t.val < 8 := Nat.lt_of_lt_of_eq t.isLt N_0
  have hy : (y : S256x1024.Idx) = ix2 (⟨(y 0).val, h0⟩ : Fin 256) (⟨(y 1).val, h1⟩ : Fin 1024) := by
    funext x
    match x with
    | ⟨0, _⟩ => rfl
    | ⟨1, _⟩ => rfl
  refine (congrArg (_ : S256x1024.Idx → EReal) hy).trans ?_
  refine (point_main m c t ⟨(y 0).val, h0⟩ ⟨(y 1).val, h1⟩).trans ?_
  rw [View.read_apply]
  have he : (((cfg0.win 4).blk t).view.emb y : S2048x1024.Idx)
      = ix2 ⟨t.val * 256 + (y 0).val, by omega⟩ ⟨(y 1).val, h1⟩ := by
    funext x
    apply Fin.ext
    match x with
    | ⟨0, _⟩ => show win0_4.index t 0 * 256 + 1 * (y 0).val = t.val * 256 + (y 0).val; rw [hi]; show t.val * 256 + 1 * (y 0).val = _; omega
    | ⟨1, _⟩ => show win0_4.index t 1 * 1024 + 1 * (y 1).val = (y 1).val; rw [hi]; show 0 * 1024 + 1 * (y 1).val = _; omega
  exact (congrArg (ctxMain (m (c.tc.loc main_arg0)) (m (c.tc.loc main_arg1)) (m (c.tc.loc main_arg2)) (m (c.tc.loc main_arg3))) he).symm

/-- Every index of the wide result is in some point's block. -/
theorem cover_main (i : S2048x1024.Idx) : ∃ t : Fin cfg0.N, (cfg0.win 4).flush t = true ∧ i ∈ ((cfg0.win 4).blk t).view.set := by
  have h0 : (i 0).val < 2048 := (i 0).isLt
  have h1 : (i 1).val < 1024 := (i 1).isLt
  have hN : cfg0.N = 8 := N_0
  have ht : (i 0).val / 256 < cfg0.N := by omega
  refine ⟨⟨(i 0).val / 256, ht⟩, flush0_4 _, ?_⟩
  show i ∈ ((View.whole main_v1_0).slice (win0_4.rect ⟨(i 0).val / 256, ht⟩)).set
  rw [View.set_slice_whole, Rect.mem_set_unit]
  have hi := (win_index ⟨(i 0).val / 256, ht⟩).2.2.2.2.1
  intro a
  match a with
  | ⟨0, _⟩ =>
    show win0_4.index _ 0 * 256 ≤ (i 0).val ∧ (i 0).val < win0_4.index _ 0 * 256 + 256
    rw [hi]
    show (i 0).val / 256 * 256 ≤ (i 0).val ∧ (i 0).val < (i 0).val / 256 * 256 + 256
    omega
  | ⟨1, _⟩ =>
    show win0_4.index _ 1 * 1024 ≤ (i 1).val ∧ (i 1).val < win0_4.index _ 1 * 1024 + 1024
    rw [hi]
    show 0 * 1024 ≤ (i 1).val ∧ (i 1).val < 0 * 1024 + 1024
    omega

/-- So the wide result ends holding the projection. -/
theorem final_main : (dats m 0 c).arrAt 4 cfg0.N = ctxMain (m (c.tc.loc main_arg0)) (m (c.tc.loc main_arg1)) (m (c.tc.loc main_arg2)) (m (c.tc.loc main_arg3)) :=
  (dats m 0 c).arrAt_eq_of_cover 4 (ctxMain (m (c.tc.loc main_arg0)) (m (c.tc.loc main_arg1)) (m (c.tc.loc main_arg2)) (m (c.tc.loc main_arg3))) (fun t _ => flushed_main m c t) cover_main

/-- What a grid point leaves in its block of the gate result. -/
theorem point_gate (r : Fin 256) (j : Fin 128) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (ix2 r j)
      = ctxGate (m (c.tc.loc main_arg0)) (m (c.tc.loc main_arg1)) (m (c.tc.loc main_arg2)) (m (c.tc.loc main_arg3)) (ix2 ⟨t.val * 256 + r.val, by have h : t.val < 8 := Nat.lt_of_lt_of_eq t.isLt N_0; omega⟩ j) := by
  rw [out5_apply, hrow_eq]
  unfold ctxGate
  congr 1
  funext k
  exact iblk_weights m c t k _

/-- What a grid point writes back to the gate result is its block of the projection. -/
theorem flushed_gate (t : Fin cfg0.N) : (dats m 0 c).flushed 5 t = ((cfg0.win 5).blk t).view.read (Elt Ideal) (ctxGate (m (c.tc.loc main_arg0)) (m (c.tc.loc main_arg1)) (m (c.tc.loc main_arg2)) (m (c.tc.loc main_arg3))) := by
  rw [Value.flushed5_A]
  funext y
  have hi := (win_index t).2.2.2.2.2
  have h0 : (y 0).val < 256 := (y 0).isLt
  have h1 : (y 1).val < 128 := (y 1).isLt
  have ht : t.val < 8 := Nat.lt_of_lt_of_eq t.isLt N_0
  have hy : (y : S256x128.Idx) = ix2 (⟨(y 0).val, h0⟩ : Fin 256) (⟨(y 1).val, h1⟩ : Fin 128) := by
    funext x
    match x with
    | ⟨0, _⟩ => rfl
    | ⟨1, _⟩ => rfl
  refine (congrArg (_ : S256x128.Idx → EReal) hy).trans ?_
  refine (point_gate m c t ⟨(y 0).val, h0⟩ ⟨(y 1).val, h1⟩).trans ?_
  rw [View.read_apply]
  have he : (((cfg0.win 5).blk t).view.emb y : S2048x128.Idx)
      = ix2 ⟨t.val * 256 + (y 0).val, by omega⟩ ⟨(y 1).val, h1⟩ := by
    funext x
    apply Fin.ext
    match x with
    | ⟨0, _⟩ => show win0_5.index t 0 * 256 + 1 * (y 0).val = t.val * 256 + (y 0).val; rw [hi]; show t.val * 256 + 1 * (y 0).val = _; omega
    | ⟨1, _⟩ => show win0_5.index t 1 * 128 + 1 * (y 1).val = (y 1).val; rw [hi]; show 0 * 128 + 1 * (y 1).val = _; omega
  exact (congrArg (ctxGate (m (c.tc.loc main_arg0)) (m (c.tc.loc main_arg1)) (m (c.tc.loc main_arg2)) (m (c.tc.loc main_arg3))) he).symm

/-- Every index of the gate result is in some point's block. -/
theorem cover_gate (i : S2048x128.Idx) : ∃ t : Fin cfg0.N, (cfg0.win 5).flush t = true ∧ i ∈ ((cfg0.win 5).blk t).view.set := by
  have h0 : (i 0).val < 2048 := (i 0).isLt
  have h1 : (i 1).val < 128 := (i 1).isLt
  have hN : cfg0.N = 8 := N_0
  have ht : (i 0).val / 256 < cfg0.N := by omega
  refine ⟨⟨(i 0).val / 256, ht⟩, flush0_5 _, ?_⟩
  show i ∈ ((View.whole main_v1_1).slice (win0_5.rect ⟨(i 0).val / 256, ht⟩)).set
  rw [View.set_slice_whole, Rect.mem_set_unit]
  have hi := (win_index ⟨(i 0).val / 256, ht⟩).2.2.2.2.2
  intro a
  match a with
  | ⟨0, _⟩ =>
    show win0_5.index _ 0 * 256 ≤ (i 0).val ∧ (i 0).val < win0_5.index _ 0 * 256 + 256
    rw [hi]
    show (i 0).val / 256 * 256 ≤ (i 0).val ∧ (i 0).val < (i 0).val / 256 * 256 + 256
    omega
  | ⟨1, _⟩ =>
    show win0_5.index _ 1 * 128 ≤ (i 1).val ∧ (i 1).val < win0_5.index _ 1 * 128 + 128
    rw [hi]
    show 0 * 128 ≤ (i 1).val ∧ (i 1).val < 0 * 128 + 128
    omega

/-- So the gate result ends holding the projection. -/
theorem final_gate : (dats m 0 c).arrAt 5 cfg0.N = ctxGate (m (c.tc.loc main_arg0)) (m (c.tc.loc main_arg1)) (m (c.tc.loc main_arg2)) (m (c.tc.loc main_arg3)) :=
  (dats m 0 c).arrAt_eq_of_cover 5 (ctxGate (m (c.tc.loc main_arg0)) (m (c.tc.loc main_arg1)) (m (c.tc.loc main_arg2)) (m (c.tc.loc main_arg3))) (fun t _ => flushed_gate m c t) cover_gate

/-- The kernel's run: both results hold the projection, the arguments are unchanged. -/
theorem run_proj : θ_run defs (onTc (τ := τ) (main (F := Ideal))) ⟨m, fun _ => 0, ρ⟩ fun r => ∀ c : Dev nD,
      r.2.mem ((c : Thread nD τ).loc main_v1_0) = ctxMain (m (c.tc.loc main_arg0)) (m (c.tc.loc main_arg1)) (m (c.tc.loc main_arg2)) (m (c.tc.loc main_arg3))
      ∧ r.2.mem ((c : Thread nD τ).loc main_v1_1) = ctxGate (m (c.tc.loc main_arg0)) (m (c.tc.loc main_arg1)) (m (c.tc.loc main_arg2)) (m (c.tc.loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_main m c), (h c).2.1.trans (final_gate m c), (h c).2.2⟩)
    (Value.run_blocks m ρ)

end run

end Cert.Kernel5Ideal.Gen

end
-- ==== Proof.RefContext.lean ====
module

public import proofs.«01_k».proof.Proof.Context
public import proofs.«01_k».proof.Proof.Gen.Reference4Ideal.Run
public import proofs.«01_k».proof.Proof.Gen.Reference5Ideal.Run

@[expose] public section

set_option maxRecDepth 16384

noncomputable section

/-! The in-projections of the context's rows, as the references' host code computes them. -/

namespace Cert.Reference4Ideal.Value

open Idealize.ShloMosaic Idealize.ShloMosaic.TcCoe Idealize.SL.Sem Cert.InProj

section terms

variable (a0 : FVec Ideal S2048x1024 .f32) (a1 : FVec Ideal S1024 .f32) (a2 : FVec Ideal S16x6x1024 .f32) (a3 : FVec Ideal S1024x2560 .f32)

/-- The rows, normalised and modulated, as the host code computes them. -/
def rows : FVec Ideal S8x256x1024 .f32 :=
  (addf (mulf (mulf (mulf (shapeCast S8x256x1024 a0 Gen.shapeCasts_S2048x1024_S8x256x1024)
      (broadcastInDim S8x256x1024 ![0, 1, 2] Gen.bcast_S8x256x1_S8x256x1024_0_1_2 (Host.rsqrt (addf (Host.divf (broadcastInDim S8x256x1 ![0, 1] Gen.bcast_S8x256_S8x256x1_0_1 (Host.reduceAdd (mulf (shapeCast S8x256x1024 a0 Gen.shapeCasts_S2048x1024_S8x256x1024) (shapeCast S8x256x1024 a0 Gen.shapeCasts_S2048x1024_S8x256x1024)) (constant S_ .f32 0x00000000#32) Gen.reducesTo_S8x256x1024_S8x256_d2 Gen.h_S_)) (broadcastInDim S8x256x1 ![] Gen.bcast_S_S8x256x1 (constant S_ .f32 0x44800000#32))) (broadcastInDim S8x256x1 ![] Gen.bcast_S_S8x256x1 (constant S_ .f32 0x358637BD#32))))))
      (broadcastInDim S8x256x1024 ![0, 1, 2] Gen.bcast_S1x1x1024_S8x256x1024_0_1_2 (broadcastInDim S1x1x1024 ![2] Gen.bcast_S1024_S1x1x1024_2 a1)))
      (broadcastInDim S8x256x1024 ![0, 1, 2] Gen.bcast_S1x1x1024_S8x256x1024_0_1_2 (broadcastInDim S1x1x1024 ![2] Gen.bcast_S1024_S1x1x1024_2 (addf (broadcastInDim S1024 ![] Gen.bcast_S_S1024 (constant S_ .f32 0x3F800000#32))
      (extractStridedSlice S1024 ![1024] (shapeCast S6144 (shapeCast S6x1024 (extractStridedSlice S1x6x1024 ![8, 0, 0] a2 Gen.slices_S16x6x1024_S1x6x1024_8_0_0) Gen.shapeCasts_S1x6x1024_S6x1024) Gen.shapeCasts_S6x1024_S6144) Gen.slices_S6144_S1024_1024)))))
      (broadcastInDim S8x256x1024 ![0, 1, 2] Gen.bcast_S1x1x1024_S8x256x1024_0_1_2 (broadcastInDim S1x1x1024 ![2] Gen.bcast_S1024_S1x1x1024_2
      (extractStridedSlice S1024 ![0] (shapeCast S6144 (shapeCast S6x1024 (extractStridedSlice S1x6x1024 ![8, 0, 0] a2 Gen.slices_S16x6x1024_S1x6x1024_8_0_0) Gen.shapeCasts_S1x6x1024_S6x1024) Gen.shapeCasts_S6x1024_S6144) Gen.slices_S6144_S1024_0))))

/-- They are the context rows. -/
theorem rows_eq (b : Fin 8) (r : Fin 256) (k : Fin 1024) : rows a0 a1 a2 (ix3 b r k) = ctxRow a0 a1 a2 ⟨b.val * 256 + r.val, by omega⟩ k := by
  unfold ctxRow normed
  have h1 : (⟨(1024 + k.val) / 1024, by omega⟩ : Fin 6) = 1 := Fin.ext (by show (1024 + k.val) / 1024 = 1; omega)
  have h0 : (⟨k.val / 1024, by omega⟩ : Fin 6) = 0 := Fin.ext (by show k.val / 1024 = 0; omega)
  have hk : (⟨k.val % 1024, Nat.mod_lt _ (by omega)⟩ : Fin 1024) = k := Fin.ext (Nat.mod_eq_of_lt k.isLt)
  pointwise [rows]
  rw [h1, h0, hk]

/-- A row of them laid out one under the other is a context row. -/
theorem rows_row (i : Fin 2048) (k : Fin 1024) :
    rows a0 a1 a2 (ix3 ⟨i.val / 256, by omega⟩ ⟨i.val % 256, Nat.mod_lt _ (by omega)⟩ k) = ctxRow a0 a1 a2 i k := by
  have hi : (⟨i.val / 256 * 256 + i.val % 256, by omega⟩ : Fin 2048) = i := Fin.ext (by show i.val / 256 * 256 + i.val % 256 = i.val; omega)
  refine (rows_eq a0 a1 a2 _ _ k).trans ?_
  exact congrArg (fun x => ctxRow a0 a1 a2 x k) hi

/-- The product with its query columns scaled, laid out one row under the other. -/
def scaled (P : FVec Ideal S8x256x2560 .f32) : FVec Ideal S2048x2560 .bf16 :=
  shapeCast S2048x2560 (truncf .bf16 (concatenate S8x256x2560 2 [⟨S8x256x512, (mulf (extractStridedSlice S8x256x512 ![0, 0, 0] P Gen.slices_S8x256x2560_S8x256x512_0_0_0) (broadcastInDim S8x256x512 ![] Gen.bcast_S_S8x256x512 (constant S_ .f32 0x3DB504F3#32)))⟩,
    ⟨S8x256x2048, extractStridedSlice S8x256x2048 ![0, 0, 512] P Gen.slices_S8x256x2560_S8x256x2048_0_0_512⟩] Gen.concatenates_S8x256x512_S8x256x2048_S8x256x2560_d2) Gen.bitsLt_bf16_f32) Gen.shapeCasts_S8x256x2560_S2048x2560

/-- It is a scaled row of the product, at an index. -/
theorem scaled_eq (P : FVec Ideal S8x256x2560 .f32) (i : Fin 2048) (j : Fin 2560) :
    scaled P (ix2 i j) = scaledRow (fun j => P (ix3 ⟨i.val / 256, by omega⟩ ⟨i.val % 256, Nat.mod_lt _ (by omega)⟩ j)) j := by
  unfold scaledRow
  pointwise [scaled]
  by_cases h : j.val < 512
  · rw [dif_pos h, if_pos h]
  · rw [dif_neg h, if_neg h]
    exact congrArg (fun x => P (ix3 _ _ x)) (Fin.ext (by show 512 + (j.val - 512) = j.val; omega))

/-- Rows against the weights, at an index. -/
theorem prod_eq (H : FVec Ideal S8x256x1024 .f32) (b : Fin 8) (r : Fin 256) (j : Fin 2560) :
    Host.dotGeneral dot_S8x256x1024_S1024x2560_S8x256x2560_2_0_01_1_n_n none H a3 (ix3 b r j) = proj (fun k => H (ix3 b r k)) (fun k => a3 (ix2 k j)) := by
  unfold proj
  pointwise

/-- The result's value. -/
theorem main_value : scaled (Host.dotGeneral dot_S8x256x1024_S1024x2560_S8x256x2560_2_0_01_1_n_n none (rows a0 a1 a2) a3) = ctxEven a0 a1 a2 a3 := by
  funext y
  refine (congrArg _ (eq_ix2 y)).trans ((scaled_eq _ (y 0) (y 1)).trans ?_)
  unfold ctxEven
  refine congrArg (fun P => scaledRow P (y 1)) (funext fun j => (prod_eq a3 (rows a0 a1 a2) _ _ j).trans ?_)
  exact congrArg (fun h => proj h _) (funext fun k => rows_row a0 a1 a2 (y 0) k)

end terms

variable (m : (ℓ : Loc nD τ sig) → Buf (Elt Ideal) ℓ) (ρ : Dev nD → PrngReg)

/-- The even layer's reference's run: the result is the in-projection's, the arguments are unchanged. -/
theorem run_proj : θ_run defs (onTc (τ := τ) (main (F := Ideal))) ⟨m, fun _ => 0, ρ⟩ fun r => ∀ c : Dev nD,
      r.2.mem ((c : Thread nD τ).loc main_v34) = ctxEven (m (c.tc.loc main_arg0)) (m (c.tc.loc main_arg1)) (m (c.tc.loc main_arg2)) (m (c.tc.loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2⟩) (run m ρ)
  exact main_value _ _ _ _

end Cert.Reference4Ideal.Value

namespace Cert.Reference5Ideal.Value

open Idealize.ShloMosaic Idealize.ShloMosaic.TcCoe Idealize.SL.Sem Cert.InProj

section terms

variable (a0 : FVec Ideal S2048x1024 .f32) (a1 : FVec Ideal S1024 .f32) (a2 : FVec Ideal S16x6x1024 .f32) (a3 : FVec Ideal S1024x1152 .bf16)

/-- The product of rows and the weights, laid out one row under the other. -/
def prod (H : FVec Ideal S8x256x1024 .f32) : FVec Ideal S2048x1152 .f32 :=
  shapeCast S2048x1152 (Host.dotGeneral dot_S8x256x1024_S1024x1152_S8x256x1152_2_0_01_1_n_n none H (extf .f32 a3 Gen.bitsLt_bf16_f32))
    Gen.shapeCasts_S8x256x1152_S2048x1152

/-- It is a row against a column, at an index. -/
theorem prod_eq (H : FVec Ideal S8x256x1024 .f32) (i : Fin 2048) (j : Fin 1152) : prod a3 H (ix2 i j)
    = proj (fun k => H (ix3 ⟨i.val / 256, by omega⟩ ⟨i.val % 256, Nat.mod_lt _ (by omega)⟩ k)) (fun k => a3 (ix2 k j)) := by
  unfold proj
  pointwise [prod]

/-- Of the normalised rows it is a context row against a column. -/
theorem prod_row (i : Fin 2048) (j : Fin 1152) : prod a3 (Cert.Reference4Ideal.Value.rows a0 a1 a2) (ix2 i j)
    = proj (ctxRow a0 a1 a2 i) (fun k => a3 (ix2 k j)) :=
  (prod_eq a3 _ i j).trans (congrArg (fun h => proj h _) (funext fun k => Cert.Reference4Ideal.Value.rows_row a0 a1 a2 i k))

/-- The product's key and value columns, at an index. -/
theorem wide_eq (P : FVec Ideal S2048x1152 .f32) (i : Fin 2048) (j : Fin 1024) :
    truncf FTy.bf16 (extractStridedSlice S2048x1024 ![0, 0] P Gen.slices_S2048x1152_S2048x1024_0_0) Gen.bitsLt_bf16_f32 (ix2 i j)
      = P (ix2 i ⟨j.val, by omega⟩) := by
  pointwise

/-- The product's gate columns, at an index. -/
theorem gate_eq (P : FVec Ideal S2048x1152 .f32) (i : Fin 2048) (j : Fin 128) :
    extractStridedSlice S2048x128 ![0, 1024] P Gen.slices_S2048x1152_S2048x128_0_1024 (ix2 i j) = P (ix2 i ⟨1024 + j.val, by omega⟩) := by
  pointwise

/-- The first result's value. -/
theorem main_value : truncf FTy.bf16 (extractStridedSlice S2048x1024 ![0, 0] (prod a3 (Cert.Reference4Ideal.Value.rows a0 a1 a2))
      Gen.slices_S2048x1152_S2048x1024_0_0) Gen.bitsLt_bf16_f32 = ctxMain a0 a1 a2 a3 := by
  funext y
  exact (congrArg _ (eq_ix2 y)).trans ((wide_eq (prod a3 _) (y 0) (y 1)).trans (prod_row a0 a1 a2 a3 _ _))

/-- The second result's value. -/
theorem gate_value : extractStridedSlice S2048x128 ![0, 1024] (prod a3 (Cert.Reference4Ideal.Value.rows a0 a1 a2))
      Gen.slices_S2048x1152_S2048x128_0_1024 = ctxGate a0 a1 a2 a3 := by
  funext y
  exact (congrArg _ (eq_ix2 y)).trans ((gate_eq (prod a3 _) (y 0) (y 1)).trans (prod_row a0 a1 a2 a3 _ _))

end terms

variable (m : (ℓ : Loc nD τ sig) → Buf (Elt Ideal) ℓ) (ρ : Dev nD → PrngReg)

/-- The odd layer's reference's run: both results are the in-projection's, the arguments are unchanged. -/
theorem run_proj : θ_run defs (onTc (τ := τ) (main (F := Ideal))) ⟨m, fun _ => 0, ρ⟩ fun r => ∀ c : Dev nD,
      r.2.mem ((c : Thread nD τ).loc main_v31) = ctxMain (m (c.tc.loc main_arg0)) (m (c.tc.loc main_arg1)) (m (c.tc.loc main_arg2)) (m (c.tc.loc main_arg3))
      ∧ r.2.mem ((c : Thread nD τ).loc main_v32) = ctxGate (m (c.tc.loc main_arg0)) (m (c.tc.loc main_arg1)) (m (c.tc.loc main_arg2)) (m (c.tc.loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2⟩) (run m ρ)
  · exact main_value _ _ _ _
  · exact gate_value _ _ _ _

end Cert.Reference5Ideal.Value

end
-- ==== Proof.Gating.lean ====
module

public import Idealize.ShloMosaic.Lib.Pointwise
public import Idealize.ShloMosaic.Lib.Tactic

@[expose] public section

noncomputable section

/-! The spatial gating: a chunk of 128 rows of one group of 128 columns, activated, normalised row by row, mixed over the
rows by the group's matrix and multiplied by the activated other half. -/

namespace Cert.Gating

open Idealize.ShloMosaic

/-- The activation. -/
def gelu (x : EReal) : EReal := Ideal.ofBits .f32 0x3F000000#32 * x * (1 + Ideal.erf (x * Ideal.ofBits .f32 0x3F3504F3#32))

/-- A row less its mean. -/
def centred (v : Fin 128 → EReal) : Fin 128 → EReal := fun k => v k - Ideal.div (∑ j, v j) (Ideal.ofBits .f32 0x43000000#32)

/-- A row less its mean, over its standard deviation. -/
def unit (v : Fin 128 → EReal) : Fin 128 → EReal := fun k =>
  centred v k * Ideal.rsqrt (Ideal.div (∑ j, centred v j * centred v j) (Ideal.ofBits .f32 0x43000000#32) + Ideal.ofBits .f32 0x358637BD#32)

/-- One entry of the result: the gate's entry `u`, the chunk `S`, a row `W` of the group's matrix, its bias, the column. -/
def gated (u : EReal) (S : Fin 128 → Fin 128 → EReal) (W : Fin 128 → EReal) (b : EReal) (c : Fin 128) : EReal :=
  gelu u * (∑ q, W q * unit (fun k => gelu (S q k)) c + b)

/-- The whole result. -/
def result (a0 : (⟨2, ![16384, 3072]⟩ : Shape).Idx → EReal) (a1 : (⟨3, ![4, 128, 128]⟩ : Shape).Idx → EReal)
    (a2 : (⟨2, ![4, 128]⟩ : Shape).Idx → EReal) (i : Fin 16384) (j : Fin 512) : EReal :=
  gated (a0 (ix2 i ⟨2048 + j.val, by omega⟩)) (fun q k => a0 (ix2 ⟨i.val / 128 * 128 + q.val, by omega⟩ ⟨2560 + j.val / 128 * 128 + k.val, by omega⟩))
    (fun q => a1 (ix3 ⟨j.val / 128, by omega⟩ ⟨i.val % 128, Nat.mod_lt _ (by omega)⟩ q))
    (a2 (ix2 ⟨j.val / 128, by omega⟩ ⟨i.val % 128, Nat.mod_lt _ (by omega)⟩)) ⟨j.val % 128, Nat.mod_lt _ (by omega)⟩

end Cert.Gating

end
-- ==== Proof.GatingValue.lean ====
module

public import proofs.«01_k».proof.Proof.Gating
public import proofs.«01_k».proof.Proof.Gen.Kernel7Ideal.Value
public import Idealize.ShloMosaic.Lib.Claim
public import Idealize.ShloMosaic.Lib.Pipeline.ValueKit.Tiles

@[expose] public section

set_option maxRecDepth 16384

noncomputable section

/-! The spatial gating: what the kernel's run leaves in its result. -/

namespace Cert.Kernel7Ideal.Gen

open Idealize.ShloMosaic Idealize.ShloMosaic.TcCoe Idealize.SL.Sem Cert.Gating

/-- One chunk of one group, as the body computes it. -/
def tile (u s : Vec Ideal S128x128 .bf16) (w : Vec Ideal S1x128x128 .f32) (b : Vec Ideal S128x1 .f32) : Vec Ideal S128x128 .bf16 :=
  k0_pay5 (F := Ideal) (k0_pay2 s w b) (k0_pay3 u) (k0_pay4 u) (Scalar.ofBits .f32 0x3F3504F3#32)

/-- It is the gated entry, at an index. -/
theorem tile_eq (u s : Vec Ideal S128x128 .bf16) (w : Vec Ideal S1x128x128 .f32) (b : Vec Ideal S128x1 .f32) (r c : Fin 128) :
    tile u s w b (ix2 r c) = gated (u (ix2 r c)) (fun q k => s (ix2 q k)) (fun q => w (ix3 0 r q)) (b (ix2 r 0)) c := by
  unfold gated unit centred gelu
  pointwise [tile, k0_pay5, k0_pay2, k0_pay3, k0_pay4]
  rfl

/-- The 128 rows by 128 columns of a buffer that start at a given row and column, at an index. -/
theorem ld_block {e : EltTy} (X : Vec Ideal S512x512 e) (off : Fin 2 → ℕ) (inb : ∀ x, off x + S128x128.size x ≤ S512x512.size x) (ch g : ℕ)
    (h : off = ![ch * 128, g * 128]) (q k : Fin 128) (r j : Fin 512) (hr : r.val = ch * 128 + q.val) (hj : j.val = g * 128 + k.val) :
    View.ld X (Rect.unit (s := S512x512) off S128x128.size inb) (ix2 q k) = X (ix2 r j) := by
  subst h
  show X _ = X _
  congr 1
  funext x
  apply Fin.ext
  match x with
  | 0 => show ch * 128 + 1 * q.val = r.val; omega
  | 1 => show g * 128 + 1 * k.val = j.val; omega

/-- A group's matrix, at an index. -/
theorem ld_mix (X : Vec Ideal S4x128x128 .f32) (off : Fin 3 → ℕ) (inb : ∀ x, off x + S1x128x128.size x ≤ S4x128x128.size x) (g : Fin 4)
    (h : off = ![g.val, 0, 0]) (p q : Fin 128) :
    View.ld X (Rect.unit (s := S4x128x128) off S1x128x128.size inb) (ix3 0 p q) = X (ix3 g p q) := by
  subst h
  show X _ = X _
  congr 1
  funext x
  apply Fin.ext
  match x with
  | 0 => show g.val + 1 * 0 = g.val; omega
  | 1 => show 0 + 1 * p.val = p.val; omega
  | 2 => show 0 + 1 * q.val = q.val; omega

/-- A group's biases, at an index. -/
theorem ld_bias (X : Vec Ideal S128x4 .f32) (off : Fin 2 → ℕ) (inb : ∀ x, off x + S128x1.size x ≤ S128x4.size x) (g : Fin 4)
    (h : off = ![0, g.val]) (p : Fin 128) : View.ld X (Rect.unit (s := S128x4) off S128x1.size inb) (ix2 p 0) = X (ix2 p g) := by
  subst h
  show X _ = X _
  congr 1
  funext x
  apply Fin.ext
  match x with
  | 0 => show 0 + 1 * p.val = p.val; omega
  | 1 => show g.val + 1 * 0 = g.val; omega

section point

variable (x0 x1 : Vec Ideal S512x512 .bf16) (x2 : Vec Ideal S4x128x128 .f32) (x3 : Vec Ideal S128x4 .f32)

/-- A grid point's result, from its blocks. -/
def pointVal (r j : Fin 512) : EReal :=
  gated (x0 (ix2 r j)) (fun q k => x1 (ix2 ⟨r.val / 128 * 128 + q.val, by omega⟩ ⟨j.val / 128 * 128 + k.val, by omega⟩))
    (fun q => x2 (ix3 ⟨j.val / 128, by omega⟩ ⟨r.val % 128, Nat.mod_lt _ (by omega)⟩ q))
    (x3 (ix2 ⟨r.val % 128, Nat.mod_lt _ (by omega)⟩ ⟨j.val / 128, by omega⟩)) ⟨j.val % 128, Nat.mod_lt _ (by omega)⟩

/-- The store of one chunk of one group holds the point's result wherever it lies. -/
theorem tile_at (r j : Fin 512) (ch g : Fin 4) (off : Fin 2 → ℕ) (inb : ∀ x, off x + S128x128.size x ≤ S512x512.size x)
    (offw : Fin 3 → ℕ) (inbw : ∀ x, offw x + S1x128x128.size x ≤ S4x128x128.size x)
    (offb : Fin 2 → ℕ) (inbb : ∀ x, offb x + S128x1.size x ≤ S128x4.size x)
    (h : off = ![ch.val * 128, g.val * 128]) (hw : offw = ![g.val, 0, 0]) (hb : offb = ![0, g.val]) :
    View.TileAt (Val := Elt Ideal) (e := .bf16) (S := S512x512) (ix2 r j) off S128x128.size
      (tile (View.ld x0 (Rect.unit (s := S512x512) off S128x128.size inb)) (View.ld x1 (Rect.unit (s := S512x512) off S128x128.size inb))
        (View.ld x2 (Rect.unit (s := S4x128x128) offw S1x128x128.size inbw)) (View.ld x3 (Rect.unit (s := S128x4) offb S128x1.size inbb)))
      (pointVal x0 x1 x2 x3 r j) := by
  intro y hy
  have h0 : r.val = ch.val * 128 + (y 0).val := by have := hy 0; rw [h] at this; exact this
  have h1 : j.val = g.val * 128 + (y 1).val := by have := hy 1; rw [h] at this; exact this
  have l0 : (y 0).val < 128 := (y 0).isLt
  have l1 : (y 1).val < 128 := (y 1).isLt
  have hp : (⟨r.val % 128, Nat.mod_lt _ (by omega)⟩ : Fin 128) = ⟨(y 0).val, l0⟩ := Fin.ext (by show r.val % 128 = (y 0).val; omega)
  have hc : (⟨j.val % 128, Nat.mod_lt _ (by omega)⟩ : Fin 128) = ⟨(y 1).val, l1⟩ := Fin.ext (by show j.val % 128 = (y 1).val; omega)
  have hg : (⟨j.val / 128, by omega⟩ : Fin 4) = g := Fin.ext (by show j.val / 128 = g.val; omega)
  refine (congrArg _ (eq_ix2 y)).trans ?_
  refine (tile_eq _ _ _ _ ⟨(y 0).val, l0⟩ ⟨(y 1).val, l1⟩).trans ?_
  unfold pointVal
  rw [hp, hc, hg]
  congr 1
  · exact ld_block x0 off inb ch.val g.val h _ _ r j h0 h1
  · funext q k
    exact ld_block x1 off inb ch.val g.val h q k _ _ (by show r.val / 128 * 128 + q.val = _; omega) (by show j.val / 128 * 128 + k.val = _; omega)
  · funext q
    exact ld_mix x2 offw inbw g hw _ q
  · exact ld_bias x3 offb inbb g hb _

/-- What a grid point leaves in its block of the result. -/
theorem out_apply (r j : Fin 512) : out0_4 (F := Ideal) x0 x1 x2 x3 (ix2 r j) = pointVal x0 x1 x2 x3 r j := by
  unfold out0_4
  refine View.canon_eq_of_allAt _ _ _ (cover0_4 _ _ _ _ _ _ _ _ _ _ _ _ _ _ _ _ _) ?_
  refine View.allAt_cons_unit _ _ _ _ _ (tile_at x0 x1 x2 x3 r j 3 3 _ _ _ inb_S4x128x128_S1x128x128_3_0_0 _ inb_S128x4_S128x1_0_3 rfl rfl rfl) ?_
  refine View.allAt_cons_unit _ _ _ _ _ (tile_at x0 x1 x2 x3 r j 3 2 _ _ _ inb_S4x128x128_S1x128x128_2_0_0 _ inb_S128x4_S128x1_0_2 rfl rfl rfl) ?_
  refine View.allAt_cons_unit _ _ _ _ _ (tile_at x0 x1 x2 x3 r j 3 1 _ _ _ inb_S4x128x128_S1x128x128_1_0_0 _ inb_S128x4_S128x1_0_1 rfl rfl rfl) ?_
  refine View.allAt_cons_unit _ _ _ _ _ (tile_at x0 x1 x2 x3 r j 3 0 _ _ _ inb_S4x128x128_S1x128x128_0_0_0 _ inb_S128x4_S128x1_0_0 rfl rfl rfl) ?_
  refine View.allAt_cons_unit _ _ _ _ _ (tile_at x0 x1 x2 x3 r j 2 3 _ _ _ inb_S4x128x128_S1x128x128_3_0_0 _ inb_S128x4_S128x1_0_3 rfl rfl rfl) ?_
  refine View.allAt_cons_unit _ _ _ _ _ (tile_at x0 x1 x2 x3 r j 2 2 _ _ _ inb_S4x128x128_S1x128x128_2_0_0 _ inb_S128x4_S128x1_0_2 rfl rfl rfl) ?_
  refine View.allAt_cons_unit _ _ _ _ _ (tile_at x0 x1 x2 x3 r j 2 1 _ _ _ inb_S4x128x128_S1x128x128_1_0_0 _ inb_S128x4_S128x1_0_1 rfl rfl rfl) ?_
  refine View.allAt_cons_unit _ _ _ _ _ (tile_at x0 x1 x2 x3 r j 2 0 _ _ _ inb_S4x128x128_S1x128x128_0_0_0 _ inb_S128x4_S128x1_0_0 rfl rfl rfl) ?_
  refine View.allAt_cons_unit _ _ _ _ _ (tile_at x0 x1 x2 x3 r j 1 3 _ _ _ inb_S4x128x128_S1x128x128_3_0_0 _ inb_S128x4_S128x1_0_3 rfl rfl rfl) ?_
  refine View.allAt_cons_unit _ _ _ _ _ (tile_at x0 x1 x2 x3 r j 1 2 _ _ _ inb_S4x128x128_S1x128x128_2_0_0 _ inb_S128x4_S128x1_0_2 rfl rfl rfl) ?_
  refine View.allAt_cons_unit _ _ _ _ _ (tile_at x0 x1 x2 x3 r j 1 1 _ _ _ inb_S4x128x128_S1x128x128_1_0_0 _ inb_S128x4_S128x1_0_1 rfl rfl rfl) ?_
  refine View.allAt_cons_unit _ _ _ _ _ (tile_at x0 x1 x2 x3 r j 1 0 _ _ _ inb_S4x128x128_S1x128x128_0_0_0 _ inb_S128x4_S128x1_0_0 rfl rfl rfl) ?_
  refine View.allAt_cons_unit _ _ _ _ _ (tile_at x0 x1 x2 x3 r j 0 3 _ _ _ inb_S4x128x128_S1x128x128_3_0_0 _ inb_S128x4_S128x1_0_3 rfl rfl rfl) ?_
  refine View.allAt_cons_unit _ _ _ _ _ (tile_at x0 x1 x2 x3 r j 0 2 _ _ _ inb_S4x128x128_S1x128x128_2_0_0 _ inb_S128x4_S128x1_0_2 rfl rfl rfl) ?_
  refine View.allAt_cons_unit _ _ _ _ _ (tile_at x0 x1 x2 x3 r j 0 1 _ _ _ inb_S4x128x128_S1x128x128_1_0_0 _ inb_S128x4_S128x1_0_1 rfl rfl rfl) ?_
  refine View.allAt_cons_unit _ _ _ _ _ (tile_at x0 x1 x2 x3 r j 0 0 _ _ _ inb_S4x128x128_S1x128x128_0_0_0 _ inb_S128x4_S128x1_0_0 rfl rfl rfl) ?_
  exact View.allAt_nil _ _

end point

section run

variable (m : (ℓ : Loc nD τ sig) → Buf (Elt Ideal) ℓ) (ρ : Dev nD → PrngReg) (c : Dev nD) (t : Fin cfg0.N)

/-- Where the five windows of a point are. -/
theorem win_index : ∀ t : Fin cfg0.N, win0_0.index t = ![t.val, 4] ∧ win0_1.index t = ![t.val, 5] ∧ win0_2.index t = ![0, 0, 0]
    ∧ win0_3.index t = ![0, 0] ∧ win0_4.index t = ![t.val, 0] :=
  (by decide +kernel : ∀ t : Fin grid0.N, _)

/-- The first window reads the point's rows of the gate columns. -/
theorem iblk_gate (r j : Fin 512) : (iblk m c 0 t : Vec Ideal S512x512 .bf16) (ix2 r j)
    = m (c.tc.loc main_arg0) (ix2 ⟨t.val * 512 + r.val, by have h : t.val < 32 := Nat.lt_of_lt_of_eq t.isLt N_0; omega⟩ ⟨2048 + j.val, by omega⟩) := by
  have h := (win_index t).1
  have hN : t.val < 32 := Nat.lt_of_lt_of_eq t.isLt N_0
  unfold iblk
  rw [View.read_apply]
  have he : (((cfg0.win 0).blk t).view.emb (ix2 r j) : S16384x3072.Idx) = ix2 ⟨t.val * 512 + r.val, by omega⟩ ⟨2048 + j.val, by omega⟩ := by
    funext x
    apply Fin.ext
    match x with
    | ⟨0, _⟩ => show win0_0.index t 0 * 512 + 1 * r.val = t.val * 512 + r.val; rw [h]; show t.val * 512 + 1 * r.val = _; omega
    | ⟨1, _⟩ => show win0_0.index t 1 * 512 + 1 * j.val = 2048 + j.val; rw [h]; show 4 * 512 + 1 * j.val = _; omega
  refine (congrArg (V m c main_arg0) he).trans ?_
  rw [V_main_arg0 m c]

/-- The second window reads the point's rows of the mixed columns. -/
theorem iblk_mixed (r j : Fin 512) : (iblk m c 1 t : Vec Ideal S512x512 .bf16) (ix2 r j)
    = m (c.tc.loc main_arg0) (ix2 ⟨t.val * 512 + r.val, by have h : t.val < 32 := Nat.lt_of_lt_of_eq t.isLt N_0; omega⟩ ⟨2560 + j.val, by omega⟩) := by
  have h := (win_index t).2.1
  have hN : t.val < 32 := Nat.lt_of_lt_of_eq t.isLt N_0
  unfold iblk
  rw [View.read_apply]
  have he : (((cfg0.win 1).blk t).view.emb (ix2 r j) : S16384x3072.Idx) = ix2 ⟨t.val * 512 + r.val, by omega⟩ ⟨2560 + j.val, by omega⟩ := by
    funext x
    apply Fin.ext
    match x with
    | ⟨0, _⟩ => show win0_1.index t 0 * 512 + 1 * r.val = t.val * 512 + r.val; rw [h]; show t.val * 512 + 1 * r.val = _; omega
    | ⟨1, _⟩ => show win0_1.index t 1 * 512 + 1 * j.val = 2560 + j.val; rw [h]; show 5 * 512 + 1 * j.val = _; omega
  refine (congrArg (V m c main_arg0) he).trans ?_
  rw [V_main_arg0 m c]

/-- The third window reads the groups' matrices. -/
theorem iblk_mats (g : Fin 4) (p q : Fin 128) : (iblk m c 2 t : Vec Ideal S4x128x128 .f32) (ix3 g p q) = m (c.tc.loc main_arg1) (ix3 g p q) := by
  have h := (win_index t).2.2.1
  unfold iblk
  rw [View.read_apply]
  have he : (((cfg0.win 2).blk t).view.emb (ix3 g p q) : S4x128x128.Idx) = ix3 g p q := by
    funext x
    apply Fin.ext
    match x with
    | ⟨0, _⟩ => show win0_2.index t 0 * 4 + 1 * g.val = g.val; rw [h]; show 0 * 4 + 1 * g.val = _; omega
    | ⟨1, _⟩ => show win0_2.index t 1 * 128 + 1 * p.val = p.val; rw [h]; show 0 * 128 + 1 * p.val = _; omega
    | ⟨2, _⟩ => show win0_2.index t 2 * 128 + 1 * q.val = q.val; rw [h]; show 0 * 128 + 1 * q.val = _; omega
  refine (congrArg (V m c main_arg1) he).trans ?_
  rw [V_main_arg1 m c]

/-- The fourth window reads the transposed biases. -/
theorem iblk_bias (p : Fin 128) (g : Fin 4) : (iblk m c 3 t : Vec Ideal S128x4 .f32) (ix2 p g) = m (c.tc.loc main_arg2) (ix2 g p) := by
  have h := (win_index t).2.2.2.1
  unfold iblk
  rw [View.read_apply]
  have he : (((cfg0.win 3).blk t).view.emb (ix2 p g) : S128x4.Idx) = ix2 p g := by
    funext x
    apply Fin.ext
    match x with
    | ⟨0, _⟩ => show win0_3.index t 0 * 128 + 1 * p.val = p.val; rw [h]; show 0 * 128 + 1 * p.val = _; omega
    | ⟨1, _⟩ => show win0_3.index t 1 * 4 + 1 * g.val = g.val; rw [h]; show 0 * 4 + 1 * g.val = _; omega
  refine (congrArg (V m c main_v0) he).trans ?_
  entry_read
  pointwise

/-- The result of the arguments, as an array. -/
def resultOf : S16384x512.Idx → EReal := fun y =>
  result (m (c.tc.loc main_arg0)) (m (c.tc.loc main_arg1)) (m (c.tc.loc main_arg2)) (y 0) (y 1)

/-- What a grid point computes is its rows of the result. -/
theorem point_eq (r j : Fin 512) : out0_4 (F := Ideal) (iblk m c 0 t) (iblk m c 1 t) (iblk m c 2 t) (iblk m c 3 t) (ix2 r j)
    = resultOf m c (ix2 ⟨t.val * 512 + r.val, by have h : t.val < 32 := Nat.lt_of_lt_of_eq t.isLt N_0; omega⟩ j) := by
  have hN : t.val < 32 := Nat.lt_of_lt_of_eq t.isLt N_0
  refine (out_apply _ _ _ _ r j).trans ?_
  show pointVal _ _ _ _ r j = result _ _ _ ⟨t.val * 512 + r.val, _⟩ j
  unfold pointVal result
  have hp : (⟨(t.val * 512 + r.val) % 128, Nat.mod_lt _ (by omega)⟩ : Fin 128) = ⟨r.val % 128, Nat.mod_lt _ (by omega)⟩ :=
    Fin.ext (by show (t.val * 512 + r.val) % 128 = r.val % 128; omega)
  dsimp only
  rw [hp]
  congr 1
  · exact iblk_gate m c t r j
  · funext q k
    refine (iblk_mixed m c t _ _).trans (congrArg _ ?_)
    congr 1
    · exact Fin.ext (by show t.val * 512 + (r.val / 128 * 128 + q.val) = (t.val * 512 + r.val) / 128 * 128 + q.val; omega)
    · exact Fin.ext (by show 2560 + (j.val / 128 * 128 + k.val) = 2560 + j.val / 128 * 128 + k.val; omega)
  · funext q
    exact iblk_mats m c t _ _ q
  · exact iblk_bias m c t _ _

/-- What a grid point writes back is its block of the result. -/
theorem flushed_eq : (dats m 0 c).flushed 4 t = ((cfg0.win 4).blk t).view.read (Elt Ideal) (resultOf m c) := by
  rw [Value.flushed4]
  funext y
  have hi := (win_index t).2.2.2.2
  have h0 : (y 0).val < 512 := (y 0).isLt
  have h1 : (y 1).val < 512 := (y 1).isLt
  have ht : t.val < 32 := Nat.lt_of_lt_of_eq t.isLt N_0
  have hy : (y : S512x512.Idx) = ix2 (⟨(y 0).val, h0⟩ : Fin 512) (⟨(y 1).val, h1⟩ : Fin 512) := by
    funext x
    match x with
    | ⟨0, _⟩ => rfl
    | ⟨1, _⟩ => rfl
  refine (congrArg (_ : S512x512.Idx → EReal) hy).trans ?_
  refine (point_eq m c t ⟨(y 0).val, h0⟩ ⟨(y 1).val, h1⟩).trans ?_
  rw [View.read_apply]
  have he : (((cfg0.win 4).blk t).view.emb y : S16384x512.Idx) = ix2 ⟨t.val * 512 + (y 0).val, by omega⟩ ⟨(y 1).val, h1⟩ := by
    funext x
    apply Fin.ext
    match x with
    | ⟨0, _⟩ => show win0_4.index t 0 * 512 + 1 * (y 0).val = t.val * 512 + (y 0).val; rw [hi]; show t.val * 512 + 1 * (y 0).val = _; omega
    | ⟨1, _⟩ => show win0_4.index t 1 * 512 + 1 * (y 1).val = (y 1).val; rw [hi]; show 0 * 512 + 1 * (y 1).val = _; omega
  exact (congrArg (resultOf m c) he).symm

/-- Every index of the result is in some point's block. -/
theorem cover (i : S16384x512.Idx) : ∃ t : Fin cfg0.N, (cfg0.win 4).flush t = true ∧ i ∈ ((cfg0.win 4).blk t).view.set := by
  have h0 : (i 0).val < 16384 := (i 0).isLt
  have h1 : (i 1).val < 512 := (i 1).isLt
  have hN : cfg0.N = 32 := N_0
  have ht : (i 0).val / 512 < cfg0.N := by omega
  refine ⟨⟨(i 0).val / 512, ht⟩, flush0_4 _, ?_⟩
  show i ∈ ((View.whole main_v1).slice (win0_4.rect ⟨(i 0).val / 512, ht⟩)).set
  rw [View.set_slice_whole, Rect.mem_set_unit]
  have hi := (win_index ⟨(i 0).val / 512, ht⟩).2.2.2.2
  intro a
  match a with
  | ⟨0, _⟩ =>
    show win0_4.index _ 0 * 512 ≤ (i 0).val ∧ (i 0).val < win0_4.index _ 0 * 512 + 512
    rw [hi]
    show (i 0).val / 512 * 512 ≤ (i 0).val ∧ (i 0).val < (i 0).val / 512 * 512 + 512
    omega
  | ⟨1, _⟩ =>
    show win0_4.index _ 1 * 512 ≤ (i 1).val ∧ (i 1).val < win0_4.index _ 1 * 512 + 512
    rw [hi]
    show 0 * 512 ≤ (i 1).val ∧ (i 1).val < 0 * 512 + 512
    omega

/-- The kernel's run: the result is the gating of the arguments, the arguments are unchanged. -/
theorem run_gating : θ_run defs (onTc (τ := τ) (main (F := Ideal))) ⟨m, fun _ => 0, ρ⟩ fun r => ∀ c : Dev nD,
      r.2.mem ((c : Thread nD τ).loc main_v1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 4 (resultOf m c) (fun t _ => flushed_eq m c t) cover), (h c).2⟩)
    (Value.run_blocks m ρ)

end run

end Cert.Kernel7Ideal.Gen

end
-- ==== Proof.RefGating.lean ====
module

public import proofs.«01_k».proof.Proof.Gating
public import proofs.«01_k».proof.Proof.Gen.Reference7Ideal.Run
public import Idealize.ShloMosaic.PureOps.Ideal.Laws

@[expose] public section

set_option maxRecDepth 16384

noncomputable section

/-! The spatial gating, as the reference's host code computes it. -/

namespace Cert.Reference7Ideal.Value

open Idealize.ShloMosaic Idealize.ShloMosaic.TcCoe Idealize.SL.Sem Cert.Gating

/-- The activation by the complementary error function is the activation. -/
theorem gelu_eq (x : EReal) : Ideal.ofBits .f32 0x3F000000#32 * x * Ideal.erfc (-x * Ideal.ofBits .f32 0x3F3504F3#32) = gelu x := by
  unfold gelu
  rw [EReal.neg_mul, Ideal.erfc_neg]

section terms

variable (a0 : FVec Ideal S16384x3072 .bf16) (a1 : FVec Ideal S4x128x128 .f32) (a2 : FVec Ideal S4x128 .f32)

/-- A half of the columns, activated. -/
def act (x : FVec Ideal S8x2048x512 .f32) : FVec Ideal S8x2048x512 .f32 :=
  mulf (mulf (broadcastInDim S8x2048x512 ![] Gen.bcast_S_S8x2048x512 (constant S_ .f32 0x3F000000#32)) x)
    (Host.erfc (mulf (Host.negf x) (broadcastInDim S8x2048x512 ![] Gen.bcast_S_S8x2048x512 (constant S_ .f32 0x3F3504F3#32))))

/-- It is the activation of every entry. -/
theorem act_eq (x : FVec Ideal S8x2048x512 .f32) (b : Fin 8) (t : Fin 2048) (j : Fin 512) : act x (ix3 b t j) = gelu (x (ix3 b t j)) := by
  rw [← gelu_eq]
  pointwise [act]

/-- The rows of the argument, as sequences. -/
def seqs : FVec Ideal S8x2048x3072 .f32 := shapeCast S8x2048x3072 (extf .f32 a0 Gen.bitsLt_bf16_f32) Gen.shapeCasts_S16384x3072_S8x2048x3072

/-- The mixed half, activated, in chunks and groups. -/
def chunks : FVec Ideal S8x16x128x4x128 .f32 :=
  shapeCast S8x16x128x4x128 (act (extractStridedSlice S8x2048x512 ![0, 0, 2560] (seqs a0) Gen.slices_S8x2048x3072_S8x2048x512_0_0_2560)) Gen.shapeCasts_S8x2048x512_S8x16x128x4x128

/-- An entry of it. -/
theorem chunks_eq (b : Fin 8) (n : Fin 16) (q : Fin 128) (g : Fin 4) (k : Fin 128) : chunks a0 (ix5 b n q g k)
    = gelu (a0 (ix2 ⟨(b.val * 16 + n.val) * 128 + q.val, by omega⟩ ⟨2560 + g.val * 128 + k.val, by omega⟩)) := by
  have hc : chunks a0 (ix5 b n q g k) = act (extractStridedSlice S8x2048x512 ![0, 0, 2560] (seqs a0) Gen.slices_S8x2048x3072_S8x2048x512_0_0_2560)
      (ix3 b ⟨n.val * 128 + q.val, by omega⟩ ⟨g.val * 128 + k.val, by omega⟩) := by
    pointwise [chunks]
  rw [hc, act_eq]
  congr 1
  pointwise [seqs]
  congr 2
  · exact Fin.ext (by show b.val * 2048 + (n.val * 128 + q.val) = (b.val * 16 + n.val) * 128 + q.val; omega)
  · exact Fin.ext (by show 2560 + (g.val * 128 + k.val) = 2560 + g.val * 128 + k.val; omega)

/-- Rows less their means. -/
def less (X : FVec Ideal S8x16x128x4x128 .f32) : FVec Ideal S8x16x128x4x128 .f32 :=
  subf X (broadcastInDim S8x16x128x4x128 ![0, 1, 2, 3, 4] Gen.bcast_S8x16x128x4x1_S8x16x128x4x128_0_1_2_3_4
    (Host.divf (broadcastInDim S8x16x128x4x1 ![0, 1, 2, 3] Gen.bcast_S8x16x128x4_S8x16x128x4x1_0_1_2_3
      (Host.reduceAdd X (constant S_ .f32 0x00000000#32) Gen.reducesTo_S8x16x128x4x128_S8x16x128x4_d4 Gen.h_S_))
      (broadcastInDim S8x16x128x4x1 ![] Gen.bcast_S_S8x16x128x4x1 (constant S_ .f32 0x43000000#32))))

/-- They are the rows less their means, at an index. -/
theorem less_eq (X : FVec Ideal S8x16x128x4x128 .f32) (b : Fin 8) (n : Fin 16) (q : Fin 128) (g : Fin 4) (k : Fin 128) :
    less X (ix5 b n q g k) = centred (fun k => X (ix5 b n q g k)) k := by
  unfold centred
  pointwise [less]

/-- Rows over the root of their mean square. -/
def over (X : FVec Ideal S8x16x128x4x128 .f32) : FVec Ideal S8x16x128x4x128 .f32 :=
  mulf X (broadcastInDim S8x16x128x4x128 ![0, 1, 2, 3, 4] Gen.bcast_S8x16x128x4x1_S8x16x128x4x128_0_1_2_3_4
    (Host.rsqrt (addf (Host.divf (broadcastInDim S8x16x128x4x1 ![0, 1, 2, 3] Gen.bcast_S8x16x128x4_S8x16x128x4x1_0_1_2_3
      (Host.reduceAdd (mulf X X) (constant S_ .f32 0x00000000#32) Gen.reducesTo_S8x16x128x4x128_S8x16x128x4_d4 Gen.h_S_))
      (broadcastInDim S8x16x128x4x1 ![] Gen.bcast_S_S8x16x128x4x1 (constant S_ .f32 0x43000000#32)))
      (broadcastInDim S8x16x128x4x1 ![] Gen.bcast_S_S8x16x128x4x1 (constant S_ .f32 0x358637BD#32)))))

/-- Of rows less their means they are the rows over their standard deviations. -/
theorem over_eq (X : FVec Ideal S8x16x128x4x128 .f32) (b : Fin 8) (n : Fin 16) (q : Fin 128) (g : Fin 4) (k : Fin 128) :
    over (less X) (ix5 b n q g k) = unit (fun k => X (ix5 b n q g k)) k := by
  have h : over (less X) (ix5 b n q g k) = less X (ix5 b n q g k)
      * Ideal.rsqrt (Ideal.div (∑ j, less X (ix5 b n q g j) * less X (ix5 b n q g j)) (Ideal.ofBits .f32 0x43000000#32) + Ideal.ofBits .f32 0x358637BD#32) := by
    pointwise [over]
  rw [h]
  unfold unit
  simp only [less_eq]

/-- Rows mixed by their group's matrix, plus its biases. -/
def mix (N : FVec Ideal S8x16x128x4x128 .f32) : FVec Ideal S8x16x128x4x128 .f32 :=
  addf (transpose S8x16x128x4x128 [1, 2, 4, 0, 3] (Host.dotGeneral dot_S8x16x128x4x128_S4x128x128_S4x8x16x128x128_2_2_014_1_3_0 none N a1) Gen.transposes_S4x8x16x128x128_S8x16x128x4x128_1_2_4_0_3)
    (broadcastInDim S8x16x128x4x128 ![0, 1, 2, 3, 4] Gen.bcast_S1x1x128x4x1_S8x16x128x4x128_0_1_2_3_4
      (broadcastInDim S1x1x128x4x1 ![2, 3] Gen.bcast_S128x4_S1x1x128x4x1_2_3 (transpose S128x4 [1, 0] a2 Gen.transposes_S4x128_S128x4_1_0)))

/-- They are the matrix' row against the chunk's column, plus its bias. -/
theorem mix_eq (N : FVec Ideal S8x16x128x4x128 .f32) (b : Fin 8) (n : Fin 16) (p : Fin 128) (g : Fin 4) (k : Fin 128) :
    mix a1 a2 N (ix5 b n p g k) = ∑ q, N (ix5 b n q g k) * a1 (ix3 g p q) + a2 (ix2 g p) := by
  pointwise [mix]

/-- The gate times the mixed rows, laid out one row under the other. -/
def out (U : FVec Ideal S8x2048x512 .f32) (M : FVec Ideal S8x16x128x4x128 .f32) : FVec Ideal S16384x512 .bf16 :=
  shapeCast S16384x512 (truncf .bf16 (mulf U (shapeCast S8x2048x512 M Gen.shapeCasts_S8x16x128x4x128_S8x2048x512)) Gen.bitsLt_bf16_f32) Gen.shapeCasts_S8x2048x512_S16384x512

/-- An entry of it. -/
theorem out_eq (U : FVec Ideal S8x2048x512 .f32) (M : FVec Ideal S8x16x128x4x128 .f32) (i : Fin 16384) (j : Fin 512) : out U M (ix2 i j)
    = U (ix3 ⟨i.val / 2048, by omega⟩ ⟨i.val % 2048, Nat.mod_lt _ (by omega)⟩ j)
      * M (ix5 ⟨i.val / 2048, by omega⟩ ⟨i.val % 2048 / 128, by omega⟩ ⟨i.val % 2048 % 128, Nat.mod_lt _ (by omega)⟩ ⟨j.val / 128, by omega⟩ ⟨j.val % 128, Nat.mod_lt _ (by omega)⟩) := by
  pointwise [out]

/-- The gate half, activated. -/
def gate : FVec Ideal S8x2048x512 .f32 :=
  act (extractStridedSlice S8x2048x512 ![0, 0, 2048] (seqs a0) Gen.slices_S8x2048x3072_S8x2048x512_0_0_2048)

/-- An entry of it. -/
theorem gate_eq (b : Fin 8) (t : Fin 2048) (j : Fin 512) : gate a0 (ix3 b t j)
    = gelu (a0 (ix2 ⟨b.val * 2048 + t.val, by omega⟩ ⟨2048 + j.val, by omega⟩)) := by
  unfold gate
  rw [act_eq]
  congr 1
  pointwise [seqs]

/-- The whole term. -/
def whole : FVec Ideal S16384x512 .bf16 := out (gate a0) (mix a1 a2 (over (less (chunks a0))))

/-- It is the result. -/
theorem whole_eq (i : Fin 16384) (j : Fin 512) : whole a0 a1 a2 (ix2 i j) = result a0 a1 a2 i j := by
  unfold whole
  rw [out_eq, gate_eq, mix_eq]
  unfold result gated
  have hp : (⟨i.val % 2048 % 128, Nat.mod_lt _ (by omega)⟩ : Fin 128) = ⟨i.val % 128, Nat.mod_lt _ (by omega)⟩ :=
    Fin.ext (by show i.val % 2048 % 128 = i.val % 128; omega)
  have hi : (⟨i.val / 2048 * 2048 + i.val % 2048, by omega⟩ : Fin 16384) = i := Fin.ext (by show i.val / 2048 * 2048 + i.val % 2048 = i.val; omega)
  have hr : ∀ q : Fin 128, (⟨(i.val / 2048 * 16 + i.val % 2048 / 128) * 128 + q.val, by omega⟩ : Fin 16384) = ⟨i.val / 128 * 128 + q.val, by omega⟩ :=
    fun q => Fin.ext (by show (i.val / 2048 * 16 + i.val % 2048 / 128) * 128 + q.val = i.val / 128 * 128 + q.val; omega)
  simp only [over_eq, chunks_eq]
  rw [hp, hi]
  simp only [hr]
  congr 2
  exact Finset.sum_congr rfl fun q _ => mul_comm _ _

end terms

variable (m : (ℓ : Loc nD τ sig) → Buf (Elt Ideal) ℓ) (ρ : Dev nD → PrngReg)

/-- The reference's run: the result is the gating of the arguments, the arguments are unchanged. -/
theorem run_gating : θ_run defs (onTc (τ := τ) (main (F := Ideal))) ⟨m, fun _ => 0, ρ⟩ fun r => ∀ c : Dev nD,
      r.2.mem ((c : Thread nD τ).loc main_v46)
        = (fun y => result (m (c.tc.loc main_arg0)) (m (c.tc.loc main_arg1)) (m (c.tc.loc main_arg2)) (y 0) (y 1) : S16384x512.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨(h c).1.trans ?_, (h c).2⟩) (run m ρ)
  have hw : res_main_v46 m c = whole (m (c.tc.loc main_arg0)) (m (c.tc.loc main_arg1)) (m (c.tc.loc main_arg2)) := rfl
  rw [hw]
  funext y
  exact (congrArg _ (eq_ix2 y)).trans (whole_eq _ _ _ (y 0) (y 1))

end Cert.Reference7Ideal.Value

end
-- ==== Proof.Modulation.lean ====
module

public import Idealize.ShloMosaic.Lib.Pointwise
public import Idealize.ShloMosaic.Lib.Tactic

@[expose] public section

noncomputable section

/-! The modulation: what every layer's shifts, scales and gates are, over the extended reals. -/

namespace Cert.Modulation

open Idealize.ShloMosaic

/-- The activation. -/
def silu (x : EReal) : EReal := x * Ideal.logistic x

/-- The conditions in one array: the samples', then the context's, then zeros. -/
def padded (a0 : (⟨2, ![8, 1024]⟩ : Shape).Idx → EReal) (a1 : (⟨1, ![1024]⟩ : Shape).Idx → EReal) (r : Fin 16) (k : Fin 1024) : EReal :=
  if h : r.val < 8 then a0 (ix2 ⟨r.val, h⟩ k) else if r.val < 9 then a1 (ix1 k) else 0

/-- A condition, activated, against a layer's column of weights, plus its bias. -/
def result (a0 : (⟨2, ![8, 1024]⟩ : Shape).Idx → EReal) (a1 : (⟨1, ![1024]⟩ : Shape).Idx → EReal)
    (a2 : (⟨3, ![2, 1024, 6144]⟩ : Shape).Idx → EReal) (a3 : (⟨2, ![2, 6144]⟩ : Shape).Idx → EReal) (l : Fin 2) (r : Fin 16) (j : Fin 6144) : EReal :=
  ∑ k, silu (padded a0 a1 r k) * a2 (ix3 l k j) + a3 (ix2 l j)

end Cert.Modulation

end
-- ==== Proof.ModulationValue.lean ====
module

public import proofs.«01_k».proof.Proof.Modulation
public import proofs.«01_k».proof.Proof.Gen.Kernel8Ideal.Value
public import Idealize.ShloMosaic.Lib.Claim
public import Idealize.ShloMosaic.Lib.Pipeline.ValueKit.Tiles

@[expose] public section

set_option maxRecDepth 16384

noncomputable section

/-! The modulation: what the kernel's run leaves in its result. -/

namespace Cert.Kernel8Ideal.Gen

open Idealize.ShloMosaic Idealize.ShloMosaic.TcCoe Idealize.SL.Sem Cert.Modulation

/-- What a grid point computes of its blocks, at an index. -/
theorem out_apply (x : Vec Ideal S16x1024 .f32) (w : Vec Ideal S1x1024x768 .f32) (b : Vec Ideal S1x1x768 .f32) (r : Fin 16) (j : Fin 768) :
    out0_3 (F := Ideal) x w b (ix3 0 r j) = ∑ k, silu (x (ix2 r k)) * w (ix3 0 k j) + b (ix3 0 0 j) := by
  have h2 : (![0, 0] : Fin 2 → ℕ) = fun _ => 0 := by funext a; match a with | 0 => rfl | 1 => rfl
  have h3 : (![0, 0, 0] : Fin 3 → ℕ) = fun _ => 0 := by funext a; match a with | 0 => rfl | 1 => rfl | 2 => rfl
  have ho : out0_3 (F := Ideal) x w b = k0_pay1 x w b := by
    unfold out0_3
    rw [View.ld_unit_zero h2, View.ld_unit_zero h3, View.ld_unit_zero h3]
    exact View.canon_cons_unit_zero h3 _ _ _
  rw [ho]
  unfold silu
  pointwise [k0_pay1]

/-- The conditions, put together. -/
def conds (a0 : FVec Ideal S8x1024 .f32) (a1 : FVec Ideal S1024 .f32) : FVec Ideal S16x1024 .f32 :=
  concatenate S16x1024 0 [⟨S8x1024, a0⟩, ⟨S1x1024, broadcastInDim S1x1024 ![1] bcast_S1024_S1x1024_1 a1⟩,
    ⟨S7x1024, broadcastInDim S7x1024 ![] bcast_S_S7x1024 (constant S_ .f32 0x00000000#32)⟩] concatenates_S8x1024_S1x1024_S7x1024_S16x1024_d0

/-- An entry of them. -/
theorem conds_eq (a0 : FVec Ideal S8x1024 .f32) (a1 : FVec Ideal S1024 .f32) (r : Fin 16) (k : Fin 1024) : conds a0 a1 (ix2 r k) = padded a0 a1 r k := by
  unfold padded
  pointwise [conds]
  split
  · rfl
  · split <;> split <;> first | rfl | omega

section run

variable (m : (ℓ : Loc nD τ sig) → Buf (Elt Ideal) ℓ) (ρ : Dev nD → PrngReg) (c : Dev nD) (t : Fin cfg0.N)

/-- The windows' blocks. -/
theorem win_index : ∀ t : Fin cfg0.N, win0_0.index t = ![0, 0] ∧ win0_1.index t = ![t.val / 8, 0, t.val % 8] ∧ win0_2.index t = ![t.val / 8, 0, t.val % 8]
    ∧ win0_3.index t = ![t.val / 8, 0, t.val % 8] := by
  decide +kernel

/-- What the conditions' window's array holds. -/
theorem V_conds : V m c main_v2 = conds (m (c.tc.loc main_arg0)) (m (c.tc.loc main_arg1)) := by
  unfold V hostOps0
  rfl

/-- The first window reads the conditions. -/
theorem iblk_cond (r : Fin 16) (k : Fin 1024) : (iblk m c 0 t : Vec Ideal S16x1024 .f32) (ix2 r k)
    = padded (m (c.tc.loc main_arg0)) (m (c.tc.loc main_arg1)) r k := by
  have h := (win_index t).1
  unfold iblk
  rw [View.read_apply]
  have he : (((cfg0.win 0).blk t).view.emb (ix2 r k) : S16x1024.Idx) = ix2 r k := by
    funext x
    apply Fin.ext
    match x with
    | ⟨0, _⟩ => show win0_0.index t 0 * 16 + 1 * r.val = r.val; rw [h]; show 0 * 16 + 1 * r.val = _; omega
    | ⟨1, _⟩ => show win0_0.index t 1 * 1024 + 1 * k.val = k.val; rw [h]; show 0 * 1024 + 1 * k.val = _; omega
  refine (congrArg (V m c main_v2) he).trans ?_
  rw [V_conds m c]
  exact conds_eq _ _ r k

/-- The second window reads a layer's columns of weights. -/
theorem iblk_mat (k : Fin 1024) (j : Fin 768) : (iblk m c 1 t : Vec Ideal S1x1024x768 .f32) (ix3 0 k j)
    = m (c.tc.loc main_arg2) (ix3 ⟨t.val / 8, by have h : t.val < 16 := Nat.lt_of_lt_of_eq t.isLt N_0; omega⟩ k ⟨t.val % 8 * 768 + j.val, by omega⟩) := by
  have h := (win_index t).2.1
  have hN : t.val < 16 := Nat.lt_of_lt_of_eq t.isLt N_0
  unfold iblk
  rw [View.read_apply]
  have he : (((cfg0.win 1).blk t).view.emb (ix3 0 k j) : S2x1024x6144.Idx) = ix3 ⟨t.val / 8, by omega⟩ k ⟨t.val % 8 * 768 + j.val, by omega⟩ := by
    funext x
    apply Fin.ext
    match x with
    | ⟨0, _⟩ => show win0_1.index t 0 * 1 + 1 * 0 = t.val / 8; rw [h]; show t.val / 8 * 1 + 1 * 0 = _; omega
    | ⟨1, _⟩ => show win0_1.index t 1 * 1024 + 1 * k.val = k.val; rw [h]; show 0 * 1024 + 1 * k.val = _; omega
    | ⟨2, _⟩ => show win0_1.index t 2 * 768 + 1 * j.val = t.val % 8 * 768 + j.val; rw [h]; show t.val % 8 * 768 + 1 * j.val = _; omega
  refine (congrArg (V m c main_arg2) he).trans ?_
  rw [V_main_arg2 m c]

/-- The third window reads its biases. -/
theorem iblk_row (j : Fin 768) : (iblk m c 2 t : Vec Ideal S1x1x768 .f32) (ix3 0 0 j)
    = m (c.tc.loc main_arg3) (ix2 ⟨t.val / 8, by have h : t.val < 16 := Nat.lt_of_lt_of_eq t.isLt N_0; omega⟩ ⟨t.val % 8 * 768 + j.val, by omega⟩) := by
  have h := (win_index t).2.2.1
  have hN : t.val < 16 := Nat.lt_of_lt_of_eq t.isLt N_0
  unfold iblk
  rw [View.read_apply]
  have he : (((cfg0.win 2).blk t).view.emb (ix3 0 0 j) : S2x1x6144.Idx) = ix3 ⟨t.val / 8, by omega⟩ 0 ⟨t.val % 8 * 768 + j.val, by omega⟩ := by
    funext x
    apply Fin.ext
    match x with
    | ⟨0, _⟩ => show win0_2.index t 0 * 1 + 1 * 0 = t.val / 8; rw [h]; show t.val / 8 * 1 + 1 * 0 = _; omega
    | ⟨1, _⟩ => show win0_2.index t 1 * 1 + 1 * 0 = 0; rw [h]; rfl
    | ⟨2, _⟩ => show win0_2.index t 2 * 768 + 1 * j.val = t.val % 8 * 768 + j.val; rw [h]; show t.val % 8 * 768 + 1 * j.val = _; omega
  refine (congrArg (V m c main_v3) he).trans ?_
  entry_read
  pointwise

/-- The result of the arguments, as an array. -/
def resultOf : S2x16x6144.Idx → EReal := fun y =>
  result (m (c.tc.loc main_arg0)) (m (c.tc.loc main_arg1)) (m (c.tc.loc main_arg2)) (m (c.tc.loc main_arg3)) (y 0) (y 1) (y 2)

/-- What a grid point computes is its columns of a layer's result. -/
theorem point_eq (r : Fin 16) (j : Fin 768) : out0_3 (F := Ideal) (iblk m c 0 t) (iblk m c 1 t) (iblk m c 2 t) (ix3 0 r j)
    = resultOf m c (ix3 ⟨t.val / 8, by have h : t.val < 16 := Nat.lt_of_lt_of_eq t.isLt N_0; omega⟩ r ⟨t.val % 8 * 768 + j.val, by omega⟩) := by
  refine (out_apply _ _ _ r j).trans ?_
  show _ = result _ _ _ _ _ r _
  unfold result
  exact congrArg₂ (· + ·) (Finset.sum_congr rfl fun k _ => congrArg₂ (· * ·) (congrArg silu (iblk_cond m c t r k)) (iblk_mat m c t k j)) (iblk_row m c t j)

/-- What a grid point writes back is its block of the result. -/
theorem flushed_eq : (dats m 0 c).flushed 3 t = ((cfg0.win 3).blk t).view.read (Elt Ideal) (resultOf m c) := by
  rw [Value.flushed3]
  funext y
  have hi := (win_index t).2.2.2
  have h0 : (y 0).val < 1 := (y 0).isLt
  have h1 : (y 1).val < 16 := (y 1).isLt
  have h2 : (y 2).val < 768 := (y 2).isLt
  have ht : t.val < 16 := Nat.lt_of_lt_of_eq t.isLt N_0
  have hy : (y : S1x16x768.Idx) = ix3 (0 : Fin 1) (⟨(y 1).val, h1⟩ : Fin 16) (⟨(y 2).val, h2⟩ : Fin 768) := by
    funext x
    match x with
    | ⟨0, _⟩ => exact Fin.ext (by show (y 0).val = 0; omega)
    | ⟨1, _⟩ => rfl
    | ⟨2, _⟩ => rfl
  refine (congrArg (_ : S1x16x768.Idx → EReal) hy).trans ?_
  refine (point_eq m c t ⟨(y 1).val, h1⟩ ⟨(y 2).val, h2⟩).trans ?_
  rw [View.read_apply]
  have he : (((cfg0.win 3).blk t).view.emb y : S2x16x6144.Idx) = ix3 ⟨t.val / 8, by omega⟩ ⟨(y 1).val, h1⟩ ⟨t.val % 8 * 768 + (y 2).val, by omega⟩ := by
    funext x
    apply Fin.ext
    match x with
    | ⟨0, _⟩ => show win0_3.index t 0 * 1 + 1 * (y 0).val = t.val / 8; rw [hi]; show t.val / 8 * 1 + 1 * (y 0).val = _; omega
    | ⟨1, _⟩ => show win0_3.index t 1 * 16 + 1 * (y 1).val = (y 1).val; rw [hi]; show 0 * 16 + 1 * (y 1).val = _; omega
    | ⟨2, _⟩ => show win0_3.index t 2 * 768 + 1 * (y 2).val = t.val % 8 * 768 + (y 2).val; rw [hi]; show t.val % 8 * 768 + 1 * (y 2).val = _; omega
  exact (congrArg (resultOf m c) he).symm

/-- Every index of the result is in some point's block. -/
theorem cover (i : S2x16x6144.Idx) : ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 6144 := (i 2).isLt
  have hN : cfg0.N = 16 := N_0
  have ht : (i 0).val * 8 + (i 2).val / 768 < cfg0.N := by omega
  refine ⟨⟨(i 0).val * 8 + (i 2).val / 768, ht⟩, flush0_3 _, ?_⟩
  show i ∈ ((View.whole main_v4).slice (win0_3.rect ⟨(i 0).val * 8 + (i 2).val / 768, ht⟩)).set
  rw [View.set_slice_whole, Rect.mem_set_unit]
  have hi := (win_index ⟨(i 0).val * 8 + (i 2).val / 768, ht⟩).2.2.2
  intro a
  match a with
  | ⟨0, _⟩ =>
    show win0_3.index _ 0 * 1 ≤ (i 0).val ∧ (i 0).val < win0_3.index _ 0 * 1 + 1
    rw [hi]
    show ((i 0).val * 8 + (i 2).val / 768) / 8 * 1 ≤ (i 0).val ∧ (i 0).val < ((i 0).val * 8 + (i 2).val / 768) / 8 * 1 + 1
    omega
  | ⟨1, _⟩ =>
    show win0_3.index _ 1 * 16 ≤ (i 1).val ∧ (i 1).val < win0_3.index _ 1 * 16 + 16
    rw [hi]
    show 0 * 16 ≤ (i 1).val ∧ (i 1).val < 0 * 16 + 16
    omega
  | ⟨2, _⟩ =>
    show win0_3.index _ 2 * 768 ≤ (i 2).val ∧ (i 2).val < win0_3.index _ 2 * 768 + 768
    rw [hi]
    show ((i 0).val * 8 + (i 2).val / 768) % 8 * 768 ≤ (i 2).val ∧ (i 2).val < ((i 0).val * 8 + (i 2).val / 768) % 8 * 768 + 768
    omega

/-- The kernel's run: the result is the modulation of the arguments, the arguments are unchanged. -/
theorem run_modulation : θ_run defs (onTc (τ := τ) (main (F := Ideal))) ⟨m, fun _ => 0, ρ⟩ fun r => ∀ c : Dev nD,
      r.2.mem ((c : Thread nD τ).loc main_v4) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 3 (resultOf m c) (fun t _ => flushed_eq m c t) cover), (h c).2⟩)
    (Value.run_blocks m ρ)

end run

end Cert.Kernel8Ideal.Gen

end
-- ==== Proof.RefModulation.lean ====
module

public import proofs.«01_k».proof.Proof.Modulation
public import proofs.«01_k».proof.Proof.Gen.Reference8Ideal.Run

@[expose] public section

set_option maxRecDepth 16384

noncomputable section

/-! The modulation, as the reference's host code computes it. -/

namespace Cert.Reference8Ideal.Value

open Idealize.ShloMosaic Idealize.ShloMosaic.TcCoe Idealize.SL.Sem Cert.Modulation

section terms

variable (a0 : FVec Ideal S8x1024 .f32) (a1 : FVec Ideal S1024 .f32) (W : FVec Ideal S1024x6144 .f32) (B : FVec Ideal S6144 .f32)

/-- The samples' rows of a layer. -/
def samples : FVec Ideal S8x6144 .f32 :=
  addf (Host.dotGeneral dot_S8x1024_S1024x6144_S8x6144_1_0_0_1_n_n none (mulf a0 (Host.divf (broadcastInDim S8x1024 ![] Gen.bcast_S_S8x1024 (constant S_ .f32 0x3F800000#32)) (addf (broadcastInDim S8x1024 ![] Gen.bcast_S_S8x1024 (constant S_ .f32 0x3F800000#32)) (Host.exp (Host.negf a0))))) W)
    (broadcastInDim S8x6144 ![0, 1] Gen.bcast_S1x6144_S8x6144_0_1 (broadcastInDim S1x6144 ![1] Gen.bcast_S6144_S1x6144_1 B))

/-- An entry of them. -/
theorem samples_eq (r : Fin 8) (j : Fin 6144) : samples a0 W B (ix2 r j) = ∑ k, silu (a0 (ix2 r k)) * W (ix2 k j) + B (ix1 j) := by
  unfold silu Ideal.logistic
  pointwise [samples]

/-- The context's row of a layer. -/
def context : FVec Ideal S6144 .f32 :=
  addf (Host.dotGeneral dot_S1024_S1024x6144_S6144_0_0_n_1_n_n none (mulf a1 (Host.divf (broadcastInDim S1024 ![] Gen.bcast_S_S1024 (constant S_ .f32 0x3F800000#32)) (addf (broadcastInDim S1024 ![] Gen.bcast_S_S1024 (constant S_ .f32 0x3F800000#32)) (Host.exp (Host.negf a1))))) W) B

/-- An entry of it. -/
theorem context_eq (j : Fin 6144) : context a1 W B (ix1 j) = ∑ k, silu (a1 (ix1 k)) * W (ix2 k j) + B (ix1 j) := by
  unfold silu Ideal.logistic
  pointwise [context]

/-- No condition. -/
def none7 : FVec Ideal S7x1024 .f32 := broadcastInDim S7x1024 ![] Gen.bcast_S_S7x1024 (constant S_ .f32 0x00000000#32)

/-- The rows of a layer without a condition. -/
def rest (Z : FVec Ideal S7x1024 .f32) : FVec Ideal S7x6144 .f32 :=
  addf (Host.dotGeneral dot_S7x1024_S1024x6144_S7x6144_1_0_0_1_n_n none (mulf Z (Host.divf (broadcastInDim S7x1024 ![] Gen.bcast_S_S7x1024 (constant S_ .f32 0x3F800000#32)) (addf (broadcastInDim S7x1024 ![] Gen.bcast_S_S7x1024 (constant S_ .f32 0x3F800000#32)) (Host.exp (Host.negf Z))))) W)
    (broadcastInDim S7x6144 ![0, 1] Gen.bcast_S1x6144_S7x6144_0_1 (broadcastInDim S1x6144 ![1] Gen.bcast_S6144_S1x6144_1 B))

/-- An entry of them. -/
theorem rest_eq (Z : FVec Ideal S7x1024 .f32) (r : Fin 7) (j : Fin 6144) : rest W B Z (ix2 r j) = ∑ k, silu (Z (ix2 r k)) * W (ix2 k j) + B (ix1 j) := by
  unfold silu Ideal.logistic
  pointwise [rest]

/-- An entry of the missing conditions. -/
theorem none7_eq (r : Fin 7) (k : Fin 1024) : none7 (ix2 r k) = 0 := by
  pointwise [none7]

/-- Three groups of rows, one under the other, as a layer. -/
def layer (A : FVec Ideal S8x6144 .f32) (C : FVec Ideal S6144 .f32) (Z : FVec Ideal S7x6144 .f32) : FVec Ideal S1x16x6144 .f32 :=
  broadcastInDim S1x16x6144 ![1, 2] Gen.bcast_S16x6144_S1x16x6144_1_2
    (concatenate S16x6144 0 [⟨S8x6144, A⟩, ⟨S1x6144, broadcastInDim S1x6144 ![1] Gen.bcast_S6144_S1x6144_1 C⟩, ⟨S7x6144, Z⟩] Gen.concatenates_S8x6144_S1x6144_S7x6144_S16x6144_d0)

/-- An entry of it. -/
theorem layer_eq (A : FVec Ideal S8x6144 .f32) (C : FVec Ideal S6144 .f32) (Z : FVec Ideal S7x6144 .f32) (r : Fin 16) (j : Fin 6144) : layer A C Z (ix3 0 r j)
    = if h : r.val < 8 then A (ix2 ⟨r.val, h⟩ j) else if r.val < 9 then C (ix1 j) else Z (ix2 ⟨r.val - 8 - 1, by omega⟩ j) := by
  pointwise [layer]
  split
  · rfl
  · split <;> split <;> first | rfl | omega

/-- A layer of the result, of that layer's weights and biases. -/
theorem layer_entry (r : Fin 16) (j : Fin 6144) : layer (samples a0 W B) (context a1 W B) (rest W B none7) (ix3 0 r j)
    = ∑ k, silu (padded a0 a1 r k) * W (ix2 k j) + B (ix1 j) := by
  rw [layer_eq]
  unfold padded
  by_cases h : r.val < 8
  · simp only [dif_pos h, samples_eq]
  · by_cases h9 : r.val < 9
    · simp only [dif_neg h, if_pos h9, context_eq]
    · simp only [dif_neg h, if_neg h9, rest_eq, none7_eq]

end terms

section whole

variable (a0 : FVec Ideal S8x1024 .f32) (a1 : FVec Ideal S1024 .f32) (a2 : FVec Ideal S2x1024x6144 .f32) (a3 : FVec Ideal S2x6144 .f32)

/-- The first layer's weights. -/
def w0 : FVec Ideal S1024x6144 .f32 := shapeCast _ (extractStridedSlice S1x1024x6144 ![0, 0, 0] a2 Gen.slices_S2x1024x6144_S1x1024x6144_0_0_0) Gen.shapeCasts_S1x1024x6144_S1024x6144

/-- The second layer's weights. -/
def w1 : FVec Ideal S1024x6144 .f32 := shapeCast _ (extractStridedSlice S1x1024x6144 ![1, 0, 0] a2 Gen.slices_S2x1024x6144_S1x1024x6144_1_0_0) Gen.shapeCasts_S1x1024x6144_S1024x6144

/-- The first layer's biases. -/
def b0 : FVec Ideal S6144 .f32 := shapeCast _ (extractStridedSlice S1x6144 ![0, 0] a3 Gen.slices_S2x6144_S1x6144_0_0) Gen.shapeCasts_S1x6144_S6144

/-- The second layer's biases. -/
def b1 : FVec Ideal S6144 .f32 := shapeCast _ (extractStridedSlice S1x6144 ![1, 0] a3 Gen.slices_S2x6144_S1x6144_1_0) Gen.shapeCasts_S1x6144_S6144

/-- Two layers, one after the other. -/
def both (X Y : FVec Ideal S1x16x6144 .f32) : FVec Ideal S2x16x6144 .f32 :=
  concatenate S2x16x6144 0 [⟨S1x16x6144, X⟩, ⟨S1x16x6144, Y⟩] Gen.concatenates_S1x16x6144_S1x16x6144_S2x16x6144_d0

/-- An entry of them. -/
theorem both_eq (X Y : FVec Ideal S1x16x6144 .f32) (l : Fin 2) (r : Fin 16) (j : Fin 6144) :
    both X Y (ix3 l r j) = if l.val < 1 then X (ix3 0 r j) else Y (ix3 0 r j) := by
  pointwise [both]
  match l with
  | 0 => rfl
  | 1 => rfl

/-- The whole term. -/
def whole : FVec Ideal S2x16x6144 .f32 :=
  both (layer (samples a0 (w0 a2) (b0 a3)) (context a1 (w0 a2) (b0 a3)) (rest (w0 a2) (b0 a3) none7))
    (layer (samples a0 (w1 a2) (b1 a3)) (context a1 (w1 a2) (b1 a3)) (rest (w1 a2) (b1 a3) none7))

/-- The layers' weights and biases, at an index. -/
theorem w0_eq (k : Fin 1024) (j : Fin 6144) : w0 a2 (ix2 k j) = a2 (ix3 0 k j) := by pointwise [w0]
theorem w1_eq (k : Fin 1024) (j : Fin 6144) : w1 a2 (ix2 k j) = a2 (ix3 1 k j) := by pointwise [w1]
theorem b0_eq (j : Fin 6144) : b0 a3 (ix1 j) = a3 (ix2 0 j) := by pointwise [b0]
theorem b1_eq (j : Fin 6144) : b1 a3 (ix1 j) = a3 (ix2 1 j) := by pointwise [b1]

/-- It is the result. -/
theorem whole_eq (l : Fin 2) (r : Fin 16) (j : Fin 6144) : whole a0 a1 a2 a3 (ix3 l r j) = result a0 a1 a2 a3 l r j := by
  unfold whole result
  rw [both_eq, layer_entry, layer_entry]
  match l with
  | 0 => simp only [w0_eq, b0_eq]; rfl
  | 1 => simp only [w1_eq, b1_eq]; rfl

end whole

variable (m : (ℓ : Loc nD τ sig) → Buf (Elt Ideal) ℓ) (ρ : Dev nD → PrngReg)

/-- The reference's run: the result is the modulation of the arguments, the arguments are unchanged. -/
theorem run_modulation : θ_run defs (onTc (τ := τ) (main (F := Ideal))) ⟨m, fun _ => 0, ρ⟩ fun r => ∀ c : Dev nD,
      r.2.mem ((c : Thread nD τ).loc main_v41)
        = (fun y => result (m (c.tc.loc main_arg0)) (m (c.tc.loc main_arg1)) (m (c.tc.loc main_arg2)) (m (c.tc.loc main_arg3)) (y 0) (y 1) (y 2) : S2x16x6144.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2⟩) (run m ρ)
  have hw : res_main_v41 m c = whole (m (c.tc.loc main_arg0)) (m (c.tc.loc main_arg1)) (m (c.tc.loc main_arg2)) (m (c.tc.loc main_arg3)) := rfl
  rw [hw]
  funext y
  exact (congrArg _ (eq_ix3 y)).trans (whole_eq _ _ _ _ (y 0) (y 1) (y 2))

end Cert.Reference8Ideal.Value

end
-- ==== Proof.Experts.lean ====
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.WritesUnit
public import Idealize.ShloMosaic.Lib.Claim

@[expose] public section

set_option maxRecDepth 16384

noncomputable section

/-! The experts' call: the body at a block, the scratch buffers from block to block, the run and the frame. -/

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table that names each block's expert, and the table of one word that counts the blocks in use. -/
abbrev namesM : Memref sig .tc .smem S176 .i32 := Memref.whole main_arg0
/-- The number of used blocks, whole. -/
abbrev countM : Memref sig .tc .smem S1 .i32 := Memref.whole main_arg1

/-- A table's contents, and half of it held at them. -/
abbrev Words (c : Dev nD) {S : Shape} {e : EltTy} (M : Memref sig .tc .smem S e) : Type := Buf (Elt F) (M.view.loc (c : Thread nD τ))
/-- A buffer of words holds `f`. -/
abbrev heldAt (c : Dev nD) {S : Shape} {e : EltTy} (M : Memref sig .tc .smem S e) (f : Words (F := F) c M) : sProp 𝕄 :=
  M.view.loc (c : Thread nD τ) ↦{fullShare.right} f

/-- A store over the whole of a buffer, read back. -/
theorem read_store {κ : Kind} {sp : Space} {S : Shape} {e : EltTy} (v : View sig κ sp S e) (f : v.ty.Contents (Elt F)) {off : Fin S.rank → ℕ} (h : off = fun _ => 0)
    (inb : ∀ a, off a + S.size a ≤ S.size a) (w : S.Idx → Elt F e) :
    v.read (Elt F) (v.writes (Elt F) f [⟨Rect.unit off S.size inb, w⟩]) = w := by
  funext y
  exact View.read_writes_cons_unit_of_mem v f inb w [] y y h (fun a => (Nat.zero_add _).symm)

/-- A load of the whole of a buffer. -/
theorem load_whole {κ : Kind} {sp : Space} {S : Shape} {e : EltTy} (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

section body

variable (c : Dev nD) (i : grid0.Coords) (arg3 : Memref sig .tc .vmem S256x1024 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S256x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
variable (x0 : Vec F S256x1024 .f32) (x1 x2 : Vec F S1x1x1024x512 .f32) (x3 : Vec F S1x1x512x1024 .f32)
variable (tb0 : Words (F := F) c namesM) (tb1 : Words (F := F) c countM)

/-- The number of blocks in use, as the body reads it. -/
def countW : BitVec 32 :=
  countM.view.readAt (Elt F) (Rect.unit (s := S1) ![0] S1.size inb_S1_S1_0).toLoadRect tb1 (Shape.Idx.first (numel1_S1.symm ▸ Nat.one_pos))

/-- A block that is not in use: the body stores zeros. -/
theorem run_unused (h1 : ¬ k0_cond1 i (countW c tb1) = 1#1) (h3 : k0_cond3 i (countW c tb1) = 1#1) (E : Set ℕ) (K : PUnit → sProp 𝕄) :
    iprop((∃ d, owns (c : Thread nD τ) arg7 fullShare d) ∗ heldAt c countM tb1
        ∗ (iprop(owns (c : Thread nD τ) arg7 fullShare (k0_pay5 (F := F)) ∗ heldAt c countM tb1) -∗ K ⟨⟩))
      ⊢ wp frame (wpE (defs₀ (F := F)) Variants.none c none) E (cc0_moe_experts i namesM (Memref.isWhole_whole _) countM (Memref.isWhole_whole _) arg3 harg3 arg4 harg4 arg5 harg5 arg6 harg6 arg7 harg7 arg8 harg8 arg9 harg9 arg10 harg10) K := by
  simp only [cc0_moe_experts_eq_skeleton]; unfold cc0_moe_experts_skel
  unfold owns
  unfold countW at h1 h3
  iintro ⟨⟨%d7, %f7, -, H7⟩, HT, Hk⟩
  sl_exec
  sl_step
  iapply Hk
  isplitl [H7]
  · iexists _; isplitr
    swap; · iexact H7
    ipureintro; exact read_store _ _ (by decide) _ _
  iexact HT

/-- The names of the block's expert and of the block before it, as the body reads them. -/
def nameW : BitVec 32 :=
  namesM.view.readAt (Elt F) (Rect.unit (s := S176) (k0_off2 i) S1.size (k0_off2_inb i)).toLoadRect tb0 (Shape.Idx.first (numel1_S1.symm ▸ Nat.one_pos))
/-- The name before the point's own, or its own at the first point. -/
def priorW : BitVec 32 :=
  namesM.view.readAt (Elt F) (Rect.unit (s := S176) (k0_off3 i) S1.size (k0_off3_inb i)).toLoadRect tb0 (Shape.Idx.first (numel1_S1.symm ▸ Nat.one_pos))

/-- Whether the body takes the block's weights anew. -/
def anew (i : grid0.Coords) (w w' : BitVec 32) : BitVec 1 :=
  Scalar.cmpi .ne (Scalar.extui (Scalar.ori (Scalar.cmpi .eq (BitVec.ofNat 32 (i 0).val) 0#32) (Scalar.cmpi .ne w w')) : BitVec 32) 0#32

/-- A block in use whose expert is the block's before it: the body takes the weights the scratch buffers hold. -/
theorem run_same (h1 : k0_cond1 i (countW c tb1) = 1#1) (h3 : ¬ k0_cond3 i (countW c tb1) = 1#1)
    (h2 : ¬ anew i (nameW c i tb0) (priorW c i tb0) = 1#1) (s0 s1 : Vec F S1024x512 .bf16) (s2 : Vec F S512x1024 .bf16) (E : Set ℕ) (K : PUnit → sProp 𝕄) :
    iprop(owns (c : Thread nD τ) arg3 fullShare x0 ∗ (∃ d, owns (c : Thread nD τ) arg7 fullShare d)
        ∗ owns (c : Thread nD τ) arg8 fullShare s0 ∗ owns (c : Thread nD τ) arg9 fullShare s1 ∗ owns (c : Thread nD τ) arg10 fullShare s2
        ∗ heldAt c namesM tb0 ∗ heldAt c countM tb1
        ∗ (iprop(owns (c : Thread nD τ) arg3 fullShare x0 ∗ owns (c : Thread nD τ) arg7 fullShare (k0_pay4 x0 s0 s1 s2)
          ∗ owns (c : Thread nD τ) arg8 fullShare s0 ∗ owns (c : Thread nD τ) arg9 fullShare s1 ∗ owns (c : Thread nD τ) arg10 fullShare s2
          ∗ heldAt c namesM tb0 ∗ heldAt c countM tb1) -∗ K ⟨⟩))
      ⊢ wp frame (wpE (defs₀ (F := F)) Variants.none c none) E (cc0_moe_experts i namesM (Memref.isWhole_whole _) countM (Memref.isWhole_whole _) arg3 harg3 arg4 harg4 arg5 harg5 arg6 harg6 arg7 harg7 arg8 harg8 arg9 harg9 arg10 harg10) K := by
  simp only [cc0_moe_experts_eq_skeleton]; unfold cc0_moe_experts_skel
  unfold owns
  unfold countW at h1 h3
  unfold anew nameW priorW at h2
  iintro ⟨⟨%f3, %hf3, H3⟩, ⟨%d7, %f7, -, H7⟩, ⟨%f8, %hf8, H8⟩, ⟨%f9, %hf9, H9⟩, ⟨%f10, %hf10, H10⟩, HN, HT, Hk⟩
  sl_exec
  sl_step
  iapply Hk
  isplitl [H3]
  · iexists _; isplitr
    swap; · iexact H3
    ipureintro; exact hf3
  isplitl [H7]
  · iexists _; isplitr
    swap; · iexact H7
    ipureintro
    rw [read_store _ _ (by decide), load_whole _ _ (by decide), load_whole _ _ (by decide), load_whole _ _ (by decide), load_whole _ _ (by decide),
      hf3, hf8, hf9, hf10]
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  isplitl [HN]
  · iexact HN
  iexact HT

/-- A block in use whose expert is another than the block's before it: the body takes its weights anew. -/
theorem run_anew (h1 : k0_cond1 i (countW c tb1) = 1#1) (h3 : ¬ k0_cond3 i (countW c tb1) = 1#1)
    (h2 : anew i (nameW c i tb0) (priorW c i tb0) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ heldAt c namesM tb0 ∗ heldAt c countM tb1
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare (k0_pay4 x0 (k0_pay1 x1) (k0_pay2 x2) (k0_pay3 x3))
          ∗ owns (c : Thread nD τ) arg8 fullShare (k0_pay1 x1) ∗ owns (c : Thread nD τ) arg9 fullShare (k0_pay2 x2) ∗ owns (c : Thread nD τ) arg10 fullShare (k0_pay3 x3)
          ∗ heldAt c namesM tb0 ∗ heldAt c countM tb1) -∗ K ⟨⟩))
      ⊢ wp frame (wpE (defs₀ (F := F)) Variants.none c none) E (cc0_moe_experts i namesM (Memref.isWhole_whole _) countM (Memref.isWhole_whole _) arg3 harg3 arg4 harg4 arg5 harg5 arg6 harg6 arg7 harg7 arg8 harg8 arg9 harg9 arg10 harg10) K := by
  simp only [cc0_moe_experts_eq_skeleton]; unfold cc0_moe_experts_skel
  unfold owns
  unfold countW at h1 h3
  unfold anew nameW priorW at h2
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, HN, HT, Hk⟩
  sl_exec
  sl_step
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro
    unfold run_anew.sl.v21 run_anew.sl.v25 run_anew.sl.v29 View.readCov
    rw [read_store _ _ (by decide), load_whole _ _ (by decide), load_whole _ _ (by decide), load_whole _ _ (by decide), load_whole _ _ (by decide), hf3]
    unfold run_anew.sl.H8_1 run_anew.sl.H9_1 run_anew.sl.H10_1
    rw [read_store _ _ (by decide), read_store _ _ (by decide), read_store _ _ (by decide), load_whole _ _ (by decide), load_whole _ _ (by decide), load_whole _ _ (by decide),
      hf4, hf5, hf6]
  isplitl [H8]
  · iexists _; isplitr
    swap; · iexact H8
    ipureintro
    unfold run_anew.sl.H8_1
    rw [read_store _ _ (by decide), load_whole _ _ (by decide), hf4]
  isplitl [H9]
  · iexists _; isplitr
    swap; · iexact H9
    ipureintro
    unfold run_anew.sl.H9_1
    rw [read_store _ _ (by decide), load_whole _ _ (by decide), hf5]
  isplitl [H10]
  · iexists _; isplitr
    swap; · iexact H10
    ipureintro
    unfold run_anew.sl.H10_1
    rw [read_store _ _ (by decide), load_whole _ _ (by decide), hf6]
  isplitl [HN]
  · iexact HN
  iexact HT

end body

end Cert.Kernel6Ideal.Gen

end
-- ==== Proof.ExpertsRun.lean ====
module

public import proofs.«01_k».proof.Proof.Experts

@[expose] public section

set_option maxRecDepth 16384

noncomputable section

/-! The experts' call, block by block: what the output holds after each block, the scratch buffers between blocks, the run
and the frame. -/

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The words -/

/-- A bit widened to a word is not zero just when it is set. -/
theorem bit_set (b : BitVec 1) : Scalar.cmpi .ne (Scalar.extui b : BitVec 32) 0#32 = 1#1 ↔ b = 1#1 := by
  revert b; decide

/-- A block's number is a small number. -/
theorem block_toInt (i : grid0.Coords) : (BitVec.ofNat 32 (i 0).val).toInt = ((i 0).val : Int) :=
  WordCmp.toInt_ofNat_of_lt (lt_trans (i 0).isLt (by decide))

/-- A block is in use when its number is below the count. -/
theorem used_iff (i : grid0.Coords) (n : BitVec 32) : k0_cond1 i n = 1#1 ↔ ((i 0).val : Int) < n.toInt := by
  refine (bit_set _).trans ?_
  rw [show Scalar.cmpi .slt (BitVec.ofNat 32 (i 0).val) n = BitVec.ofBool (decide ((BitVec.ofNat 32 (i 0).val).toInt < n.toInt)) from rfl, block_toInt]
  exact WordCmp.ofBool_decide_eq_one_iff _

/-- The body takes a block for one past the last just when it is not in use. -/
theorem past_iff (i : grid0.Coords) (n : BitVec 32) : k0_cond3 i n = 1#1 ↔ ¬ k0_cond1 i n = 1#1 := by
  rw [used_iff]
  refine (bit_set _).trans ?_
  rw [show Scalar.cmpi .sge (BitVec.ofNat 32 (i 0).val) n = BitVec.ofBool (decide (n.toInt ≤ (BitVec.ofNat 32 (i 0).val).toInt)) from rfl, block_toInt]
  exact (WordCmp.ofBool_decide_eq_one_iff _).trans not_lt.symm

/-- The block before a block in use is in use. -/
theorem used_before (i j : grid0.Coords) (h : (j 0).val + 1 = (i 0).val) (n : BitVec 32) (hi : k0_cond1 i n = 1#1) : k0_cond1 j n = 1#1 := by
  rw [used_iff] at hi ⊢
  omega

/-- Only the weights of a block that is not the first, and has its expert from the block before it, are not taken anew. -/
theorem not_anew (i : grid0.Coords) (w w' : BitVec 32) (h : ¬ anew i w w' = 1#1) : (i 0).val ≠ 0 ∧ w = w' := by
  have h' : ¬ Scalar.ori (Scalar.cmpi .eq (BitVec.ofNat 32 (i 0).val) 0#32) (Scalar.cmpi .ne w w') = 1#1 := fun e => h ((bit_set _).mpr e)
  constructor
  · intro hz
    apply h'
    rw [hz]
    generalize Scalar.cmpi .ne w w' = b
    revert b; decide
  · by_contra hne
    apply h'
    rw [show Scalar.cmpi .ne w w' = 1#1 from (WordCmp.cmpi_ne_eq w w').trans (congrArg BitVec.ofBool (decide_eq_true hne))]
    generalize Scalar.cmpi .eq (BitVec.ofNat 32 (i 0).val) 0#32 = b
    revert b; decide

/-- The offset of the block before, as a number. -/
theorem prior_off : ∀ i : grid0.Coords, k0_off3 i = ![(i 0).val - 1] := by decide +kernel

/-- Point `t` is block `t`. -/
theorem point_block (t : Fin grid0.N) : (grid0.coords t 0).val = t.val := by
  rw [Pipeline.Grid.coords_val t 0 (S := 1) (B := 176) (by decide) rfl]
  have h : t.val < 176 := Nat.lt_of_lt_of_eq t.isLt N_0
  omega

/-! ### The call's arrays, tables and blocks -/

variable (m : (ℓ : Loc nD τ sig) → Buf (Elt F) ℓ) (ρ : Dev nD → PrngReg)

/-- What an array holds when the call is entered: what it holds at the start. -/
abbrev V (c : Dev nD) (b : Ref sig .tc) : Buf (Elt F) ((c : Thread nD τ).loc b) := m ((c : Thread nD τ).loc b)

/-- The program is the call alone. -/
theorem main_is_call (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents. -/
def tbl : pre0.Contents (Elt F) := fun j => V m (0 : Dev nD) (pre0.ref j)
/-- The run's prefetched tables are the arguments. -/
theorem tbl_eq (c : Dev nD) (j : Fin 2) : V m c (pre0.ref j) = tbl m j := by
  obtain rfl : c = 0 := Subsingleton.elim _ _
  rfl

/-- Every block's expert is one of the experts there are. -/
abbrev Ok : Prop := ok0 (F := F) (tbl m)
/-- The tables, with the names in range. -/
abbrev adm (hO : Ok m) : (pcfg0 (F := F)).Adm := ⟨tbl m, hO⟩
/-- The pipeline over these tables. -/
abbrev cfgM (hO : Ok m) : Pipeline.Cfg sig Λ₀ := cfg0 (adm m hO)

/-- The halves of the tables the body holds. -/
theorem tables_eq (c : Dev nD) : (Pipeline.ΦT pre0 (tbl m) c : sProp 𝕄) = iprop(heldAt c namesM (tbl m 0) ∗ heldAt c countM (tbl m 1)) := by
  unfold Pipeline.ΦT Pipeline.prefHeld
  rw [show (Finset.univ : Finset (Fin 2)) = insert (0 : Fin 2) {(1 : Fin 2)} from by decide, bigSep_insert (by decide), bigSep_singleton]
  rfl

/-- The three scratch buffers, at some contents each, and the generator's register. -/
theorem scratch_eq (c : Dev nD) : (Pipeline.ΦA spec0 c : sProp 𝕄)
    = iprop(((∃ d, owns (c : Thread nD τ) (Memref.whole cc0_scratch0 : Memref sig .tc .vmem S1024x512 .bf16) fullShare d)
        ∗ (∃ d, owns (c : Thread nD τ) (Memref.whole cc0_scratch1 : Memref sig .tc .vmem S1024x512 .bf16) fullShare d)
        ∗ (∃ d, owns (c : Thread nD τ) (Memref.whole cc0_scratch2 : Memref sig .tc .vmem S512x1024 .bf16) fullShare d)) ∗ (∃ r, prngReg c r)) := by
  unfold Pipeline.ΦA
  rw [scopedRest0_eq]
  simp only [owns_whole]
  try rfl

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

variable (hO : Ok m) (c : Dev nD)

/-- The block's rows and the weights of its expert: gate, up and down. -/
def rowsAt (t : Fin (cfgM m hO).N) : Vec F S256x1024 .f32 := iblk m hO c 0 t
/-- The gate weights a point's window reads. -/
def gateAt (t : Fin (cfgM m hO).N) : Vec F S1x1x1024x512 .f32 := iblk m hO c 1 t
/-- The up weights a point's window reads. -/
def upAt (t : Fin (cfgM m hO).N) : Vec F S1x1x1024x512 .f32 := iblk m hO c 2 t
/-- The down weights a point's window reads. -/
def downAt (t : Fin (cfgM m hO).N) : Vec F S1x1x512x1024 .f32 := iblk m hO c 3 t

/-- Whether block `t` is in use. -/
abbrev used (t : Fin (cfgM m hO).N) : Prop := k0_cond1 (grid0.coords t) (countW c (tbl m 1)) = 1#1

/-- What the output's block `t` holds after the body: the expert's product, or zeros. -/
def outAt (t : Fin (cfgM m hO).N) : Vec F S256x1024 .f32 :=
  open Classical in
  if used m hO c t then k0_pay4 (rowsAt m hO c t) (k0_pay1 (gateAt m hO c t)) (k0_pay2 (upAt m hO c t)) (k0_pay3 (downAt m hO c t)) else k0_pay5

/-- The scratch buffers before point `t`: after a block in use they hold that block's weights. -/
def scratchAt (t : Fin ((cfgM m hO).N + 1)) : sProp 𝕄 :=
  iprop((∃ (s0 s1 : Vec F S1024x512 .bf16) (s2 : Vec F S512x1024 .bf16),
      ⌜∀ s : Fin (cfgM m hO).N, s.val + 1 = t.val → used m hO c s → s0 = k0_pay1 (gateAt m hO c s) ∧ s1 = k0_pay2 (upAt m hO c s) ∧ s2 = k0_pay3 (downAt m hO c s)⌝
        ∗ owns (c : Thread nD τ) (Memref.whole cc0_scratch0 : Memref sig .tc .vmem S1024x512 .bf16) fullShare s0
        ∗ owns (c : Thread nD τ) (Memref.whole cc0_scratch1 : Memref sig .tc .vmem S1024x512 .bf16) fullShare s1
        ∗ owns (c : Thread nD τ) (Memref.whole cc0_scratch2 : Memref sig .tc .vmem S512x1024 .bf16) fullShare s2)
    ∗ (∃ r, prngReg c r) ∗ heldAt c namesM (tbl m 0) ∗ heldAt c countM (tbl m 1))

/-- The call's proof data. -/
def dats (_ : Fin 1) (c : Dev nD) : Dat τ (Elt F) Unit ℕ (UR sig nD τ) ℕ (cfgM m hO) c where
  A w := V m c (Pipeline.arrRef spec0 w)
  after w t := match w with
    | ⟨0, _⟩ => rowsAt m hO c t
    | ⟨1, _⟩ => gateAt m hO c t
    | ⟨2, _⟩ => upAt m hO c t
    | ⟨3, _⟩ => downAt m hO c t
    | ⟨4, _⟩ => outAt m hO c t
  Φ t := scratchAt m hO c t
  q _ := fullShare
  owed _ := 0

/-- Every window's array starts as the launch finds it. -/
theorem A_eq (c : Dev nD) (w : Fin (cfgM m hO).W) : (dats m hO 0 c).A w = V m c (Pipeline.arrRef spec0 w) := by
  dsimp only [dats]

/-- After the body the rows window holds the point's rows. -/
theorem after_0 (t : Fin (cfgM m hO).N) : (dats m hO 0 c).after 0 t = rowsAt m hO c t := rfl
/-- The gate window holds the point's gate weights. -/
theorem after_1 (t : Fin (cfgM m hO).N) : (dats m hO 0 c).after 1 t = gateAt m hO c t := rfl
/-- The up window holds the point's up weights. -/
theorem after_2 (t : Fin (cfgM m hO).N) : (dats m hO 0 c).after 2 t = upAt m hO c t := rfl
/-- The down window holds the point's down weights. -/
theorem after_3 (t : Fin (cfgM m hO).N) : (dats m hO 0 c).after 3 t = downAt m hO c t := rfl
/-- The result window holds what the point computes. -/
theorem after_4 (t : Fin (cfgM m hO).N) : (dats m hO 0 c).after 4 t = outAt m hO c t := rfl

/-- An input's staging buffer holds its block at every point. -/
theorem before_0 (t : Fin (cfgM m hO).N) (d) : (dats m hO 0 c).before 0 t d = rowsAt m hO c t :=
  ((dats m hO 0 c).before_in_eq_fetched 0 rfl (fun _ => rfl) (fun _ _ _ => rfl) (fun t => by rw [after_0]; unfold Dat.blockOf rowsAt iblk; rw [A_eq]; try rfl) t d).trans
    (by unfold Dat.fetched Dat.blockOf rowsAt iblk; rw [A_eq]; try rfl)
/-- Before the body the gate window holds the point's gate weights. -/
theorem before_1 (t : Fin (cfgM m hO).N) (d) : (dats m hO 0 c).before 1 t d = gateAt m hO c t :=
  ((dats m hO 0 c).before_in_eq_fetched 1 rfl (fun _ => rfl) (fun _ _ _ => rfl) (fun t => by rw [after_1]; unfold Dat.blockOf gateAt iblk; rw [A_eq]; try rfl) t d).trans
    (by unfold Dat.fetched Dat.blockOf gateAt iblk; rw [A_eq]; try rfl)
/-- The up window holds the point's up weights. -/
theorem before_2 (t : Fin (cfgM m hO).N) (d) : (dats m hO 0 c).before 2 t d = upAt m hO c t :=
  ((dats m hO 0 c).before_in_eq_fetched 2 rfl (fun _ => rfl) (fun _ _ _ => rfl) (fun t => by rw [after_2]; unfold Dat.blockOf upAt iblk; rw [A_eq]; try rfl) t d).trans
    (by unfold Dat.fetched Dat.blockOf upAt iblk; rw [A_eq]; try rfl)
/-- The down window holds the point's down weights. -/
theorem before_3 (t : Fin (cfgM m hO).N) (d) : (dats m hO 0 c).before 3 t d = downAt m hO c t :=
  ((dats m hO 0 c).before_in_eq_fetched 3 rfl (fun _ => rfl) (fun _ _ _ => rfl) (fun t => by rw [after_3]; unfold Dat.blockOf downAt iblk; rw [A_eq]; try rfl) t d).trans
    (by unfold Dat.fetched Dat.blockOf downAt iblk; rw [A_eq]; try rfl)

/-! ### Two blocks of one expert have the same weights -/

/-- The name of block `t`'s expert. -/
abbrev nameAt (t : Fin (cfgM m hO).N) : BitVec 32 := nameW c (grid0.coords t) (tbl m 0)

/-- The gate window stands at the named expert. -/
theorem index_gate (t : Fin (cfgM m hO).N) : ((cfgM m hO).win 1).index t = ![0, (nameAt m hO c t).toNat, 0, 0] := rfl
/-- So does the up window. -/
theorem index_up (t : Fin (cfgM m hO).N) : ((cfgM m hO).win 2).index t = ![0, (nameAt m hO c t).toNat, 0, 0] := rfl
/-- So does the down window. -/
theorem index_down (t : Fin (cfgM m hO).N) : ((cfgM m hO).win 3).index t = ![0, (nameAt m hO c t).toNat, 0, 0] := rfl

/-- Points with the same name read the same gate weights. -/
theorem gate_same (t s : Fin (cfgM m hO).N) (h : nameAt m hO c t = nameAt m hO c s) : gateAt m hO c t = gateAt m hO c s := by
  funext y
  refine (View.read_apply (Val := Elt F) (v := (((cfgM m hO).win 1).blk t).view) _ y).trans (Eq.trans ?_ (View.read_apply (Val := Elt F) (v := (((cfgM m hO).win 1).blk s).view) _ y).symm)
  refine congrArg (m ((c : Thread nD τ).loc main_arg3)) (funext fun x => Fin.ext ?_)
  show ((cfgM m hO).win 1).index t x * _ + 1 * _ = ((cfgM m hO).win 1).index s x * _ + 1 * _
  rw [index_gate m hO c, index_gate m hO c, h]
/-- They read the same up weights. -/
theorem up_same (t s : Fin (cfgM m hO).N) (h : nameAt m hO c t = nameAt m hO c s) : upAt m hO c t = upAt m hO c s := by
  funext y
  refine (View.read_apply (Val := Elt F) (v := (((cfgM m hO).win 2).blk t).view) _ y).trans (Eq.trans ?_ (View.read_apply (Val := Elt F) (v := (((cfgM m hO).win 2).blk s).view) _ y).symm)
  refine congrArg (m ((c : Thread nD τ).loc main_arg4)) (funext fun x => Fin.ext ?_)
  show ((cfgM m hO).win 2).index t x * _ + 1 * _ = ((cfgM m hO).win 2).index s x * _ + 1 * _
  rw [index_up m hO c, index_up m hO c, h]
/-- They read the same down weights. -/
theorem down_same (t s : Fin (cfgM m hO).N) (h : nameAt m hO c t = nameAt m hO c s) : downAt m hO c t = downAt m hO c s := by
  funext y
  refine (View.read_apply (Val := Elt F) (v := (((cfgM m hO).win 3).blk t).view) _ y).trans (Eq.trans ?_ (View.read_apply (Val := Elt F) (v := (((cfgM m hO).win 3).blk s).view) _ y).symm)
  refine congrArg (m ((c : Thread nD τ).loc main_arg5)) (funext fun x => Fin.ext ?_)
  show ((cfgM m hO).win 3).index t x * _ + 1 * _ = ((cfgM m hO).win 3).index s x * _ + 1 * _
  rw [index_down m hO c, index_down m hO c, h]

/-- The name the body reads for the block before a block is that block's. -/
theorem prior_is (t s : Fin (cfgM m hO).N) (h : s.val + 1 = t.val) : priorW c (grid0.coords t) (tbl m 0) = nameAt m hO c s := by
  unfold priorW nameAt nameW
  refine (View.readAt_apply (Val := Elt F) _ _ _).trans (Eq.trans ?_ (View.readAt_apply (Val := Elt F) _ _ _).symm)
  refine congrArg (namesM.view.read (Elt F) (tbl m 0)) (funext fun x => Fin.ext ?_)
  have e : k0_off3 (grid0.coords t) x = k0_off2 (grid0.coords s) x := by
    rw [prior_off, k0_off2_eq, point_block, point_block, ← h]
    rfl
  exact congrArg (· + 1 * _) e

/-! ### The body's obligation -/

/-- The body at point `t`. -/
abbrev bodyAt (t : Fin (cfgM m hO).N) : Prog (TpuEff nD τ sig (Elt F) Λ₀ .tc) PUnit :=
  cc0_moe_experts (grid0.coords t) namesM (Memref.isWhole_whole _) countM (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (Memref.whole cc0_scratch0) (Memref.isWhole_whole _) (Memref.whole cc0_scratch1) (Memref.isWhole_whole _) (Memref.whole cc0_scratch2) (Memref.isWhole_whole _)

/-- What the body is called with and what it returns. -/
def bodyPre (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d)))
/-- What the body leaves at a point. -/
def bodyPost (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t))

set_option maxHeartbeats 1600000 in
/-- The body at any point: a block not in use, one whose weights are taken anew, one whose weights are there already. -/
theorem body_ok (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).owesAt () t.succ = (dats m hO 0 c).owesAt () t.castSucc from rfl, after_0, after_1, after_2, after_3, after_4,
    show (dats m hO 0 c).Φ t.succ = scratchAt m hO c t.succ from rfl, show (dats m hO 0 c).Φ t.castSucc = scratchAt m hO c t.castSucc from rfl]
  unfold scratchAt
  iintro ⟨⟨⟨%s0, %s1, %s2, %hs, S0, S1, S2⟩, Hg, HN, HT⟩, Ho, ⟨%d0, H0⟩, ⟨%d1, H1⟩, ⟨%d2, H2⟩, ⟨%d3, H3⟩, ⟨%d4, H4⟩⟩
  by_cases hu : used m hO c t
  · have h3 : ¬ k0_cond3 (grid0.coords t) (countW c (tbl m 1)) = 1#1 := fun h => (past_iff _ _).mp h hu
    by_cases ha : anew (grid0.coords t) (nameW c (grid0.coords t) (tbl m 0)) (priorW c (grid0.coords t) (tbl m 0)) = 1#1
    · iapply (run_anew c (grid0.coords t) _ _ _ _ _ _ _ _ _ _ _ _ _ _ _ _ (rowsAt m hO c t) (gateAt m hO c t) (upAt m hO c t) (downAt m hO c t) (tbl m 0) (tbl m 1) hu h3 ha Set.univ _)
      isplitl [H0]; · iexact H0
      isplitl [H1]; · iexact H1
      isplitl [H2]; · iexact H2
      isplitl [H3]; · iexact H3
      isplitl [H4]; · iexists _; iexact H4
      isplitl [S0]; · iexists _; iexact S0
      isplitl [S1]; · iexists _; iexact S1
      isplitl [S2]; · iexists _; iexact S2
      isplitl [HN]; · iexact HN
      isplitl [HT]; · iexact HT
      iintro ⟨H0, H1, H2, H3, H4, S0, S1, S2, HN, HT⟩
      isplitl [S0 S1 S2 Hg HN HT]
      · isplitl [S0 S1 S2]
        · iexists _; iexists _; iexists _
          isplitr
          swap
          · isplitl [S0]; · iexact S0
            isplitl [S1]; · iexact S1
            iexact S2
          ipureintro
          intro s h _
          obtain rfl : s = t := Fin.ext (Nat.succ.inj h)
          exact ⟨rfl, rfl, rfl⟩
        isplitl [Hg]; · iexact Hg
        isplitl [HN]; · iexact HN
        iexact HT
      isplitl [Ho]; · iexact Ho
      isplitl [H0]; · iexact H0
      isplitl [H1]; · iexact H1
      isplitl [H2]; · iexact H2
      isplitl [H3]; · iexact H3
      rw [show outAt m hO c t = _ from if_pos hu]
      iexact H4
    · obtain ⟨hz, hn⟩ := not_anew _ _ _ ha
      have hv : (grid0.coords t 0).val = t.val := point_block t
      let s : Fin (cfgM m hO).N := ⟨t.val - 1, by omega⟩
      have hst : s.val + 1 = t.val := by show t.val - 1 + 1 = t.val; omega
      have hsu : used m hO c s := used_before (grid0.coords t) (grid0.coords s) (by rw [point_block, point_block]; exact hst) _ hu
      have hnm : nameAt m hO c t = nameAt m hO c s := hn.trans (prior_is m hO c t s hst)
      obtain ⟨e0, e1, e2⟩ := hs s hst hsu
      rw [← gate_same m hO c t s hnm] at e0
      rw [← up_same m hO c t s hnm] at e1
      rw [← down_same m hO c t s hnm] at e2
      iapply (run_same c (grid0.coords t) _ _ _ _ _ _ _ _ _ _ _ _ _ _ _ _ (rowsAt m hO c t) (tbl m 0) (tbl m 1) hu h3 ha s0 s1 s2 Set.univ _)
      isplitl [H0]; · iexact H0
      isplitl [H4]; · iexists _; iexact H4
      isplitl [S0]; · iexact S0
      isplitl [S1]; · iexact S1
      isplitl [S2]; · iexact S2
      isplitl [HN]; · iexact HN
      isplitl [HT]; · iexact HT
      iintro ⟨H0, H4, S0, S1, S2, HN, HT⟩
      isplitl [S0 S1 S2 Hg HN HT]
      · isplitl [S0 S1 S2]
        · iexists _; iexists _; iexists _
          isplitr
          swap
          · isplitl [S0]; · iexact S0
            isplitl [S1]; · iexact S1
            iexact S2
          ipureintro
          intro s h _
          obtain rfl : s = t := Fin.ext (Nat.succ.inj h)
          exact ⟨e0, e1, e2⟩
        isplitl [Hg]; · iexact Hg
        isplitl [HN]; · iexact HN
        iexact HT
      isplitl [Ho]; · iexact Ho
      isplitl [H0]; · iexact H0
      isplitl [H1]; · iexact H1
      isplitl [H2]; · iexact H2
      isplitl [H3]; · iexact H3
      rw [show outAt m hO c t = _ from if_pos hu, ← e0, ← e1, ← e2]
      iexact H4
  · have h3 : k0_cond3 (grid0.coords t) (countW c (tbl m 1)) = 1#1 := (past_iff _ _).mpr hu
    iapply (run_unused c (grid0.coords t) _ _ _ _ _ _ _ _ _ _ _ _ _ _ _ _ (tbl m 1) hu h3 Set.univ _)
    isplitl [H4]; · iexists _; iexact H4
    isplitl [HT]; · iexact HT
    iintro ⟨H4, HT⟩
    isplitl [S0 S1 S2 Hg HN HT]
    · isplitl [S0 S1 S2]
      · iexists _; iexists _; iexists _
        isplitr
        swap
        · isplitl [S0]; · iexact S0
          isplitl [S1]; · iexact S1
          iexact S2
        ipureintro
        intro s h hsu
        obtain rfl : s = t := Fin.ext (Nat.succ.inj h)
        exact absurd hsu hu
      isplitl [Hg]; · iexact Hg
      isplitl [HN]; · iexact HN
      iexact HT
    isplitl [Ho]; · iexact Ho
    isplitl [H0]; · iexact H0
    isplitl [H1]; · iexact H1
    isplitl [H2]; · iexact H2
    isplitl [H3]; · iexact H3
    rw [show outAt m hO c t = _ from if_neg hu]
    iexact H4

/-- The body the call runs at a point is `bodyAt`. -/
theorem call_body (t : Fin (cfgM m hO).N) : defs₀ (F := F) .tc (cfgM m hO).body ((cfgM m hO).bodyArgs t ((cfgM m hO).slots t)) = bodyAt m hO t := by
  unfold defs₀; rw [Defs.onTc_tc]

/-- The output's block is written at every point. -/
theorem never_idle (w : Fin (cfgM m hO).W) (i : grid0.Coords) : (cfgM m hO).idle w i = false := by
  match w with
  | ⟨0, _⟩ => rfl
  | ⟨1, _⟩ => rfl
  | ⟨2, _⟩ => rfl
  | ⟨3, _⟩ => rfl
  | ⟨4, _⟩ =>
    show (!(k0_cond1 i ((tbl m).atD 1 ![0]) == 1#1) && !(k0_cond3 i ((tbl m).atD 1 ![0]) == 1#1)) = false
    have h := past_iff i ((tbl m).atD 1 ![0])
    by_cases h1 : k0_cond1 i ((tbl m).atD 1 ![0]) = 1#1
    · rw [h1]; rfl
    · rw [h.mpr h1]; exact Bool.and_false _

/-- The body does at every point what the run asks of it. -/
theorem obligation (c : Dev nD) : BodyObligation (dats (F := F) m hO 0 c) (defs₀ (F := F)) Variants.none () Set.univ := fun t => by
  have h4 : idle0 (tbl m) 4 ((cfgM m hO).grid.coords t) = false := never_idle m hO 4 _
  rw [bigSep_W0, bigSep_W0, call_body]
  simp only [h4]
  exact triple_restated (body_ok m hO c t) rfl .rfl fun _ => .rfl

/-! ### The run and the frame -/

set_option backward.isDefEq.respectTransparency.types false in
/-- The program ends, with every array at what the blocks leave it and every semaphore at zero. -/
theorem run_all : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl) (howed := fun _ _ => rfl)
    (V := V m) (hmain := main_is_call m Variants.none) (hA := A_eq m hO) (hpf := fun c j => tbl_eq m c j)
    (hin := fun c => by
      show iprop(Pipeline.ΦA spec0 c ∗ Pipeline.ΦT pre0 (tbl m) c) ⊢ scratchAt m hO c 0
      rw [scratch_eq, tables_eq]
      unfold scratchAt
      iintro ⟨⟨⟨⟨%s0, S0⟩, ⟨%s1, S1⟩, ⟨%s2, S2⟩⟩, Hg⟩, HN, HT⟩
      isplitl [S0 S1 S2]
      · iexists _; iexists _; iexists _
        isplitr
        swap
        · isplitl [S0]; · iexact S0
          isplitl [S1]; · iexact S1
          iexact S2
        ipureintro
        intro s h
        exact absurd h (Nat.succ_ne_zero _)
      isplitl [Hg]; · iexact Hg
      isplitl [HN]; · iexact HN
      iexact HT)
    (hout := fun c => by
      show scratchAt m hO c (Fin.last _) ⊢ Pipeline.ΦA spec0 c
      rw [scratch_eq]
      unfold scratchAt
      iintro ⟨⟨%s0, %s1, %s2, -, S0, S1, S2⟩, Hg, -, -⟩
      isplitl [S0 S1 S2]
      · isplitl [S0]; · iexists _; iexact S0
        isplitl [S1]; · iexists _; iexact S1
        iexists _; iexact S2
      iexact Hg)

include hO in
/-- The frame: the arguments end unchanged, and every semaphore at zero. -/
theorem experts_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c).2 main_arg0 (by decide : main_arg0 ∈ Pipeline.restRefs sig spec0), (h.1 c).2 main_arg1 (by decide : main_arg1 ∈ Pipeline.restRefs sig spec0),
      ((h.1 c).1 0).trans (((dats m hO 0 c).arrAt_in 0 rfl _).trans (A_eq m hO c 0)), ((h.1 c).1 1).trans (((dats m hO 0 c).arrAt_in 1 rfl _).trans (A_eq m hO c 1)),
      ((h.1 c).1 2).trans (((dats m hO 0 c).arrAt_in 2 rfl _).trans (A_eq m hO c 2)), ((h.1 c).1 3).trans (((dats m hO 0 c).arrAt_in 3 rfl _).trans (A_eq m hO c 3))⟩, h.2⟩)
    (run_all m ρ hO)

end Cert.Kernel6Ideal.Gen

end
-- ==== Proof.ExpertsBits.lean ====
module

public import proofs.«01_k».proof.Defs
public import proofs.«01_k».proof.Proof.ExpertsRun
public import proofs.«01_k».proof.Proof.Gen.Kernel6
public import proofs.«01_k».proof.Proof.Gen.Kernel6Ideal

@[expose] public section

set_option maxRecDepth 16384

noncomputable section

/-! The experts' precondition, and the run of the program as it is over machine words: it is the same program as its
    idealization, whose run is proved for any float values. -/

namespace Cert.ExpertsPre

open Idealize.ShloMosaic Idealize.ShloMosaic.TcCoe
open Idealize.SL Idealize.SL.Sem

/-- A word that is at least zero and below 32, read signed, is below 32 read unsigned. -/
theorem small_of_bits (w : BitVec 32) (h : IntOp.andi (IntOp.cmpi .sge w 0#32) (IntOp.cmpi .slt w 32#32) = 1#1) : w.toNat < 32 := by
  exact (WordCmp.ofBool_decide_eq_one_iff _).mp ((WordCmp.andi_sge_zero_slt_ofNat (w := 32) (k := 32) (by decide) w).symm.trans h)

/-- The precondition says that every block names one of the experts there are. -/
theorem named {F : FTy → Type} [FloatOps F] [Cert.Pre_experts_named.Facts] {a0 : IVec Cert.Pre_experts_named.S176 32} {a1 : IVec Cert.Pre_experts_named.S1 32}
    {a2 : FVec F Cert.Pre_experts_named.S45056x1024 .f32} {a3 a4 : FVec F Cert.Pre_experts_named.S2x32x1024x512 .f32} {a5 : FVec F Cert.Pre_experts_named.S2x32x512x1024 .f32}
    (h : Cert.Pre_experts_named.fn a0 a1 a2 a3 a4 a5 = fun _ => 1#1) (y : Cert.Pre_experts_named.S176.Idx) : (a0 y).toNat < 32 :=
  small_of_bits (a0 y) (congrFun h y)

/-- Then every block of weights the call asks for lies inside its array. -/
theorem ok_of_named {F : FTy → Type} [FloatOps F] (m : (ℓ : Loc Cert.Kernel6Ideal.nD Cert.Kernel6Ideal.τ Cert.Kernel6Ideal.sig) → Buf (Elt F) ℓ)
    (h : ∀ y : Cert.Kernel6Ideal.S176.Idx, ((m (((0 : Dev Cert.Kernel6Ideal.nD).tc : Thread Cert.Kernel6Ideal.nD Cert.Kernel6Ideal.τ).loc Cert.Kernel6Ideal.main_arg0) : IVec Cert.Kernel6Ideal.S176 32) y).toNat < 32) :
    Cert.Kernel6Ideal.Gen.Ok m := by
  have hw : ∀ y : Cert.Kernel6Ideal.S176.Idx, ((Cert.Kernel6Ideal.Gen.tbl m 0 : IVec Cert.Kernel6Ideal.S176 32) y).toNat < 32 := h
  refine ⟨fun i => ⟨fun a => ?_, .inl rfl⟩, fun i => ⟨fun a => ?_, .inl rfl⟩, fun i => ⟨fun a => ?_, .inl rfl⟩⟩ <;>
  match a with
  | ⟨0, _⟩ => exact Nat.le_of_lt (by decide : 1 < 2)
  | ⟨1, _⟩ => exact Nat.le_trans (Nat.le_of_eq (Nat.mul_one _)) (Nat.succ_le_of_lt (hw _))
  | ⟨2, _⟩ => exact Nat.le_of_eq (Nat.one_mul _)
  | ⟨3, _⟩ => exact Nat.le_of_eq (Nat.one_mul _)

end Cert.ExpertsPre

namespace Cert.ExpertsBits

open Idealize.ShloMosaic Idealize.ShloMosaic.TcCoe
open Idealize.SL Idealize.SL.Sem

/-- The two programs' bodies are one. -/
theorem body_same (i) (a1 h1 a2 h2 a3 h3 a4 h4 a5 h5 a6 h6 a7 h7 a8 h8 a9 h9 a10 h10) :
    Cert.Kernel6.cc0_moe_experts (F := Bits) i a1 h1 a2 h2 a3 h3 a4 h4 a5 h5 a6 h6 a7 h7 a8 h8 a9 h9 a10 h10
      = Cert.Kernel6Ideal.cc0_moe_experts (F := Bits) i a1 h1 a2 h2 a3 h3 a4 h4 a5 h5 a6 h6 a7 h7 a8 h8 a9 h9 a10 h10 := rfl

/-- So are the tables of their bodies -/
theorem bodies_same : Cert.Kernel6.defs₀ (F := Bits) = Cert.Kernel6Ideal.defs₀ (F := Bits) := by
  unfold Cert.Kernel6.defs₀ Cert.Kernel6Ideal.defs₀
  refine congrArg Defs.onTc ?_
  funext l a
  match l, a with
  | ⟨0, _⟩, (t, s) => exact body_same _ _ _ _ _ _ _ _ _ _ _ _ _ _ _ _ _ _ _ _ _

/-- and their definitions. -/
theorem defs_same : Cert.Kernel6.defs (F := Bits) = Cert.Kernel6Ideal.defs (F := Bits) := by
  unfold Cert.Kernel6.defs Cert.Kernel6Ideal.defs
  exact congrArg (Pipeline.defs (Cert.Kernel6Ideal.pcfgs (F := Bits))) bodies_same

/-- The experts' program over machine words runs, leaves its arguments alone and its counters at zero. -/
theorem frame [Cert.Pre_experts_named.Facts] : Cert.quiescent_Kernel6 := by
  intro m g hp
  have hO : Cert.Kernel6Ideal.Gen.Ok (F := Bits) m := Cert.ExpertsPre.ok_of_named (F := Bits) m (fun y => Cert.ExpertsPre.named (hp 0) y)
  have key := Cert.Kernel6Ideal.Gen.experts_frame (F := Bits) m g hO
  rw [← defs_same] at key
  exact key

end Cert.ExpertsBits

end
-- ==== Proof.ExpertMath.lean ====
module

public import Idealize.ShloMosaic.Lib.Pointwise
public import Idealize.ShloMosaic.Lib.Tactic
public import Idealize.ShloMosaic.Lib.WordCmp

@[expose] public section

set_option maxRecDepth 16384

noncomputable section

/-! The experts: rows in blocks of 256, every block through the gated network of the expert it names. -/

namespace Cert.Expert

open Idealize.ShloMosaic

/-- A row against a gate column, through the sigmoid-weighted unit, times the row against an up column. -/
def gated (x g u : Fin 1024 → EReal) : EReal := (∑ k, x k * g k) * Ideal.logistic (∑ k, x k * g k) * ∑ k, x k * u k

/-- A row through an expert's gate and up weights and a column of its down weights. -/
def net (x : Fin 1024 → EReal) (g u : Fin 1024 → Fin 512 → EReal) (d : Fin 512 → EReal) : EReal :=
  ∑ l, gated x (fun k => g k l) (fun k => u k l) * d l

/-- The expert a word names. -/
def pick (w : BitVec 32) : Fin 32 := ⟨min w.toNat 31, by omega⟩

/-- A word below 32 names the expert of its number. -/
theorem pick_val (w : BitVec 32) (h : w.toNat < 32) : (pick w).val = w.toNat := by
  show min w.toNat 31 = w.toNat
  omega

/-- The rows of the blocks in use through their blocks' experts of the first layer; zeros in the other blocks. -/
def result (names : (⟨1, ![176]⟩ : Shape).Idx → BitVec 32) (n : (⟨1, ![1]⟩ : Shape).Idx → BitVec 32) (x : (⟨2, ![45056, 1024]⟩ : Shape).Idx → EReal)
    (g u : (⟨4, ![2, 32, 1024, 512]⟩ : Shape).Idx → EReal) (d : (⟨4, ![2, 32, 512, 1024]⟩ : Shape).Idx → EReal) (i : Fin 45056) (j : Fin 1024) : EReal :=
  open Classical in
  if ((i.val / 256 : ℕ) : ℤ) < (n (ix1 0)).toInt then
    net (fun k => x (ix2 i k)) (fun k l => g (ix4 0 (pick (names (ix1 ⟨i.val / 256, by omega⟩))) k l))
      (fun k l => u (ix4 0 (pick (names (ix1 ⟨i.val / 256, by omega⟩))) k l)) (fun l => d (ix4 0 (pick (names (ix1 ⟨i.val / 256, by omega⟩))) l j))
  else 0

end Cert.Expert

end
-- ==== Proof.ExpertsValue.lean ====
module

public import proofs.«01_k».proof.Proof.ExpertMath
public import proofs.«01_k».proof.Proof.ExpertsRun

@[expose] public section

set_option maxRecDepth 16384

noncomputable section

/-! The experts: what the kernel's run leaves in its result, over the extended reals. -/

namespace Cert.Kernel6Ideal.Gen

open Idealize.ShloMosaic Idealize.ShloMosaic.TcCoe Idealize.SL.Sem Cert.Expert

/-- The weights a block takes, without their unit axes. -/
theorem pay1_eq (w : Vec Ideal S1x1x1024x512 .f32) (k : Fin 1024) (l : Fin 512) : k0_pay1 (F := Ideal) w (ix2 k l) = w (ix4 0 0 k l) := by
  pointwise [k0_pay1]

/-- The copied up weights, at an index. -/
theorem pay2_eq (w : Vec Ideal S1x1x1024x512 .f32) (k : Fin 1024) (l : Fin 512) : k0_pay2 (F := Ideal) w (ix2 k l) = w (ix4 0 0 k l) := by
  pointwise [k0_pay2]

/-- The copied down weights, at an index. -/
theorem pay3_eq (w : Vec Ideal S1x1x512x1024 .f32) (l : Fin 512) (j : Fin 1024) : k0_pay3 (F := Ideal) w (ix2 l j) = w (ix4 0 0 l j) := by
  pointwise [k0_pay3]

/-- A block of rows through an expert, at an index. -/
theorem pay4_eq (x : Vec Ideal S256x1024 .f32) (g u : Vec Ideal S1024x512 .bf16) (d : Vec Ideal S512x1024 .bf16) (r : Fin 256) (j : Fin 1024) :
    k0_pay4 (F := Ideal) x g u d (ix2 r j) = net (fun k => x (ix2 r k)) (fun k l => g (ix2 k l)) (fun k l => u (ix2 k l)) (fun l => d (ix2 l j)) := by
  unfold net gated
  pointwise [k0_pay4]

/-- A block not in use, at an index. -/
theorem pay5_eq (r : Fin 256) (j : Fin 1024) : k0_pay5 (F := Ideal) (ix2 r j) = 0 := by
  pointwise [k0_pay5]

section run

variable (m : (ℓ : Loc nD τ sig) → Buf (Elt Ideal) ℓ) (ρ : Dev nD → PrngReg) (hO : Ok m) (c : Dev nD) (t : Fin (cfgM m hO).N)

/-- There are 176 points. -/
theorem point_lt (t : Fin (cfgM m hO).N) : t.val < 176 := Nat.lt_of_lt_of_eq t.isLt N_0

/-- The name of a block's expert is the table's word. -/
theorem name_eq : nameAt m hO c t = m (c.tc.loc main_arg0) (ix1 ⟨t.val, point_lt m hO t⟩) := by
  obtain rfl : c = 0 := Subsingleton.elim _ _
  unfold nameAt nameW
  have hv : (grid0.coords t 0).val = t.val := point_block t
  have hN := point_lt m hO t
  refine congrArg (m ((0 : Dev nD).tc.loc main_arg0)) (funext fun (x : Fin 1) => Fin.ext ?_)
  obtain rfl : x = 0 := Subsingleton.elim _ _
  show (BitVec.ofNat 32 (grid0.coords t 0).val).toNat + 1 * 0 = t.val
  rw [hv, BitVec.toNat_ofNat]
  show t.val % 4294967296 + 1 * 0 = t.val
  omega

/-- A block of rows, read from the array. -/
theorem rows_entry (r : Fin 256) (k : Fin 1024) : rowsAt m hO c t (ix2 r k)
    = m (c.tc.loc main_arg2) (ix2 ⟨t.val * 256 + r.val, by have := point_lt m hO t; omega⟩ k) := by
  have hN := point_lt m hO t
  have hv : (grid0.coords t 0).val = t.val := point_block t
  refine (View.read_apply (Val := Elt Ideal) (v := (((cfgM m hO).win 0).blk t).view) _ (ix2 r k)).trans ?_
  refine congrArg (m (c.tc.loc main_arg2)) (funext fun x => Fin.ext ?_)
  have h0 : (BitVec.ofNat 32 (grid0.coords t 0).val).toNat = t.val := by
    rw [hv, BitVec.toNat_ofNat]
    exact Nat.mod_eq_of_lt (by omega)
  match x with
  | ⟨0, _⟩ => show (BitVec.ofNat 32 (grid0.coords t 0).val).toNat * 256 + 1 * r.val = t.val * 256 + r.val; rw [h0]; omega
  | ⟨1, _⟩ => show 0 * 1024 + 1 * k.val = k.val; omega

/-- The gate weights of a block's expert, read from the array. -/
theorem gate_entry (h : (nameAt m hO c t).toNat < 32) (k : Fin 1024) (l : Fin 512) : gateAt m hO c t (ix4 0 0 k l)
    = m (c.tc.loc main_arg3) (ix4 0 (pick (nameAt m hO c t)) k l) := by
  refine (View.read_apply (Val := Elt Ideal) (v := (((cfgM m hO).win 1).blk t).view) _ (ix4 0 0 k l)).trans ?_
  refine congrArg (m (c.tc.loc main_arg3)) (funext fun x => Fin.ext ?_)
  match x with
  | ⟨0, _⟩ => show 0 * 1 + 1 * 0 = 0; rfl
  | ⟨1, _⟩ => show (nameAt m hO c t).toNat * 1 + 1 * 0 = (pick (nameAt m hO c t)).val; rw [pick_val _ h]; omega
  | ⟨2, _⟩ => show 0 * 1024 + 1 * k.val = k.val; omega
  | ⟨3, _⟩ => show 0 * 512 + 1 * l.val = l.val; omega

/-- The up weights of a block's expert, read from the array. -/
theorem up_entry (h : (nameAt m hO c t).toNat < 32) (k : Fin 1024) (l : Fin 512) : upAt m hO c t (ix4 0 0 k l)
    = m (c.tc.loc main_arg4) (ix4 0 (pick (nameAt m hO c t)) k l) := by
  refine (View.read_apply (Val := Elt Ideal) (v := (((cfgM m hO).win 2).blk t).view) _ (ix4 0 0 k l)).trans ?_
  refine congrArg (m (c.tc.loc main_arg4)) (funext fun x => Fin.ext ?_)
  match x with
  | ⟨0, _⟩ => show 0 * 1 + 1 * 0 = 0; rfl
  | ⟨1, _⟩ => show (nameAt m hO c t).toNat * 1 + 1 * 0 = (pick (nameAt m hO c t)).val; rw [pick_val _ h]; omega
  | ⟨2, _⟩ => show 0 * 1024 + 1 * k.val = k.val; omega
  | ⟨3, _⟩ => show 0 * 512 + 1 * l.val = l.val; omega

/-- The down weights of a block's expert, read from the array. -/
theorem down_entry (h : (nameAt m hO c t).toNat < 32) (l : Fin 512) (j : Fin 1024) : downAt m hO c t (ix4 0 0 l j)
    = m (c.tc.loc main_arg5) (ix4 0 (pick (nameAt m hO c t)) l j) := by
  refine (View.read_apply (Val := Elt Ideal) (v := (((cfgM m hO).win 3).blk t).view) _ (ix4 0 0 l j)).trans ?_
  refine congrArg (m (c.tc.loc main_arg5)) (funext fun x => Fin.ext ?_)
  match x with
  | ⟨0, _⟩ => show 0 * 1 + 1 * 0 = 0; rfl
  | ⟨1, _⟩ => show (nameAt m hO c t).toNat * 1 + 1 * 0 = (pick (nameAt m hO c t)).val; rw [pick_val _ h]; omega
  | ⟨2, _⟩ => show 0 * 512 + 1 * l.val = l.val; omega
  | ⟨3, _⟩ => show 0 * 1024 + 1 * j.val = j.val; omega

/-- The word of the number of blocks in use is the table's. -/
theorem count_eq : countW c (tbl m 1) = m (c.tc.loc main_arg1) (ix1 0) := by
  obtain rfl : c = 0 := Subsingleton.elim _ _
  unfold countW
  refine congrArg (m ((0 : Dev nD).tc.loc main_arg1)) (funext fun (x : Fin 1) => Fin.ext ?_)
  obtain rfl : x = 0 := Subsingleton.elim _ _
  rfl

/-- The result, of the arguments the kernel starts from. -/
abbrev resultOf : FVec Ideal S45056x1024 .f32 := fun y =>
  result (m (c.tc.loc main_arg0)) (m (c.tc.loc main_arg1)) (m (c.tc.loc main_arg2)) (m (c.tc.loc main_arg3)) (m (c.tc.loc main_arg4)) (m (c.tc.loc main_arg5)) (y 0) (y 1)

/-- What a point leaves in its block is its block of the result. -/
theorem point_value (hn : ∀ y : S176.Idx, ((m (c.tc.loc main_arg0) : IVec S176 32) y).toNat < 32) (r : Fin 256) (j : Fin 1024) :
    outAt m hO c t (ix2 r j) = resultOf m c (ix2 ⟨t.val * 256 + r.val, by have := point_lt m hO t; omega⟩ j) := by
  have hN := point_lt m hO t
  have hv : (grid0.coords t 0).val = t.val := point_block t
  have hw : (nameAt m hO c t).toNat < 32 := by rw [name_eq]; exact hn _
  have hd : (t.val * 256 + r.val) / 256 = t.val := by omega
  have hu : used m hO c t ↔ (((t.val * 256 + r.val) / 256 : ℕ) : ℤ) < ((m (c.tc.loc main_arg1) : IVec S1 32) (ix1 0)).toInt := by
    rw [hd, ← count_eq m c, ← hv]
    exact used_iff _ _
  have hname : (m (c.tc.loc main_arg0) : IVec S176 32) (ix1 ⟨(t.val * 256 + r.val) / 256, by omega⟩) = nameAt m hO c t := by
    rw [name_eq]
    exact congrArg (fun b => (m (c.tc.loc main_arg0) : IVec S176 32) (ix1 b)) (Fin.ext hd)
  by_cases h : used m hO c t
  · refine (congrFun (show outAt m hO c t = _ from if_pos h) (ix2 r j)).trans (Eq.trans ?_ (show resultOf m c (ix2 ⟨t.val * 256 + r.val, by omega⟩ j) = _ from if_pos (hu.mp h)).symm)
    refine (pay4_eq _ _ _ _ r j).trans ?_
    refine congr (congr (congr (congrArg net ?_) ?_) ?_) ?_
    · funext k; exact rows_entry m hO c t r k
    · funext k l
      exact ((pay1_eq _ k l).trans (gate_entry m hO c t hw k l)).trans
        (congrArg (fun w => (m (c.tc.loc main_arg3) : FVec Ideal S2x32x1024x512 .f32) (ix4 0 (pick w) k l)) hname.symm)
    · funext k l
      exact ((pay2_eq _ k l).trans (up_entry m hO c t hw k l)).trans
        (congrArg (fun w => (m (c.tc.loc main_arg4) : FVec Ideal S2x32x1024x512 .f32) (ix4 0 (pick w) k l)) hname.symm)
    · funext l
      exact ((pay3_eq _ l j).trans (down_entry m hO c t hw l j)).trans
        (congrArg (fun w => (m (c.tc.loc main_arg5) : FVec Ideal S2x32x512x1024 .f32) (ix4 0 (pick w) l j)) hname.symm)
  · refine (congrFun (show outAt m hO c t = _ from if_neg h) (ix2 r j)).trans (Eq.trans ?_ (show resultOf m c (ix2 ⟨t.val * 256 + r.val, by omega⟩ j) = _ from if_neg (fun h' => h (hu.mpr h'))).symm)
    exact pay5_eq r j

/-- Every point writes its block of the result back. -/
theorem always_flush : ((cfgM m hO).win 4).flush t = true :=
  (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _)

/-- What a point writes back is its block of the result. -/
theorem written (hn : ∀ y : S176.Idx, ((m (c.tc.loc main_arg0) : IVec S176 32) y).toNat < 32) :
    (dats m hO 0 c).flushed 4 t = (((cfgM m hO).win 4).blk t).view.read (Elt Ideal) (resultOf m c) := by
  have hN := point_lt m hO t
  have hv : (grid0.coords t 0).val = t.val := point_block t
  have h0 : (BitVec.ofNat 32 (grid0.coords t 0).val).toNat = t.val := by
    rw [hv, BitVec.toNat_ofNat]
    exact Nat.mod_eq_of_lt (by omega)
  refine (show (dats m hO 0 c).flushed 4 t = outAt m hO c t from rfl).trans ?_
  funext y
  have hr : (y 0).val < 256 := (y 0).isLt
  have hj : (y 1).val < 1024 := (y 1).isLt
  have hy : (y : S256x1024.Idx) = ix2 (⟨(y 0).val, hr⟩ : Fin 256) (⟨(y 1).val, hj⟩ : Fin 1024) := by
    funext x
    match x with
    | ⟨0, _⟩ => rfl
    | ⟨1, _⟩ => rfl
  refine (congrArg (outAt m hO c t : S256x1024.Idx → EReal) hy).trans ?_
  refine (point_value m hO c t hn ⟨(y 0).val, hr⟩ ⟨(y 1).val, hj⟩).trans ?_
  refine Eq.trans ?_ (View.read_apply (Val := Elt Ideal) (v := (((cfgM m hO).win 4).blk t).view) (resultOf m c) y).symm
  refine congrArg (resultOf m c) (funext fun x => Fin.ext ?_)
  match x with
  | ⟨0, _⟩ => show t.val * 256 + (y 0).val = (BitVec.ofNat 32 (grid0.coords t 0).val).toNat * 256 + 1 * (y 0).val; rw [h0]; omega
  | ⟨1, _⟩ => show (y 1).val = 0 * 1024 + 1 * (y 1).val; omega

/-- Every entry of the result is in some point's block. -/
theorem covered (i : S45056x1024.Idx) : ∃ t : Fin (cfgM m hO).N, ((cfgM m hO).win 4).flush t = true ∧ i ∈ (((cfgM m hO).win 4).blk t).view.set := by
  have h0 : (i 0).val < 45056 := (i 0).isLt
  have h1 : (i 1).val < 1024 := (i 1).isLt
  have hN : (cfgM m hO).N = 176 := N_0
  have ht : (i 0).val / 256 < (cfgM m hO).N := by omega
  refine ⟨⟨(i 0).val / 256, ht⟩, always_flush m hO _, ?_⟩
  have hv : (grid0.coords ⟨(i 0).val / 256, ht⟩ 0).val = (i 0).val / 256 := point_block _
  have hb : (BitVec.ofNat 32 (grid0.coords ⟨(i 0).val / 256, ht⟩ 0).val).toNat = (i 0).val / 256 := by
    rw [hv, BitVec.toNat_ofNat]
    exact Nat.mod_eq_of_lt (by omega)
  refine (congrArg (fun S => i ∈ S) (View.set_slice_whole main_v0 (((cfgM m hO).win 4).rect ⟨(i 0).val / 256, ht⟩))).mpr ?_
  refine Rect.mem_set_unit.mpr ?_
  intro a
  match a with
  | ⟨0, _⟩ =>
    show (BitVec.ofNat 32 (grid0.coords ⟨(i 0).val / 256, ht⟩ 0).val).toNat * 256 ≤ (i 0).val ∧ (i 0).val < (BitVec.ofNat 32 (grid0.coords ⟨(i 0).val / 256, ht⟩ 0).val).toNat * 256 + 256
    rw [hb]
    omega
  | ⟨1, _⟩ =>
    show 0 * 1024 ≤ (i 1).val ∧ (i 1).val < 0 * 1024 + 1024
    omega

/-- So the result's array ends holding the result. -/
theorem final_value (hn : ∀ y : S176.Idx, ((m (c.tc.loc main_arg0) : IVec S176 32) y).toNat < 32) : (dats m hO 0 c).arrAt 4 (cfgM m hO).N = resultOf m c :=
  (dats m hO 0 c).arrAt_eq_of_cover 4 (resultOf m c) (fun t _ => written m hO c t hn) (covered m hO)

include hO in
/-- The kernel's run: its result is the experts', the arguments are unchanged. -/
theorem run_experts (hn : ∀ (c : Dev nD) (y : S176.Idx), ((m (c.tc.loc main_arg0) : IVec S176 32) y).toNat < 32) :
    θ_run defs (onTc (τ := τ) (main (F := Ideal))) ⟨m, fun _ => 0, ρ⟩ fun r => ∀ c : Dev nD,
      r.2.mem ((c : Thread nD τ).loc main_v0) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).1 4).trans (final_value m hO c (hn c)),
    (h.1 c).2 main_arg0 (by decide : main_arg0 ∈ Pipeline.restRefs sig spec0), (h.1 c).2 main_arg1 (by decide : main_arg1 ∈ Pipeline.restRefs sig spec0),
    ((h.1 c).1 0).trans (((dats m hO 0 c).arrAt_in 0 rfl _).trans (A_eq m hO c 0)), ((h.1 c).1 1).trans (((dats m hO 0 c).arrAt_in 1 rfl _).trans (A_eq m hO c 1)),
    ((h.1 c).1 2).trans (((dats m hO 0 c).arrAt_in 2 rfl _).trans (A_eq m hO c 2)), ((h.1 c).1 3).trans (((dats m hO 0 c).arrAt_in 3 rfl _).trans (A_eq m hO c 3))⟩)
    (run_all m ρ hO)

end run

end Cert.Kernel6Ideal.Gen

end
-- ==== Proof.RefExperts.lean ====
module

public import proofs.«01_k».proof.Proof.ExpertMath
public import proofs.«01_k».proof.Proof.Gen.Reference6Ideal.Run

@[expose] public section

set_option maxRecDepth 16384

noncomputable section

/-! The experts, as the reference's host code computes them. -/

namespace Cert.Reference6Ideal.Value

open Idealize.ShloMosaic Idealize.ShloMosaic.TcCoe Idealize.SL.Sem Cert.Expert

section gathered

variable {α : Type}

/-- A gather of whole matrices, one for each index: entry `(t, a, b)` is entry `(a, b)` of the matrix the `t`-th index names, clamped. -/
theorem gather_gate (x : S32x1024x512.Idx → α) (idx : IVec S176x1 32) (t : Fin 176) (a : Fin 1024) (b : Fin 512) :
    Host.gather gather_S32x1024x512_S176x1_S176x1024x512_12_0_n_n_0_1_11024512 x idx (ix3 t a b)
      = x (ix3 ⟨min (idx (ix2 t 0)).toInt.toNat 31, by omega⟩ a b) := by
  have hs : GatherDims.siIdx gather_S32x1024x512_S176x1_S176x1024x512_12_0_n_n_0_1_11024512 (ix3 t a b) ⟨0, by decide⟩ = ix2 t 0 := by
    funext q
    refine Fin.ext ?_
    match q with
    | ⟨0, _⟩ => rfl
    | ⟨1, _⟩ => rfl
  unfold Host.gather
  congr 1
  funext q
  refine Fin.ext ?_
  match q with
  | ⟨0, _⟩ => exact congrArg (fun y => min (idx y).toInt.toNat 31) hs
  | ⟨1, _⟩ => exact Nat.zero_add _
  | ⟨2, _⟩ => exact Nat.zero_add _

/-- The same of matrices of the other shape: a gather of whole matrices, one for each index: entry `(t, a, b)` is entry `(a, b)` of the matrix the `t`-th index names, clamped. -/
theorem gather_down (x : S32x512x1024.Idx → α) (idx : IVec S176x1 32) (t : Fin 176) (a : Fin 512) (b : Fin 1024) :
    Host.gather gather_S32x512x1024_S176x1_S176x512x1024_12_0_n_n_0_1_15121024 x idx (ix3 t a b)
      = x (ix3 ⟨min (idx (ix2 t 0)).toInt.toNat 31, by omega⟩ a b) := by
  have hs : GatherDims.siIdx gather_S32x512x1024_S176x1_S176x512x1024_12_0_n_n_0_1_15121024 (ix3 t a b) ⟨0, by decide⟩ = ix2 t 0 := by
    funext q
    refine Fin.ext ?_
    match q with
    | ⟨0, _⟩ => rfl
    | ⟨1, _⟩ => rfl
  unfold Host.gather
  congr 1
  funext q
  refine Fin.ext ?_
  match q with
  | ⟨0, _⟩ => exact congrArg (fun y => min (idx y).toInt.toNat 31) hs
  | ⟨1, _⟩ => exact Nat.zero_add _
  | ⟨2, _⟩ => exact Nat.zero_add _

end gathered

section terms

variable (a0 : IVec S176 32) (a1 : IVec S1 32) (a2 : FVec Ideal S45056x1024 .f32) (a3 a4 : FVec Ideal S2x32x1024x512 .f32) (a5 : FVec Ideal S2x32x512x1024 .f32)

/-- The names, a negative one counted from the end. -/
def names : IVec S176x1 32 := broadcastInDim S176x1 ![0] Gen.bcast_S176_S176x1_0 (select (cmpi .slt a0 (broadcastInDim S176 ![] Gen.bcast_S_S176 (constantI S_ 32 0#32))) (addi a0 (broadcastInDim S176 ![] Gen.bcast_S_S176 (constantI S_ 32 32#32))) a0)

/-- A name of an expert there is is taken as it is. -/
theorem names_eq (h : ∀ y, (a0 y).toNat < 32) (t : Fin 176) : names a0 (ix2 t 0) = a0 (ix1 t) := by
  pointwise [names]
  show Scalar.select (IntOp.cmpi .slt (a0 (ix1 t)) 0#32) _ (a0 (ix1 t)) = a0 (ix1 t)
  have hz : IntOp.cmpi .slt (a0 (ix1 t)) 0#32 = 0#1 := by
    rw [WordCmp.cmpi_slt_zero, WordCmp.ofBool_decide_eq_zero_iff]
    have := h (ix1 t)
    omega
  rw [hz]
  rfl

/-- It is the number of the expert the word names. -/
theorem names_pick (h : ∀ y, (a0 y).toNat < 32) (t : Fin 176) : (⟨min (names a0 (ix2 t 0)).toInt.toNat 31, by omega⟩ : Fin 32) = pick (a0 (ix1 t)) := by
  refine Fin.ext ?_
  have hs := h (ix1 t)
  show min (names a0 (ix2 t 0)).toInt.toNat 31 = min (a0 (ix1 t)).toNat 31
  rw [names_eq a0 h t, WordCmp.toInt_eq_toNat_of_lt_half (by omega)]
  rfl

/-- The first layer's weights of the blocks' experts. -/
def gates (a : FVec Ideal S2x32x1024x512 .f32) : FVec Ideal S176x1024x512 .f32 :=
  Host.gather gather_S32x1024x512_S176x1_S176x1024x512_12_0_n_n_0_1_11024512 (shapeCast _ (extractStridedSlice S1x32x1024x512 ![0, 0, 0, 0] a Gen.slices_S2x32x1024x512_S1x32x1024x512_0_0_0_0) Gen.shapeCasts_S1x32x1024x512_S32x1024x512) (names a0)
/-- The down weights of every block's expert. -/
def downs : FVec Ideal S176x512x1024 .f32 :=
  Host.gather gather_S32x512x1024_S176x1_S176x512x1024_12_0_n_n_0_1_15121024 (shapeCast _ (extractStridedSlice S1x32x512x1024 ![0, 0, 0, 0] a5 Gen.slices_S2x32x512x1024_S1x32x512x1024_0_0_0_0) Gen.shapeCasts_S1x32x512x1024_S32x512x1024) (names a0)

/-- The gathered weights are those of the named expert, at an index. -/
theorem gates_eq (h : ∀ y, (a0 y).toNat < 32) (a : FVec Ideal S2x32x1024x512 .f32) (t : Fin 176) (k : Fin 1024) (l : Fin 512) :
    gates a0 a (ix3 t k l) = a (ix4 0 (pick (a0 (ix1 t))) k l) := by
  unfold gates
  rw [gather_gate, names_pick a0 h t]
  pointwise

/-- So are the gathered down weights. -/
theorem downs_eq (h : ∀ y, (a0 y).toNat < 32) (t : Fin 176) (l : Fin 512) (j : Fin 1024) :
    downs a0 a5 (ix3 t l j) = a5 (ix4 0 (pick (a0 (ix1 t))) l j) := by
  unfold downs
  rw [gather_down, names_pick a0 h t]
  pointwise

/-- The rows in blocks. -/
def blocks : FVec Ideal S176x256x1024 .f32 := shapeCast _ a2 Gen.shapeCasts_S45056x1024_S176x256x1024

/-- A row of a block is a row. -/
theorem blocks_row (i : Fin 45056) (k : Fin 1024) : blocks a2 (ix3 ⟨i.val / 256, by omega⟩ ⟨i.val % 256, by omega⟩ k) = a2 (ix2 i k) := by
  pointwise [blocks]

/-- Blocks of rows against a matrix each. -/
def against (x : FVec Ideal S176x256x1024 .f32) (w : FVec Ideal S176x1024x512 .f32) : FVec Ideal S176x256x512 .f32 :=
  Host.dotGeneral dot_S176x256x1024_S176x1024x512_S176x256x512_2_1_1_2_0_0 none x w

/-- Blocks of rows through gates, ups and downs. -/
def through (x : FVec Ideal S176x256x1024 .f32) (g u : FVec Ideal S176x1024x512 .f32) (d : FVec Ideal S176x512x1024 .f32) : FVec Ideal S176x256x1024 .f32 :=
  Host.dotGeneral dot_S176x256x512_S176x512x1024_S176x256x1024_2_1_1_2_0_0 none
    (mulf (mulf (against x g) (Host.divf (broadcastInDim S176x256x512 ![] Gen.bcast_S_S176x256x512 (constant S_ .f32 0x3F800000#32)) (addf (broadcastInDim S176x256x512 ![] Gen.bcast_S_S176x256x512 (constant S_ .f32 0x3F800000#32)) (Host.exp (Host.negf (against x g)))))) (against x u)) d

/-- Every block through its expert, at an index. -/
theorem through_eq (x : FVec Ideal S176x256x1024 .f32) (g u : FVec Ideal S176x1024x512 .f32) (d : FVec Ideal S176x512x1024 .f32) (t : Fin 176) (r : Fin 256) (j : Fin 1024) :
    through x g u d (ix3 t r j) = net (fun k => x (ix3 t r k)) (fun k l => g (ix3 t k l)) (fun k l => u (ix3 t k l)) (fun l => d (ix3 t l j)) := by
  unfold net gated Ideal.logistic
  pointwise [through, against]

/-- Zeros in the blocks that are not in use. -/
def kept (y : FVec Ideal S176x256x1024 .f32) : FVec Ideal S45056x1024 .f32 :=
  shapeCast _ (select (broadcastInDim S176x256x1024 ![0, 1, 2] Gen.bcast_S176x1x1_S176x256x1024_0_1_2 (broadcastInDim S176x1x1 ![0] Gen.bcast_S176_S176x1x1_0 (cmpi .slt (iotaInDim S176 32 0) (broadcastInDim S176 ![] Gen.bcast_S_S176 (shapeCast _ a1 Gen.shapeCasts_S1_S_))))) y (broadcastInDim S176x256x1024 ![] Gen.bcast_S_S176x256x1024 (id (constant S_ .f32 0x00000000#32)))) Gen.shapeCasts_S176x256x1024_S45056x1024

/-- The rows of the used blocks are kept, the others are zero, at an index. -/
theorem kept_eq (y : FVec Ideal S176x256x1024 .f32) (i : Fin 45056) (j : Fin 1024) :
    kept a1 y (ix2 i j) = if ((i.val / 256 : ℕ) : ℤ) < (a1 (ix1 0)).toInt then y (ix3 ⟨i.val / 256, by omega⟩ ⟨i.val % 256, by omega⟩ j) else 0 := by
  pointwise [kept]
  have hi : ((BitVec.ofNat 32 (i.val / 256)).toInt) = ((i.val / 256 : ℕ) : ℤ) := WordCmp.toInt_ofNat_of_lt (by have := i.isLt; omega)
  rw [WordCmp.cmpi_slt_eq, hi]
  by_cases hb : ((i.val / 256 : ℕ) : ℤ) < (a1 (ix1 0)).toInt
  · rw [decide_eq_true hb, if_pos hb]
    rfl
  · rw [decide_eq_false hb, if_neg hb]
    exact (Ideal.ofBits_zero_f32 : Ideal.ofBits .f32 0#32 = 0)

/-- An entry of the result. -/
theorem experts_entry (h : ∀ y, (a0 y).toNat < 32) (i : Fin 45056) (j : Fin 1024) :
    kept a1 (through (blocks a2) (gates a0 a3) (gates a0 a4) (downs a0 a5)) (ix2 i j) = result a0 a1 a2 a3 a4 a5 i j := by
  refine (kept_eq a1 _ i j).trans ?_
  unfold result
  by_cases hb : ((i.val / 256 : ℕ) : ℤ) < (a1 (ix1 0)).toInt
  · rw [if_pos hb, if_pos hb, through_eq]
    refine congr (congr (congr (congrArg net ?_) ?_) ?_) ?_
    · funext k
      exact blocks_row a2 i k
    · funext k l
      exact gates_eq a0 h a3 _ k l
    · funext k l
      exact gates_eq a0 h a4 _ k l
    · funext l
      exact downs_eq a0 a5 h _ l j
  · rw [if_neg hb, if_neg hb]

/-- The result's value. -/
theorem experts_value (h : ∀ y, (a0 y).toNat < 32) :
    kept a1 (through (blocks a2) (gates a0 a3) (gates a0 a4) (downs a0 a5)) = fun y => result a0 a1 a2 a3 a4 a5 (y 0) (y 1) := by
  funext y
  exact (congrArg _ (eq_ix2 y)).trans (experts_entry a0 a1 a2 a3 a4 a5 h (y 0) (y 1))

end terms

variable (m : (ℓ : Loc nD τ sig) → Buf (Elt Ideal) ℓ) (ρ : Dev nD → PrngReg)

/-- The reference's run, whatever its arguments: its result is what its operations make of them, the arguments are unchanged. -/
theorem run_host : θ_run defs (onTc (τ := τ) (main (F := Ideal))) ⟨m, fun _ => 0, ρ⟩ fun r => ∀ c : Dev nD,
      r.2.mem ((c : Thread nD τ).loc main_v39) = kept (m (c.tc.loc main_arg1)) (through (blocks (m (c.tc.loc main_arg2)))
        (gates (m (c.tc.loc main_arg0)) (m (c.tc.loc main_arg3))) (gates (m (c.tc.loc main_arg0)) (m (c.tc.loc main_arg4))) (downs (m (c.tc.loc main_arg0)) (m (c.tc.loc main_arg5))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun _ h c => ⟨(h c).1.trans ?_, (h c).2⟩) (run m ρ)
  rfl

end Cert.Reference6Ideal.Value

end
-- ==== Proof.OutProj.lean ====
module

public import proofs.«01_k».proof.Proof.InProj

@[expose] public section

set_option maxRecDepth 16384

noncomputable section

/-! The out-projection: two halves of a mixer's row against the two halves of a weight matrix, gated and added to the
stream's row; the sum normalised and modulated; and how a buffer of rows is read and written by blocks of rows. -/

namespace Cert.OutProj

open Idealize.ShloMosaic Cert.InProj

/-- Half a row of model width. -/
abbrev Half := Fin 512 → EReal

/-- The stream's row `x`, plus `g` times the two halves of a mixer's row against the weights. -/
def added (ya yb : Half) (W : Fin 1024 → Row) (x g : Row) : Row := fun k =>
  x k + g k * (∑ l, ya l * W ⟨l.val, by omega⟩ k + ∑ l, yb l * W ⟨512 + l.val, by omega⟩ k)

/-- The latent row `i` of the stream after the out-projection. -/
def streamRow (a0 a1 : (⟨2, ![16384, 512]⟩ : Shape).Idx → EReal) (a2 : (⟨2, ![16384, 1024]⟩ : Shape).Idx → EReal)
    (a3 : (⟨2, ![1024, 1024]⟩ : Shape).Idx → EReal) (a4 : (⟨3, ![16, 6, 1024]⟩ : Shape).Idx → EReal) (i : Fin 16384) : Row :=
  added (fun l => a0 (ix2 i l)) (fun l => a1 (ix2 i l)) (fun l k => a3 (ix2 l k)) (fun k => a2 (ix2 i k))
    (fun k => a4 (ix3 ⟨i.val / 2048, by omega⟩ 2 k))

/-- The first result: the stream's rows. -/
def stream (a0 a1 : (⟨2, ![16384, 512]⟩ : Shape).Idx → EReal) (a2 : (⟨2, ![16384, 1024]⟩ : Shape).Idx → EReal)
    (a3 : (⟨2, ![1024, 1024]⟩ : Shape).Idx → EReal) (a4 : (⟨3, ![16, 6, 1024]⟩ : Shape).Idx → EReal) :
    (⟨2, ![16384, 1024]⟩ : Shape).Idx → EReal := fun y => streamRow a0 a1 a2 a3 a4 (y 0) (y 1)

/-- The second result: the stream's rows, normalised and modulated by their sequences. -/
def modRows (a0 a1 : (⟨2, ![16384, 512]⟩ : Shape).Idx → EReal) (a2 : (⟨2, ![16384, 1024]⟩ : Shape).Idx → EReal)
    (a3 : (⟨2, ![1024, 1024]⟩ : Shape).Idx → EReal) (a4 : (⟨3, ![16, 6, 1024]⟩ : Shape).Idx → EReal)
    (a5 : (⟨1, ![1024]⟩ : Shape).Idx → EReal) : (⟨2, ![16384, 1024]⟩ : Shape).Idx → EReal := fun y =>
  normed (streamRow a0 a1 a2 a3 a4 (y 0)) (fun k => a5 (ix1 k))
    (fun k => a4 (ix3 ⟨(y 0).val / 2048, by have : (y 0).val < 16384 := (y 0).isLt; omega⟩ 4 k))
    (fun k => a4 (ix3 ⟨(y 0).val / 2048, by have : (y 0).val < 16384 := (y 0).isLt; omega⟩ 3 k)) (y 1)

/-- A sum over a row is the sum of the sums over its two halves. -/
theorem sum_halves (f : Row) : ∑ l, f l = ∑ l : Fin 512, f ⟨l.val, by omega⟩ + ∑ l : Fin 512, f ⟨512 + l.val, by omega⟩ :=
  Fin.sum_univ_add (a := 512) (b := 512) f

variable {sg : RefSig} {κ : Kind} {sp : Space} {R C h : ℕ} {e : EltTy}

/-- A buffer of rows after a store of `h` rows from row `o` on: those rows hold what was stored. -/
theorem rows_writes (v : View sg κ sp (⟨2, ![R, C]⟩ : Shape) e) (f : v.ty.Contents (Elt Ideal)) (o : ℕ)
    (off : Fin 2 → ℕ) (inb : ∀ x, off x + (⟨2, ![h, C]⟩ : Shape).size x ≤ (⟨2, ![R, C]⟩ : Shape).size x) (ho : off = ![o, 0])
    (X : (⟨2, ![h, C]⟩ : Shape).Idx → Elt Ideal e) (L : List (View.Piece (Elt Ideal) (⟨2, ![R, C]⟩ : Shape) e)) (r : Fin R) (j : Fin C) :
    v.read (Elt Ideal) (v.writes (Elt Ideal) f (⟨Rect.unit (s := (⟨2, ![R, C]⟩ : Shape)) off (⟨2, ![h, C]⟩ : Shape).size inb, X⟩ :: L)) (ix2 r j)
      = if h : o ≤ r.val ∧ r.val < o + h then X (ix2 ⟨r.val - o, by omega⟩ j)
        else v.read (Elt Ideal) (v.writes (Elt Ideal) f L) (ix2 r j) := by
  by_cases h1 : o ≤ r.val ∧ r.val < o + h
  · rw [dif_pos h1]
    exact View.read_writes_cons_unit_of_mem v f inb X L _ (ix2 ⟨r.val - o, by omega⟩ j) ho
      (by intro x; match x with
          | 0 => show r.val = o + (r.val - o); omega
          | 1 => exact (Nat.zero_add _).symm)
  · rw [dif_neg h1]
    exact View.read_writes_cons_unit_of_not_mem v f inb X L _ ho 0 (by show r.val < o ∨ o + h ≤ r.val; omega)

/-- A load of `h` rows from row `o` on reads them. -/
theorem rows_ld (X : (⟨2, ![R, C]⟩ : Shape).Idx → Elt Ideal e) (o : ℕ)
    (off : Fin 2 → ℕ) (inb : ∀ x, off x + (⟨2, ![h, C]⟩ : Shape).size x ≤ (⟨2, ![R, C]⟩ : Shape).size x) (ho : off = ![o, 0])
    (r : Fin h) (j : Fin C) (r' : Fin R) (hr : r'.val = o + r.val) :
    View.ld X (Rect.unit (s := (⟨2, ![R, C]⟩ : Shape)) off (⟨2, ![h, C]⟩ : Shape).size inb) (ix2 r j) = X (ix2 r' j) := by
  subst ho
  show X _ = X _
  congr 1
  funext x
  apply Fin.ext
  match x with
  | 0 => show o + 1 * r.val = r'.val; omega
  | 1 => show 0 + 1 * j.val = j.val; omega

end Cert.OutProj

end
-- ==== Proof.OutProjValue.lean ====
module

public import proofs.«01_k».proof.Proof.OutProj
public import proofs.«01_k».proof.Proof.Gen.Kernel9Ideal.Frame
public import Idealize.ShloMosaic.Lib.Pipeline.Value
public import Idealize.ShloMosaic.Lib.Claim

@[expose] public section

set_option maxRecDepth 16384

noncomputable section

/-! The out-projection of the odd layer's latent rows: what the kernel's run leaves in its first two results. -/

namespace Cert.Kernel9Ideal.Gen

open Idealize.ShloMosaic Idealize.ShloMosaic.TcCoe Idealize.SL.Sem Cert.InProj Cert.OutProj

/-- Half a block of the stream's rows, at an index. -/
theorem pay3_eq (a1 : Vec Ideal S256x512 .bf16) (w1 : Vec Ideal S512x1024 .bf16) (a2 : Vec Ideal S256x512 .bf16) (w2 : Vec Ideal S512x1024 .bf16)
    (x : Vec Ideal S256x1024 .f32) (g : Vec Ideal S1x1x1024 .f32) (r : Fin 256) (k : Fin 1024) :
    k0_pay3 (F := Ideal) a1 w1 a2 w2 x g (ix2 r k)
      = x (ix2 r k) + g (ix3 0 0 k) * (∑ l : Fin 512, a1 (ix2 r l) * w1 (ix2 l k) + ∑ l : Fin 512, a2 (ix2 r l) * w2 (ix2 l k)) := by
  pointwise [k0_pay3]

/-- Half a block of rows normalised and modulated, at an index. -/
theorem pay4_eq (x : FVec Ideal S256x1024 .f32) (w : Vec Ideal S1x1024 .f32) (s h : Vec Ideal S1x1x1024 .f32) (r : Fin 256) (k : Fin 1024) :
    k0_pay4 (F := Ideal) x w s h (ix2 r k)
      = normed (fun k => x (ix2 r k)) (fun k => w (ix2 0 k)) (fun k => s (ix3 0 0 k)) (fun k => h (ix3 0 0 k)) k := by
  unfold normed
  pointwise [k0_pay4]

section point

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x256 .bf16) (harg7 : arg7.IsWhole) (arg8 : Memref sig .tc .vmem S1x128 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x128 .i32) (harg11 : arg11.IsWhole) (arg12 : Memref sig .tc .vmem S512x128 .f32) (harg12 : arg12.IsWhole) (arg13 : Memref sig .tc .vmem S1x128 .f32) (harg13 : arg13.IsWhole) (arg14 : Memref sig .tc .vmem S1x128 .f32) (harg14 : arg14.IsWhole)
variable (x0 : Vec Ideal S512x512 .bf16) (x1 : Vec Ideal S512x512 .bf16) (x2 : Vec Ideal S512x1024 .f32) (x3 : Vec Ideal S1024x1024 .bf16) (x4 : Vec Ideal S1x6x1024 .f32) (x5 : Vec Ideal S1x1024 .f32) (x6 : Vec Ideal S1024x256 .bf16) (x7 : Vec Ideal S1x128 .f32) (xs0 : Vec Ideal S1x128 .f32)

/-- A row of the point's block of the stream. -/
def brow (r : Fin 512) : Row :=
  added (fun l => x0 (ix2 r l)) (fun l => x1 (ix2 r l)) (fun l k => x3 (ix2 l k)) (fun k => x2 (ix2 r k)) (fun k => x4 (ix3 0 2 k))

/-- That row, normalised and modulated. -/
def mrow (r : Fin 512) : Row :=
  normed (brow x0 x1 x2 x3 x4 r) (fun k => x5 (ix2 0 k)) (fun k => x4 (ix3 0 4 k)) (fun k => x4 (ix3 0 3 k))

/-- The half of the block that starts at row `o` is the block's rows from there on. -/
theorem half_eq (o : ℕ) (inb : ∀ x, (![o, 0] : Fin 2 → ℕ) x + S256x512.size x ≤ S512x512.size x)
    (inb' : ∀ x, (![o, 0] : Fin 2 → ℕ) x + S256x1024.size x ≤ S512x1024.size x) (r : Fin 512) (r' : Fin 256) (hr : r.val = o + r'.val) (k : Fin 1024) :
    (k0_pay3 (F := Ideal) (arg1.view.readAt (Elt Ideal) (Rect.unit (s := S512x512) ![o, 0] S256x512.size inb).toLoadRect (harg1.unread x0))
        (arg4.view.readAt (Elt Ideal) (Rect.unit (s := S1024x1024) ![0, 0] S512x1024.size inb_S1024x1024_S512x1024_0_0).toLoadRect (harg4.unread x3))
        (arg2.view.readAt (Elt Ideal) (Rect.unit (s := S512x512) ![o, 0] S256x512.size inb).toLoadRect (harg2.unread x1))
        (arg4.view.readAt (Elt Ideal) (Rect.unit (s := S1024x1024) ![512, 0] S512x1024.size inb_S1024x1024_S512x1024_512_0).toLoadRect (harg4.unread x3))
        (arg3.view.readAt (Elt Ideal) (Rect.unit (s := S512x1024) ![o, 0] S256x1024.size inb').toLoadRect (harg3.unread x2))
        (arg5.view.readAt (Elt Ideal) (Rect.unit (s := S1x6x1024) ![0, 2, 0] S1x1x1024.size inb_S1x6x1024_S1x1x1024_0_2_0).toLoadRect (harg5.unread x4))) (ix2 r' k) = brow x0 x1 x2 x3 x4 r k := by
  rw [pay3_eq]
  unfold brow added
  simp only [View.readAt_eq_ld, harg1.read_unread, harg2.read_unread, harg3.read_unread, harg4.read_unread, harg5.read_unread]
  congr 1
  · exact rows_ld (e := .f32) x2 o ![o, 0] inb' rfl r' k r hr
  congr 1
  · exact row_ld (e := .f32) x4 2 ![0, 2, 0] inb_S1x6x1024_S1x1x1024_0_2_0 rfl k
  congr 1
  · refine Finset.sum_congr rfl fun l _ => ?_
    congr 1
    · exact rows_ld (e := .bf16) x0 o ![o, 0] inb rfl r' l r hr
    · exact rows_ld (e := .bf16) x3 0 ![0, 0] inb_S1024x1024_S512x1024_0_0 rfl l k _ (Nat.zero_add _).symm
  · refine Finset.sum_congr rfl fun l _ => ?_
    congr 1
    · exact rows_ld (e := .bf16) x1 o ![o, 0] inb rfl r' l r hr
    · exact rows_ld (e := .bf16) x3 512 ![512, 0] inb_S1024x1024_S512x1024_512_0 rfl l k _ rfl

/-- Normalised and modulated, it is those rows so treated. -/
theorem half_mod (o : ℕ) (inb : ∀ x, (![o, 0] : Fin 2 → ℕ) x + S256x512.size x ≤ S512x512.size x)
    (inb' : ∀ x, (![o, 0] : Fin 2 → ℕ) x + S256x1024.size x ≤ S512x1024.size x) (r : Fin 512) (r' : Fin 256) (hr : r.val = o + r'.val) (k : Fin 1024) :
    (k0_pay4 (F := Ideal) (k0_pay3 (F := Ideal) (arg1.view.readAt (Elt Ideal) (Rect.unit (s := S512x512) ![o, 0] S256x512.size inb).toLoadRect (harg1.unread x0))
        (arg4.view.readAt (Elt Ideal) (Rect.unit (s := S1024x1024) ![0, 0] S512x1024.size inb_S1024x1024_S512x1024_0_0).toLoadRect (harg4.unread x3))
        (arg2.view.readAt (Elt Ideal) (Rect.unit (s := S512x512) ![o, 0] S256x512.size inb).toLoadRect (harg2.unread x1))
        (arg4.view.readAt (Elt Ideal) (Rect.unit (s := S1024x1024) ![512, 0] S512x1024.size inb_S1024x1024_S512x1024_512_0).toLoadRect (harg4.unread x3))
        (arg3.view.readAt (Elt Ideal) (Rect.unit (s := S512x1024) ![o, 0] S256x1024.size inb').toLoadRect (harg3.unread x2))
        (arg5.view.readAt (Elt Ideal) (Rect.unit (s := S1x6x1024) ![0, 2, 0] S1x1x1024.size inb_S1x6x1024_S1x1x1024_0_2_0).toLoadRect (harg5.unread x4)))
        (arg6.view.readAt (Elt Ideal) (Rect.unit (s := S1x1024) ![0, 0] S1x1024.size inb_S1x1024_S1x1024_0_0).toLoadRect (harg6.unread x5))
        (arg5.view.readAt (Elt Ideal) (Rect.unit (s := S1x6x1024) ![0, 4, 0] S1x1x1024.size inb_S1x6x1024_S1x1x1024_0_4_0).toLoadRect (harg5.unread x4))
        (arg5.view.readAt (Elt Ideal) (Rect.unit (s := S1x6x1024) ![0, 3, 0] S1x1x1024.size inb_S1x6x1024_S1x1x1024_0_3_0).toLoadRect (harg5.unread x4))) (ix2 r' k) = mrow x0 x1 x2 x3 x4 x5 r k := by
  have hz : (![0, 0] : Fin 2 → ℕ) = fun _ => 0 := by decide
  rw [pay4_eq]
  unfold mrow
  congr 1
  · funext k
    exact half_eq arg1 harg1 arg2 harg2 arg3 harg3 arg4 harg4 arg5 harg5 x0 x1 x2 x3 x4 o inb inb' r r' hr k
  · funext k
    rw [View.readAt_eq_ld, harg6.read_unread]
    exact congrFun (View.ld_unit_zero hz _ _) _
  · funext k
    rw [View.readAt_eq_ld, harg5.read_unread]
    exact row_ld (e := .f32) x4 4 ![0, 4, 0] inb_S1x6x1024_S1x1x1024_0_4_0 rfl k
  · funext k
    rw [View.readAt_eq_ld, harg5.read_unread]
    exact row_ld (e := .f32) x4 3 ![0, 3, 0] inb_S1x6x1024_S1x1x1024_0_3_0 rfl k

/-- What a point leaves in its block of the first result, at the first point. -/
theorem out8A_apply (hc0 : cond0_0 i) (r : Fin 512) (j : Fin 1024) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r j) = brow x0 x1 x2 x3 x4 r j := by
  unfold out0_A_8 kernelRun0_A
  dsimp only
  have hr := r.isLt
  refine (rows_writes VO0_8 _ 256 _ inb_S512x1024_S256x1024_256_0 rfl _ _ r j).trans ?_
  split
  · exact half_eq arg1 harg1 arg2 harg2 arg3 harg3 arg4 harg4 arg5 harg5 x0 x1 x2 x3 x4 256 inb_S512x512_S256x512_256_0 inb_S512x1024_S256x1024_256_0 r _ (by dsimp only; omega) j
  refine (rows_writes VO0_8 _ 0 _ inb_S512x1024_S256x1024_0_0 rfl _ _ r j).trans ?_
  split
  · exact half_eq arg1 harg1 arg2 harg2 arg3 harg3 arg4 harg4 arg5 harg5 x0 x1 x2 x3 x4 0 inb_S512x512_S256x512_0_0 inb_S512x1024_S256x1024_0_0 r _ (by dsimp only; omega) j
  · omega

/-- What a point leaves in its block of the first result, at a later point. -/
theorem out8B_apply (hc0 : ¬cond0_0 i) (r : Fin 512) (j : Fin 1024) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 (ix2 r j) = brow x0 x1 x2 x3 x4 r j := by
  unfold out0_B_8 kernelRun0_B
  dsimp only
  have hr := r.isLt
  refine (rows_writes VO0_8 _ 256 _ inb_S512x1024_S256x1024_256_0 rfl _ _ r j).trans ?_
  split
  · exact half_eq arg1 harg1 arg2 harg2 arg3 harg3 arg4 harg4 arg5 harg5 x0 x1 x2 x3 x4 256 inb_S512x512_S256x512_256_0 inb_S512x1024_S256x1024_256_0 r _ (by dsimp only; omega) j
  refine (rows_writes VO0_8 _ 0 _ inb_S512x1024_S256x1024_0_0 rfl _ _ r j).trans ?_
  split
  · exact half_eq arg1 harg1 arg2 harg2 arg3 harg3 arg4 harg4 arg5 harg5 x0 x1 x2 x3 x4 0 inb_S512x512_S256x512_0_0 inb_S512x1024_S256x1024_0_0 r _ (by dsimp only; omega) j
  · omega

/-- What a point leaves in its block of the second result, at the first point. -/
theorem out9A_apply (hc0 : cond0_0 i) (r : Fin 512) (j : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r j) = mrow x0 x1 x2 x3 x4 x5 r j := by
  unfold out0_A_9 kernelRun0_A
  dsimp only
  have hr := r.isLt
  refine (rows_writes VO0_9 _ 256 _ inb_S512x1024_S256x1024_256_0 rfl _ _ r j).trans ?_
  split
  · exact half_mod arg1 harg1 arg2 harg2 arg3 harg3 arg4 harg4 arg5 harg5 arg6 harg6 x0 x1 x2 x3 x4 x5 256 inb_S512x512_S256x512_256_0 inb_S512x1024_S256x1024_256_0 r _ (by dsimp only; omega) j
  refine (rows_writes VO0_9 _ 0 _ inb_S512x1024_S256x1024_0_0 rfl _ _ r j).trans ?_
  split
  · exact half_mod arg1 harg1 arg2 harg2 arg3 harg3 arg4 harg4 arg5 harg5 arg6 harg6 x0 x1 x2 x3 x4 x5 0 inb_S512x512_S256x512_0_0 inb_S512x1024_S256x1024_0_0 r _ (by dsimp only; omega) j
  · omega

/-- What a point leaves in its block of the second result, at a later point. -/
theorem out9B_apply (hc0 : ¬cond0_0 i) (r : Fin 512) (j : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 (ix2 r j) = mrow x0 x1 x2 x3 x4 x5 r j := by
  unfold out0_B_9 kernelRun0_B
  dsimp only
  have hr := r.isLt
  refine (rows_writes VO0_9 _ 256 _ inb_S512x1024_S256x1024_256_0 rfl _ _ r j).trans ?_
  split
  · exact half_mod arg1 harg1 arg2 harg2 arg3 harg3 arg4 harg4 arg5 harg5 arg6 harg6 x0 x1 x2 x3 x4 x5 256 inb_S512x512_S256x512_256_0 inb_S512x1024_S256x1024_256_0 r _ (by dsimp only; omega) j
  refine (rows_writes VO0_9 _ 0 _ inb_S512x1024_S256x1024_0_0 rfl _ _ r j).trans ?_
  split
  · exact half_mod arg1 harg1 arg2 harg2 arg3 harg3 arg4 harg4 arg5 harg5 arg6 harg6 x0 x1 x2 x3 x4 x5 0 inb_S512x512_S256x512_0_0 inb_S512x1024_S256x1024_0_0 r _ (by dsimp only; omega) j
  · omega

end point

section run

variable (m : (ℓ : Loc nD τ sig) → Buf (Elt Ideal) ℓ) (ρ : Dev nD → PrngReg) (c : Dev nD) (t : Fin cfg0.N)

/-- Where the windows of a point are. -/
theorem win_index : ∀ t : Fin cfg0.N, win0_0.index t = ![t.val, 0] ∧ win0_1.index t = ![t.val, 0] ∧ win0_2.index t = ![t.val, 0]
    ∧ win0_3.index t = ![0, 0] ∧ win0_4.index t = ![t.val / 4, 0, 0] ∧ win0_5.index t = ![0, 0] ∧ win0_8.index t = ![t.val, 0] ∧ win0_9.index t = ![t.val, 0] :=
  (by decide +kernel : ∀ t : Fin grid0.N, _)

/-- The left half of the mixer's rows: the point's. -/
theorem iblk_left (r : Fin 512) (k : Fin 512) : (iblk m c 0 t : Vec Ideal S512x512 .bf16) (ix2 r k) = m (c.tc.loc main_arg0) (ix2 ⟨t.val * 512 + r.val, by have h : t.val < 32 := Nat.lt_of_lt_of_eq t.isLt N_0; omega⟩ k) := by
  have h := (win_index t).1
  have hN : t.val < 32 := Nat.lt_of_lt_of_eq t.isLt N_0
  unfold iblk
  rw [View.read_apply]
  have he : (((cfg0.win 0).blk t).view.emb (ix2 r k) : S16384x512.Idx) = ix2 ⟨t.val * 512 + r.val, by omega⟩ k := by
    funext x
    apply Fin.ext
    match x with
    | ⟨0, _⟩ => show win0_0.index t 0 * 512 + 1 * r.val = t.val * 512 + r.val; rw [h]; show t.val * 512 + 1 * r.val = _; omega
    | ⟨1, _⟩ => show win0_0.index t 1 * 512 + 1 * k.val = k.val; rw [h]; show 0 * 512 + 1 * k.val = _; omega
  refine (congrArg (V m c main_arg0) he).trans ?_
  rw [V_main_arg0 m c]

/-- The right half of the mixer's rows: the point's. -/
theorem iblk_right (r : Fin 512) (k : Fin 512) : (iblk m c 1 t : Vec Ideal S512x512 .bf16) (ix2 r k) = m (c.tc.loc main_arg1) (ix2 ⟨t.val * 512 + r.val, by have h : t.val < 32 := Nat.lt_of_lt_of_eq t.isLt N_0; omega⟩ k) := by
  have h := (win_index t).2.1
  have hN : t.val < 32 := Nat.lt_of_lt_of_eq t.isLt N_0
  unfold iblk
  rw [View.read_apply]
  have he : (((cfg0.win 1).blk t).view.emb (ix2 r k) : S16384x512.Idx) = ix2 ⟨t.val * 512 + r.val, by omega⟩ k := by
    funext x
    apply Fin.ext
    match x with
    | ⟨0, _⟩ => show win0_1.index t 0 * 512 + 1 * r.val = t.val * 512 + r.val; rw [h]; show t.val * 512 + 1 * r.val = _; omega
    | ⟨1, _⟩ => show win0_1.index t 1 * 512 + 1 * k.val = k.val; rw [h]; show 0 * 512 + 1 * k.val = _; omega
  refine (congrArg (V m c main_arg1) he).trans ?_
  rw [V_main_arg1 m c]

/-- The stream's rows: the point's. -/
theorem iblk_stream (r : Fin 512) (k : Fin 1024) : (iblk m c 2 t : Vec Ideal S512x1024 .f32) (ix2 r k) = m (c.tc.loc main_arg2) (ix2 ⟨t.val * 512 + r.val, by have h : t.val < 32 := Nat.lt_of_lt_of_eq t.isLt N_0; omega⟩ k) := by
  have h := (win_index t).2.2.1
  have hN : t.val < 32 := Nat.lt_of_lt_of_eq t.isLt N_0
  unfold iblk
  rw [View.read_apply]
  have he : (((cfg0.win 2).blk t).view.emb (ix2 r k) : S16384x1024.Idx) = ix2 ⟨t.val * 512 + r.val, by omega⟩ k := by
    funext x
    apply Fin.ext
    match x with
    | ⟨0, _⟩ => show win0_2.index t 0 * 512 + 1 * r.val = t.val * 512 + r.val; rw [h]; show t.val * 512 + 1 * r.val = _; omega
    | ⟨1, _⟩ => show win0_2.index t 1 * 1024 + 1 * k.val = k.val; rw [h]; show 0 * 1024 + 1 * k.val = _; omega
  refine (congrArg (V m c main_arg2) he).trans ?_
  rw [V_main_arg2 m c]

/-- The weights, whole. -/
theorem iblk_weights (l k : Fin 1024) : (iblk m c 3 t : Vec Ideal S1024x1024 .bf16) (ix2 l k) = m (c.tc.loc main_arg3) (ix2 l k) := by
  have h := (win_index t).2.2.2.1
  have hN : t.val < 32 := Nat.lt_of_lt_of_eq t.isLt N_0
  unfold iblk
  rw [View.read_apply]
  have he : (((cfg0.win 3).blk t).view.emb (ix2 l k) : S1024x1024.Idx) = ix2 l k := by
    funext x
    apply Fin.ext
    match x with
    | ⟨0, _⟩ => show win0_3.index t 0 * 1024 + 1 * l.val = l.val; rw [h]; show 0 * 1024 + 1 * l.val = _; omega
    | ⟨1, _⟩ => show win0_3.index t 1 * 1024 + 1 * k.val = k.val; rw [h]; show 0 * 1024 + 1 * k.val = _; omega
  refine (congrArg (V m c main_v0) he).trans ?_
  entry_read
  pointwise

/-- The modulations of the rows' sequence. -/
theorem iblk_mod (o : Fin 6) (k : Fin 1024) : (iblk m c 4 t : Vec Ideal S1x6x1024 .f32) (ix3 0 o k) = m (c.tc.loc main_arg4) (ix3 ⟨t.val / 4, by have h : t.val < 32 := Nat.lt_of_lt_of_eq t.isLt N_0; omega⟩ o k) := by
  have h := (win_index t).2.2.2.2.1
  have hN : t.val < 32 := Nat.lt_of_lt_of_eq t.isLt N_0
  unfold iblk
  rw [View.read_apply]
  have he : (((cfg0.win 4).blk t).view.emb (ix3 0 o k) : S16x6x1024.Idx) = ix3 ⟨t.val / 4, by omega⟩ o k := by
    funext x
    apply Fin.ext
    match x with
    | ⟨0, _⟩ => show win0_4.index t 0 * 1 + 1 * 0 = t.val / 4; rw [h]; show t.val / 4 * 1 + 1 * 0 = _; omega
    | ⟨1, _⟩ => show win0_4.index t 1 * 6 + 1 * o.val = o.val; rw [h]; show 0 * 6 + 1 * o.val = _; omega
    | ⟨2, _⟩ => show win0_4.index t 2 * 1024 + 1 * k.val = k.val; rw [h]; show 0 * 1024 + 1 * k.val = _; omega
  refine (congrArg (V m c main_arg4) he).trans ?_
  rw [V_main_arg4 m c]

/-- The norm's weights. -/
theorem iblk_norm (k : Fin 1024) : (iblk m c 5 t : Vec Ideal S1x1024 .f32) (ix2 0 k) = m (c.tc.loc main_arg5) (ix1 k) := by
  have h := (win_index t).2.2.2.2.2.1
  have hN : t.val < 32 := Nat.lt_of_lt_of_eq t.isLt N_0
  unfold iblk
  rw [View.read_apply]
  have he : (((cfg0.win 5).blk t).view.emb (ix2 0 k) : S1x1024.Idx) = ix2 0 k := by
    funext x
    apply Fin.ext
    match x with
    | ⟨0, _⟩ => show win0_5.index t 0 * 1 + 1 * 0 = 0; rw [h]; rfl
    | ⟨1, _⟩ => show win0_5.index t 1 * 1024 + 1 * k.val = k.val; rw [h]; show 0 * 1024 + 1 * k.val = _; omega
  refine (congrArg (V m c main_v1) he).trans ?_
  entry_read
  pointwise

/-- A row of the point's block of the stream is the latent row it is of. -/
theorem brow_eq (r : Fin 512) : brow (iblk m c 0 t) (iblk m c 1 t) (iblk m c 2 t) (iblk m c 3 t) (iblk m c 4 t) r = streamRow (m (c.tc.loc main_arg0)) (m (c.tc.loc main_arg1)) (m (c.tc.loc main_arg2)) (m (c.tc.loc main_arg3)) (m (c.tc.loc main_arg4)) ⟨t.val * 512 + r.val, by have h : t.val < 32 := Nat.lt_of_lt_of_eq t.isLt N_0; omega⟩ := by
  have hb : t.val / 4 = (t.val * 512 + r.val) / 2048 := by omega
  unfold brow streamRow
  congr 1
  · funext l; exact iblk_left m c t r l
  · funext l; exact iblk_right m c t r l
  · funext l k; exact iblk_weights m c t l k
  · funext k; exact iblk_stream m c t r k
  · funext k; refine (iblk_mod m c t 2 k).trans (congrArg (m (c.tc.loc main_arg4)) ?_); exact congrArg (ix3 · 2 k) (Fin.ext hb)

/-- And so is its modulated row. -/
theorem mrow_eq (r : Fin 512) (k : Fin 1024) : mrow (iblk m c 0 t) (iblk m c 1 t) (iblk m c 2 t) (iblk m c 3 t) (iblk m c 4 t) (iblk m c 5 t) r k = modRows (m (c.tc.loc main_arg0)) (m (c.tc.loc main_arg1)) (m (c.tc.loc main_arg2)) (m (c.tc.loc main_arg3)) (m (c.tc.loc main_arg4)) (m (c.tc.loc main_arg5)) (ix2 ⟨t.val * 512 + r.val, by have h : t.val < 32 := Nat.lt_of_lt_of_eq t.isLt N_0; omega⟩ k) := by
  have hb : t.val / 4 = (t.val * 512 + r.val) / 2048 := by omega
  unfold mrow modRows
  rw [brow_eq]
  congr 1
  · funext k; exact iblk_norm m c t k
  · funext k; refine (iblk_mod m c t 4 k).trans (congrArg (m (c.tc.loc main_arg4)) ?_); exact congrArg (ix3 · 4 k) (Fin.ext hb)
  · funext k; refine (iblk_mod m c t 3 k).trans (congrArg (m (c.tc.loc main_arg4)) ?_); exact congrArg (ix3 · 3 k) (Fin.ext hb)

/-- What a grid point writes back to the first result is what the body left in its block. -/
theorem flushed8 (t : Fin cfg0.N) : (dats m 0 c).flushed 8 t = (cfg0.win 8).cut (grid0.coords t) ((outsAt0 m c t.val t.isLt).1) := by
  show (cfg0.win 8).cut (grid0.coords t) ((dats m 0 c).after 8 t) = _
  rw [after0_8]

/-- What the body leaves in its block of the first result. -/
theorem left_stream (r : Fin 512) (k : Fin 1024) : (outsAt0 m c t.val t.isLt).1 (ix2 r k) = (stream (m (c.tc.loc main_arg0)) (m (c.tc.loc main_arg1)) (m (c.tc.loc main_arg2)) (m (c.tc.loc main_arg3)) (m (c.tc.loc main_arg4))) (ix2 ⟨t.val * 512 + r.val, by have h : t.val < 32 := Nat.lt_of_lt_of_eq t.isLt N_0; omega⟩ k) := by
  by_cases hc : t.val % 32 = 0
  · refine Eq.trans ?_ ((out8A_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr hc) r k).trans
      (congrFun (brow_eq m c t r) k))
    rw [outsAt0_A m c t hc]
  · refine Eq.trans ?_ ((out8B_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2 (fun h => hc ((hcond0_0 t).mp h)) r k).trans
      (congrFun (brow_eq m c t r) k))
    rw [outsAt0_B m c t hc]

/-- What a grid point writes back to the first result is its block of it. -/
theorem flushed_stream (t : Fin cfg0.N) : (dats m 0 c).flushed 8 t = ((cfg0.win 8).blk t).view.read (Elt Ideal) (stream (m (c.tc.loc main_arg0)) (m (c.tc.loc main_arg1)) (m (c.tc.loc main_arg2)) (m (c.tc.loc main_arg3)) (m (c.tc.loc main_arg4))) := by
  funext y
  have hi := (win_index t).2.2.2.2.2.2.1
  have h0 : (y 0).val < 512 := (y 0).isLt
  have h1 : (y 1).val < 1024 := (y 1).isLt
  have ht : t.val < 32 := Nat.lt_of_lt_of_eq t.isLt N_0
  have hy : (y : S512x1024.Idx) = ix2 (⟨(y 0).val, h0⟩ : Fin 512) (⟨(y 1).val, h1⟩ : Fin 1024) := by
    funext x
    match x with
    | ⟨0, _⟩ => rfl
    | ⟨1, _⟩ => rfl
  have he : (((cfg0.win 8).blk t).view.emb y : S16384x1024.Idx) = ix2 ⟨t.val * 512 + (y 0).val, by omega⟩ ⟨(y 1).val, h1⟩ := by
    funext x
    apply Fin.ext
    match x with
    | ⟨0, _⟩ => show win0_8.index t 0 * 512 + 1 * (y 0).val = t.val * 512 + (y 0).val; rw [hi]; show t.val * 512 + 1 * (y 0).val = _; omega
    | ⟨1, _⟩ => show win0_8.index t 1 * 1024 + 1 * (y 1).val = (y 1).val; rw [hi]; show 0 * 1024 + 1 * (y 1).val = _; omega
  rw [View.read_apply]
  refine Eq.trans ?_ (congrArg (stream (m (c.tc.loc main_arg0)) (m (c.tc.loc main_arg1)) (m (c.tc.loc main_arg2)) (m (c.tc.loc main_arg3)) (m (c.tc.loc main_arg4))) he).symm
  rw [flushed8]
  refine (congrArg (_ : S512x1024.Idx → EReal) hy).trans ?_
  exact left_stream m c t ⟨(y 0).val, h0⟩ ⟨(y 1).val, h1⟩

/-- Every index of the first result is in some point's block. -/
theorem cover_stream (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  have hN : cfg0.N = 32 := N_0
  have ht : (i 0).val / 512 < cfg0.N := by omega
  refine ⟨⟨(i 0).val / 512, ht⟩, flush0_8 _, ?_⟩
  show i ∈ ((View.whole main_v2_0).slice (win0_8.rect ⟨(i 0).val / 512, ht⟩)).set
  rw [View.set_slice_whole, Rect.mem_set_unit]
  have hi := (win_index ⟨(i 0).val / 512, ht⟩).2.2.2.2.2.2.1
  intro a
  match a with
  | ⟨0, _⟩ =>
    show win0_8.index _ 0 * 512 ≤ (i 0).val ∧ (i 0).val < win0_8.index _ 0 * 512 + 512
    rw [hi]
    show (i 0).val / 512 * 512 ≤ (i 0).val ∧ (i 0).val < (i 0).val / 512 * 512 + 512
    omega
  | ⟨1, _⟩ =>
    show win0_8.index _ 1 * 1024 ≤ (i 1).val ∧ (i 1).val < win0_8.index _ 1 * 1024 + 1024
    rw [hi]
    show 0 * 1024 ≤ (i 1).val ∧ (i 1).val < 0 * 1024 + 1024
    omega

/-- So the first result ends whole. -/
theorem final_stream : (dats m 0 c).arrAt 8 cfg0.N = stream (m (c.tc.loc main_arg0)) (m (c.tc.loc main_arg1)) (m (c.tc.loc main_arg2)) (m (c.tc.loc main_arg3)) (m (c.tc.loc main_arg4)) :=
  (dats m 0 c).arrAt_eq_of_cover 8 (stream (m (c.tc.loc main_arg0)) (m (c.tc.loc main_arg1)) (m (c.tc.loc main_arg2)) (m (c.tc.loc main_arg3)) (m (c.tc.loc main_arg4))) (fun t _ => flushed_stream m c t) cover_stream

/-- What a grid point writes back to the second result is what the body left in its block. -/
theorem flushed9 (t : Fin cfg0.N) : (dats m 0 c).flushed 9 t = (cfg0.win 9).cut (grid0.coords t) ((outsAt0 m c t.val t.isLt).2.1) := by
  show (cfg0.win 9).cut (grid0.coords t) ((dats m 0 c).after 9 t) = _
  rw [after0_9]

/-- What the body leaves in its block of the second result. -/
theorem left_mod (r : Fin 512) (k : Fin 1024) : (outsAt0 m c t.val t.isLt).2.1 (ix2 r k) = (modRows (m (c.tc.loc main_arg0)) (m (c.tc.loc main_arg1)) (m (c.tc.loc main_arg2)) (m (c.tc.loc main_arg3)) (m (c.tc.loc main_arg4)) (m (c.tc.loc main_arg5))) (ix2 ⟨t.val * 512 + r.val, by have h : t.val < 32 := Nat.lt_of_lt_of_eq t.isLt N_0; omega⟩ k) := by
  by_cases hc : t.val % 32 = 0
  · refine Eq.trans ?_ ((out9A_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr hc) r k).trans
      (mrow_eq m c t r k))
    rw [outsAt0_A m c t hc]
  · refine Eq.trans ?_ ((out9B_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2 (fun h => hc ((hcond0_0 t).mp h)) r k).trans
      (mrow_eq m c t r k))
    rw [outsAt0_B m c t hc]

/-- What a grid point writes back to the second result is its block of it. -/
theorem flushed_mod (t : Fin cfg0.N) : (dats m 0 c).flushed 9 t = ((cfg0.win 9).blk t).view.read (Elt Ideal) (modRows (m (c.tc.loc main_arg0)) (m (c.tc.loc main_arg1)) (m (c.tc.loc main_arg2)) (m (c.tc.loc main_arg3)) (m (c.tc.loc main_arg4)) (m (c.tc.loc main_arg5))) := by
  funext y
  have hi := (win_index t).2.2.2.2.2.2.2
  have h0 : (y 0).val < 512 := (y 0).isLt
  have h1 : (y 1).val < 1024 := (y 1).isLt
  have ht : t.val < 32 := Nat.lt_of_lt_of_eq t.isLt N_0
  have hy : (y : S512x1024.Idx) = ix2 (⟨(y 0).val, h0⟩ : Fin 512) (⟨(y 1).val, h1⟩ : Fin 1024) := by
    funext x
    match x with
    | ⟨0, _⟩ => rfl
    | ⟨1, _⟩ => rfl
  have he : (((cfg0.win 9).blk t).view.emb y : S16384x1024.Idx) = ix2 ⟨t.val * 512 + (y 0).val, by omega⟩ ⟨(y 1).val, h1⟩ := by
    funext x
    apply Fin.ext
    match x with
    | ⟨0, _⟩ => show win0_9.index t 0 * 512 + 1 * (y 0).val = t.val * 512 + (y 0).val; rw [hi]; show t.val * 512 + 1 * (y 0).val = _; omega
    | ⟨1, _⟩ => show win0_9.index t 1 * 1024 + 1 * (y 1).val = (y 1).val; rw [hi]; show 0 * 1024 + 1 * (y 1).val = _; omega
  rw [View.read_apply]
  refine Eq.trans ?_ (congrArg (modRows (m (c.tc.loc main_arg0)) (m (c.tc.loc main_arg1)) (m (c.tc.loc main_arg2)) (m (c.tc.loc main_arg3)) (m (c.tc.loc main_arg4)) (m (c.tc.loc main_arg5))) he).symm
  rw [flushed9]
  refine (congrArg (_ : S512x1024.Idx → EReal) hy).trans ?_
  exact left_mod m c t ⟨(y 0).val, h0⟩ ⟨(y 1).val, h1⟩

/-- Every index of the second result is in some point's block. -/
theorem cover_mod (i : S16384x1024.Idx) : ∃ t : Fin cfg0.N, (cfg0.win 9).flush t = true ∧ i ∈ ((cfg0.win 9).blk t).view.set := by
  have h0 : (i 0).val < 16384 := (i 0).isLt
  have h1 : (i 1).val < 1024 := (i 1).isLt
  have hN : cfg0.N = 32 := N_0
  have ht : (i 0).val / 512 < cfg0.N := by omega
  refine ⟨⟨(i 0).val / 512, ht⟩, flush0_9 _, ?_⟩
  show i ∈ ((View.whole main_v2_1).slice (win0_9.rect ⟨(i 0).val / 512, ht⟩)).set
  rw [View.set_slice_whole, Rect.mem_set_unit]
  have hi := (win_index ⟨(i 0).val / 512, ht⟩).2.2.2.2.2.2.2
  intro a
  match a with
  | ⟨0, _⟩ =>
    show win0_9.index _ 0 * 512 ≤ (i 0).val ∧ (i 0).val < win0_9.index _ 0 * 512 + 512
    rw [hi]
    show (i 0).val / 512 * 512 ≤ (i 0).val ∧ (i 0).val < (i 0).val / 512 * 512 + 512
    omega
  | ⟨1, _⟩ =>
    show win0_9.index _ 1 * 1024 ≤ (i 1).val ∧ (i 1).val < win0_9.index _ 1 * 1024 + 1024
    rw [hi]
    show 0 * 1024 ≤ (i 1).val ∧ (i 1).val < 0 * 1024 + 1024
    omega

/-- So the second result ends whole. -/
theorem final_mod : (dats m 0 c).arrAt 9 cfg0.N = modRows (m (c.tc.loc main_arg0)) (m (c.tc.loc main_arg1)) (m (c.tc.loc main_arg2)) (m (c.tc.loc main_arg3)) (m (c.tc.loc main_arg4)) (m (c.tc.loc main_arg5)) :=
  (dats m 0 c).arrAt_eq_of_cover 9 (modRows (m (c.tc.loc main_arg0)) (m (c.tc.loc main_arg1)) (m (c.tc.loc main_arg2)) (m (c.tc.loc main_arg3)) (m (c.tc.loc main_arg4)) (m (c.tc.loc main_arg5))) (fun t _ => flushed_mod m c t) cover_mod

/-- The run: the stream's rows and their modulated rows; the arguments are unchanged. -/
theorem run_out : θ_run defs (onTc (τ := τ) (main (F := Ideal))) ⟨m, fun _ => 0, ρ⟩ fun r => ∀ c : Dev nD,
      r.2.mem ((c : Thread nD τ).loc main_v2_0) = stream (m (c.tc.loc main_arg0)) (m (c.tc.loc main_arg1)) (m (c.tc.loc main_arg2)) (m (c.tc.loc main_arg3)) (m (c.tc.loc main_arg4))
      ∧ r.2.mem ((c : Thread nD τ).loc main_v2_1) = modRows (m (c.tc.loc main_arg0)) (m (c.tc.loc main_arg1)) (m (c.tc.loc main_arg2)) (m (c.tc.loc main_arg3)) (m (c.tc.loc main_arg4)) (m (c.tc.loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun _ h c => ⟨((h c).1 8).trans (final_stream m c), ((h c).1 9).trans (final_mod m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c)))⟩) (run_main m ρ)

end run

end Cert.Kernel9Ideal.Gen

end
-- ==== Proof.RefOutProj.lean ====
module

public import proofs.«01_k».proof.Proof.OutProj
public import proofs.«01_k».proof.Proof.Gen.Reference9Ideal.Run

@[expose] public section

set_option maxRecDepth 16384

noncomputable section

/-! The out-projection of the odd layer's latent rows, as the reference's host code computes it. -/

namespace Cert.Reference9Ideal.Value

open Idealize.ShloMosaic Idealize.ShloMosaic.TcCoe Idealize.SL.Sem Cert.InProj Cert.OutProj

section terms

variable (a0 a1 : FVec Ideal S16384x512 .bf16) (a2 : FVec Ideal S16384x1024 .f32) (a3 : FVec Ideal S1024x1024 .f32)
  (a4 : FVec Ideal S16x6x1024 .f32) (a5 : FVec Ideal S1024 .f32)

/-- The mixer's rows: its two halves side by side, widened. -/
def mixed : FVec Ideal S16384x1024 .f32 :=
  concatenate S16384x1024 1 [⟨S16384x512, (extf .f32 a0 Gen.bitsLt_bf16_f32)⟩, ⟨S16384x512, (extf .f32 a1 Gen.bitsLt_bf16_f32)⟩]
    Gen.concatenates_S16384x512_S16384x512_S16384x1024_d1

/-- The left half of the mixer's rows. -/
theorem mixed_left (i : Fin 16384) (l : Fin 512) : mixed a0 a1 (ix2 i ⟨l.val, by omega⟩) = a0 (ix2 i l) := by
  pointwise [mixed]

/-- The right half of the mixer's rows. -/
theorem mixed_right (i : Fin 16384) (l : Fin 512) : mixed a0 a1 (ix2 i ⟨512 + l.val, by omega⟩) = a1 (ix2 i l) := by
  pointwise [mixed]

/-- The six modulations of a sequence, side by side. -/
def mods : FVec Ideal S8x1x6144 .f32 :=
  shapeCast S8x1x6144 (extractStridedSlice S8x6x1024 ![0, 0, 0] a4 Gen.slices_S16x6x1024_S8x6x1024_0_0_0) Gen.shapeCasts_S8x6x1024_S8x1x6144

/-- The stream's rows as the host code computes them from the mixer's. -/
def streamed (M : FVec Ideal S16384x1024 .f32) : FVec Ideal S8x2048x1024 .f32 :=
  addf (shapeCast S8x2048x1024 a2 Gen.shapeCasts_S16384x1024_S8x2048x1024)
    (mulf (broadcastInDim S8x2048x1024 ![0, 1, 2] Gen.bcast_S8x1x1024_S8x2048x1024_0_1_2
        (extractStridedSlice S8x1x1024 ![0, 0, 2048] (mods a4) Gen.slices_S8x1x6144_S8x1x1024_0_0_2048))
      (Host.dotGeneral dot_S8x2048x1024_S1024x1024_S8x2048x1024_2_0_01_1_n_n none
        (shapeCast S8x2048x1024 M Gen.shapeCasts_S16384x1024_S8x2048x1024) a3))

/-- An entry of the stream's rows. -/
theorem streamed_eq (M : FVec Ideal S16384x1024 .f32) (b : Fin 8) (r : Fin 2048) (k : Fin 1024) :
    streamed a2 a3 a4 M (ix3 b r k) = a2 (ix2 ⟨b.val * 2048 + r.val, by omega⟩ k)
      + a4 (ix3 ⟨b.val, by omega⟩ 2 k) * proj (fun l => M (ix2 ⟨b.val * 2048 + r.val, by omega⟩ l)) (fun l => a3 (ix2 l k)) := by
  have h2 : (⟨(2048 + k.val) / 1024, by omega⟩ : Fin 6) = 2 := Fin.ext (by show (2048 + k.val) / 1024 = 2; omega)
  unfold proj
  pointwise [streamed, mods]
  rw [h2]

/-- They are the stream's latent rows. -/
theorem streamed_row (b : Fin 8) (r : Fin 2048) (k : Fin 1024) :
    streamed a2 a3 a4 (mixed a0 a1) (ix3 b r k) = streamRow a0 a1 a2 a3 a4 ⟨b.val * 2048 + r.val, by omega⟩ k := by
  have hb : (⟨(b.val * 2048 + r.val) / 2048, by omega⟩ : Fin 16) = ⟨b.val, by omega⟩ := Fin.ext (by show (b.val * 2048 + r.val) / 2048 = b.val; omega)
  rw [streamed_eq]
  unfold streamRow added proj
  rw [hb, sum_halves]
  simp only [mixed_left, mixed_right]

/-- Rows normalised and modulated as the host code computes them. -/
def modulated (X : FVec Ideal S8x2048x1024 .f32) : FVec Ideal S8x2048x1024 .f32 :=
  addf
    (mulf
      (mulf
        (mulf X
          (broadcastInDim S8x2048x1024 ![0, 1, 2] Gen.bcast_S8x2048x1_S8x2048x1024_0_1_2
            (Host.rsqrt
              (addf
                (Host.divf
                  (broadcastInDim S8x2048x1 ![0, 1] Gen.bcast_S8x2048_S8x2048x1_0_1
                    (Host.reduceAdd (mulf X X) (constant S_ FTy.f32 0#32) Gen.reducesTo_S8x2048x1024_S8x2048_d2 Gen.h_S_))
                  (broadcastInDim S8x2048x1 ![] Gen.bcast_S_S8x2048x1 (constant S_ FTy.f32 1149239296#32)))
                (broadcastInDim S8x2048x1 ![] Gen.bcast_S_S8x2048x1 (constant S_ FTy.f32 897988541#32))))))
        (broadcastInDim S8x2048x1024 ![0, 1, 2] Gen.bcast_S1x1x1024_S8x2048x1024_0_1_2
          (broadcastInDim S1x1x1024 ![2] Gen.bcast_S1024_S1x1x1024_2 a5)))
      (broadcastInDim S8x2048x1024 ![0, 1, 2] Gen.bcast_S8x1x1024_S8x2048x1024_0_1_2
        (addf (broadcastInDim S8x1x1024 ![] Gen.bcast_S_S8x1x1024 (constant S_ FTy.f32 1065353216#32))
          (extractStridedSlice S8x1x1024 ![0, 0, 4096] (mods a4) Gen.slices_S8x1x6144_S8x1x1024_0_0_4096))))
    (broadcastInDim S8x2048x1024 ![0, 1, 2] Gen.bcast_S8x1x1024_S8x2048x1024_0_1_2
      (extractStridedSlice S8x1x1024 ![0, 0, 3072] (mods a4) Gen.slices_S8x1x6144_S8x1x1024_0_0_3072))

/-- An entry of the normalised and modulated rows. -/
theorem modulated_eq (X : FVec Ideal S8x2048x1024 .f32) (b : Fin 8) (r : Fin 2048) (k : Fin 1024) :
    modulated a4 a5 X (ix3 b r k) = normed (fun k => X (ix3 b r k)) (fun k => a5 (ix1 k))
      (fun k => a4 (ix3 ⟨b.val, by omega⟩ 4 k)) (fun k => a4 (ix3 ⟨b.val, by omega⟩ 3 k)) k := by
  have h4 : (⟨(4096 + k.val) / 1024, by omega⟩ : Fin 6) = 4 := Fin.ext (by show (4096 + k.val) / 1024 = 4; omega)
  have h3 : (⟨(3072 + k.val) / 1024, by omega⟩ : Fin 6) = 3 := Fin.ext (by show (3072 + k.val) / 1024 = 3; omega)
  unfold normed
  pointwise [modulated, mods]
  rw [h4, h3]

/-- Rows laid out one under the other, at an index. -/
theorem laid_eq (X : FVec Ideal S8x2048x1024 .f32) (i : Fin 16384) (k : Fin 1024) :
    shapeCast S16384x1024 X Gen.shapeCasts_S8x2048x1024_S16384x1024 (ix2 i k)
      = X (ix3 ⟨i.val / 2048, by omega⟩ ⟨i.val % 2048, Nat.mod_lt _ (by omega)⟩ k) := by
  pointwise

/-- A row's place among its sequence's is the row. -/
theorem place (i : Fin 16384) : (⟨i.val / 2048 * 2048 + i.val % 2048, by omega⟩ : Fin 16384) = i :=
  Fin.ext (by show i.val / 2048 * 2048 + i.val % 2048 = i.val; omega)

/-- The first result's value. -/
theorem stream_value : shapeCast S16384x1024 (streamed a2 a3 a4 (mixed a0 a1)) Gen.shapeCasts_S8x2048x1024_S16384x1024
    = stream a0 a1 a2 a3 a4 := by
  funext y
  refine (congrArg _ (eq_ix2 y)).trans ((laid_eq _ (y 0) (y 1)).trans ((streamed_row a0 a1 a2 a3 a4 _ _ _).trans ?_))
  exact congrArg (fun x => streamRow a0 a1 a2 a3 a4 x (y 1)) (place (y 0))

/-- The second result's value. -/
theorem mod_value : shapeCast S16384x1024 (modulated a4 a5 (streamed a2 a3 a4 (mixed a0 a1))) Gen.shapeCasts_S8x2048x1024_S16384x1024
    = modRows a0 a1 a2 a3 a4 a5 := by
  funext y
  refine (congrArg _ (eq_ix2 y)).trans ((laid_eq _ (y 0) (y 1)).trans ((modulated_eq a4 a5 _ _ _ _).trans ?_))
  unfold modRows
  congr 1
  funext k
  refine (streamed_row a0 a1 a2 a3 a4 _ _ k).trans ?_
  exact congrArg (fun x => streamRow a0 a1 a2 a3 a4 x k) (place (y 0))

end terms

variable (m : (ℓ : Loc nD τ sig) → Buf (Elt Ideal) ℓ) (ρ : Dev nD → PrngReg)

/-- The reference's run: the stream's rows and their modulated rows; the arguments are unchanged. -/
theorem run_out : θ_run defs (onTc (τ := τ) (main (F := Ideal))) ⟨m, fun _ => 0, ρ⟩ fun r => ∀ c : Dev nD,
      r.2.mem ((c : Thread nD τ).loc main_v36) = stream (m (c.tc.loc main_arg0)) (m (c.tc.loc main_arg1)) (m (c.tc.loc main_arg2)) (m (c.tc.loc main_arg3)) (m (c.tc.loc main_arg4))
      ∧ r.2.mem ((c : Thread nD τ).loc main_v37) = modRows (m (c.tc.loc main_arg0)) (m (c.tc.loc main_arg1)) (m (c.tc.loc main_arg2)) (m (c.tc.loc main_arg3)) (m (c.tc.loc main_arg4)) (m (c.tc.loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun _ h c => ⟨(h c).1.trans ?_, (h c).2.1.trans ?_, (h c).2.2⟩) (run m ρ)
  · exact stream_value _ _ _ _ _
  · exact mod_value _ _ _ _ _ _

end Cert.Reference9Ideal.Value

end
-- ==== Proof.lean ====
/- The certificate of the retention, the four in-projections, the experts, the spatial gating, the modulation and the odd
   layer's out-projection: each kernel, its idealization and its reference run and leave their arguments alone; the idealization is the kernel's own text; and, over the extended reals,
   the kernel and the reference end with equal results from equal arguments. The retention's two sides are
   `Proof/KernelValue.lean` and `Proof/RefValue.lean`, which both end at `Cert.Recur.retLat` and `retCtx`; the chunks'
   recurrence they share is `Proof/Recur.lean`. The in-projections' are `Proof/Odd.lean` and `Proof/RefOdd.lean` (the odd
   layer's latent rows), `Proof/Even.lean` and `Proof/RefEven.lean` (the even layer's), `Proof/EvenContext.lean`,
   `Proof/OddContext.lean` and `Proof/RefContext.lean` (the context's). The experts' are `Proof/ExpertsValue.lean` and
   `Proof/RefExperts.lean`, which both end at `Cert.Expert.result`; that the kernel runs is `Proof/ExpertsRun.lean` over
   the body's cases in `Proof/Experts.lean`, and `Proof/ExpertsBits.lean` says the same of the kernel as printed. The
   spatial gating's are `Proof/GatingValue.lean` and `Proof/RefGating.lean` over `Proof/Gating.lean`, the modulation's
   `Proof/ModulationValue.lean` and `Proof/RefModulation.lean` over `Proof/Modulation.lean`, the out-projection's
   `Proof/OutProjValue.lean` and `Proof/RefOutProj.lean` over `Proof/OutProj.lean`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelValue
public import proofs.«01_k».proof.Proof.RefValue
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Odd
public import proofs.«01_k».proof.Proof.RefOdd
public import proofs.«01_k».proof.Proof.Even
public import proofs.«01_k».proof.Proof.RefEven
public import proofs.«01_k».proof.Proof.EvenContext
public import proofs.«01_k».proof.Proof.OddContext
public import proofs.«01_k».proof.Proof.RefContext
public import proofs.«01_k».proof.Proof.GatingValue
public import proofs.«01_k».proof.Proof.RefGating
public import proofs.«01_k».proof.Proof.ModulationValue
public import proofs.«01_k».proof.Proof.RefModulation
public import proofs.«01_k».proof.Proof.ExpertsBits
public import proofs.«01_k».proof.Proof.ExpertsValue
public import proofs.«01_k».proof.Proof.RefExperts
public import proofs.«01_k».proof.Proof.Gen.Kernel6
public import proofs.«01_k».proof.Proof.Gen.Reference6Ideal
public import proofs.«01_k».proof.Proof.Gen.Pre_experts_named
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.OutProjValue
public import proofs.«01_k».proof.Proof.Gen.Reference9Ideal
public import proofs.«01_k».proof.Proof.RefOutProj
public import Idealize.ShloMosaic.Adequacy
public import Idealize.ShloMosaic.Init

@[expose] public section

noncomputable section

namespace Cert.Proof

open Idealize.ShloMosaic Idealize.SL.Sem

/-- The kernel runs, leaves its arguments alone and its counters at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference, which has no counters. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.RefRun.run_state (F := Ideal) m ρ)

/-- From equal arguments the kernel and the reference both end with the retention of those arguments. -/
theorem retention_equal : Cert.algebraic_KernelIdeal_ReferenceIdeal := by
  intro m g m' g' _ hagree
  refine ⟨_, _, Cert.KernelIdeal.Gen.run_retention m g, ?_⟩
  refine (θ_run Cert.ReferenceIdeal.defs _ _).mono (fun _ h c => ⟨(h c).1.trans ?_, (h c).2.1.trans ?_, (h c).2.2⟩) (Cert.RefRun.run_state (F := Ideal) m' g')
  · obtain ⟨e0, e1, e2, e3⟩ := hagree c
    refine (Cert.RefRun.value_lat m' c).trans ?_
    unfold Cert.RefRun.x0 Cert.RefRun.x1 Cert.RefRun.x2 Cert.RefRun.x3
    rw [e0, e1, e2, e3]
  · obtain ⟨e0, e1, e2, e3⟩ := hagree c
    refine (Cert.RefRun.value_ctx m' c).trans ?_
    unfold Cert.RefRun.x0 Cert.RefRun.x1 Cert.RefRun.x2 Cert.RefRun.x3
    rw [e0, e1, e2, e3]

/-- The in-projection of the odd layer's latent rows runs, leaves its arguments alone and its counters at zero. -/
theorem frame_kernel2 : Cert.quiescent_Kernel2 := fun m ρ _ => Cert.Kernel2.Gen.frame m ρ

/-- So does its idealization. -/
theorem frame_ideal2 : Cert.quiescent_Kernel2Ideal := fun m ρ _ => Cert.Kernel2Ideal.Gen.frame m ρ

/-- So does its reference, which has no counters. -/
theorem frame_reference2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run_proj m ρ)

/-- From equal arguments the kernel and the reference both end with the in-projection of the odd layer's latent rows. -/
theorem odd_equal : Cert.algebraic_Kernel2Ideal_Reference2Ideal := by
  intro m g m' g' _ hagree
  refine ⟨_, _, Cert.Kernel2Ideal.Gen.run_proj m g, ?_⟩
  refine (θ_run Cert.Reference2Ideal.defs _ _).mono (fun _ h c => ⟨(h c).1.trans ?_, (h c).2.1.trans ?_, (h c).2.2⟩) (Cert.Reference2Ideal.Value.run_proj m' g')
  · obtain ⟨e0, e1, e2, e3⟩ := hagree c
    rw [e0, e1, e2, e3]
  · obtain ⟨e0, e1, e2, e3⟩ := hagree c
    rw [e0, e1, e2, e3]

/-- The in-projection of the even layer's latent rows runs, leaves its arguments alone and its counters at zero. -/
theorem frame_kernel3 : Cert.quiescent_Kernel3 := fun m ρ _ => Cert.Kernel3.Gen.frame m ρ

/-- So does its idealization. -/
theorem frame_ideal3 : Cert.quiescent_Kernel3Ideal := fun m ρ _ => Cert.Kernel3Ideal.Gen.frame m ρ

/-- So does its reference, which has no counters. -/
theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run_proj m ρ)

/-- From equal arguments the kernel and the reference both end with the in-projection of the even layer's latent rows. -/
theorem even_equal : Cert.algebraic_Kernel3Ideal_Reference3Ideal := by
  intro m g m' g' _ hagree
  refine ⟨_, Cert.Kernel3Ideal.Gen.run_proj m g, ?_⟩
  refine (θ_run Cert.Reference3Ideal.defs _ _).mono (fun _ h c => ⟨(h c).1.trans ?_, (h c).2⟩) (Cert.Reference3Ideal.Value.run_proj m' g')
  · obtain ⟨e0, e1, e2, e3⟩ := hagree c
    rw [e0, e1, e2, e3]

/-- The in-projection of the even layer's context rows runs, leaves its arguments alone and its counters at zero. -/
theorem frame_kernel4 : Cert.quiescent_Kernel4 := fun m ρ _ => Cert.Kernel4.Gen.frame m ρ

/-- So does its idealization. -/
theorem frame_ideal4 : Cert.quiescent_Kernel4Ideal := fun m ρ _ => Cert.Kernel4Ideal.Gen.frame m ρ

/-- So does its reference, which has no counters. -/
theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run_proj m ρ)

/-- From equal arguments the kernel and the reference both end with the in-projection of the even layer's context rows. -/
theorem even_context_equal : Cert.algebraic_Kernel4Ideal_Reference4Ideal := by
  intro m g m' g' _ hagree
  refine ⟨_, Cert.Kernel4Ideal.Gen.run_proj m g, ?_⟩
  refine (θ_run Cert.Reference4Ideal.defs _ _).mono (fun _ h c => ⟨(h c).1.trans ?_, (h c).2⟩) (Cert.Reference4Ideal.Value.run_proj m' g')
  · obtain ⟨e0, e1, e2, e3⟩ := hagree c
    rw [e0, e1, e2, e3]

/-- The in-projection of the odd layer's context rows runs, leaves its arguments alone and its counters at zero. -/
theorem frame_kernel5 : Cert.quiescent_Kernel5 := fun m ρ _ => Cert.Kernel5.Gen.frame m ρ

/-- So does its idealization. -/
theorem frame_ideal5 : Cert.quiescent_Kernel5Ideal := fun m ρ _ => Cert.Kernel5Ideal.Gen.frame m ρ

/-- So does its reference, which has no counters. -/
theorem frame_reference5 : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run_proj m ρ)

/-- From equal arguments the kernel and the reference both end with the in-projection of the odd layer's context rows. -/
theorem odd_context_equal : Cert.algebraic_Kernel5Ideal_Reference5Ideal := by
  intro m g m' g' _ hagree
  refine ⟨_, _, Cert.Kernel5Ideal.Gen.run_proj m g, ?_⟩
  refine (θ_run Cert.Reference5Ideal.defs _ _).mono (fun _ h c => ⟨(h c).1.trans ?_, (h c).2.1.trans ?_, (h c).2.2⟩) (Cert.Reference5Ideal.Value.run_proj m' g')
  · obtain ⟨e0, e1, e2, e3⟩ := hagree c
    rw [e0, e1, e2, e3]
  · obtain ⟨e0, e1, e2, e3⟩ := hagree c
    rw [e0, e1, e2, e3]

/-- The experts' kernel runs, leaves its arguments alone and its counters at zero. -/
theorem frame_kernel6 : Cert.quiescent_Kernel6 := Cert.ExpertsBits.frame

/-- So does its idealization. -/
theorem frame_ideal6 : Cert.quiescent_Kernel6Ideal := fun m g hp =>
  Cert.Kernel6Ideal.Gen.experts_frame m g (Cert.ExpertsPre.ok_of_named m (fun y => Cert.ExpertsPre.named (hp 0) y))

/-- So does its reference, which has no counters. -/
theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run_host m ρ)

/-- From equal arguments, with a table that names experts, the kernel and the reference both end with the experts' results. -/
theorem experts_equal : Cert.algebraic_Kernel6Ideal_Reference6Ideal := by
  intro m g m' g' hp hagree
  have hn := fun c y => Cert.ExpertsPre.named (hp c) y
  refine ⟨_, Cert.Kernel6Ideal.Gen.run_experts m g (Cert.ExpertsPre.ok_of_named m (hn 0)) hn, ?_⟩
  refine (θ_run Cert.Reference6Ideal.defs _ _).mono (fun _ h c => ⟨(h c).1.trans ?_, (h c).2⟩) (Cert.Reference6Ideal.Value.run_host m' g')
  obtain ⟨e0, e1, e2, e3, e4, e5⟩ := hagree c
  rw [e0, e1, e2, e3, e4, e5]
  exact Cert.Reference6Ideal.Value.experts_value _ _ _ _ _ _ (hn c)

/-- The spatial gating's kernel runs, leaves its arguments alone and its counters at zero. -/
theorem frame_kernel7 : Cert.quiescent_Kernel7 := fun m ρ _ => Cert.Kernel7.Gen.frame m ρ

/-- So does its idealization. -/
theorem frame_ideal7 : Cert.quiescent_Kernel7Ideal := fun m ρ _ => Cert.Kernel7Ideal.Gen.frame m ρ

/-- So does its reference, which has no counters. -/
theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run_gating m ρ)

/-- From equal arguments the kernel and the reference both end with the spatial gating of those arguments. -/
theorem gating_equal : Cert.algebraic_Kernel7Ideal_Reference7Ideal := by
  intro m g m' g' _ hagree
  refine ⟨_, Cert.Kernel7Ideal.Gen.run_gating m g, ?_⟩
  refine (θ_run Cert.Reference7Ideal.defs _ _).mono (fun _ h c => ⟨(h c).1.trans ?_, (h c).2⟩) (Cert.Reference7Ideal.Value.run_gating m' g')
  obtain ⟨e0, e1, e2⟩ := hagree c
  rw [e0, e1, e2]
  rfl

/-- The modulation's kernel runs, leaves its arguments alone and its counters at zero. -/
theorem frame_kernel8 : Cert.quiescent_Kernel8 := fun m ρ _ => Cert.Kernel8.Gen.frame m ρ

/-- So does its idealization. -/
theorem frame_ideal8 : Cert.quiescent_Kernel8Ideal := fun m ρ _ => Cert.Kernel8Ideal.Gen.frame m ρ

/-- So does its reference, which has no counters. -/
theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run_modulation m ρ)

/-- From equal arguments the kernel and the reference both end with the modulation of those arguments. -/
theorem modulation_equal : Cert.algebraic_Kernel8Ideal_Reference8Ideal := by
  intro m g m' g' _ hagree
  refine ⟨_, Cert.Kernel8Ideal.Gen.run_modulation m g, ?_⟩
  refine (θ_run Cert.Reference8Ideal.defs _ _).mono (fun _ h c => ⟨(h c).1.trans ?_, (h c).2⟩) (Cert.Reference8Ideal.Value.run_modulation m' g')
  obtain ⟨e0, e1, e2, e3⟩ := hagree c
  rw [e0, e1, e2, e3]
  rfl

/-- The out-projection's kernel runs, leaves its arguments alone and its counters at zero. -/
theorem frame_kernel9 : Cert.quiescent_Kernel9 := fun m ρ _ => Cert.Kernel9.Gen.frame m ρ

/-- So does its idealization. -/
theorem frame_ideal9 : Cert.quiescent_Kernel9Ideal := fun m ρ _ => Cert.Kernel9Ideal.Gen.frame m ρ

/-- So does its reference, which has no counters. -/
theorem frame_reference9 : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run_out m ρ)

/-- From equal arguments the kernel and the reference both end with the stream after the out-projection and its modulated rows. -/
theorem outproj_equal : Cert.algebraic_Kernel9Ideal_Reference9Ideal := by
  intro m g m' g' _ hagree
  refine ⟨_, _, Cert.Kernel9Ideal.Gen.run_out m g, ?_⟩
  refine (θ_run Cert.Reference9Ideal.defs _ _).mono (fun _ h c => ⟨(h c).1.trans ?_, (h c).2.1.trans ?_, (h c).2.2⟩) (Cert.Reference9Ideal.Value.run_out m' g')
  · obtain ⟨e0, e1, e2, e3, e4, e5, -⟩ := hagree c
    rw [e0, e1, e2, e3, e4]
  · obtain ⟨e0, e1, e2, e3, e4, e5, -⟩ := hagree c
    rw [e0, e1, e2, e3, e4, e5]

/-- The claims, all of them. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_experts_named.Gen.facts,
  frame_kernel, frame_ideal, frame_reference, frame_kernel2, frame_ideal2, frame_reference2, frame_kernel3, frame_ideal3, frame_reference3,
  frame_kernel4, frame_ideal4, frame_reference4, frame_kernel5, frame_ideal5, frame_reference5,
  frame_kernel6, frame_ideal6, frame_reference6, frame_kernel7, frame_ideal7, frame_reference7, frame_kernel8, frame_ideal8, frame_reference8,
  frame_kernel9, frame_ideal9, frame_reference9,
  trivial, retention_equal, trivial, odd_equal, trivial, even_equal, trivial, even_context_equal, trivial, odd_context_equal, trivial, experts_equal,
  trivial, gating_equal, trivial, modulation_equal, trivial, outproj_equal⟩

end Cert.Proof

end
